-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v20) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v18_0)) (v1 : (c : Dev Cert.Kernel6Ideal.nD) → Buf (Elt Ideal) ((c.tc : Thread Cert.Kernel6Ideal.nD Cert.Kernel6Ideal.τ).loc Cert.Kernel6Ideal.main_v18_1)) (v2 : (c : Dev Cert.Kernel6Ideal.nD) → Buf (Elt Ideal) ((c.tc : Thread Cert.Kernel6Ideal.nD Cert.Kernel6Ideal.τ).loc Cert.Kernel6Ideal.main_v18_2)) (v3 : (c : Dev Cert.Kernel6Ideal.nD) → Buf (Elt Ideal) ((c.tc : Thread Cert.Kernel6Ideal.nD Cert.Kernel6Ideal.τ).loc Cert.Kernel6Ideal.main_v18_3)) (v4 : (c : Dev Cert.Kernel6Ideal.nD) → Buf (Elt Ideal) ((c.tc : Thread Cert.Kernel6Ideal.nD Cert.Kernel6Ideal.τ).loc Cert.Kernel6Ideal.main_v18_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v18_0) = v0 c
          ∧ r.2.mem ((c.tc : Thread Cert.Kernel6Ideal.nD Cert.Kernel6Ideal.τ).loc Cert.Kernel6Ideal.main_v18_1) = v1 c
          ∧ r.2.mem ((c.tc : Thread Cert.Kernel6Ideal.nD Cert.Kernel6Ideal.τ).loc Cert.Kernel6Ideal.main_v18_2) = v2 c
          ∧ r.2.mem ((c.tc : Thread Cert.Kernel6Ideal.nD Cert.Kernel6Ideal.τ).loc Cert.Kernel6Ideal.main_v18_3) = v3 c
          ∧ r.2.mem ((c.tc : Thread Cert.Kernel6Ideal.nD Cert.Kernel6Ideal.τ).loc Cert.Kernel6Ideal.main_v18_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_v31) = v1 c
          ∧ r.2.mem ((c.tc : Thread Cert.Reference6Ideal.nD Cert.Reference6Ideal.τ).loc Cert.Reference6Ideal.main_v32) = v2 c
          ∧ r.2.mem ((c.tc : Thread Cert.Reference6Ideal.nD Cert.Reference6Ideal.τ).loc Cert.Reference6Ideal.main_v33) = v3 c
          ∧ r.2.mem ((c.tc : Thread Cert.Reference6Ideal.nD Cert.Reference6Ideal.τ).loc Cert.Reference6Ideal.main_v34) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_v20) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v18_0)) (v1 : (c : Dev Cert.Kernel9Ideal.nD) → Buf (Elt Ideal) ((c.tc : Thread Cert.Kernel9Ideal.nD Cert.Kernel9Ideal.τ).loc Cert.Kernel9Ideal.main_v18_1)) (v2 : (c : Dev Cert.Kernel9Ideal.nD) → Buf (Elt Ideal) ((c.tc : Thread Cert.Kernel9Ideal.nD Cert.Kernel9Ideal.τ).loc Cert.Kernel9Ideal.main_v18_2)) (v3 : (c : Dev Cert.Kernel9Ideal.nD) → Buf (Elt Ideal) ((c.tc : Thread Cert.Kernel9Ideal.nD Cert.Kernel9Ideal.τ).loc Cert.Kernel9Ideal.main_v18_3)) (v4 : (c : Dev Cert.Kernel9Ideal.nD) → Buf (Elt Ideal) ((c.tc : Thread Cert.Kernel9Ideal.nD Cert.Kernel9Ideal.τ).loc Cert.Kernel9Ideal.main_v18_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v18_0) = v0 c
          ∧ r.2.mem ((c.tc : Thread Cert.Kernel9Ideal.nD Cert.Kernel9Ideal.τ).loc Cert.Kernel9Ideal.main_v18_1) = v1 c
          ∧ r.2.mem ((c.tc : Thread Cert.Kernel9Ideal.nD Cert.Kernel9Ideal.τ).loc Cert.Kernel9Ideal.main_v18_2) = v2 c
          ∧ r.2.mem ((c.tc : Thread Cert.Kernel9Ideal.nD Cert.Kernel9Ideal.τ).loc Cert.Kernel9Ideal.main_v18_3) = v3 c
          ∧ r.2.mem ((c.tc : Thread Cert.Kernel9Ideal.nD Cert.Kernel9Ideal.τ).loc Cert.Kernel9Ideal.main_v18_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v30) = v0 c
          ∧ r.2.mem ((c.tc : Thread Cert.Reference9Ideal.nD Cert.Reference9Ideal.τ).loc Cert.Reference9Ideal.main_v31) = v1 c
          ∧ r.2.mem ((c.tc : Thread Cert.Reference9Ideal.nD Cert.Reference9Ideal.τ).loc Cert.Reference9Ideal.main_v32) = v2 c
          ∧ r.2.mem ((c.tc : Thread Cert.Reference9Ideal.nD Cert.Reference9Ideal.τ).loc Cert.Reference9Ideal.main_v33) = v3 c
          ∧ r.2.mem ((c.tc : Thread Cert.Reference9Ideal.nD Cert.Reference9Ideal.τ).loc Cert.Reference9Ideal.main_v34) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v9) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Kernel.lean ====
abbrev S8192x5120 : Shape := ⟨2, ![8192, 5120]⟩
abbrev S1x2x64x2 : Shape := ⟨4, ![1, 2, 64, 2]⟩
abbrev S32x16 : Shape := ⟨2, ![32, 16]⟩
abbrev S64x64 : Shape := ⟨2, ![64, 64]⟩
abbrev S2x64x2 : Shape := ⟨3, ![2, 64, 2]⟩
abbrev S64x2x2 : Shape := ⟨3, ![64, 2, 2]⟩
abbrev S64x4 : Shape := ⟨2, ![64, 4]⟩
abbrev S64x4x128 : Shape := ⟨3, ![64, 4, 128]⟩
abbrev S64x512 : Shape := ⟨2, ![64, 512]⟩
abbrev S129 : Shape := ⟨1, ![129]⟩
abbrev S_ : Shape := ⟨0, ![]⟩
abbrev S129x1 : Shape := ⟨2, ![129, 1]⟩
abbrev S129x16 : Shape := ⟨2, ![129, 16]⟩
abbrev S64x64x1 : Shape := ⟨3, ![64, 64, 1]⟩
abbrev S64x64x16 : Shape := ⟨3, ![64, 64, 16]⟩
abbrev S64x64x8 : Shape := ⟨3, ![64, 64, 8]⟩
abbrev S1x64x1x64x1x8 : Shape := ⟨6, ![1, 64, 1, 64, 1, 8]⟩
abbrev S32x64x1x64x1x8 : Shape := ⟨6, ![32, 64, 1, 64, 1, 8]⟩
abbrev S2048x64x8 : Shape := ⟨3, ![2048, 64, 8]⟩
abbrev S2016x64x8 : Shape := ⟨3, ![2016, 64, 8]⟩
abbrev S32x63x64x8 : Shape := ⟨4, ![32, 63, 64, 8]⟩
abbrev S32x32x64x8 : Shape := ⟨4, ![32, 32, 64, 8]⟩
abbrev S8x32x32x64 : Shape := ⟨4, ![8, 32, 32, 64]⟩
abbrev S8x32x2048 : Shape := ⟨3, ![8, 32, 2048]⟩
abbrev S8192x1024 : Shape := ⟨2, ![8192, 1024]⟩
abbrev S64x8192 : Shape := ⟨2, ![64, 8192]⟩
abbrev S256x1024 : Shape := ⟨2, ![256, 1024]⟩
abbrev S2048x512 : Shape := ⟨2, ![2048, 512]⟩
abbrev S8x32x256 : Shape := ⟨3, ![8, 32, 256]⟩
abbrev S64x256 : Shape := ⟨2, ![64, 256]⟩
abbrev S32x512 : Shape := ⟨2, ![32, 512]⟩
abbrev S32x64x512 : Shape := ⟨3, ![32, 64, 512]⟩
abbrev S1x64x512 : Shape := ⟨3, ![1, 64, 512]⟩
abbrev S32x256 : Shape := ⟨2, ![32, 256]⟩
abbrev S32x128 : Shape := ⟨2, ![32, 128]⟩
abbrev S256x128 : Shape := ⟨2, ![256, 128]⟩
abbrev S1x32x256 : Shape := ⟨3, ![1, 32, 256]⟩
abbrev S256 : Shape := ⟨1, ![256]⟩
abbrev S1x256 : Shape := ⟨2, ![1, 256]⟩

abbrev nBuf : Space → Nat
  | .hbm => 65
  | .vmem => 12
  | .smem => 0
  | _ => 0

abbrev bufTy : (tb : Table) → Fin (tcTables nBuf tb) → BufTy
  | .hbm, ⟨0, _⟩ => ⟨S8192x5120, .f32⟩
  | .hbm, ⟨1, _⟩ => ⟨S1x2x64x2, .f32⟩
  | .hbm, ⟨2, _⟩ => ⟨S32x16, .f32⟩
  | .hbm, ⟨3, _⟩ => ⟨S64x64, .i32⟩
  | .hbm, ⟨4, _⟩ => ⟨S64x64, .i1⟩
  | .hbm, ⟨5, _⟩ => ⟨S2x64x2, .f32⟩
  | .hbm, ⟨6, _⟩ => ⟨S64x2x2, .f32⟩
  | .hbm, ⟨7, _⟩ => ⟨S64x4, .f32⟩
  | .hbm, ⟨8, _⟩ => ⟨S64x4x128, .f32⟩
  | .hbm, ⟨9, _⟩ => ⟨S64x512, .f32⟩
  | .hbm, ⟨10, _⟩ => ⟨S129, .i32⟩
  | .hbm, ⟨11, _⟩ => ⟨S_, .i32⟩
  | .hbm, ⟨12, _⟩ => ⟨S129, .i32⟩
  | .hbm, ⟨13, _⟩ => ⟨S129, .i32⟩
  | .hbm, ⟨14, _⟩ => ⟨S_, .i32⟩
  | .hbm, ⟨15, _⟩ => ⟨S129, .i32⟩
  | .hbm, ⟨16, _⟩ => ⟨S129, .i32⟩
  | .hbm, ⟨17, _⟩ => ⟨S129, .f32⟩
  | .hbm, ⟨18, _⟩ => ⟨S_, .f32⟩
  | .hbm, ⟨19, _⟩ => ⟨S129, .f32⟩
  | .hbm, ⟨20, _⟩ => ⟨S129, .f32⟩
  | .hbm, ⟨21, _⟩ => ⟨S129, .f32⟩
  | .hbm, ⟨22, _⟩ => ⟨S_, .f32⟩
  | .hbm, ⟨23, _⟩ => ⟨S129, .f32⟩
  | .hbm, ⟨24, _⟩ => ⟨S129, .f32⟩
  | .hbm, ⟨25, _⟩ => ⟨S_, .f32⟩
  | .hbm, ⟨26, _⟩ => ⟨S129, .f32⟩
  | .hbm, ⟨27, _⟩ => ⟨S129, .f32⟩
  | .hbm, ⟨28, _⟩ => ⟨S129, .i32⟩
  | .hbm, ⟨29, _⟩ => ⟨S_, .i32⟩
  | .hbm, ⟨30, _⟩ => ⟨S129, .i32⟩
  | .hbm, ⟨31, _⟩ => ⟨S129, .i32⟩
  | .hbm, ⟨32, _⟩ => ⟨S_, .i32⟩
  | .hbm, ⟨33, _⟩ => ⟨S129, .i32⟩
  | .hbm, ⟨34, _⟩ => ⟨S129, .i1⟩
  | .hbm, ⟨35, _⟩ => ⟨S_, .i32⟩
  | .hbm, ⟨36, _⟩ => ⟨S129, .i32⟩
  | .hbm, ⟨37, _⟩ => ⟨S129, .i32⟩
  | .hbm, ⟨38, _⟩ => ⟨S129, .i32⟩
  | .hbm, ⟨39, _⟩ => ⟨S_, .i32⟩
  | .hbm, ⟨40, _⟩ => ⟨S129, .i32⟩
  | .hbm, ⟨41, _⟩ => ⟨S129, .i1⟩
  | .hbm, ⟨42, _⟩ => ⟨S_, .i32⟩
  | .hbm, ⟨43, _⟩ => ⟨S129, .i32⟩
  | .hbm, ⟨44, _⟩ => ⟨S129, .i32⟩
  | .hbm, ⟨45, _⟩ => ⟨S129, .i32⟩
  | .hbm, ⟨46, _⟩ => ⟨S129x1, .i32⟩
  | .hbm, ⟨47, _⟩ => ⟨S129x16, .f32⟩
  | .hbm, ⟨48, _⟩ => ⟨S_, .i32⟩
  | .hbm, ⟨49, _⟩ => ⟨S64x64, .i32⟩
  | .hbm, ⟨50, _⟩ => ⟨S64x64, .i32⟩
  | .hbm, ⟨51, _⟩ => ⟨S64x64, .i32⟩
  | .hbm, ⟨52, _⟩ => ⟨S64x64x1, .i32⟩
  | .hbm, ⟨53, _⟩ => ⟨S64x64x16, .f32⟩
  | .hbm, ⟨54, _⟩ => ⟨S64x64x8, .f32⟩
  | .hbm, ⟨55, _⟩ => ⟨S1x64x1x64x1x8, .f32⟩
  | .hbm, ⟨56, _⟩ => ⟨S32x64x1x64x1x8, .f32⟩
  | .hbm, ⟨57, _⟩ => ⟨S2048x64x8, .f32⟩
  | .hbm, ⟨58, _⟩ => ⟨S2016x64x8, .f32⟩
  | .hbm, ⟨59, _⟩ => ⟨S32x63x64x8, .f32⟩
  | .hbm, ⟨60, _⟩ => ⟨S32x32x64x8, .f32⟩
  | .hbm, ⟨61, _⟩ => ⟨S8x32x32x64, .f32⟩
  | .hbm, ⟨62, _⟩ => ⟨S8x32x2048, .f32⟩
  | .hbm, ⟨63, _⟩ => ⟨S8192x1024, .f32⟩
  | .hbm, ⟨64, _⟩ => ⟨S64x8192, .f32⟩
  | .local _ .vmem, ⟨0, _⟩ => ⟨S256x1024, .f32⟩
  | .local _ .vmem, ⟨1, _⟩ => ⟨S256x1024, .f32⟩
  | .local _ .vmem, ⟨2, _⟩ => ⟨S2048x512, .f32⟩
  | .local _ .vmem, ⟨3, _⟩ => ⟨S2048x512, .f32⟩
  | .local _ .vmem, ⟨4, _⟩ => ⟨S64x512, .f32⟩
  | .local _ .vmem, ⟨5, _⟩ => ⟨S8x32x256, .f32⟩
  | .local _ .vmem, ⟨6, _⟩ => ⟨S8x32x256, .f32⟩
  | .local _ .vmem, ⟨7, _⟩ => ⟨S256x1024, .f32⟩
  | .local _ .vmem, ⟨8, _⟩ => ⟨S256x1024, .f32⟩
  | .local _ .vmem, ⟨9, _⟩ => ⟨S64x256, .f32⟩
  | .local _ .vmem, ⟨10, _⟩ => ⟨S64x256, .f32⟩
  | .local _ .vmem, ⟨11, _⟩ => ⟨S32x512, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_v19 : Ref sig .tc := ⟨.hbm, 30, rfl⟩
abbrev main_v20 : Ref sig .tc := ⟨.hbm, 31, rfl⟩
abbrev main_c_6 : Ref sig .tc := ⟨.hbm, 32, rfl⟩
abbrev main_v21 : Ref sig .tc := ⟨.hbm, 33, rfl⟩
abbrev main_v22 : Ref sig .tc := ⟨.hbm, 34, rfl⟩
abbrev main_c_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_8 : Ref sig .tc := ⟨.hbm, 39, rfl⟩
abbrev main_v26 : Ref sig .tc := ⟨.hbm, 40, rfl⟩
abbrev main_v27 : Ref sig .tc := ⟨.hbm, 41, rfl⟩
abbrev main_c_9 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_10 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47_0 : Ref sig .tc := ⟨.hbm, 63, rfl⟩
abbrev main_v47_1 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8192x5120 : Shape := ⟨2, ![8192, 5120]⟩
abbrev S1x2x64x2 : Shape := ⟨4, ![1, 2, 64, 2]⟩
abbrev S32x16 : Shape := ⟨2, ![32, 16]⟩
abbrev S8192x1024 : Shape := ⟨2, ![8192, 1024]⟩
abbrev S4x2048x2x4x128 : Shape := ⟨5, ![4, 2048, 2, 4, 128]⟩
abbrev S8192x512 : Shape := ⟨2, ![8192, 512]⟩
abbrev S4x2048x2x2x128 : Shape := ⟨5, ![4, 2048, 2, 2, 128]⟩
abbrev S2048 : Shape := ⟨1, ![2048]⟩
abbrev S32x8 : Shape := ⟨2, ![32, 8]⟩
abbrev S32x2x4 : Shape := ⟨3, ![32, 2, 4]⟩
abbrev S4x32x64x2x2x128 : Shape := ⟨6, ![4, 32, 64, 2, 2, 128]⟩
abbrev S2x64x2 : Shape := ⟨3, ![2, 64, 2]⟩
abbrev S2x2x4x32x128 : Shape := ⟨5, ![2, 2, 4, 32, 128]⟩
abbrev S4x32x2x2x128 : Shape := ⟨5, ![4, 32, 2, 2, 128]⟩
abbrev S4x32x1x2x128 : Shape := ⟨5, ![4, 32, 1, 2, 128]⟩
abbrev S4x32x2x128 : Shape := ⟨4, ![4, 32, 2, 128]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x32x1 : Shape := ⟨3, ![2048, 32, 1]⟩
abbrev S2048x32x2x4 : Shape := ⟨4, ![2048, 32, 2, 4]⟩
abbrev S2048x2x4x32 : Shape := ⟨4, ![2048, 2, 4, 32]⟩
abbrev S1x2048x2x4x32 : Shape := ⟨5, ![1, 2048, 2, 4, 32]⟩
abbrev S4x2x32x2048x4 : Shape := ⟨5, ![4, 2, 32, 2048, 4]⟩
abbrev S4x2048x2x4x32 : Shape := ⟨5, ![4, 2048, 2, 4, 32]⟩
abbrev S1x2048x1x1x32 : Shape := ⟨5, ![1, 2048, 1, 1, 32]⟩
abbrev S4x2048x2x4 : Shape := ⟨4, ![4, 2048, 2, 4]⟩
abbrev S4x2048x2x4x1 : Shape := ⟨5, ![4, 2048, 2, 4, 1]⟩
abbrev S4x2x128x2048x4 : Shape := ⟨5, ![4, 2, 128, 2048, 4]⟩
abbrev S4x2048x2x32 : Shape := ⟨4, ![4, 2048, 2, 32]⟩
abbrev S1x2048x1x32 : Shape := ⟨4, ![1, 2048, 1, 32]⟩
abbrev S4x2048x2x16 : Shape := ⟨4, ![4, 2048, 2, 16]⟩
abbrev S4x2048x2x16x1 : Shape := ⟨5, ![4, 2048, 2, 16, 1]⟩
abbrev S1x1x1x1x32 : Shape := ⟨5, ![1, 1, 1, 1, 32]⟩
abbrev S4x2048x2x16x32 : Shape := ⟨5, ![4, 2048, 2, 16, 32]⟩
abbrev S2x32x4x2048 : Shape := ⟨4, ![2, 32, 4, 2048]⟩
abbrev S64x8192 : Shape := ⟨2, ![64, 8192]⟩

abbrev nBuf : Space → Nat
  | .hbm => 162
  | .vmem => 0
  | .smem => 0
  | _ => 0

abbrev hbmTy0_0 (i : Nat) : BufTy := match i % 128 with
  | 0 => ⟨S8192x5120, .f32⟩
  | 1 => ⟨S1x2x64x2, .f32⟩
  | 2 => ⟨S32x16, .f32⟩
  | 3 => ⟨S8192x1024, .f32⟩
  | 4 => ⟨S4x2048x2x4x128, .f32⟩
  | 5 => ⟨S8192x512, .f32⟩
  | 6 => ⟨S4x2048x2x2x128, .f32⟩
  | 7 => ⟨S2048, .i32⟩
  | 8 => ⟨S32x8, .f32⟩
  | 9 => ⟨S32x2x4, .f32⟩
  | 10 => ⟨S4x32x64x2x2x128, .f32⟩
  | 11 => ⟨S2x64x2, .f32⟩
  | 12 => ⟨S2x2x4x32x128, .f32⟩
  | 13 => ⟨S4x32x2x2x128, .f32⟩
  | 14 => ⟨S4x32x1x2x128, .f32⟩
  | 15 => ⟨S4x32x2x128, .f32⟩
  | 16 => ⟨S4x32x1x2x128, .f32⟩
  | 17 => ⟨S4x32x2x128, .f32⟩
  | 18 => ⟨S32, .i32⟩
  | 19 => ⟨S_, .i32⟩
  | 20 => ⟨S32, .i32⟩
  | 21 => ⟨S32, .i32⟩
  | 22 => ⟨S_, .i32⟩
  | 23 => ⟨S32, .i32⟩
  | 24 => ⟨S32, .i32⟩
  | 25 => ⟨S_, .i32⟩
  | 26 => ⟨S32, .i32⟩
  | 27 => ⟨S32, .i32⟩
  | 28 => ⟨S2048x1, .i32⟩
  | 29 => ⟨S1x32, .i32⟩
  | 30 => ⟨S2048x32, .i32⟩
  | 31 => ⟨S2048x32, .i32⟩
  | 32 => ⟨S2048x32, .i32⟩
  | 33 => ⟨S_, .i32⟩
  | 34 => ⟨S2048x32, .i32⟩
  | 35 => ⟨S2048x32, .i32⟩
  | 36 => ⟨S_, .i32⟩
  | 37 => ⟨S2048x32, .i32⟩
  | 38 => ⟨S2048x32, .i32⟩
  | 39 => ⟨S2048x32, .f32⟩
  | 40 => ⟨S_, .f32⟩
  | 41 => ⟨S2048x32, .f32⟩
  | 42 => ⟨S2048x32, .f32⟩
  | 43 => ⟨S2048x32, .f32⟩
  | 44 => ⟨S_, .f32⟩
  | 45 => ⟨S2048x32, .f32⟩
  | 46 => ⟨S2048x32, .f32⟩
  | 47 => ⟨S_, .f32⟩
  | 48 => ⟨S2048x32, .f32⟩
  | 49 => ⟨S2048x32, .f32⟩
  | 50 => ⟨S2048x32, .i32⟩
  | 51 => ⟨S_, .i32⟩
  | 52 => ⟨S2048x32, .i32⟩
  | 53 => ⟨S2048x32, .i32⟩
  | 54 => ⟨S_, .i32⟩
  | 55 => ⟨S2048x32, .i32⟩
  | 56 => ⟨S2048x32, .i1⟩
  | 57 => ⟨S_, .i32⟩
  | 58 => ⟨S2048x32, .i32⟩
  | 59 => ⟨S2048x32, .i32⟩
  | 60 => ⟨S2048x32, .i32⟩
  | 61 => ⟨S_, .i32⟩
  | 62 => ⟨S2048x32, .i32⟩
  | 63 => ⟨S2048x32, .i1⟩
  | 64 => ⟨S_, .i32⟩
  | 65 => ⟨S2048x32, .i32⟩
  | 66 => ⟨S2048x32, .i32⟩
  | 67 => ⟨S2048x32, .i32⟩
  | 68 => ⟨S2048x32x1, .i32⟩
  | 69 => ⟨S2048x32x2x4, .f32⟩
  | 70 => ⟨S2048x2x4x32, .f32⟩
  | 71 => ⟨S1x2048x2x4x32, .f32⟩
  | 72 => ⟨S4x2x32x2048x4, .f32⟩
  | 73 => ⟨S4x2048x2x4x32, .f32⟩
  | 74 => ⟨S_, .f32⟩
  | 75 => ⟨S4x2048x2x4x32, .f32⟩
  | 76 => ⟨S4x2048x2x4x32, .f32⟩
  | 77 => ⟨S4x2048x2x4x32, .f32⟩
  | 78 => ⟨S4x2048x2x4x32, .f32⟩
  | 79 => ⟨S_, .i32⟩
  | 80 => ⟨S2048x32, .i32⟩
  | 81 => ⟨S2048x32, .i1⟩
  | 82 => ⟨S1x2048x1x1x32, .i1⟩
  | 83 => ⟨S_, .f32⟩
  | 84 => ⟨S_, .f32⟩
  | 85 => ⟨S4x2048x2x4x32, .i1⟩
  | 86 => ⟨S4x2048x2x4x32, .f32⟩
  | 87 => ⟨S4x2048x2x4x32, .f32⟩
  | 88 => ⟨S_, .f32⟩
  | 89 => ⟨S4x2048x2x4, .f32⟩
  | 90 => ⟨S4x2048x2x4x1, .f32⟩
  | 91 => ⟨S4x2048x2x4x32, .f32⟩
  | 92 => ⟨S4x2048x2x4x32, .f32⟩
  | 93 => ⟨S4x2048x2x4x32, .f32⟩
  | 94 => ⟨S1x2048x1x1x32, .f32⟩
  | 95 => ⟨S4x2048x2x4x32, .f32⟩
  | 96 => ⟨S4x2048x2x4x32, .f32⟩
  | 97 => ⟨S_, .f32⟩
  | 98 => ⟨S4x2048x2x4, .f32⟩
  | 99 => ⟨S4x2048x2x4x1, .f32⟩
  | 100 => ⟨S_, .f32⟩
  | 101 => ⟨S4x2048x2x4x1, .f32⟩
  | 102 => ⟨S4x2048x2x4x1, .f32⟩
  | 103 => ⟨S4x2048x2x4x32, .f32⟩
  | 104 => ⟨S4x2048x2x4x32, .f32⟩
  | 105 => ⟨S4x2x128x2048x4, .f32⟩
  | 106 => ⟨S4x2048x2x4x128, .f32⟩
  | 107 => ⟨S_, .f32⟩
  | 108 => ⟨S4x2048x2x32, .f32⟩
  | 109 => ⟨S32, .i32⟩
  | 110 => ⟨S1x32, .i32⟩
  | 111 => ⟨S_, .i32⟩
  | 112 => ⟨S_, .i32⟩
  | 113 => ⟨S2048, .i32⟩
  | 114 => ⟨S2048, .i32⟩
  | 115 => ⟨S2048, .i32⟩
  | 116 => ⟨S_, .i32⟩
  | 117 => ⟨S2048, .i32⟩
  | 118 => ⟨S2048, .i1⟩
  | 119 => ⟨S2048, .i32⟩
  | 120 => ⟨S2048, .i32⟩
  | 121 => ⟨S_, .i32⟩
  | 122 => ⟨S2048, .i32⟩
  | 123 => ⟨S2048, .i1⟩
  | 124 => ⟨S2048, .i1⟩
  | 125 => ⟨S_, .i32⟩
  | 126 => ⟨S2048, .i32⟩
  | 127 => ⟨S2048, .i32⟩
  | _ => ⟨S8192x5120, .f32⟩

abbrev hbmTy0_1 (i : Nat) : BufTy := match i % 128 with
  | 0 => ⟨S2048, .i32⟩
  | 1 => ⟨S2048x1, .i32⟩
  | 2 => ⟨S2048x32, .i32⟩
  | 3 => ⟨S2048x32, .i32⟩
  | 4 => ⟨S2048x32, .i1⟩
  | 5 => ⟨S1x2048x1x32, .i1⟩
  | 6 => ⟨S2048x32, .i32⟩
  | 7 => ⟨S2048x32, .i32⟩
  | 8 => ⟨S2048x32, .i1⟩
  | 9 => ⟨S1x2048x1x32, .i1⟩
  | 10 => ⟨S_, .f32⟩
  | 11 => ⟨S_, .f32⟩
  | 12 => ⟨S4x2048x2x32, .i1⟩
  | 13 => ⟨S4x2048x2x32, .f32⟩
  | 14 => ⟨S4x2048x2x32, .f32⟩
  | 15 => ⟨S_, .f32⟩
  | 16 => ⟨S_, .f32⟩
  | 17 => ⟨S4x2048x2x32, .i1⟩
  | 18 => ⟨S4x2048x2x32, .f32⟩
  | 19 => ⟨S4x2048x2x32, .f32⟩
  | 20 => ⟨S4x2048x2x16, .f32⟩
  | 21 => ⟨S4x2048x2x16, .i32⟩
  | 22 => ⟨S4x2048x2x16x1, .i32⟩
  | 23 => ⟨S32, .i32⟩
  | 24 => ⟨S1x1x1x1x32, .i32⟩
  | 25 => ⟨S4x2048x2x16x32, .i32⟩
  | 26 => ⟨S4x2048x2x16x32, .i32⟩
  | 27 => ⟨S4x2048x2x16x32, .i1⟩
  | 28 => ⟨S4x2048x2x16x32, .f32⟩
  | 29 => ⟨S_, .f32⟩
  | 30 => ⟨S4x2048x2x32, .f32⟩
  | 31 => ⟨S8192x1024, .f32⟩
  | 32 => ⟨S2x32x4x2048, .f32⟩
  | 33 => ⟨S64x8192, .f32⟩
  | _ => ⟨S8192x5120, .f32⟩

abbrev hbmTy (i : Nat) : BufTy := match i / 128 with
  | 0 => hbmTy0_0 i
  | 1 => hbmTy0_1 i
  | _ => ⟨S8192x5120, .f32⟩

abbrev bufTy : (tb : Table) → Fin (tcTables nBuf tb) → BufTy
  | .hbm, ⟨i, _⟩ => hbmTy i
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_v17 : Ref sig .tc := ⟨.hbm, 21, rfl⟩
abbrev main_c_0 : Ref sig .tc := ⟨.hbm, 22, rfl⟩
abbrev main_v18 : Ref sig .tc := ⟨.hbm, 23, rfl⟩
abbrev main_v19 : Ref sig .tc := ⟨.hbm, 24, rfl⟩
abbrev main_c_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_2 : Ref sig .tc := ⟨.hbm, 33, rfl⟩
abbrev main_v27 : Ref sig .tc := ⟨.hbm, 34, rfl⟩
abbrev main_v28 : Ref sig .tc := ⟨.hbm, 35, rfl⟩
abbrev main_c_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_6 : Ref sig .tc := ⟨.hbm, 51, rfl⟩
abbrev main_v40 : Ref sig .tc := ⟨.hbm, 52, rfl⟩
abbrev main_v41 : Ref sig .tc := ⟨.hbm, 53, rfl⟩
abbrev main_c_7 : Ref sig .tc := ⟨.hbm, 54, rfl⟩
abbrev main_v42 : Ref sig .tc := ⟨.hbm, 55, rfl⟩
abbrev main_v43 : Ref sig .tc := ⟨.hbm, 56, rfl⟩
abbrev main_c_8 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_9 : Ref sig .tc := ⟨.hbm, 61, rfl⟩
abbrev main_v47 : Ref sig .tc := ⟨.hbm, 62, rfl⟩
abbrev main_v48 : Ref sig .tc := ⟨.hbm, 63, rfl⟩
abbrev main_c_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_c_12 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_13 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_15 : Ref sig .tc := ⟨.hbm, 97, rfl⟩
abbrev main_v74 : Ref sig .tc := ⟨.hbm, 98, rfl⟩
abbrev main_v75 : Ref sig .tc := ⟨.hbm, 99, rfl⟩
abbrev main_cst_16 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_17 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_c_18 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_v7 : Ref sig .tc := ⟨.hbm, 119, rfl⟩
abbrev main_call2_v8 : Ref sig .tc := ⟨.hbm, 120, rfl⟩
abbrev main_call2_c : Ref sig .tc := ⟨.hbm, 121, rfl⟩
abbrev main_call2_v9 : Ref sig .tc := ⟨.hbm, 122, rfl⟩
abbrev main_call2_v10 : Ref sig .tc := ⟨.hbm, 123, rfl⟩
abbrev main_call2_v11 : Ref sig .tc := ⟨.hbm, 124, rfl⟩
abbrev main_call2_c_0 : Ref sig .tc := ⟨.hbm, 125, rfl⟩
abbrev main_call2_v12 : Ref sig .tc := ⟨.hbm, 126, rfl⟩
abbrev main_call2_v13 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_19 : Ref sig .tc := ⟨.hbm, 138, rfl⟩
abbrev main_call3_v0 : Ref sig .tc := ⟨.hbm, 139, rfl⟩
abbrev main_call3_v1 : Ref sig .tc := ⟨.hbm, 140, rfl⟩
abbrev main_call3_v2 : Ref sig .tc := ⟨.hbm, 141, rfl⟩
abbrev main_v95 : Ref sig .tc := ⟨.hbm, 142, rfl⟩
abbrev main_cst_20 : Ref sig .tc := ⟨.hbm, 143, rfl⟩
abbrev main_call4_v0 : Ref sig .tc := ⟨.hbm, 144, rfl⟩
abbrev main_call4_v1 : Ref sig .tc := ⟨.hbm, 145, rfl⟩
abbrev main_call4_v2 : Ref sig .tc := ⟨.hbm, 146, rfl⟩
abbrev main_v96 : Ref sig .tc := ⟨.hbm, 147, rfl⟩
abbrev main_values : Ref sig .tc := ⟨.hbm, 148, rfl⟩
abbrev main_indices : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_cst_21 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩

abbrev nD : Nat := 1
abbrev τ : Topo := Topo.v7x

variable {F : FTy → Type} [FloatOps F]
-- ==== Kernel2.lean ====
abbrev S8192x2048 : Shape := ⟨2, ![8192, 2048]⟩
abbrev S2x2048x8192 : Shape := ⟨3, ![2, 2048, 8192]⟩
abbrev S2x8192x2048 : Shape := ⟨3, ![2, 8192, 2048]⟩
abbrev S2048 : Shape := ⟨1, ![2048]⟩
abbrev S1x2048 : Shape := ⟨2, ![1, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2x2048x8192, .f32⟩
  | .hbm, ⟨3, _⟩ => ⟨S2x8192x2048, .f32⟩
  | .hbm, ⟨4, _⟩ => ⟨S2048, .f32⟩
  | .hbm, ⟨5, _⟩ => ⟨S2x2048x8192, .bf16⟩
  | .hbm, ⟨6, _⟩ => ⟨S2x8192x2048, .bf16⟩
  | .hbm, ⟨7, _⟩ => ⟨S1x2048, .f32⟩
  | .hbm, ⟨8, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Kernel2Ideal.lean ====
abbrev S8192x2048 : Shape := ⟨2, ![8192, 2048]⟩
abbrev S2x2048x8192 : Shape := ⟨3, ![2, 2048, 8192]⟩
abbrev S2x8192x2048 : Shape := ⟨3, ![2, 8192, 2048]⟩
abbrev S2048 : Shape := ⟨1, ![2048]⟩
abbrev S1x2048 : Shape := ⟨2, ![1, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2x2048x8192, .f32⟩
  | .hbm, ⟨3, _⟩ => ⟨S2x8192x2048, .f32⟩
  | .hbm, ⟨4, _⟩ => ⟨S2048, .f32⟩
  | .hbm, ⟨5, _⟩ => ⟨S2x2048x8192, .bf16⟩
  | .hbm, ⟨6, _⟩ => ⟨S2x8192x2048, .bf16⟩
  | .hbm, ⟨7, _⟩ => ⟨S1x2048, .f32⟩
  | .hbm, ⟨8, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8192x2048 : Shape := ⟨2, ![8192, 2048]⟩
abbrev S2x2048x8192 : Shape := ⟨3, ![2, 2048, 8192]⟩
abbrev S2x8192x2048 : Shape := ⟨3, ![2, 8192, 2048]⟩
abbrev S2048 : Shape := ⟨1, ![2048]⟩
abbrev S1x2048x8192 : Shape := ⟨3, ![1, 2048, 8192]⟩
abbrev S2048x8192 : Shape := ⟨2, ![2048, 8192]⟩
abbrev S8192x8192 : Shape := ⟨2, ![8192, 8192]⟩
abbrev S_ : Shape := ⟨0, ![]⟩
abbrev S1x8192x2048 : Shape := ⟨3, ![1, 8192, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2x2048x8192, .f32⟩
  | .hbm, ⟨3, _⟩ => ⟨S2x8192x2048, .f32⟩
  | .hbm, ⟨4, _⟩ => ⟨S2048, .f32⟩
  | .hbm, ⟨5, _⟩ => ⟨S8192x2048, .f32⟩
  | .hbm, ⟨6, _⟩ => ⟨S1x2048x8192, .f32⟩
  | .hbm, ⟨7, _⟩ => ⟨S2048x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S1x8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x2048, .f32⟩
  | .hbm, ⟨29, _⟩ => ⟨S8192x2048, .f32⟩
  | .hbm, ⟨30, _⟩ => ⟨S1x2048, .f32⟩
  | .hbm, ⟨31, _⟩ => ⟨S8192x2048, .f32⟩
  | .hbm, ⟨32, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel3.lean ====
abbrev S8192x2048 : Shape := ⟨2, ![8192, 2048]⟩
abbrev S2x2048 : Shape := ⟨2, ![2, 2048]⟩
abbrev S1x2048x3072 : Shape := ⟨3, ![1, 2048, 3072]⟩
abbrev S1x2048 : Shape := ⟨2, ![1, 2048]⟩
abbrev S2048 : Shape := ⟨1, ![2048]⟩
abbrev S2048x3072 : Shape := ⟨2, ![2048, 3072]⟩
abbrev S8192x3072 : Shape := ⟨2, ![8192, 3072]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S1x2048x3072, .f32⟩
  | .hbm, ⟨3, _⟩ => ⟨S1x2048, .f32⟩
  | .hbm, ⟨4, _⟩ => ⟨S2048, .f32⟩
  | .hbm, ⟨5, _⟩ => ⟨S2048x3072, .f32⟩
  | .hbm, ⟨6, _⟩ => ⟨S2048x3072, .bf16⟩
  | .hbm, ⟨7, _⟩ => ⟨S1x2048, .f32⟩
  | .hbm, ⟨8, _⟩ => ⟨S8192x3072, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x2048 : Shape := ⟨2, ![8192, 2048]⟩
abbrev S2x2048 : Shape := ⟨2, ![2, 2048]⟩
abbrev S1x2048x3072 : Shape := ⟨3, ![1, 2048, 3072]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩
abbrev S2048x3072 : Shape := ⟨2, ![2048, 3072]⟩
abbrev S8192x3072 : Shape := ⟨2, ![8192, 3072]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S1x2048x3072, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S2048x3072, .f32⟩
  | .hbm, ⟨22, _⟩ => ⟨S8192x3072, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel4.lean ====
abbrev S8192x2048 : Shape := ⟨2, ![8192, 2048]⟩
abbrev S1x2048x2048 : Shape := ⟨3, ![1, 2048, 2048]⟩
abbrev S2x2048 : Shape := ⟨2, ![2, 2048]⟩
abbrev S2048x2048 : Shape := ⟨2, ![2048, 2048]⟩
abbrev S1x2048 : Shape := ⟨2, ![1, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S2x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S8192x2048, .f32⟩
  | .hbm, ⟨10, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8192x2048 : Shape := ⟨2, ![8192, 2048]⟩
abbrev S1x2048x2048 : Shape := ⟨3, ![1, 2048, 2048]⟩
abbrev S2x2048 : Shape := ⟨2, ![2, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S2x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel5.lean ====
abbrev S8192x1024 : Shape := ⟨2, ![8192, 1024]⟩
abbrev S1x2048x2048 : Shape := ⟨3, ![1, 2048, 2048]⟩
abbrev S8192x2048 : Shape := ⟨2, ![8192, 2048]⟩
abbrev S2x2048 : Shape := ⟨2, ![2, 2048]⟩
abbrev S2048x2048 : Shape := ⟨2, ![2048, 2048]⟩
abbrev S1024x2048 : Shape := ⟨2, ![1024, 2048]⟩
abbrev S1x2048 : Shape := ⟨2, ![1, 2048]⟩
abbrev S2048 : Shape := ⟨1, ![2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x2048x2048, .f32⟩
  | .hbm, ⟨3, _⟩ => ⟨S8192x2048, .f32⟩
  | .hbm, ⟨4, _⟩ => ⟨S2x2048, .f32⟩
  | .hbm, ⟨5, _⟩ => ⟨S2048x2048, .f32⟩
  | .hbm, ⟨6, _⟩ => ⟨S2048x2048, .bf16⟩
  | .hbm, ⟨7, _⟩ => ⟨S1024x2048, .bf16⟩
  | .hbm, ⟨8, _⟩ => ⟨S1024x2048, .bf16⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S8192x2048, .f32⟩
  | .hbm, ⟨13, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel5Ideal.lean ====
abbrev S8192x1024 : Shape := ⟨2, ![8192, 1024]⟩
abbrev S1x2048x2048 : Shape := ⟨3, ![1, 2048, 2048]⟩
abbrev S8192x2048 : Shape := ⟨2, ![8192, 2048]⟩
abbrev S2x2048 : Shape := ⟨2, ![2, 2048]⟩
abbrev S2048x2048 : Shape := ⟨2, ![2048, 2048]⟩
abbrev S1024x2048 : Shape := ⟨2, ![1024, 2048]⟩
abbrev S1x2048 : Shape := ⟨2, ![1, 2048]⟩
abbrev S2048 : Shape := ⟨1, ![2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x2048x2048, .f32⟩
  | .hbm, ⟨3, _⟩ => ⟨S8192x2048, .f32⟩
  | .hbm, ⟨4, _⟩ => ⟨S2x2048, .f32⟩
  | .hbm, ⟨5, _⟩ => ⟨S2048x2048, .f32⟩
  | .hbm, ⟨6, _⟩ => ⟨S2048x2048, .bf16⟩
  | .hbm, ⟨7, _⟩ => ⟨S1024x2048, .bf16⟩
  | .hbm, ⟨8, _⟩ => ⟨S1024x2048, .bf16⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S8192x2048, .f32⟩
  | .hbm, ⟨13, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S8192x1024 : Shape := ⟨2, ![8192, 1024]⟩
abbrev S1x2048x2048 : Shape := ⟨3, ![1, 2048, 2048]⟩
abbrev S8192x2048 : Shape := ⟨2, ![8192, 2048]⟩
abbrev S2x2048 : Shape := ⟨2, ![2, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x2048x2048, .f32⟩
  | .hbm, ⟨3, _⟩ => ⟨S8192x2048, .f32⟩
  | .hbm, ⟨4, _⟩ => ⟨S2x2048, .f32⟩
  | .hbm, ⟨5, _⟩ => ⟨S8192x2048, .bf16⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel6.lean ====
abbrev S8192x2048 : Shape := ⟨2, ![8192, 2048]⟩
abbrev S2x2048 : Shape := ⟨2, ![2, 2048]⟩
abbrev S1x2048x4704 : Shape := ⟨3, ![1, 2048, 4704]⟩
abbrev S2048x4704 : Shape := ⟨2, ![2048, 4704]⟩
abbrev S2048x1024 : Shape := ⟨2, ![2048, 1024]⟩
abbrev S2048x1536 : Shape := ⟨2, ![2048, 1536]⟩
abbrev S2048x24 : Shape := ⟨2, ![2048, 24]⟩
abbrev S2048x512 : Shape := ⟨2, ![2048, 512]⟩
abbrev S2048x64 : Shape := ⟨2, ![2048, 64]⟩
abbrev S2048x8 : Shape := ⟨2, ![2048, 8]⟩
abbrev S_ : Shape := ⟨0, ![]⟩
abbrev S2048x104 : Shape := ⟨2, ![2048, 104]⟩
abbrev S2048x120 : Shape := ⟨2, ![2048, 120]⟩
abbrev S2048x128 : Shape := ⟨2, ![2048, 128]⟩
abbrev S2048x5120 : Shape := ⟨2, ![2048, 5120]⟩
abbrev S1x2048 : Shape := ⟨2, ![1, 2048]⟩
abbrev S2048 : Shape := ⟨1, ![2048]⟩
abbrev S8192x5120 : Shape := ⟨2, ![8192, 5120]⟩
abbrev S32768x128 : Shape := ⟨2, ![32768, 128]⟩
abbrev S1024x2048 : Shape := ⟨2, ![1024, 2048]⟩
abbrev S1024x512 : Shape := ⟨2, ![1024, 512]⟩
abbrev S4096x128 : Shape := ⟨2, ![4096, 128]⟩
abbrev S1024 : Shape := ⟨1, ![1024]⟩
abbrev S1024x1 : Shape := ⟨2, ![1024, 1]⟩
abbrev S1024x128 : Shape := ⟨2, ![1024, 128]⟩

abbrev nBuf : Space → Nat
  | .hbm => 30
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S1x2048x4704, .f32⟩
  | .hbm, ⟨3, _⟩ => ⟨S2048x4704, .f32⟩
  | .hbm, ⟨4, _⟩ => ⟨S2048x1024, .f32⟩
  | .hbm, ⟨5, _⟩ => ⟨S2048x1536, .f32⟩
  | .hbm, ⟨6, _⟩ => ⟨S2048x24, .f32⟩
  | .hbm, ⟨7, _⟩ => ⟨S2048x1024, .f32⟩
  | .hbm, ⟨8, _⟩ => ⟨S2048x512, .f32⟩
  | .hbm, ⟨9, _⟩ => ⟨S2048x512, .f32⟩
  | .hbm, ⟨10, _⟩ => ⟨S2048x64, .f32⟩
  | .hbm, ⟨11, _⟩ => ⟨S2048x8, .f32⟩
  | .hbm, ⟨12, _⟩ => ⟨S_, .f32⟩
  | .hbm, ⟨13, _⟩ => ⟨S2048x64, .f32⟩
  | .hbm, ⟨14, _⟩ => ⟨S_, .f32⟩
  | .hbm, ⟨15, _⟩ => ⟨S2048x104, .f32⟩
  | .hbm, ⟨16, _⟩ => ⟨S_, .f32⟩
  | .hbm, ⟨17, _⟩ => ⟨S2048x120, .f32⟩
  | .hbm, ⟨18, _⟩ => ⟨S_, .f32⟩
  | .hbm, ⟨19, _⟩ => ⟨S2048x128, .f32⟩
  | .hbm, ⟨20, _⟩ => ⟨S2048x5120, .f32⟩
  | .hbm, ⟨21, _⟩ => ⟨S2048x5120, .bf16⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S8192x5120, .f32⟩
  | .hbm, ⟨26, _⟩ => ⟨S32768x128, .f32⟩
  | .hbm, ⟨27, _⟩ => ⟨S32768x128, .f32⟩
  | .hbm, ⟨28, _⟩ => ⟨S32768x128, .f32⟩
  | .hbm, ⟨29, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v18_3 : Ref sig .tc := ⟨.hbm, 28, rfl⟩
abbrev main_v18_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let arg1 : BitVec 32 := BitVec.ofNat 32 (i 1).val
  let c4_i32 : BitVec 32 := 4#32
  let v8 : BitVec 1 := Scalar.cmpi .eq arg1 c4_i32
  let v9 : BitVec 32 := Scalar.extui v8
  let c0_i32_6 : BitVec 32 := 0#32
  let v10 : BitVec 1 := Scalar.cmpi .ne v9 c0_i32_6
  v10

def k0_cond3 (i : grid0.Coords) : BitVec 1 :=
  let arg1 : BitVec 32 := BitVec.ofNat 32 (i 1).val
  let c5_i32 : BitVec 32 := 5#32
  let v11 : BitVec 1 := Scalar.cmpi .eq arg1 c5_i32
  let v12 : BitVec 32 := Scalar.extui v11
  let c0_i32_7 : BitVec 32 := 0#32
  let v13 : BitVec 1 := Scalar.cmpi .ne v12 c0_i32_7
  v13

def k0_cond4 (i : grid0.Coords) : BitVec 1 :=
  let arg1 : BitVec 32 := BitVec.ofNat 32 (i 1).val
  let c6_i32 : BitVec 32 := 6#32
  let v14 : BitVec 1 := Scalar.cmpi .eq arg1 c6_i32
  let v15 : BitVec 32 := Scalar.extui v14
  let c0_i32_8 : BitVec 32 := 0#32
  let v16 : BitVec 1 := Scalar.cmpi .ne v15 c0_i32_8
  v16

def k0_cond5 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Kernel6Ideal.lean ====
abbrev S8192x2048 : Shape := ⟨2, ![8192, 2048]⟩
abbrev S2x2048 : Shape := ⟨2, ![2, 2048]⟩
abbrev S1x2048x4704 : Shape := ⟨3, ![1, 2048, 4704]⟩
abbrev S2048x4704 : Shape := ⟨2, ![2048, 4704]⟩
abbrev S2048x1024 : Shape := ⟨2, ![2048, 1024]⟩
abbrev S2048x1536 : Shape := ⟨2, ![2048, 1536]⟩
abbrev S2048x24 : Shape := ⟨2, ![2048, 24]⟩
abbrev S2048x512 : Shape := ⟨2, ![2048, 512]⟩
abbrev S2048x64 : Shape := ⟨2, ![2048, 64]⟩
abbrev S2048x8 : Shape := ⟨2, ![2048, 8]⟩
abbrev S_ : Shape := ⟨0, ![]⟩
abbrev S2048x104 : Shape := ⟨2, ![2048, 104]⟩
abbrev S2048x120 : Shape := ⟨2, ![2048, 120]⟩
abbrev S2048x128 : Shape := ⟨2, ![2048, 128]⟩
abbrev S2048x5120 : Shape := ⟨2, ![2048, 5120]⟩
abbrev S1x2048 : Shape := ⟨2, ![1, 2048]⟩
abbrev S2048 : Shape := ⟨1, ![2048]⟩
abbrev S8192x5120 : Shape := ⟨2, ![8192, 5120]⟩
abbrev S32768x128 : Shape := ⟨2, ![32768, 128]⟩
abbrev S1024x2048 : Shape := ⟨2, ![1024, 2048]⟩
abbrev S1024x512 : Shape := ⟨2, ![1024, 512]⟩
abbrev S4096x128 : Shape := ⟨2, ![4096, 128]⟩
abbrev S1024 : Shape := ⟨1, ![1024]⟩
abbrev S1024x1 : Shape := ⟨2, ![1024, 1]⟩
abbrev S1024x128 : Shape := ⟨2, ![1024, 128]⟩

abbrev nBuf : Space → Nat
  | .hbm => 30
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S1x2048x4704, .f32⟩
  | .hbm, ⟨3, _⟩ => ⟨S2048x4704, .f32⟩
  | .hbm, ⟨4, _⟩ => ⟨S2048x1024, .f32⟩
  | .hbm, ⟨5, _⟩ => ⟨S2048x1536, .f32⟩
  | .hbm, ⟨6, _⟩ => ⟨S2048x24, .f32⟩
  | .hbm, ⟨7, _⟩ => ⟨S2048x1024, .f32⟩
  | .hbm, ⟨8, _⟩ => ⟨S2048x512, .f32⟩
  | .hbm, ⟨9, _⟩ => ⟨S2048x512, .f32⟩
  | .hbm, ⟨10, _⟩ => ⟨S2048x64, .f32⟩
  | .hbm, ⟨11, _⟩ => ⟨S2048x8, .f32⟩
  | .hbm, ⟨12, _⟩ => ⟨S_, .f32⟩
  | .hbm, ⟨13, _⟩ => ⟨S2048x64, .f32⟩
  | .hbm, ⟨14, _⟩ => ⟨S_, .f32⟩
  | .hbm, ⟨15, _⟩ => ⟨S2048x104, .f32⟩
  | .hbm, ⟨16, _⟩ => ⟨S_, .f32⟩
  | .hbm, ⟨17, _⟩ => ⟨S2048x120, .f32⟩
  | .hbm, ⟨18, _⟩ => ⟨S_, .f32⟩
  | .hbm, ⟨19, _⟩ => ⟨S2048x128, .f32⟩
  | .hbm, ⟨20, _⟩ => ⟨S2048x5120, .f32⟩
  | .hbm, ⟨21, _⟩ => ⟨S2048x5120, .bf16⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S8192x5120, .f32⟩
  | .hbm, ⟨26, _⟩ => ⟨S32768x128, .f32⟩
  | .hbm, ⟨27, _⟩ => ⟨S32768x128, .f32⟩
  | .hbm, ⟨28, _⟩ => ⟨S32768x128, .f32⟩
  | .hbm, ⟨29, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v18_3 : Ref sig .tc := ⟨.hbm, 28, rfl⟩
abbrev main_v18_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let arg1 : BitVec 32 := BitVec.ofNat 32 (i 1).val
  let c4_i32 : BitVec 32 := 4#32
  let v8 : BitVec 1 := Scalar.cmpi .eq arg1 c4_i32
  let v9 : BitVec 32 := Scalar.extui v8
  let c0_i32_6 : BitVec 32 := 0#32
  let v10 : BitVec 1 := Scalar.cmpi .ne v9 c0_i32_6
  v10

def k0_cond3 (i : grid0.Coords) : BitVec 1 :=
  let arg1 : BitVec 32 := BitVec.ofNat 32 (i 1).val
  let c5_i32 : BitVec 32 := 5#32
  let v11 : BitVec 1 := Scalar.cmpi .eq arg1 c5_i32
  let v12 : BitVec 32 := Scalar.extui v11
  let c0_i32_7 : BitVec 32 := 0#32
  let v13 : BitVec 1 := Scalar.cmpi .ne v12 c0_i32_7
  v13

def k0_cond4 (i : grid0.Coords) : BitVec 1 :=
  let arg1 : BitVec 32 := BitVec.ofNat 32 (i 1).val
  let c6_i32 : BitVec 32 := 6#32
  let v14 : BitVec 1 := Scalar.cmpi .eq arg1 c6_i32
  let v15 : BitVec 32 := Scalar.extui v14
  let c0_i32_8 : BitVec 32 := 0#32
  let v16 : BitVec 1 := Scalar.cmpi .ne v15 c0_i32_8
  v16

def k0_cond5 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference6Ideal.lean ====
abbrev S8192x2048 : Shape := ⟨2, ![8192, 2048]⟩
abbrev S2x2048 : Shape := ⟨2, ![2, 2048]⟩
abbrev S1x2048x4704 : Shape := ⟨3, ![1, 2048, 4704]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩
abbrev S2048x4704 : Shape := ⟨2, ![2048, 4704]⟩
abbrev S8192x4704 : Shape := ⟨2, ![8192, 4704]⟩
abbrev S8192x1024 : Shape := ⟨2, ![8192, 1024]⟩
abbrev S8192x512 : Shape := ⟨2, ![8192, 512]⟩
abbrev S8192x24 : Shape := ⟨2, ![8192, 24]⟩
abbrev S8192x64 : Shape := ⟨2, ![8192, 64]⟩
abbrev S8192x8 : Shape := ⟨2, ![8192, 8]⟩
abbrev S8192x104 : Shape := ⟨2, ![8192, 104]⟩
abbrev S8192x248 : Shape := ⟨2, ![8192, 248]⟩
abbrev S8192x5120 : Shape := ⟨2, ![8192, 5120]⟩
abbrev S32768x128 : Shape := ⟨2, ![32768, 128]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S1x2048x4704, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S2048x4704, .f32⟩
  | .hbm, ⟨22, _⟩ => ⟨S8192x4704, .f32⟩
  | .hbm, ⟨23, _⟩ => ⟨S8192x1024, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x24, .f32⟩
  | .hbm, ⟨28, _⟩ => ⟨S8192x1024, .f32⟩
  | .hbm, ⟨29, _⟩ => ⟨S8192x512, .f32⟩
  | .hbm, ⟨30, _⟩ => ⟨S8192x512, .f32⟩
  | .hbm, ⟨31, _⟩ => ⟨S8192x64, .f32⟩
  | .hbm, ⟨32, _⟩ => ⟨S8192x8, .f32⟩
  | .hbm, ⟨33, _⟩ => ⟨S_, .f32⟩
  | .hbm, ⟨34, _⟩ => ⟨S8192x64, .f32⟩
  | .hbm, ⟨35, _⟩ => ⟨S_, .f32⟩
  | .hbm, ⟨36, _⟩ => ⟨S8192x104, .f32⟩
  | .hbm, ⟨37, _⟩ => ⟨S_, .f32⟩
  | .hbm, ⟨38, _⟩ => ⟨S8192x248, .f32⟩
  | .hbm, ⟨39, _⟩ => ⟨S8192x5120, .f32⟩
  | .hbm, ⟨40, _⟩ => ⟨S32768x128, .f32⟩
  | .hbm, ⟨41, _⟩ => ⟨S32768x128, .f32⟩
  | .hbm, ⟨42, _⟩ => ⟨S32768x128, .f32⟩
  | .hbm, ⟨43, _⟩ => ⟨S32768x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Kernel7.lean ====
abbrev S1024x2048 : Shape := ⟨2, ![1024, 2048]⟩
abbrev S2x2048x8192 : Shape := ⟨3, ![2, 2048, 8192]⟩
abbrev S2x8192x2048 : Shape := ⟨3, ![2, 8192, 2048]⟩
abbrev S2048 : Shape := ⟨1, ![2048]⟩
abbrev S1x2048 : Shape := ⟨2, ![1, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S1024x2048, .f32⟩
  | .hbm, ⟨1, _⟩ => ⟨S1024x2048, .bf16⟩
  | .hbm, ⟨2, _⟩ => ⟨S2x2048x8192, .f32⟩
  | .hbm, ⟨3, _⟩ => ⟨S2x8192x2048, .f32⟩
  | .hbm, ⟨4, _⟩ => ⟨S2048, .f32⟩
  | .hbm, ⟨5, _⟩ => ⟨S2x2048x8192, .bf16⟩
  | .hbm, ⟨6, _⟩ => ⟨S2x8192x2048, .bf16⟩
  | .hbm, ⟨7, _⟩ => ⟨S1x2048, .f32⟩
  | .hbm, ⟨8, _⟩ => ⟨S1024x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference7Ideal.lean ====
abbrev S1024x2048 : Shape := ⟨2, ![1024, 2048]⟩
abbrev S2x2048x8192 : Shape := ⟨3, ![2, 2048, 8192]⟩
abbrev S2x8192x2048 : Shape := ⟨3, ![2, 8192, 2048]⟩
abbrev S2048 : Shape := ⟨1, ![2048]⟩
abbrev S1x2048x8192 : Shape := ⟨3, ![1, 2048, 8192]⟩
abbrev S2048x8192 : Shape := ⟨2, ![2048, 8192]⟩
abbrev S1024x8192 : Shape := ⟨2, ![1024, 8192]⟩
abbrev S_ : Shape := ⟨0, ![]⟩
abbrev S1x8192x2048 : Shape := ⟨3, ![1, 8192, 2048]⟩
abbrev S8192x2048 : Shape := ⟨2, ![8192, 2048]⟩
abbrev S1024 : Shape := ⟨1, ![1024]⟩
abbrev S1024x1 : Shape := ⟨2, ![1024, 1]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .bf16⟩
  | .hbm, ⟨2, _⟩ => ⟨S2x2048x8192, .f32⟩
  | .hbm, ⟨3, _⟩ => ⟨S2x8192x2048, .f32⟩
  | .hbm, ⟨4, _⟩ => ⟨S2048, .f32⟩
  | .hbm, ⟨5, _⟩ => ⟨S1024x2048, .f32⟩
  | .hbm, ⟨6, _⟩ => ⟨S1x2048x8192, .f32⟩
  | .hbm, ⟨7, _⟩ => ⟨S2048x8192, .f32⟩
  | .hbm, ⟨8, _⟩ => ⟨S1024x8192, .f32⟩
  | .hbm, ⟨9, _⟩ => ⟨S_, .f32⟩
  | .hbm, ⟨10, _⟩ => ⟨S1024x8192, .f32⟩
  | .hbm, ⟨11, _⟩ => ⟨S1024x8192, .f32⟩
  | .hbm, ⟨12, _⟩ => ⟨S1024x8192, .f32⟩
  | .hbm, ⟨13, _⟩ => ⟨S1x8192x2048, .f32⟩
  | .hbm, ⟨14, _⟩ => ⟨S8192x2048, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S_, .f32⟩
  | .hbm, ⟨19, _⟩ => ⟨S1024, .f32⟩
  | .hbm, ⟨20, _⟩ => ⟨S1024x1, .f32⟩
  | .hbm, ⟨21, _⟩ => ⟨S_, .f32⟩
  | .hbm, ⟨22, _⟩ => ⟨S1024x1, .f32⟩
  | .hbm, ⟨23, _⟩ => ⟨S1024x1, .f32⟩
  | .hbm, ⟨24, _⟩ => ⟨S_, .f32⟩
  | .hbm, ⟨25, _⟩ => ⟨S1024x1, .f32⟩
  | .hbm, ⟨26, _⟩ => ⟨S1024x1, .f32⟩
  | .hbm, ⟨27, _⟩ => ⟨S1024x1, .f32⟩
  | .hbm, ⟨28, _⟩ => ⟨S1024x2048, .f32⟩
  | .hbm, ⟨29, _⟩ => ⟨S1024x2048, .f32⟩
  | .hbm, ⟨30, _⟩ => ⟨S1x2048, .f32⟩
  | .hbm, ⟨31, _⟩ => ⟨S1024x2048, .f32⟩
  | .hbm, ⟨32, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel8.lean ====
abbrev S1024x1024 : Shape := ⟨2, ![1024, 1024]⟩
abbrev S1x2048x2048 : Shape := ⟨3, ![1, 2048, 2048]⟩
abbrev S1024x2048 : Shape := ⟨2, ![1024, 2048]⟩
abbrev S2x2048 : Shape := ⟨2, ![2, 2048]⟩
abbrev S2048x2048 : Shape := ⟨2, ![2048, 2048]⟩
abbrev S1x2048 : Shape := ⟨2, ![1, 2048]⟩
abbrev S2048 : Shape := ⟨1, ![2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1x2048x2048, .f32⟩
  | .hbm, ⟨3, _⟩ => ⟨S1024x2048, .f32⟩
  | .hbm, ⟨4, _⟩ => ⟨S2x2048, .f32⟩
  | .hbm, ⟨5, _⟩ => ⟨S2048x2048, .f32⟩
  | .hbm, ⟨6, _⟩ => ⟨S2048x2048, .bf16⟩
  | .hbm, ⟨7, _⟩ => ⟨S1024x2048, .bf16⟩
  | .hbm, ⟨8, _⟩ => ⟨S1024x2048, .bf16⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S1024x2048, .f32⟩
  | .hbm, ⟨13, _⟩ => ⟨S1024x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S1024x1024 : Shape := ⟨2, ![1024, 1024]⟩
abbrev S1x2048x2048 : Shape := ⟨3, ![1, 2048, 2048]⟩
abbrev S1024x2048 : Shape := ⟨2, ![1024, 2048]⟩
abbrev S2x2048 : Shape := ⟨2, ![2, 2048]⟩
abbrev S2048x2048 : Shape := ⟨2, ![2048, 2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S2048 : Shape := ⟨1, ![2048]⟩

abbrev nBuf : Space → Nat
  | .hbm => 29
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1x2048x2048, .f32⟩
  | .hbm, ⟨3, _⟩ => ⟨S1024x2048, .f32⟩
  | .hbm, ⟨4, _⟩ => ⟨S2x2048, .f32⟩
  | .hbm, ⟨5, _⟩ => ⟨S1024x2048, .bf16⟩
  | .hbm, ⟨6, _⟩ => ⟨S1024x2048, .f32⟩
  | .hbm, ⟨7, _⟩ => ⟨S2048x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S_, .f32⟩
  | .hbm, ⟨18, _⟩ => ⟨S1024x1, .f32⟩
  | .hbm, ⟨19, _⟩ => ⟨S1024x1, .f32⟩
  | .hbm, ⟨20, _⟩ => ⟨S1024x1, .f32⟩
  | .hbm, ⟨21, _⟩ => ⟨S1024x2048, .f32⟩
  | .hbm, ⟨22, _⟩ => ⟨S1024x2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S1024x2048, .f32⟩
  | .hbm, ⟨27, _⟩ => ⟨S1024x2048, .f32⟩
  | .hbm, ⟨28, _⟩ => ⟨S1024x2048, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel9.lean ====
abbrev S1024x2048 : Shape := ⟨2, ![1024, 2048]⟩
abbrev S2x2048 : Shape := ⟨2, ![2, 2048]⟩
abbrev S1x2048x4704 : Shape := ⟨3, ![1, 2048, 4704]⟩
abbrev S2048x4704 : Shape := ⟨2, ![2048, 4704]⟩
abbrev S2048x1024 : Shape := ⟨2, ![2048, 1024]⟩
abbrev S2048x1536 : Shape := ⟨2, ![2048, 1536]⟩
abbrev S2048x24 : Shape := ⟨2, ![2048, 24]⟩
abbrev S2048x512 : Shape := ⟨2, ![2048, 512]⟩
abbrev S2048x64 : Shape := ⟨2, ![2048, 64]⟩
abbrev S2048x8 : Shape := ⟨2, ![2048, 8]⟩
abbrev S_ : Shape := ⟨0, ![]⟩
abbrev S2048x104 : Shape := ⟨2, ![2048, 104]⟩
abbrev S2048x120 : Shape := ⟨2, ![2048, 120]⟩
abbrev S2048x128 : Shape := ⟨2, ![2048, 128]⟩
abbrev S2048x5120 : Shape := ⟨2, ![2048, 5120]⟩
abbrev S1x2048 : Shape := ⟨2, ![1, 2048]⟩
abbrev S2048 : Shape := ⟨1, ![2048]⟩
abbrev S1024x5120 : Shape := ⟨2, ![1024, 5120]⟩
abbrev S4096x128 : Shape := ⟨2, ![4096, 128]⟩
abbrev S1024x512 : Shape := ⟨2, ![1024, 512]⟩
abbrev S1024 : Shape := ⟨1, ![1024]⟩
abbrev S1024x1 : Shape := ⟨2, ![1024, 1]⟩
abbrev S1024x128 : Shape := ⟨2, ![1024, 128]⟩

abbrev nBuf : Space → Nat
  | .hbm => 30
  | .vmem => 11
  | .smem => 0
  | _ => 0

abbrev bufTy : (tb : Table) → Fin (tcTables nBuf tb) → BufTy
  | .hbm, ⟨0, _⟩ => ⟨S1024x2048, .f32⟩
  | .hbm, ⟨1, _⟩ => ⟨S2x2048, .f32⟩
  | .hbm, ⟨2, _⟩ => ⟨S1x2048x4704, .f32⟩
  | .hbm, ⟨3, _⟩ => ⟨S2048x4704, .f32⟩
  | .hbm, ⟨4, _⟩ => ⟨S2048x1024, .f32⟩
  | .hbm, ⟨5, _⟩ => ⟨S2048x1536, .f32⟩
  | .hbm, ⟨6, _⟩ => ⟨S2048x24, .f32⟩
  | .hbm, ⟨7, _⟩ => ⟨S2048x1024, .f32⟩
  | .hbm, ⟨8, _⟩ => ⟨S2048x512, .f32⟩
  | .hbm, ⟨9, _⟩ => ⟨S2048x512, .f32⟩
  | .hbm, ⟨10, _⟩ => ⟨S2048x64, .f32⟩
  | .hbm, ⟨11, _⟩ => ⟨S2048x8, .f32⟩
  | .hbm, ⟨12, _⟩ => ⟨S_, .f32⟩
  | .hbm, ⟨13, _⟩ => ⟨S2048x64, .f32⟩
  | .hbm, ⟨14, _⟩ => ⟨S_, .f32⟩
  | .hbm, ⟨15, _⟩ => ⟨S2048x104, .f32⟩
  | .hbm, ⟨16, _⟩ => ⟨S_, .f32⟩
  | .hbm, ⟨17, _⟩ => ⟨S2048x120, .f32⟩
  | .hbm, ⟨18, _⟩ => ⟨S_, .f32⟩
  | .hbm, ⟨19, _⟩ => ⟨S2048x128, .f32⟩
  | .hbm, ⟨20, _⟩ => ⟨S2048x5120, .f32⟩
  | .hbm, ⟨21, _⟩ => ⟨S2048x5120, .bf16⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S1024x5120, .f32⟩
  | .hbm, ⟨26, _⟩ => ⟨S4096x128, .f32⟩
  | .hbm, ⟨27, _⟩ => ⟨S4096x128, .f32⟩
  | .hbm, ⟨28, _⟩ => ⟨S4096x128, .f32⟩
  | .hbm, ⟨29, _⟩ => ⟨S4096x128, .f32⟩
  | .local _ .vmem, ⟨0, _⟩ => ⟨S1024x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v18_3 : Ref sig .tc := ⟨.hbm, 28, rfl⟩
abbrev main_v18_4 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨2, ![1, 10], ![false, false]⟩

def k0_cond2 (i : grid0.Coords) : BitVec 1 :=
  let arg1 : BitVec 32 := BitVec.ofNat 32 (i 1).val
  let c4_i32 : BitVec 32 := 4#32
  let v8 : BitVec 1 := Scalar.cmpi .eq arg1 c4_i32
  let v9 : BitVec 32 := Scalar.extui v8
  let c0_i32_6 : BitVec 32 := 0#32
  let v10 : BitVec 1 := Scalar.cmpi .ne v9 c0_i32_6
  v10

def k0_cond3 (i : grid0.Coords) : BitVec 1 :=
  let arg1 : BitVec 32 := BitVec.ofNat 32 (i 1).val
  let c5_i32 : BitVec 32 := 5#32
  let v11 : BitVec 1 := Scalar.cmpi .eq arg1 c5_i32
  let v12 : BitVec 32 := Scalar.extui v11
  let c0_i32_7 : BitVec 32 := 0#32
  let v13 : BitVec 1 := Scalar.cmpi .ne v12 c0_i32_7
  v13

def k0_cond4 (i : grid0.Coords) : BitVec 1 :=
  let arg1 : BitVec 32 := BitVec.ofNat 32 (i 1).val
  let c6_i32 : BitVec 32 := 6#32
  let v14 : BitVec 1 := Scalar.cmpi .eq arg1 c6_i32
  let v15 : BitVec 32 := Scalar.extui v14
  let c0_i32_8 : BitVec 32 := 0#32
  let v16 : BitVec 1 := Scalar.cmpi .ne v15 c0_i32_8
  v16

def k0_cond5 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S4096x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S4096x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference9Ideal.lean ====
abbrev S1024x2048 : Shape := ⟨2, ![1024, 2048]⟩
abbrev S2x2048 : Shape := ⟨2, ![2, 2048]⟩
abbrev S1x2048x4704 : Shape := ⟨3, ![1, 2048, 4704]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S2048 : Shape := ⟨1, ![2048]⟩
abbrev S2048x4704 : Shape := ⟨2, ![2048, 4704]⟩
abbrev S1024x4704 : Shape := ⟨2, ![1024, 4704]⟩
abbrev S1024x1024 : Shape := ⟨2, ![1024, 1024]⟩
abbrev S1024x512 : Shape := ⟨2, ![1024, 512]⟩
abbrev S1024x24 : Shape := ⟨2, ![1024, 24]⟩
abbrev S1024x64 : Shape := ⟨2, ![1024, 64]⟩
abbrev S1024x8 : Shape := ⟨2, ![1024, 8]⟩
abbrev S1024x104 : Shape := ⟨2, ![1024, 104]⟩
abbrev S1024x248 : Shape := ⟨2, ![1024, 248]⟩
abbrev S1024x5120 : Shape := ⟨2, ![1024, 5120]⟩
abbrev S4096x128 : Shape := ⟨2, ![4096, 128]⟩

abbrev nBuf : Space → Nat
  | .hbm => 44
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2x2048, .f32⟩
  | .hbm, ⟨2, _⟩ => ⟨S1x2048x4704, .f32⟩
  | .hbm, ⟨3, _⟩ => ⟨S1024x2048, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x2048, .f32⟩
  | .hbm, ⟨15, _⟩ => ⟨S1024x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S1024x2048, .f32⟩
  | .hbm, ⟨20, _⟩ => ⟨S1024x2048, .f32⟩
  | .hbm, ⟨21, _⟩ => ⟨S2048x4704, .f32⟩
  | .hbm, ⟨22, _⟩ => ⟨S1024x4704, .f32⟩
  | .hbm, ⟨23, _⟩ => ⟨S1024x1024, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S1024x24, .f32⟩
  | .hbm, ⟨28, _⟩ => ⟨S1024x1024, .f32⟩
  | .hbm, ⟨29, _⟩ => ⟨S1024x512, .f32⟩
  | .hbm, ⟨30, _⟩ => ⟨S1024x512, .f32⟩
  | .hbm, ⟨31, _⟩ => ⟨S1024x64, .f32⟩
  | .hbm, ⟨32, _⟩ => ⟨S1024x8, .f32⟩
  | .hbm, ⟨33, _⟩ => ⟨S_, .f32⟩
  | .hbm, ⟨34, _⟩ => ⟨S1024x64, .f32⟩
  | .hbm, ⟨35, _⟩ => ⟨S_, .f32⟩
  | .hbm, ⟨36, _⟩ => ⟨S1024x104, .f32⟩
  | .hbm, ⟨37, _⟩ => ⟨S_, .f32⟩
  | .hbm, ⟨38, _⟩ => ⟨S1024x248, .f32⟩
  | .hbm, ⟨39, _⟩ => ⟨S1024x5120, .f32⟩
  | .hbm, ⟨40, _⟩ => ⟨S4096x128, .f32⟩
  | .hbm, ⟨41, _⟩ => ⟨S4096x128, .f32⟩
  | .hbm, ⟨42, _⟩ => ⟨S4096x128, .f32⟩
  | .hbm, ⟨43, _⟩ => ⟨S4096x128, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Kernel10.lean ====
abbrev S8192x2048 : Shape := ⟨2, ![8192, 2048]⟩
abbrev S2x2048x8192 : Shape := ⟨3, ![2, 2048, 8192]⟩
abbrev S2x8192x2048 : Shape := ⟨3, ![2, 8192, 2048]⟩
abbrev S2048 : Shape := ⟨1, ![2048]⟩
abbrev S1x2048 : Shape := ⟨2, ![1, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2x2048x8192, .f32⟩
  | .hbm, ⟨3, _⟩ => ⟨S2x8192x2048, .f32⟩
  | .hbm, ⟨4, _⟩ => ⟨S2048, .f32⟩
  | .hbm, ⟨5, _⟩ => ⟨S2x2048x8192, .bf16⟩
  | .hbm, ⟨6, _⟩ => ⟨S2x8192x2048, .bf16⟩
  | .hbm, ⟨7, _⟩ => ⟨S1x2048, .f32⟩
  | .hbm, ⟨8, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference10Ideal.lean ====
abbrev S8192x2048 : Shape := ⟨2, ![8192, 2048]⟩
abbrev S2x2048x8192 : Shape := ⟨3, ![2, 2048, 8192]⟩
abbrev S2x8192x2048 : Shape := ⟨3, ![2, 8192, 2048]⟩
abbrev S2048 : Shape := ⟨1, ![2048]⟩
abbrev S1x2048x8192 : Shape := ⟨3, ![1, 2048, 8192]⟩
abbrev S2048x8192 : Shape := ⟨2, ![2048, 8192]⟩
abbrev S8192x8192 : Shape := ⟨2, ![8192, 8192]⟩
abbrev S_ : Shape := ⟨0, ![]⟩
abbrev S1x8192x2048 : Shape := ⟨3, ![1, 8192, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2x2048x8192, .f32⟩
  | .hbm, ⟨3, _⟩ => ⟨S2x8192x2048, .f32⟩
  | .hbm, ⟨4, _⟩ => ⟨S2048, .f32⟩
  | .hbm, ⟨5, _⟩ => ⟨S8192x2048, .f32⟩
  | .hbm, ⟨6, _⟩ => ⟨S1x2048x8192, .f32⟩
  | .hbm, ⟨7, _⟩ => ⟨S2048x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S1x8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Proof.Ffn.Cases.lean ====
/-
  What one point of the feed-forward kernel's grid computes, read off the stores its body was found to make.
  The scratch holds the row block's second product, summed tile by tile over the hidden axis; the last tile's point adds
  the residual, normalises each row and scales it by the gain.
-/
module

public import proofs.«01_k».proof.Proof.Gen.Kernel2Ideal.Value
public import Idealize.ShloMosaic.Lib.Pipeline.Value
public import Idealize.ShloMosaic.Lib.Tactic

@[expose] public section

set_option maxRecDepth 16384

noncomputable section

namespace Cert.Ffn

open Cert.Kernel2Ideal Cert.Kernel2Ideal.Gen Idealize.ShloMosaic Idealize.ShloMosaic.TcCoe Idealize.SL.Sem

variable {F : FTy → Type} [FloatOps F]

/-- The zero offsets of a matrix. -/
theorem z2 : (![0, 0] : Fin 2 → Nat) = fun _ => 0 := funext fun a => by fin_cases a <;> rfl
/-- The zero offsets of a rank-three array. -/
theorem z3 : (![0, 0, 0] : Fin 3 → Nat) = fun _ => 0 := funext fun a => by fin_cases a <;> rfl

/-- The first tile of a row block starts the sum from zero. -/
theorem first_tile (c : Dev nD) (i : grid0.Coords) (arg2 : Memref sig .tc .vmem S512x2048 .f32) (h2 : arg2.IsWhole) (arg3 : Memref sig .tc .vmem S512x2048 .bf16) (h3 : arg3.IsWhole) (arg4 : Memref sig .tc .vmem S1x2048x1024 .bf16) (h4 : arg4.IsWhole) (arg5 : Memref sig .tc .vmem S1x1024x2048 .bf16) (h5 : arg5.IsWhole) (arg6 : Memref sig .tc .vmem S1x2048 .f32) (h6 : arg6.IsWhole) (arg7 : Memref sig .tc .vmem S512x2048 .f32) (h7 : arg7.IsWhole) (arg8 : Memref sig .tc .vmem S512x2048 .f32) (h8 : arg8.IsWhole) (c0 : cond0_0 i) (c1 : ¬cond0_1 i)
    (x0 : Vec F S512x2048 .f32) (x1 : Vec F S512x2048 .bf16) (x2 : Vec F S1x2048x1024 .bf16) (x3 : Vec F S1x1024x2048 .bf16) (x4 : Vec F S1x2048 .f32) :
    sout0_A_0 c i arg2 h2 arg3 h3 arg4 h4 arg5 h5 arg6 h6 arg7 h7 arg8 h8 c0 c1 x0 x1 x2 x3 x4 = k0_pay2 x1 x2 k0_pay1 x3 := by
  unfold sout0_A_0
  rw [View.read_writes_eq_canon _ _ _ (scover0_A_0 c i arg2 h2 arg3 h3 arg4 h4 arg5 h5 arg6 h6 arg7 h7 arg8 h8 c0 c1 x0 x1 x2 x3 x4)]
  unfold kernelRun0_A
  dsimp only
  sl_unfold_words
  rw [View.canon_cons_unit_zero (S := S512x2048) z2, View.readCov_unit_zero (S := S512x2048) _ z2]
  simp only [View.readAt_eq_ld, h2.read_unread, h3.read_unread, h4.read_unread, h5.read_unread, h6.read_unread, h8.read_unread, View.ld_unit_zero (S := S512x2048) z2, View.ld_unit_zero (S := S1x2048) z2, View.ld_unit_zero (S := S1x2048x1024) z3, View.ld_unit_zero (S := S1x1024x2048) z3]

/-- A later tile adds its product to the sum. -/
theorem middle_tile (c : Dev nD) (i : grid0.Coords) (arg2 : Memref sig .tc .vmem S512x2048 .f32) (h2 : arg2.IsWhole) (arg3 : Memref sig .tc .vmem S512x2048 .bf16) (h3 : arg3.IsWhole) (arg4 : Memref sig .tc .vmem S1x2048x1024 .bf16) (h4 : arg4.IsWhole) (arg5 : Memref sig .tc .vmem S1x1024x2048 .bf16) (h5 : arg5.IsWhole) (arg6 : Memref sig .tc .vmem S1x2048 .f32) (h6 : arg6.IsWhole) (arg7 : Memref sig .tc .vmem S512x2048 .f32) (h7 : arg7.IsWhole) (arg8 : Memref sig .tc .vmem S512x2048 .f32) (h8 : arg8.IsWhole) (c0 : ¬cond0_0 i) (c1 : ¬cond0_1 i)
    (x0 : Vec F S512x2048 .f32) (x1 : Vec F S512x2048 .bf16) (x2 : Vec F S1x2048x1024 .bf16) (x3 : Vec F S1x1024x2048 .bf16) (x4 : Vec F S1x2048 .f32) (acc : Vec F S512x2048 .f32) :
    sout0_B_0 c i arg2 h2 arg3 h3 arg4 h4 arg5 h5 arg6 h6 arg7 h7 arg8 h8 c0 c1 x0 x1 x2 x3 x4 acc = k0_pay2 x1 x2 acc x3 := by
  unfold sout0_B_0
  rw [View.read_writes_eq_canon _ _ _ (scover0_B_0 c i arg2 h2 arg3 h3 arg4 h4 arg5 h5 arg6 h6 arg7 h7 arg8 h8 c0 c1 x0 x1 x2 x3 x4 acc)]
  unfold kernelRun0_B
  dsimp only
  sl_unfold_words
  rw [View.canon_unit_zero z2]
  simp only [View.readAt_eq_ld, h2.read_unread, h3.read_unread, h4.read_unread, h5.read_unread, h6.read_unread, h8.read_unread, View.ld_unit_zero (S := S512x2048) z2, View.ld_unit_zero (S := S1x2048) z2, View.ld_unit_zero (S := S1x2048x1024) z3, View.ld_unit_zero (S := S1x1024x2048) z3]

/-- The last tile adds its product to the sum. -/
theorem last_tile_sum (c : Dev nD) (i : grid0.Coords) (arg2 : Memref sig .tc .vmem S512x2048 .f32) (h2 : arg2.IsWhole) (arg3 : Memref sig .tc .vmem S512x2048 .bf16) (h3 : arg3.IsWhole) (arg4 : Memref sig .tc .vmem S1x2048x1024 .bf16) (h4 : arg4.IsWhole) (arg5 : Memref sig .tc .vmem S1x1024x2048 .bf16) (h5 : arg5.IsWhole) (arg6 : Memref sig .tc .vmem S1x2048 .f32) (h6 : arg6.IsWhole) (arg7 : Memref sig .tc .vmem S512x2048 .f32) (h7 : arg7.IsWhole) (arg8 : Memref sig .tc .vmem S512x2048 .f32) (h8 : arg8.IsWhole) (c0 : ¬cond0_0 i) (c1 : cond0_1 i)
    (x0 : Vec F S512x2048 .f32) (x1 : Vec F S512x2048 .bf16) (x2 : Vec F S1x2048x1024 .bf16) (x3 : Vec F S1x1024x2048 .bf16) (x4 : Vec F S1x2048 .f32) (acc : Vec F S512x2048 .f32) :
    sout0_C_0 c i arg2 h2 arg3 h3 arg4 h4 arg5 h5 arg6 h6 arg7 h7 arg8 h8 c0 c1 x0 x1 x2 x3 x4 acc = k0_pay2 x1 x2 acc x3 := by
  unfold sout0_C_0
  rw [View.read_writes_eq_canon _ _ _ (scover0_C_0 c i arg2 h2 arg3 h3 arg4 h4 arg5 h5 arg6 h6 arg7 h7 arg8 h8 c0 c1 x0 x1 x2 x3 x4 acc)]
  unfold kernelRun0_C
  dsimp only
  sl_unfold_words
  rw [View.canon_unit_zero z2]
  simp only [View.readAt_eq_ld, h2.read_unread, h3.read_unread, h4.read_unread, h5.read_unread, h6.read_unread, h8.read_unread, View.ld_unit_zero (S := S512x2048) z2, View.ld_unit_zero (S := S1x2048) z2, View.ld_unit_zero (S := S1x2048x1024) z3, View.ld_unit_zero (S := S1x1024x2048) z3]

/-- The last tile writes the normalised sum of the residual and the finished product. -/
theorem last_tile_out (c : Dev nD) (i : grid0.Coords) (arg2 : Memref sig .tc .vmem S512x2048 .f32) (h2 : arg2.IsWhole) (arg3 : Memref sig .tc .vmem S512x2048 .bf16) (h3 : arg3.IsWhole) (arg4 : Memref sig .tc .vmem S1x2048x1024 .bf16) (h4 : arg4.IsWhole) (arg5 : Memref sig .tc .vmem S1x1024x2048 .bf16) (h5 : arg5.IsWhole) (arg6 : Memref sig .tc .vmem S1x2048 .f32) (h6 : arg6.IsWhole) (arg7 : Memref sig .tc .vmem S512x2048 .f32) (h7 : arg7.IsWhole) (arg8 : Memref sig .tc .vmem S512x2048 .f32) (h8 : arg8.IsWhole) (c0 : ¬cond0_0 i) (c1 : cond0_1 i)
    (x0 : Vec F S512x2048 .f32) (x1 : Vec F S512x2048 .bf16) (x2 : Vec F S1x2048x1024 .bf16) (x3 : Vec F S1x1024x2048 .bf16) (x4 : Vec F S1x2048 .f32) (acc : Vec F S512x2048 .f32) :
    out0_C_5 c i arg2 h2 arg3 h3 arg4 h4 arg5 h5 arg6 h6 arg7 h7 arg8 h8 c0 c1 x0 x1 x2 x3 x4 acc = k0_pay3 x0 (k0_pay2 x1 x2 acc x3) x4 := by
  unfold out0_C_5
  rw [View.read_writes_eq_canon _ _ _ (cover0_C_5 c i arg2 h2 arg3 h3 arg4 h4 arg5 h5 arg6 h6 arg7 h7 arg8 h8 c0 c1 x0 x1 x2 x3 x4 acc)]
  unfold kernelRun0_C
  dsimp only
  sl_unfold_words
  rw [View.canon_unit_zero z2, View.readCov_unit_zero (S := S512x2048) _ z2]
  simp only [View.readAt_eq_ld, h2.read_unread, h3.read_unread, h4.read_unread, h5.read_unread, h6.read_unread, h8.read_unread, View.ld_unit_zero (S := S512x2048) z2, View.ld_unit_zero (S := S1x2048) z2, View.ld_unit_zero (S := S1x2048x1024) z3, View.ld_unit_zero (S := S1x1024x2048) z3]

end Cert.Ffn

end
-- ==== Proof.Ffn.Pays.lean ====
/-
  The feed-forward kernel's two computations read at an index: a tile's contribution to the second product,
  and the normalised row that is written out.
-/
module

public import proofs.«01_k».proof.Proof.Gen.Kernel2Ideal.Value
public import Idealize.ShloMosaic.Lib.Pointwise

@[expose] public section

set_option maxRecDepth 16384

noncomputable section

namespace Cert.Ffn

open Cert.Kernel2Ideal Cert.Kernel2Ideal.Gen Idealize.ShloMosaic

/-- The reset value is zero. -/
theorem reset_apply (i : S512x2048.Idx) : (k0_pay1 (F := Ideal)) i = 0 := by
  pointwise [k0_pay1]

/-- A tile adds the product of its squared hidden units with its rows of the second weight. -/
theorem tile_apply (h : Vec Ideal S512x2048 .bf16) (w1 : Vec Ideal S1x2048x1024 .bf16) (acc : Vec Ideal S512x2048 .f32) (w2 : Vec Ideal S1x1024x2048 .bf16) (r : Fin 512) (e : Fin 2048) :
    k0_pay2 h w1 acc w2 (ix2 r e) = acc (ix2 r e) + ∑ k : Fin 1024,
      (max (∑ d : Fin 2048, h (ix2 r d) * w1 (ix3 0 d k)) 0 * max (∑ d : Fin 2048, h (ix2 r d) * w1 (ix3 0 d k)) 0) * w2 (ix3 0 k e) := by
  pointwise [k0_pay2]

/-- What is written: the row's sum over its root mean square, times the gain. -/
theorem norm_apply (x y : Vec Ideal S512x2048 .f32) (g : Vec Ideal S1x2048 .f32) (r : Fin 512) (e : Fin 2048) :
    k0_pay3 x y g (ix2 r e) = (x (ix2 r e) + y (ix2 r e))
      * Ideal.rsqrt (Ideal.div (∑ d : Fin 2048, (x (ix2 r d) + y (ix2 r d)) * (x (ix2 r d) + y (ix2 r d))) (Ideal.ofBits .f32 0x45000000#32) + Ideal.ofBits .f32 0x358637BD#32)
      * g (ix2 0 e) := by
  pointwise [k0_pay3]

end Cert.Ffn

end
-- ==== Proof.Ffn.Sums.lean ====
/-
  Cutting a sum over a long axis into equal tiles.
-/
module

public import Mathlib.Algebra.BigOperators.Fin
public import Mathlib.Logic.Equiv.Fin.Basic

@[expose] public section

namespace Cert.Ffn

/-- A sum over `a * b` places is the sum over `a` tiles of the sums over a tile's `b` places. -/
theorem sum_tiles {M : Type*} [AddCommMonoid M] (a b : ℕ) (f : ℕ → M) :
    ∑ s ∈ Finset.range a, ∑ k : Fin b, f (b * s + k.val) = ∑ j : Fin (a * b), f j.val := by
  rw [← Fin.sum_univ_eq_sum_range (fun s => ∑ k : Fin b, f (b * s + k.val)) a, ← Equiv.sum_comp finProdFinEquiv, Fintype.sum_prod_type]
  refine Finset.sum_congr rfl fun s _ => Finset.sum_congr rfl fun k _ => ?_
  show f _ = f (k.val + b * s.val)
  rw [add_comm]

end Cert.Ffn
-- ==== Proof.Ffn.Value.lean ====
/-
  What the feed-forward kernel's result array holds, element by element, over the extended reals.
-/
module

public import proofs.«01_k».proof.Proof.Ffn.Cases
public import proofs.«01_k».proof.Proof.Ffn.Pays
public import proofs.«01_k».proof.Proof.Ffn.Sums
public import Idealize.ShloMosaic.Lib.StableHlo.ReadAt

@[expose] public section

set_option maxRecDepth 16384

noncomputable section

namespace Cert.Ffn

open Cert.Kernel2Ideal Cert.Kernel2Ideal.Gen Idealize.ShloMosaic Idealize.ShloMosaic.TcCoe Idealize.SL.Sem

variable (m : (ℓ : Loc nD τ sig) → Buf (Elt Ideal) ℓ)

/-! ## The argument arrays and the blocks -/

/-- The residual stream. -/
abbrev X (c : Dev nD) : S8192x2048.Idx → EReal := m ((c : Thread nD τ).loc main_arg0)
/-- The normalised rows. -/
abbrev H (c : Dev nD) : S8192x2048.Idx → EReal := m ((c : Thread nD τ).loc main_arg1)
/-- The first weight of both layers. -/
abbrev W1 (c : Dev nD) : S2x2048x8192.Idx → EReal := m ((c : Thread nD τ).loc main_arg2)
/-- The second weight of both layers. -/
abbrev W2 (c : Dev nD) : S2x8192x2048.Idx → EReal := m ((c : Thread nD τ).loc main_arg3)
/-- The final gain. -/
abbrev Gain (c : Dev nD) : S2048.Idx → EReal := m ((c : Thread nD τ).loc main_arg4)

theorem index0 : ∀ t : Fin cfg0.N, win0_0.index t = ![t.val / 8, 0] := (by decide +kernel : ∀ t : Fin grid0.N, _)
theorem index1 : ∀ t : Fin cfg0.N, win0_1.index t = ![t.val / 8, 0] := (by decide +kernel : ∀ t : Fin grid0.N, _)
theorem index2 : ∀ t : Fin cfg0.N, win0_2.index t = ![1, 0, t.val % 8] := (by decide +kernel : ∀ t : Fin grid0.N, _)
theorem index3 : ∀ t : Fin cfg0.N, win0_3.index t = ![1, t.val % 8, 0] := (by decide +kernel : ∀ t : Fin grid0.N, _)
theorem index4 : ∀ t : Fin cfg0.N, win0_4.index t = ![0, 0] := (by decide +kernel : ∀ t : Fin grid0.N, _)

/-- The rounded first weight holds the first weight. -/
theorem V_w1 (c : Dev nD) (j : S2x2048x8192.Idx) : V m c main_v0 j = W1 m c j := by
  unfold V hostOps0
  after_reads_at
  try rfl
/-- The rounded second weight holds the second weight. -/
theorem V_w2 (c : Dev nD) (j : S2x8192x2048.Idx) : V m c main_v1 j = W2 m c j := by
  unfold V hostOps0
  after_reads_at
  try rfl
/-- The gain as one row. -/
theorem V_g (c : Dev nD) (e : Fin 2048) : V m c main_v2 (ix2 0 e) = Gain m c (ix1 e) := by
  unfold V hostOps0
  after_reads_at
  try rfl

/-- Point `t`'s rows of the residual. -/
theorem blk_x (c : Dev nD) (t : Fin cfg0.N) (r : Fin 512) (e : Fin 2048) (R : Fin 8192) (hR : R.val = 512 * (t.val / 8) + r.val) :
    (iblk m c 0 t : Vec Ideal S512x2048 .f32) (ix2 r e) = X m c (ix2 R e) := by
  unfold iblk
  rw [View.read_apply]
  show V m c main_arg0 _ = _
  rw [V_main_arg0]
  congr 1
  funext a
  apply Fin.ext
  match a with
  | ⟨0, _⟩ => show win0_0.index t 0 * 512 + 1 * r.val = R.val; rw [index0]; simp only [Matrix.cons_val_zero]; omega
  | ⟨1, _⟩ => show win0_0.index t 1 * 2048 + 1 * e.val = e.val; rw [index0]; simp only [Matrix.cons_val_one, Matrix.cons_val_zero]; omega

/-- Point `t`'s rows of the normalised stream. -/
theorem blk_h (c : Dev nD) (t : Fin cfg0.N) (r : Fin 512) (e : Fin 2048) (R : Fin 8192) (hR : R.val = 512 * (t.val / 8) + r.val) :
    (iblk m c 1 t : Vec Ideal S512x2048 .bf16) (ix2 r e) = H m c (ix2 R e) := by
  unfold iblk
  rw [View.read_apply]
  show V m c main_arg1 _ = _
  rw [V_main_arg1]
  congr 1
  funext a
  apply Fin.ext
  match a with
  | ⟨0, _⟩ => show win0_1.index t 0 * 512 + 1 * r.val = R.val; rw [index1]; simp only [Matrix.cons_val_zero]; omega
  | ⟨1, _⟩ => show win0_1.index t 1 * 2048 + 1 * e.val = e.val; rw [index1]; simp only [Matrix.cons_val_one, Matrix.cons_val_zero]; omega

/-- Point `t`'s columns of the first weight. -/
theorem blk_w1 (c : Dev nD) (t : Fin cfg0.N) (d : Fin 2048) (k : Fin 1024) (K : Fin 8192) (hK : K.val = 1024 * (t.val % 8) + k.val) :
    (iblk m c 2 t : Vec Ideal S1x2048x1024 .bf16) (ix3 0 d k) = W1 m c (ix3 1 d K) := by
  unfold iblk
  rw [View.read_apply]
  show V m c main_v0 _ = _
  rw [V_w1]
  congr 1
  funext a
  apply Fin.ext
  match a with
  | ⟨0, _⟩ => show win0_2.index t 0 * 1 + 1 * 0 = 1; rw [index2]; rfl
  | ⟨1, _⟩ => show win0_2.index t 1 * 2048 + 1 * d.val = d.val; rw [index2]; show 0 * 2048 + 1 * d.val = d.val; omega
  | ⟨2, _⟩ => show win0_2.index t 2 * 1024 + 1 * k.val = K.val; rw [index2]; show t.val % 8 * 1024 + 1 * k.val = K.val; omega

/-- Point `t`'s rows of the second weight. -/
theorem blk_w2 (c : Dev nD) (t : Fin cfg0.N) (k : Fin 1024) (e : Fin 2048) (K : Fin 8192) (hK : K.val = 1024 * (t.val % 8) + k.val) :
    (iblk m c 3 t : Vec Ideal S1x1024x2048 .bf16) (ix3 0 k e) = W2 m c (ix3 1 K e) := by
  unfold iblk
  rw [View.read_apply]
  show V m c main_v1 _ = _
  rw [V_w2]
  congr 1
  funext a
  apply Fin.ext
  match a with
  | ⟨0, _⟩ => show win0_3.index t 0 * 1 + 1 * 0 = 1; rw [index3]; rfl
  | ⟨1, _⟩ => show win0_3.index t 1 * 1024 + 1 * k.val = K.val; rw [index3]; show t.val % 8 * 1024 + 1 * k.val = K.val; omega
  | ⟨2, _⟩ => show win0_3.index t 2 * 2048 + 1 * e.val = e.val; rw [index3]; show 0 * 2048 + 1 * e.val = e.val; omega

/-- The gain's block is the whole row. -/
theorem blk_g (c : Dev nD) (t : Fin cfg0.N) (e : Fin 2048) :
    (iblk m c 4 t : Vec Ideal S1x2048 .f32) (ix2 0 e) = Gain m c (ix1 e) := by
  unfold iblk
  rw [View.read_apply]
  show V m c main_v2 _ = _
  rw [← V_g]
  congr 1
  funext a
  apply Fin.ext
  match a with
  | ⟨0, _⟩ => show win0_4.index t 0 * 1 + 1 * 0 = 0; rw [index4]; rfl
  | ⟨1, _⟩ => show win0_4.index t 1 * 2048 + 1 * e.val = e.val; rw [index4]; show 0 * 2048 + 1 * e.val = e.val; omega

/-! ## The sum over the hidden axis -/

/-- Hidden unit `K` of row `R`: the first product's positive part. -/
def hid (h : S8192x2048.Idx → EReal) (w1 : S2x2048x8192.Idx → EReal) (R K : Fin 8192) : EReal :=
  max (∑ d : Fin 2048, h (ix2 R d) * w1 (ix3 1 d K)) 0

/-- Hidden unit `K`'s part of the second product at column `e` (nothing past the axis). -/
def part (h : S8192x2048.Idx → EReal) (w1 : S2x2048x8192.Idx → EReal) (w2 : S2x8192x2048.Idx → EReal) (R : Fin 8192) (e : Fin 2048) (K : ℕ) : EReal :=
  if hK : K < 8192 then hid h w1 R ⟨K, hK⟩ * hid h w1 R ⟨K, hK⟩ * w2 (ix3 1 ⟨K, hK⟩ e) else 0

/-- What point `n` adds to the scratch at `i`. -/
def add (c : Dev nD) (n : ℕ) (i : S512x2048.Idx) : EReal :=
  ∑ k : Fin 1024, part (H m c) (W1 m c) (W2 m c) ⟨(512 * (n / 8) + (i 0).val) % 8192, Nat.mod_lt _ (by decide)⟩ (i 1) (1024 * (n % 8) + k.val)

/-- One tile, its blocks known to be row `R` and the hidden units `1024 * f …`. -/
theorem tile_eq (X H : S8192x2048.Idx → EReal) (W1 : S2x2048x8192.Idx → EReal) (W2 : S2x8192x2048.Idx → EReal)
    (h : Vec Ideal S512x2048 .bf16) (w1 : Vec Ideal S1x2048x1024 .bf16) (acc : Vec Ideal S512x2048 .f32) (w2 : Vec Ideal S1x1024x2048 .bf16)
    (r : Fin 512) (e : Fin 2048) (R : Fin 8192) (f : ℕ) (hf : f < 8) (hh : ∀ d : Fin 2048, h (ix2 r d) = H (ix2 R d))
    (h1 : ∀ (d : Fin 2048) (k : Fin 1024) (K : Fin 8192), K.val = 1024 * f + k.val → w1 (ix3 0 d k) = W1 (ix3 1 d K))
    (h2 : ∀ (k : Fin 1024) (K : Fin 8192), K.val = 1024 * f + k.val → w2 (ix3 0 k e) = W2 (ix3 1 K e)) :
    k0_pay2 h w1 acc w2 (ix2 r e) = acc (ix2 r e) + ∑ k : Fin 1024, part H W1 W2 R e (1024 * f + k.val) := by
  refine (tile_apply _ _ _ _ r e).trans ?_
  refine congrArg (acc (ix2 r e) + ·) (Finset.sum_congr rfl fun k _ => ?_)
  have hk := k.isLt
  have hK : 1024 * f + k.val < 8192 := by omega
  unfold part
  rw [dif_pos hK, h2 k ⟨_, hK⟩ rfl]
  unfold hid
  rw [Finset.sum_congr rfl fun d _ => show h (ix2 r d) * w1 (ix3 0 d k) = H (ix2 R d) * W1 (ix3 1 d ⟨_, hK⟩) by rw [hh, h1 d k ⟨_, hK⟩ rfl]]

/-- One tile on any scratch contents. -/
theorem tile_add (c : Dev nD) (t : Fin cfg0.N) (acc : Vec Ideal S512x2048 .f32) (i : S512x2048.Idx) :
    k0_pay2 (iblk m c 1 t) (iblk m c 2 t) acc (iblk m c 3 t) i = acc i + add m c t.val i := by
  have hN : t.val < 128 := lt_of_lt_of_eq t.isLt N_0
  obtain ⟨r, e, rfl⟩ : ∃ (r : Fin 512) (e : Fin 2048), i = ix2 r e := ⟨i 0, i 1, eq_ix2 i⟩
  have hr := r.isLt
  have hR : (512 * (t.val / 8) + r.val) % 8192 = 512 * (t.val / 8) + r.val := Nat.mod_eq_of_lt (by omega)
  exact tile_eq (X m c) (H m c) (W1 m c) (W2 m c) _ _ acc _ r e ⟨(512 * (t.val / 8) + r.val) % 8192, Nat.mod_lt _ (by decide)⟩ (t.val % 8) (by omega)
    (fun d => blk_h m c t r d _ hR) (fun d k K hK => blk_w1 m c t d k K hK) (fun k K hK => blk_w2 m c t k e K hK)

/-- The scratch after the `j`-th tile of row block `q`. -/
theorem scratch_apply (c : Dev nD) (q j : ℕ) (hj : j ≤ 7) (h : 8 * q + j < cfg0.N) (i : S512x2048.Idx) :
    (outsAt0 m c (8 * q + j) h).2 i = ∑ s ∈ Finset.range (j + 1), add m c (8 * q + s) i := by
  have hN : 8 * q + j < 128 := lt_of_lt_of_eq h N_0
  have e := Cert.Kernel2Ideal.Value.soutsAt0_0_eq m c ⟨8 * q + j, h⟩
  have e' : (outsAt0 m c (8 * q + j) h).2 = Pipeline.accAt (fun n h => Cert.Kernel2Ideal.Value.scAt0_0 m c n h (VS0_0.read (Elt Ideal) VS0_0.junk)) (Cert.Kernel2Ideal.Value.scAt0_0 m c) (8 * q) j h := by
    refine e.trans ?_
    have e1 : (8 * q + j) / 8 = q := by omega
    have e2 : (8 * q + j) % 8 = j := by omega
    simp only [e1, e2]
  rw [e', Pipeline.accAt_add_apply _ _ (fun _ => (0 : EReal)) (fun n i => add m c n i) (8 * q) 7 ?_ ?_ j hj h i, zero_add]
  · intro h i
    unfold Cert.Kernel2Ideal.Value.scAt0_0
    rw [dif_pos (by omega), dif_neg (by omega), first_tile]
    refine (tile_add m c ⟨8 * q, h⟩ _ i).trans ?_
    rw [reset_apply]
  · intro n h acc i h1 h2
    unfold Cert.Kernel2Ideal.Value.scAt0_0
    rw [dif_neg (by omega)]
    by_cases h7 : n % 8 = 7
    · rw [dif_pos h7, last_tile_sum]
      exact tile_add m c ⟨n, h⟩ acc i
    · rw [dif_neg h7, middle_tile]
      exact tile_add m c ⟨n, h⟩ acc i

/-! ## The result -/

/-- The residual plus the whole second product. -/
def res (x h : S8192x2048.Idx → EReal) (w1 : S2x2048x8192.Idx → EReal) (w2 : S2x8192x2048.Idx → EReal) (R : Fin 8192) (e : Fin 2048) : EReal :=
  x (ix2 R e) + ∑ K : Fin 8192, hid h w1 R K * hid h w1 R K * w2 (ix3 1 K e)

/-- The feed-forward part of the second layer with the final norm. -/
def out (x h : S8192x2048.Idx → EReal) (w1 : S2x2048x8192.Idx → EReal) (w2 : S2x8192x2048.Idx → EReal) (g : S2048.Idx → EReal) (R : Fin 8192) (e : Fin 2048) : EReal :=
  res x h w1 w2 R e
    * Ideal.rsqrt (Ideal.div (∑ d : Fin 2048, res x h w1 w2 R d * res x h w1 w2 R d) (Ideal.ofBits .f32 0x45000000#32) + Ideal.ofBits .f32 0x358637BD#32)
    * g (ix1 e)

/-- The written row, its blocks known. -/
theorem norm_eq (X H : S8192x2048.Idx → EReal) (W1 : S2x2048x8192.Idx → EReal) (W2 : S2x8192x2048.Idx → EReal) (G : S2048.Idx → EReal)
    (x y : Vec Ideal S512x2048 .f32) (g : Vec Ideal S1x2048 .f32) (r : Fin 512) (e : Fin 2048) (R : Fin 8192)
    (hx : ∀ d : Fin 2048, x (ix2 r d) = X (ix2 R d))
    (hy : ∀ d : Fin 2048, y (ix2 r d) = ∑ K : Fin 8192, hid H W1 R K * hid H W1 R K * W2 (ix3 1 K d))
    (hg : g (ix2 0 e) = G (ix1 e)) :
    k0_pay3 x y g (ix2 r e) = out X H W1 W2 G R e := by
  refine (norm_apply _ _ _ r e).trans ?_
  have ey : ∀ d : Fin 2048, x (ix2 r d) + y (ix2 r d) = res X H W1 W2 R d := fun d => by unfold res; rw [hx, hy]
  unfold out
  simp only [ey, hg]

/-- The finished scratch of a row block holds the second product. -/
theorem sum_parts (c : Dev nD) (q : ℕ) (hq : q < 16) (r : Fin 512) (e : Fin 2048) (R : Fin 8192) (hR : R.val = 512 * q + r.val) :
    ∑ s ∈ Finset.range 8, add m c (8 * q + s) (ix2 r e) = ∑ K : Fin 8192, hid (H m c) (W1 m c) R K * hid (H m c) (W1 m c) R K * W2 m c (ix3 1 K e) := by
  have e1 : ∀ s ∈ Finset.range 8, add m c (8 * q + s) (ix2 r e) = ∑ k : Fin 1024, part (H m c) (W1 m c) (W2 m c) R e (1024 * s + k.val) := by
    intro s hs
    have hs := Finset.mem_range.1 hs
    have hr := r.isLt
    unfold add
    have eR : (⟨(512 * ((8 * q + s) / 8) + ((ix2 r e : S512x2048.Idx) 0).val) % 8192, Nat.mod_lt _ (by decide)⟩ : Fin 8192) = R := by
      apply Fin.ext
      show (512 * ((8 * q + s) / 8) + r.val) % 8192 = R.val
      omega
    have e8 : (8 * q + s) % 8 = s := by omega
    rw [eR, e8]
    rfl
  rw [Finset.sum_congr rfl e1, sum_tiles 8 1024]
  refine Finset.sum_congr rfl fun K _ => ?_
  unfold part
  rw [dif_pos K.isLt]

/-- The result array, element by element. -/
theorem result_apply (c : Dev nD) (R : Fin 8192) (e : Fin 2048) :
    Cert.Kernel2Ideal.Value.G5 m c (ix2 R e) = out (X m c) (H m c) (W1 m c) (W2 m c) (Gain m c) R e := by
  have hR := R.isLt
  have he := e.isLt
  obtain ⟨q, r, hq, hr⟩ : ∃ (q : ℕ) (r : Fin 512), q < 16 ∧ R.val = 512 * q + r.val :=
    ⟨R.val / 512, ⟨R.val % 512, by omega⟩, by omega, by show R.val = 512 * (R.val / 512) + R.val % 512; omega⟩
  have hrl := r.isLt
  have hN : cfg0.N = 128 := N_0
  have hpt : Cert.Kernel2Ideal.Value.pt5Of (ix2 R e) = 8 * q + 7 := by
    show 8 * (1 * (R.val / 512 - 0) + 1 * (e.val / 2048 - 0)) + 7 = _
    omega
  have hloc : Cert.Kernel2Ideal.Value.loc5Of (ix2 R e) = ix2 r e := by
    funext a
    apply Fin.ext
    match a with
    | ⟨0, _⟩ => show R.val % 512 = r.val; omega
    | ⟨1, _⟩ => show e.val % 2048 = e.val; omega
  have hlt : 8 * q + 7 < cfg0.N := by omega
  have hlt' : Cert.Kernel2Ideal.Value.pt5Of (ix2 R e) < cfg0.N := by rw [hpt]; exact hlt
  unfold Cert.Kernel2Ideal.Value.G5
  rw [dif_pos hlt', hloc]
  rw [← Cert.Kernel2Ideal.Value.outsAt0_sweep m c _ hlt']
  have e0 : (outsAt0 m c (Cert.Kernel2Ideal.Value.pt5Of (ix2 R e)) hlt').1 = (outsAt0 m c (8 * q + 7) hlt).1 := by
    congr 2
  rw [e0, outsAt0_C m c ⟨8 * q + 7, hlt⟩ (by show ¬(8 * q + 7) % 8 = 0; omega) (by show (8 * q + 7) % 8 = 7; omega)]
  dsimp only
  rw [last_tile_out]
  refine norm_eq (X m c) (H m c) (W1 m c) (W2 m c) (Gain m c) _ _ _ r e R
    (fun d => blk_x m c _ r d R (by show R.val = 512 * ((8 * q + 7) / 8) + r.val; omega)) (fun d => ?_) (blk_g m c _ e)
  rw [tile_add]
  have e6 : (outsAt0 m c (8 * q + 7 - 1) (Nat.lt_of_le_of_lt (Nat.sub_le _ _) hlt)).2 (ix2 r d) = ∑ s ∈ Finset.range 7, add m c (8 * q + s) (ix2 r d) :=
    scratch_apply m c q 6 (by omega) (by omega) (ix2 r d)
  rw [← sum_parts m c q hq r d R hr, Finset.sum_range_succ _ 7]
  exact congrArg (· + add m c (8 * q + 7) (ix2 r d)) e6

end Cert.Ffn

end
-- ==== Proof.Ffn.Ref.lean ====
/-
  The feed-forward reference read at an index: it is the closed form the kernel's result was brought to.
-/
module

public import proofs.«01_k».proof.Proof.Ffn.Value
public import proofs.«01_k».proof.Proof.Gen.Reference2Ideal.Read

@[expose] public section

set_option maxRecDepth 16384

noncomputable section

namespace Cert.Ffn

open Cert.Reference2Ideal Cert.Reference2Ideal.Gen Cert.Reference2Ideal.Read Idealize.ShloMosaic

/-- The reference's hidden unit before squaring. -/
theorem ref_hid (h : FVec Ideal S8192x2048 .bf16) (w1 : FVec Ideal S2x2048x8192 .f32) (R K : Fin 8192) :
    val_main_v4 (F := Ideal) h w1 (ix2 R K) = hid h w1 R K := by
  unfold hid
  pointwise [val_main_v4, val_main_v3, val_main_v2, val_main_v1, val_main_v0, val_main_call0_v0, val_main_call0_cst]

/-- The reference's residual sum. -/
theorem ref_res (x : FVec Ideal S8192x2048 .f32) (h : FVec Ideal S8192x2048 .bf16) (w1 : FVec Ideal S2x2048x8192 .f32) (w2 : FVec Ideal S2x8192x2048 .f32) (R : Fin 8192) (e : Fin 2048) :
    val_main_v9 (F := Ideal) x h w1 w2 (ix2 R e) = res x h w1 w2 R e := by
  unfold res
  pointwise [val_main_v9, val_main_v8, val_main_v7, val_main_v6, val_main_v5, ref_hid]

/-- The reference's result. -/
theorem ref_out (x : FVec Ideal S8192x2048 .f32) (h : FVec Ideal S8192x2048 .bf16) (w1 : FVec Ideal S2x2048x8192 .f32) (w2 : FVec Ideal S2x8192x2048 .f32) (g : FVec Ideal S2048 .f32) (R : Fin 8192) (e : Fin 2048) :
    val_main_v22 (F := Ideal) x h w1 w2 g (ix2 R e) = out x h w1 w2 g R e := by
  unfold out
  pointwise [val_main_v22, val_main_v21, val_main_v20, val_main_v19, val_main_v18, val_main_v17, val_main_v16, val_main_v15, val_main_v14, val_main_v13, val_main_v12, val_main_v11, val_main_v10, val_main_cst, val_main_cst_0, val_main_cst_1, ref_res]

end Cert.Ffn

end
-- ==== Proof.Ffn.Claim.lean ====
/-
  The feed-forward kernel and its reference leave the same result over the extended reals.
-/
module

public import proofs.«01_k».proof.Proof.Ffn.Ref
public import proofs.«01_k».proof.Proof.Gen.Reference2Ideal.Run
public import proofs.«01_k».proof.Defs
public import Idealize.ShloMosaic.Lib.Claim

@[expose] public section

set_option maxRecDepth 16384

noncomputable section

namespace Cert.Ffn

open Idealize.ShloMosaic Idealize.ShloMosaic.TcCoe Idealize.SL.Sem

/-- From the same arguments the kernel's result array equals the reference's. -/
theorem algebraic : Cert.algebraic_Kernel2Ideal_Reference2Ideal := by
  pair_intro
  · run_from (Cert.Kernel2Ideal.Value.run m g)
  · run_from (Cert.Reference2Ideal.Value.run m' g')
    refine (Cert.Reference2Ideal.Read.val_main_v22_eq _ _ _ _ _).trans ?_
    funext i
    obtain ⟨R, e, rfl⟩ : ∃ (R : Fin 8192) (e : Fin 2048), i = ix2 R e := ⟨i 0, i 1, eq_ix2 i⟩
    exact (ref_out _ _ _ _ _ R e).trans (result_apply m c R e).symm

end Cert.Ffn

end
-- ==== Proof.Cmp.Soft.lean ====
module

public import Idealize.ShloMosaic.Lib.Pointwise

@[expose] public section

set_option maxRecDepth 16384

noncomputable section

namespace Cert.Cmp

open Idealize.ShloMosaic

/-- A query's score against each block: the scaled product of query and block key, plus the block's bias. -/
def score (ck : Fin 32 → Fin 128 → EReal) (q : Fin 128 → EReal) (b : Fin 32 → EReal) (n : Fin 32) : EReal :=
  (∑ x, ck n x * q x) * Ideal.ofBits .f32 1035273459#32 + b n

/-- The scores with the blocks the query may not see set to a very negative number. -/
def masked (v : Fin 32 → BitVec 1) (s : Fin 32 → EReal) (n : Fin 32) : EReal :=
  Scalar.select (v n) (s n) (Ideal.ofBits .f32 4048155338#32)

/-- The exponential of a masked score less the largest of them, times the block's 0/1 weight. -/
def expo (v : Fin 32 → BitVec 1) (f s : Fin 32 → EReal) (n : Fin 32) : EReal :=
  Ideal.exp (masked v s n - Finset.fold max (Ideal.ofBits .f32 4286578688#32) (fun x => masked v s x) Finset.univ) * f n

/-- The masked softmax over the blocks. -/
def prob (v : Fin 32 → BitVec 1) (f s : Fin 32 → EReal) (n : Fin 32) : EReal :=
  Ideal.div (expo v f s n) (max (∑ x, expo v f s x) (Ideal.ofBits .f32 228737632#32))

/-- The softmax weights applied to one column of the block values. -/
def mix (v : Fin 32 → BitVec 1) (f s w : Fin 32 → EReal) : EReal := ∑ n, prob v f s n * w n

/-- Block `n`'s importance: the sum of four heads' weights, set to −1 for a block after the query's own, and to 2 for the
    query's own block. -/
def lift (after own : BitVec 1) (x : EReal) : EReal :=
  Scalar.select own (Ideal.ofBits .f32 1073741824#32) (Scalar.select after (Ideal.ofBits .f32 3212836864#32) x)

/-- One where block `m` is ahead of block `n` in the order of falling importance, the earlier block first among equals. -/
def beats (f : Fin 32 → EReal) (n m : Fin 32) : EReal :=
  if f n < f m then 1 else if f m = f n then Scalar.select (IntOp.cmpi .sgt (BitVec.ofNat 32 n.val) (BitVec.ofNat 32 m.val)) 1 0 else 0

/-- How many blocks are ahead of block `n`. -/
def rank (f : Fin 32 → EReal) (n : Fin 32) : EReal := ∑ m, beats f n m

/-- One where fewer than sixteen blocks are ahead of block `n`. -/
def chosen (f : Fin 32 → EReal) (n : Fin 32) : EReal := if rank f n < Ideal.ofBits .f32 1098907648#32 then 1 else 0

/-- A sum of 32 terms, written out. -/
theorem sum32 (g : Fin 32 → EReal) : ∑ m, g m = 0 + g 0 + g 1 + g 2 + g 3 + g 4 + g 5 + g 6 + g 7 + g 8 + g 9 + g 10 + g 11
    + g 12 + g 13 + g 14 + g 15 + g 16 + g 17 + g 18 + g 19 + g 20 + g 21 + g 22 + g 23 + g 24 + g 25 + g 26 + g 27 + g 28 + g 29
    + g 30 + g 31 := by
  simp only [Fin.sum_univ_castSucc, Fin.sum_univ_zero]
  rfl

end Cert.Cmp
-- ==== Proof.Cmp.Heads.lean ====
module

public import proofs.«01_k».proof.Proof.Gen.KernelIdeal.Skeleton
public import proofs.«01_k».proof.Proof.Cmp.Soft

@[expose] public section

set_option maxRecDepth 16384

noncomputable section

namespace Cert.Cmp

open Idealize.ShloMosaic Idealize.ShloMosaic.TcCoe Cert.KernelIdeal Cert.KernelIdeal.Gen

/-- The first group's block keys. -/
def kc0 (c : Vec Ideal S32x512 .f32) (n : Fin 32) (x : Fin 128) : EReal := c (ix2 n ⟨x.val, by have := x.isLt; omega⟩)
/-- The second group's block keys. -/
def kc1 (c : Vec Ideal S32x512 .f32) (n : Fin 32) (x : Fin 128) : EReal := c (ix2 n ⟨128 + x.val, by have := x.isLt; omega⟩)
/-- The first group's block values. -/
def vc0 (c : Vec Ideal S32x512 .f32) (n : Fin 32) (x : Fin 128) : EReal := c (ix2 n ⟨256 + x.val, by have := x.isLt; omega⟩)
/-- The second group's block values. -/
def vc1 (c : Vec Ideal S32x512 .f32) (n : Fin 32) (x : Fin 128) : EReal := c (ix2 n ⟨384 + x.val, by have := x.isLt; omega⟩)

/-- The scores of one head's 256 queries at query `t`. -/
def sc (k : Fin 32 → Fin 128 → EReal) (q : Vec Ideal S256x128 .f32) (b : Vec Ideal S1x32x256 .f32) (t : Fin 256) : Fin 32 → EReal :=
  score k (fun x => q (ix2 t x)) (fun n => b (ix3 0 n t))

variable (v : IVec S32x256 1) (f : FVec Ideal S32x256 .f32) (c : Vec Ideal S32x512 .f32) (q0 q1 q2 q3 : Vec Ideal S256x128 .f32)
  (b0 b1 b2 b3 : Vec Ideal S1x32x256 .f32)

/-- One head's weights at block `n`, query `t`. -/
def pr (k : Fin 32 → Fin 128 → EReal) (q : Vec Ideal S256x128 .f32) (b : Vec Ideal S1x32x256 .f32) (n : Fin 32) (t : Fin 256) : EReal :=
  prob (fun n => v (ix2 n t)) (fun n => f (ix2 n t)) (sc k q b t) n

/-- One head's output at query `t`. -/
def ov (k w : Fin 32 → Fin 128 → EReal) (q : Vec Ideal S256x128 .f32) (b : Vec Ideal S1x32x256 .f32) (t : Fin 256) (d : Fin 128) : EReal :=
  mix (fun n => v (ix2 n t)) (fun n => f (ix2 n t)) (sc k q b t) (fun n => w n d)

/-- Head 0's output. -/
theorem head0 (t : Fin 256) (d : Fin 128) : k0_pay11 v f c q0 b0 (ix2 t d) = ov v f (kc0 c) (vc0 c) q0 b0 t d := by
  pointwise [k0_pay11, k0_pay10, k0_pay9, k0_pay8, k0_pay7]
  rfl

/-- Head 1's output. -/
theorem head1 (t : Fin 256) (d : Fin 128) :
    k0_pay15 v f (k0_pay8 c) (k0_pay12 c q1) b1 (ix2 t d) = ov v f (kc0 c) (vc0 c) q1 b1 t d := by
  pointwise [k0_pay15, k0_pay13, k0_pay12, k0_pay8, k0_pay7]
  rfl

/-- Head 2's output. -/
theorem head2 (t : Fin 256) (d : Fin 128) :
    k0_pay19 (k0_pay8 c) (k0_pay16 v f (k0_pay7 c) q2 b2) (k0_pay17 v f (k0_pay7 c) q2 b2) (ix2 t d) = ov v f (kc0 c) (vc0 c) q2 b2 t d := by
  pointwise [k0_pay19, k0_pay18, k0_pay17, k0_pay16, k0_pay8, k0_pay7]
  rfl

/-- Head 3's output. -/
theorem head3 (t : Fin 256) (d : Fin 128) :
    k0_pay21 v f (k0_pay7 c) (k0_pay8 c) q3 b3 (ix2 t d) = ov v f (kc0 c) (vc0 c) q3 b3 t d := by
  pointwise [k0_pay21, k0_pay20, k0_pay8, k0_pay7]
  rfl

/-- Head 4's output. -/
theorem head4 (t : Fin 256) (d : Fin 128) :
    k0_pay49 v f (k0_pay44 c) (k0_pay45 c) q0 b0 (ix2 t d) = ov v f (kc1 c) (vc1 c) q0 b0 t d := by
  pointwise [k0_pay49, k0_pay47, k0_pay45, k0_pay44]
  rfl

/-- Head 5's output. -/
theorem head5 (t : Fin 256) (d : Fin 128) :
    k0_pay53 f (k0_pay45 c) (k0_pay50 v (k0_pay44 c) q1 b1) (k0_pay51 v (k0_pay44 c) q1 b1) (ix2 t d) = ov v f (kc1 c) (vc1 c) q1 b1 t d := by
  pointwise [k0_pay53, k0_pay52, k0_pay51, k0_pay50, k0_pay45, k0_pay44]
  rfl

/-- Head 6's output. -/
theorem head6 (t : Fin 256) (d : Fin 128) :
    k0_pay56 v f (k0_pay44 c) (k0_pay45 c) q2 b2 (ix2 t d) = ov v f (kc1 c) (vc1 c) q2 b2 t d := by
  pointwise [k0_pay56, k0_pay54, k0_pay45, k0_pay44]
  rfl

/-- Head 7's output. -/
theorem head7 (t : Fin 256) (d : Fin 128) :
    k0_pay58 v f (k0_pay44 c) (k0_pay45 c) q3 b3 (ix2 t d) = ov v f (kc1 c) (vc1 c) q3 b3 t d := by
  pointwise [k0_pay58, k0_pay57, k0_pay45, k0_pay44]
  rfl

/-- The block number along the first axis. -/
abbrev nIota : IVec S32x256 32 := iota .tc S32x256 32 [0] iota_S32x256_d0_w32

/-- One group's importance of block `n` at query `t`, from the query's own block `cur` and the sum of the heads' weights. -/
def imp (cur : IVec S32x256 32) (x : EReal) (n : Fin 32) (t : Fin 256) : EReal :=
  lift (IntOp.cmpi .sgt (BitVec.ofNat 32 n.val) (cur (ix2 n t))) (IntOp.cmpi .eq (BitVec.ofNat 32 n.val) (cur (ix2 n t))) x

variable (cur : IVec S32x256 32)

/-- The first group's importance. -/
theorem imp0 (n : Fin 32) (t : Fin 256) :
    k0_pay22 nIota v f cur (k0_pay7 c) (k0_pay14 v f (k0_pay10 v f c q0 b0) (k0_pay12 c q1) b1) (k0_pay16 v f (k0_pay7 c) q2 b2) (k0_pay17 v f (k0_pay7 c) q2 b2) q3 b3 (ix2 n t)
      = imp cur (pr v f (kc0 c) q0 b0 n t + pr v f (kc0 c) q1 b1 n t + pr v f (kc0 c) q2 b2 n t + pr v f (kc0 c) q3 b3 n t) n t := by
  have e0 : k0_pay9 v f c q0 b0 (ix2 n t) = pr v f (kc0 c) q0 b0 n t := by
    pointwise [k0_pay9, k0_pay7]
    rfl
  have e1 : k0_pay13 v f (k0_pay12 c q1) b1 (ix2 n t) = pr v f (kc0 c) q1 b1 n t := by
    pointwise [k0_pay13, k0_pay12, k0_pay7]
    rfl
  have e2 : k0_pay18 (k0_pay16 v f (k0_pay7 c) q2 b2) (k0_pay17 v f (k0_pay7 c) q2 b2) (ix2 n t) = pr v f (kc0 c) q2 b2 n t := by
    pointwise [k0_pay18, k0_pay17, k0_pay16, k0_pay7]
    rfl
  have e3 : k0_pay20 v f (k0_pay7 c) q3 b3 (ix2 n t) = pr v f (kc0 c) q3 b3 n t := by
    pointwise [k0_pay20, k0_pay7]
    rfl
  rw [← e0, ← e1, ← e2, ← e3]
  pointwise [k0_pay22, k0_pay14, k0_pay10]
  rfl

/-- The second group's importance. -/
theorem imp1 (n : Fin 32) (t : Fin 256) :
    k0_pay59 nIota v f cur (k0_pay44 c) (k0_pay55 v f (k0_pay44 c) (k0_pay48 v f (k0_pay44 c) k0_pay46 q0 b0) (k0_pay50 v (k0_pay44 c) q1 b1) (k0_pay51 v (k0_pay44 c) q1 b1) q2 b2) q3 b3 (ix2 n t)
      = imp cur (pr v f (kc1 c) q0 b0 n t + pr v f (kc1 c) q1 b1 n t + pr v f (kc1 c) q2 b2 n t + pr v f (kc1 c) q3 b3 n t) n t := by
  have e0 : k0_pay47 v f (k0_pay44 c) q0 b0 (ix2 n t) = pr v f (kc1 c) q0 b0 n t := by
    pointwise [k0_pay47, k0_pay44]
    rfl
  have e1 : k0_pay52 f (k0_pay50 v (k0_pay44 c) q1 b1) (k0_pay51 v (k0_pay44 c) q1 b1) (ix2 n t) = pr v f (kc1 c) q1 b1 n t := by
    pointwise [k0_pay52, k0_pay51, k0_pay50, k0_pay44]
    rfl
  have e2 : k0_pay54 v f (k0_pay44 c) q2 b2 (ix2 n t) = pr v f (kc1 c) q2 b2 n t := by
    pointwise [k0_pay54, k0_pay44]
    rfl
  have e3 : k0_pay57 v f (k0_pay44 c) q3 b3 (ix2 n t) = pr v f (kc1 c) q3 b3 n t := by
    pointwise [k0_pay57, k0_pay44]
    rfl
  rw [← e0, ← e1, ← e2, ← e3]
  pointwise [k0_pay59, k0_pay55, k0_pay48, k0_pay46]
  rfl

end Cert.Cmp
-- ==== Proof.Cmp.Rank.lean ====
module

public import proofs.«01_k».proof.Proof.Cmp.Heads

@[expose] public section

set_option maxRecDepth 16384

noncomputable section

namespace Cert.Cmp

open Idealize.ShloMosaic Idealize.ShloMosaic.TcCoe Cert.KernelIdeal Cert.KernelIdeal.Gen

variable (f : FVec Ideal S32x256 .f32) (a b : FVec Ideal S32x256 .f32) (n : Fin 32) (t : Fin 256)

/-- `beats` of the importances at query `t`. -/
abbrev bt (m : Fin 32) : EReal := beats (fun m => f (ix2 m t)) n m

/-- The first two comparisons of the first group. -/
theorem a23 : k0_pay23 f nIota (Scalar.ofBits .f32 0#32) (ix2 n t) = 0 + bt f n t 0 + bt f n t 1 := by
  pointwise [k0_pay23]
  rfl

/-- Comparison 2 of the first group. -/
theorem a24 : k0_pay24 f nIota (ix2 n t) = bt f n t 2 := by
  pointwise [k0_pay24]
  rfl

/-- Comparison 5 of the first group. -/
theorem a26 : k0_pay26 f nIota (ix2 n t) = bt f n t 5 := by
  pointwise [k0_pay26]
  rfl

/-- Comparison 8 of the first group. -/
theorem a28 : k0_pay28 f nIota (ix2 n t) = bt f n t 8 := by
  pointwise [k0_pay28]
  rfl

/-- Comparison 11 of the first group. -/
theorem a30 : k0_pay30 f nIota (ix2 n t) = bt f n t 11 := by
  pointwise [k0_pay30]
  rfl

/-- Comparison 14 of the first group. -/
theorem a32 : k0_pay32 f nIota (ix2 n t) = bt f n t 14 := by
  pointwise [k0_pay32]
  rfl

/-- Comparison 17 of the first group. -/
theorem a34 : k0_pay34 f nIota (ix2 n t) = bt f n t 17 := by
  pointwise [k0_pay34]
  rfl

/-- Comparison 20 of the first group. -/
theorem a36 : k0_pay36 f nIota (ix2 n t) = bt f n t 20 := by
  pointwise [k0_pay36]
  rfl

/-- Comparison 23 of the first group. -/
theorem a38 : k0_pay38 f nIota (ix2 n t) = bt f n t 23 := by
  pointwise [k0_pay38]
  rfl

/-- Comparison 26 of the first group. -/
theorem a40 : k0_pay40 f nIota (ix2 n t) = bt f n t 26 := by
  pointwise [k0_pay40]
  rfl

/-- Comparison 29 of the first group. -/
theorem a42 : k0_pay42 f nIota (ix2 n t) = bt f n t 29 := by
  pointwise [k0_pay42]
  rfl

/-- Comparisons 3 and 4 of the first group. -/
theorem a25 : k0_pay25 f nIota a b (ix2 n t) = a (ix2 n t) + b (ix2 n t) + bt f n t 3 + bt f n t 4 := by
  pointwise [k0_pay25]
  rfl

/-- Comparisons 6 and 7 of the first group. -/
theorem a27 : k0_pay27 f nIota a b (ix2 n t) = a (ix2 n t) + b (ix2 n t) + bt f n t 6 + bt f n t 7 := by
  pointwise [k0_pay27]
  rfl

/-- Comparisons 9 and 10 of the first group. -/
theorem a29 : k0_pay29 f nIota a b (ix2 n t) = a (ix2 n t) + b (ix2 n t) + bt f n t 9 + bt f n t 10 := by
  pointwise [k0_pay29]
  rfl

/-- Comparisons 12 and 13 of the first group. -/
theorem a31 : k0_pay31 f nIota a b (ix2 n t) = a (ix2 n t) + b (ix2 n t) + bt f n t 12 + bt f n t 13 := by
  pointwise [k0_pay31]
  rfl

/-- Comparisons 15 and 16 of the first group. -/
theorem a33 : k0_pay33 f nIota a b (ix2 n t) = a (ix2 n t) + b (ix2 n t) + bt f n t 15 + bt f n t 16 := by
  pointwise [k0_pay33]
  rfl

/-- Comparisons 18 and 19 of the first group. -/
theorem a35 : k0_pay35 f nIota a b (ix2 n t) = a (ix2 n t) + b (ix2 n t) + bt f n t 18 + bt f n t 19 := by
  pointwise [k0_pay35]
  rfl

/-- Comparisons 21 and 22 of the first group. -/
theorem a37 : k0_pay37 f nIota a b (ix2 n t) = a (ix2 n t) + b (ix2 n t) + bt f n t 21 + bt f n t 22 := by
  pointwise [k0_pay37]
  rfl

/-- Comparisons 24 and 25 of the first group. -/
theorem a39 : k0_pay39 f nIota a b (ix2 n t) = a (ix2 n t) + b (ix2 n t) + bt f n t 24 + bt f n t 25 := by
  pointwise [k0_pay39]
  rfl

/-- Comparisons 27 and 28 of the first group. -/
theorem a41 : k0_pay41 f nIota a b (ix2 n t) = a (ix2 n t) + b (ix2 n t) + bt f n t 27 + bt f n t 28 := by
  pointwise [k0_pay41]
  rfl

/-- The last comparisons of the first group, and the choice. -/
theorem a43 : k0_pay43 f nIota a b (ix2 n t)
    = if a (ix2 n t) + b (ix2 n t) + bt f n t 30 + bt f n t 31 < Ideal.ofBits .f32 0x41800000#32 then 1 else 0 := by
  pointwise [k0_pay43]
  rfl

/-- Block `m`'s importances against every block's: is it the larger. -/
def gt0 : IVec S32x256 1 := cmpf .ogt (broadcastTo S32x256 (extractStridedSlice S1x256 ![0, 0] f slices_S32x256_o0_0_S1x256) broadcasts_S1x256_S32x256) f
/-- Block `m`'s importances against every block's: is it the same. -/
def eq0 : IVec S32x256 1 := cmpf .oeq (broadcastTo S32x256 (extractStridedSlice S1x256 ![0, 0] f slices_S32x256_o0_0_S1x256) broadcasts_S1x256_S32x256) f

/-- The first three comparisons of the second group. -/
theorem c64 : k0_pay64 f nIota k0_pay60 (gt0 f) (eq0 f) 0#32 (ix2 n t) = 0 + bt f n t 0 + bt f n t 1 + bt f n t 2 := by
  pointwise [k0_pay64, k0_pay60, gt0, eq0]
  rfl

/-- Comparisons 3 to 5 of the second group. -/
theorem c68 : k0_pay68 f nIota a (k0_pay66 f) (k0_pay67 f) 3#32 (ix2 n t) = a (ix2 n t) + bt f n t 3 + bt f n t 4 + bt f n t 5 := by
  pointwise [k0_pay68, k0_pay67, k0_pay66, k0_pay65]
  rfl

/-- Comparisons 6 to 8 of the second group. -/
theorem c72 : k0_pay72 f nIota a (k0_pay70 f) (k0_pay71 f) 6#32 (ix2 n t) = a (ix2 n t) + bt f n t 6 + bt f n t 7 + bt f n t 8 := by
  pointwise [k0_pay72, k0_pay71, k0_pay70, k0_pay69]
  rfl

/-- Comparisons 9 to 11 of the second group. -/
theorem c76 : k0_pay76 f nIota a (k0_pay74 f) (k0_pay75 f) 9#32 (ix2 n t) = a (ix2 n t) + bt f n t 9 + bt f n t 10 + bt f n t 11 := by
  pointwise [k0_pay76, k0_pay75, k0_pay74, k0_pay73]
  rfl

/-- Comparisons 12 to 14 of the second group. -/
theorem c80 : k0_pay80 f nIota a (k0_pay78 f) (k0_pay79 f) 12#32 (ix2 n t) = a (ix2 n t) + bt f n t 12 + bt f n t 13 + bt f n t 14 := by
  pointwise [k0_pay80, k0_pay79, k0_pay78, k0_pay77]
  rfl

/-- Comparisons 15 to 17 of the second group. -/
theorem c84 : k0_pay84 f nIota a (k0_pay82 f) (k0_pay83 f) 15#32 (ix2 n t) = a (ix2 n t) + bt f n t 15 + bt f n t 16 + bt f n t 17 := by
  pointwise [k0_pay84, k0_pay83, k0_pay82, k0_pay81]
  rfl

/-- Comparisons 18 to 20 of the second group. -/
theorem c88 : k0_pay88 f nIota a (k0_pay86 f) (k0_pay87 f) 18#32 (ix2 n t) = a (ix2 n t) + bt f n t 18 + bt f n t 19 + bt f n t 20 := by
  pointwise [k0_pay88, k0_pay87, k0_pay86, k0_pay85]
  rfl

/-- Comparisons 21 to 23 of the second group. -/
theorem c92 : k0_pay92 f nIota a (k0_pay90 f) (k0_pay91 f) 21#32 (ix2 n t) = a (ix2 n t) + bt f n t 21 + bt f n t 22 + bt f n t 23 := by
  pointwise [k0_pay92, k0_pay91, k0_pay90, k0_pay89]
  rfl

/-- Comparisons 24 to 26 of the second group. -/
theorem c96 : k0_pay96 f nIota a (k0_pay94 f) (k0_pay95 f) 24#32 (ix2 n t) = a (ix2 n t) + bt f n t 24 + bt f n t 25 + bt f n t 26 := by
  pointwise [k0_pay96, k0_pay95, k0_pay94, k0_pay93]
  rfl

/-- Comparisons 27 to 29 of the second group. -/
theorem c100 : k0_pay100 f nIota a (k0_pay98 f) (k0_pay99 f) 27#32 (ix2 n t) = a (ix2 n t) + bt f n t 27 + bt f n t 28 + bt f n t 29 := by
  pointwise [k0_pay100, k0_pay99, k0_pay98, k0_pay97]
  rfl

/-- Comparison 30 of the second group. -/
theorem c104 : k0_pay104 nIota a (k0_pay102 f) (k0_pay103 f) 30#32 (ix2 n t) = a (ix2 n t) + bt f n t 30 := by
  pointwise [k0_pay104, k0_pay103, k0_pay102, k0_pay101]
  rfl

/-- The last comparison of the second group, and the choice. -/
theorem c1 : k0_pay1 a (k0_pay106 f) (k0_pay107 f nIota) k0_pay108 (ix2 n t)
    = if a (ix2 n t) + bt f n t 31 < Ideal.ofBits .f32 0x41800000#32 then 1 else 0 := by
  pointwise [k0_pay1, k0_pay106, k0_pay107, k0_pay108, k0_pay105]
  rfl

/-- The first group's chain of comparisons. -/
def chain0 : FVec Ideal S32x256 .f32 := k0_pay43 f nIota (k0_pay41 f nIota (k0_pay39 f nIota (k0_pay37 f nIota (k0_pay35 f nIota (k0_pay33 f nIota (k0_pay31 f nIota (k0_pay29 f nIota (k0_pay27 f nIota (k0_pay25 f nIota (k0_pay23 f nIota (Scalar.ofBits .f32 0#32)) (k0_pay24 f nIota)) (k0_pay26 f nIota)) (k0_pay28 f nIota)) (k0_pay30 f nIota)) (k0_pay32 f nIota)) (k0_pay34 f nIota)) (k0_pay36 f nIota)) (k0_pay38 f nIota)) (k0_pay40 f nIota)) (k0_pay42 f nIota)
/-- The second group's chain of comparisons. -/
def chain1 : FVec Ideal S32x256 .f32 := k0_pay1 (k0_pay104 nIota (k0_pay100 f nIota (k0_pay96 f nIota (k0_pay92 f nIota (k0_pay88 f nIota (k0_pay84 f nIota (k0_pay80 f nIota (k0_pay76 f nIota (k0_pay72 f nIota (k0_pay68 f nIota (k0_pay64 f nIota k0_pay60 (gt0 f) (eq0 f) 0#32) (k0_pay66 f) (k0_pay67 f) 3#32) (k0_pay70 f) (k0_pay71 f) 6#32) (k0_pay74 f) (k0_pay75 f) 9#32) (k0_pay78 f) (k0_pay79 f) 12#32) (k0_pay82 f) (k0_pay83 f) 15#32) (k0_pay86 f) (k0_pay87 f) 18#32) (k0_pay90 f) (k0_pay91 f) 21#32) (k0_pay94 f) (k0_pay95 f) 24#32) (k0_pay98 f) (k0_pay99 f) 27#32) (k0_pay102 f) (k0_pay103 f) 30#32) (k0_pay106 f) (k0_pay107 f nIota) k0_pay108

/-- The first group's chain tells the chosen blocks. -/
theorem chain0_apply : chain0 f (ix2 n t) = chosen (fun m => f (ix2 m t)) n := by
  unfold chain0 chosen rank
  rw [a43, a41, a39, a37, a35, a33, a31, a29, a27, a25, a23, a24, a26, a28, a30, a32, a34, a36, a38, a40, a42, sum32]

/-- The second group's chain tells the chosen blocks. -/
theorem chain1_apply : chain1 f (ix2 n t) = chosen (fun m => f (ix2 m t)) n := by
  unfold chain1 chosen rank
  rw [c1, c104, c100, c96, c92, c88, c84, c80, c76, c72, c68, c64, sum32]

end Cert.Cmp
-- ==== Proof.Cmp.Tile.lean ====
module

public import proofs.«01_k».proof.Proof.Gen.KernelIdeal.Frame
public import proofs.«01_k».proof.Proof.Cmp.Rank
public import Idealize.ShloMosaic.Lib.Pipeline.ValueKit.Tiles

@[expose] public section

set_option maxRecDepth 16384

noncomputable section

namespace Cert.Cmp

open Idealize.ShloMosaic Idealize.ShloMosaic.TcCoe Cert.KernelIdeal Cert.KernelIdeal.Gen

/-- The zero offsets of a matrix. -/
theorem z2 : (![0, 0] : Fin 2 → Nat) = fun _ => 0 := funext fun a => by fin_cases a <;> rfl

/-- Head `h`'s queries in a tile. -/
def qs (x0 : Vec Ideal S256x1024 .f32) (h : Fin 8) : Vec Ideal S256x128 .f32 :=
  fun y => x0 (ix2 (y 0) ⟨128 * h.val + (y 1).val, by have := h.isLt; have : (y 1).val < 128 := (y 1).isLt; omega⟩)

/-- Head `h`'s biases in a tile. -/
def bs (x3 : Vec Ideal S8x32x256 .f32) (h : Fin 8) : Vec Ideal S1x32x256 .f32 := fun y => x3 (ix3 h (y 1) (y 2))

/-- Head `h`'s block keys. -/
def kh (kv : Vec Ideal S32x512 .f32) (h : Fin 8) : Fin 32 → Fin 128 → EReal := if h.val < 4 then kc0 kv else kc1 kv
/-- Head `h`'s block values. -/
def vh (kv : Vec Ideal S32x512 .f32) (h : Fin 8) : Fin 32 → Fin 128 → EReal := if h.val < 4 then vc0 kv else vc1 kv

/-- What a tile writes to the attention's output, from its queries, biases and the batch's block keys and values. -/
def tileOut (i : grid0.Coords) (kv : Vec Ideal S32x512 .f32) (x0 : Vec Ideal S256x1024 .f32) (x3 : Vec Ideal S8x32x256 .f32) (y : S256x1024.Idx) : EReal :=
  have hy : (y 1).val < 1024 := (y 1).isLt
  let h : Fin 8 := ⟨(y 1).val / 128, by omega⟩
  ov (k0_pay4 i) (k0_pay5 i) (kh kv h) (vh kv h) (qs x0 h) (bs x3 h) (y 0) ⟨(y 1).val % 128, Nat.mod_lt _ (by decide)⟩

/-- The first group's importances in a tile. -/
def tileImp0 (i : grid0.Coords) (kv : Vec Ideal S32x512 .f32) (x0 : Vec Ideal S256x1024 .f32) (x3 : Vec Ideal S8x32x256 .f32) : FVec Ideal S32x256 .f32 :=
  k0_pay22 nIota (k0_pay4 i) (k0_pay5 i) (k0_pay6 i) (k0_pay7 kv)
    (k0_pay14 (k0_pay4 i) (k0_pay5 i) (k0_pay10 (k0_pay4 i) (k0_pay5 i) kv (qs x0 0) (bs x3 0)) (k0_pay12 kv (qs x0 1)) (bs x3 1))
    (k0_pay16 (k0_pay4 i) (k0_pay5 i) (k0_pay7 kv) (qs x0 2) (bs x3 2)) (k0_pay17 (k0_pay4 i) (k0_pay5 i) (k0_pay7 kv) (qs x0 2) (bs x3 2)) (qs x0 3) (bs x3 3)

/-- The second group's importances in a tile. -/
def tileImp1 (i : grid0.Coords) (kv : Vec Ideal S32x512 .f32) (x0 : Vec Ideal S256x1024 .f32) (x3 : Vec Ideal S8x32x256 .f32) : FVec Ideal S32x256 .f32 :=
  k0_pay59 nIota (k0_pay4 i) (k0_pay5 i) (k0_pay6 i) (k0_pay44 kv)
    (k0_pay55 (k0_pay4 i) (k0_pay5 i) (k0_pay44 kv) (k0_pay48 (k0_pay4 i) (k0_pay5 i) (k0_pay44 kv) k0_pay46 (qs x0 4) (bs x3 4))
      (k0_pay50 (k0_pay4 i) (k0_pay44 kv) (qs x0 5) (bs x3 5)) (k0_pay51 (k0_pay4 i) (k0_pay44 kv) (qs x0 5) (bs x3 5)) (qs x0 6) (bs x3 6)) (qs x0 7) (bs x3 7)

/-- What a tile writes to the choice of blocks. -/
def tileSel (i : grid0.Coords) (kv : Vec Ideal S32x512 .f32) (x0 : Vec Ideal S256x1024 .f32) (x3 : Vec Ideal S8x32x256 .f32) (y : S64x256.Idx) : EReal :=
  have hy : (y 0).val < 64 := (y 0).isLt
  chosen (fun m => if (y 0).val < 32 then tileImp0 i kv x0 x3 (ix2 m (y 1)) else tileImp1 i kv x0 x3 (ix2 m (y 1)))
    ⟨(y 0).val % 32, Nat.mod_lt _ (by decide)⟩

theorem ldq0 (x0 : Vec Ideal S256x1024 .f32) : View.ld x0 (Rect.unit ![0, 0] ![256, 128] inb_S256x1024_S256x128_0_0) = qs x0 0 := by
  funext y
  refine View.ld_unit_apply_of x0 _ _ _ y (ix2 (y 0) ⟨128 * (0 : Fin 8).val + (y 1).val, _⟩) (fun a => ?_)
  fin_cases a
  · exact (Nat.zero_add _).symm
  · rfl

theorem ldb0 (x3 : Vec Ideal S8x32x256 .f32) : View.ld x3 (Rect.unit ![0, 0, 0] ![1, 32, 256] inb_S8x32x256_S1x32x256_0_0_0) = bs x3 0 := by
  funext y
  have h0 : (y 0).val < 1 := (y 0).isLt
  refine View.ld_unit_apply_of x3 _ _ _ y (ix3 (0 : Fin 8) (y 1) (y 2)) (fun a => ?_)
  fin_cases a
  · show 0 = 0 + (y 0).val
    omega
  · exact (Nat.zero_add _).symm
  · exact (Nat.zero_add _).symm

theorem ldq1 (x0 : Vec Ideal S256x1024 .f32) : View.ld x0 (Rect.unit ![0, 128] ![256, 128] inb_S256x1024_S256x128_0_128) = qs x0 1 := by
  funext y
  refine View.ld_unit_apply_of x0 _ _ _ y (ix2 (y 0) ⟨128 * (1 : Fin 8).val + (y 1).val, _⟩) (fun a => ?_)
  fin_cases a
  · exact (Nat.zero_add _).symm
  · rfl

theorem ldb1 (x3 : Vec Ideal S8x32x256 .f32) : View.ld x3 (Rect.unit ![1, 0, 0] ![1, 32, 256] inb_S8x32x256_S1x32x256_1_0_0) = bs x3 1 := by
  funext y
  have h0 : (y 0).val < 1 := (y 0).isLt
  refine View.ld_unit_apply_of x3 _ _ _ y (ix3 (1 : Fin 8) (y 1) (y 2)) (fun a => ?_)
  fin_cases a
  · show 1 = 1 + (y 0).val
    omega
  · exact (Nat.zero_add _).symm
  · exact (Nat.zero_add _).symm

theorem ldq2 (x0 : Vec Ideal S256x1024 .f32) : View.ld x0 (Rect.unit ![0, 256] ![256, 128] inb_S256x1024_S256x128_0_256) = qs x0 2 := by
  funext y
  refine View.ld_unit_apply_of x0 _ _ _ y (ix2 (y 0) ⟨128 * (2 : Fin 8).val + (y 1).val, _⟩) (fun a => ?_)
  fin_cases a
  · exact (Nat.zero_add _).symm
  · rfl

theorem ldb2 (x3 : Vec Ideal S8x32x256 .f32) : View.ld x3 (Rect.unit ![2, 0, 0] ![1, 32, 256] inb_S8x32x256_S1x32x256_2_0_0) = bs x3 2 := by
  funext y
  have h0 : (y 0).val < 1 := (y 0).isLt
  refine View.ld_unit_apply_of x3 _ _ _ y (ix3 (2 : Fin 8) (y 1) (y 2)) (fun a => ?_)
  fin_cases a
  · show 2 = 2 + (y 0).val
    omega
  · exact (Nat.zero_add _).symm
  · exact (Nat.zero_add _).symm

theorem ldq3 (x0 : Vec Ideal S256x1024 .f32) : View.ld x0 (Rect.unit ![0, 384] ![256, 128] inb_S256x1024_S256x128_0_384) = qs x0 3 := by
  funext y
  refine View.ld_unit_apply_of x0 _ _ _ y (ix2 (y 0) ⟨128 * (3 : Fin 8).val + (y 1).val, _⟩) (fun a => ?_)
  fin_cases a
  · exact (Nat.zero_add _).symm
  · rfl

theorem ldb3 (x3 : Vec Ideal S8x32x256 .f32) : View.ld x3 (Rect.unit ![3, 0, 0] ![1, 32, 256] inb_S8x32x256_S1x32x256_3_0_0) = bs x3 3 := by
  funext y
  have h0 : (y 0).val < 1 := (y 0).isLt
  refine View.ld_unit_apply_of x3 _ _ _ y (ix3 (3 : Fin 8) (y 1) (y 2)) (fun a => ?_)
  fin_cases a
  · show 3 = 3 + (y 0).val
    omega
  · exact (Nat.zero_add _).symm
  · exact (Nat.zero_add _).symm

theorem ldq4 (x0 : Vec Ideal S256x1024 .f32) : View.ld x0 (Rect.unit ![0, 512] ![256, 128] inb_S256x1024_S256x128_0_512) = qs x0 4 := by
  funext y
  refine View.ld_unit_apply_of x0 _ _ _ y (ix2 (y 0) ⟨128 * (4 : Fin 8).val + (y 1).val, _⟩) (fun a => ?_)
  fin_cases a
  · exact (Nat.zero_add _).symm
  · rfl

theorem ldb4 (x3 : Vec Ideal S8x32x256 .f32) : View.ld x3 (Rect.unit ![4, 0, 0] ![1, 32, 256] inb_S8x32x256_S1x32x256_4_0_0) = bs x3 4 := by
  funext y
  have h0 : (y 0).val < 1 := (y 0).isLt
  refine View.ld_unit_apply_of x3 _ _ _ y (ix3 (4 : Fin 8) (y 1) (y 2)) (fun a => ?_)
  fin_cases a
  · show 4 = 4 + (y 0).val
    omega
  · exact (Nat.zero_add _).symm
  · exact (Nat.zero_add _).symm

theorem ldq5 (x0 : Vec Ideal S256x1024 .f32) : View.ld x0 (Rect.unit ![0, 640] ![256, 128] inb_S256x1024_S256x128_0_640) = qs x0 5 := by
  funext y
  refine View.ld_unit_apply_of x0 _ _ _ y (ix2 (y 0) ⟨128 * (5 : Fin 8).val + (y 1).val, _⟩) (fun a => ?_)
  fin_cases a
  · exact (Nat.zero_add _).symm
  · rfl

theorem ldb5 (x3 : Vec Ideal S8x32x256 .f32) : View.ld x3 (Rect.unit ![5, 0, 0] ![1, 32, 256] inb_S8x32x256_S1x32x256_5_0_0) = bs x3 5 := by
  funext y
  have h0 : (y 0).val < 1 := (y 0).isLt
  refine View.ld_unit_apply_of x3 _ _ _ y (ix3 (5 : Fin 8) (y 1) (y 2)) (fun a => ?_)
  fin_cases a
  · show 5 = 5 + (y 0).val
    omega
  · exact (Nat.zero_add _).symm
  · exact (Nat.zero_add _).symm

theorem ldq6 (x0 : Vec Ideal S256x1024 .f32) : View.ld x0 (Rect.unit ![0, 768] ![256, 128] inb_S256x1024_S256x128_0_768) = qs x0 6 := by
  funext y
  refine View.ld_unit_apply_of x0 _ _ _ y (ix2 (y 0) ⟨128 * (6 : Fin 8).val + (y 1).val, _⟩) (fun a => ?_)
  fin_cases a
  · exact (Nat.zero_add _).symm
  · rfl

theorem ldb6 (x3 : Vec Ideal S8x32x256 .f32) : View.ld x3 (Rect.unit ![6, 0, 0] ![1, 32, 256] inb_S8x32x256_S1x32x256_6_0_0) = bs x3 6 := by
  funext y
  have h0 : (y 0).val < 1 := (y 0).isLt
  refine View.ld_unit_apply_of x3 _ _ _ y (ix3 (6 : Fin 8) (y 1) (y 2)) (fun a => ?_)
  fin_cases a
  · show 6 = 6 + (y 0).val
    omega
  · exact (Nat.zero_add _).symm
  · exact (Nat.zero_add _).symm

theorem ldq7 (x0 : Vec Ideal S256x1024 .f32) : View.ld x0 (Rect.unit ![0, 896] ![256, 128] inb_S256x1024_S256x128_0_896) = qs x0 7 := by
  funext y
  refine View.ld_unit_apply_of x0 _ _ _ y (ix2 (y 0) ⟨128 * (7 : Fin 8).val + (y 1).val, _⟩) (fun a => ?_)
  fin_cases a
  · exact (Nat.zero_add _).symm
  · rfl

theorem ldb7 (x3 : Vec Ideal S8x32x256 .f32) : View.ld x3 (Rect.unit ![7, 0, 0] ![1, 32, 256] inb_S8x32x256_S1x32x256_7_0_0) = bs x3 7 := by
  funext y
  have h0 : (y 0).val < 1 := (y 0).isLt
  refine View.ld_unit_apply_of x3 _ _ _ y (ix3 (7 : Fin 8) (y 1) (y 2)) (fun a => ?_)
  fin_cases a
  · show 7 = 7 + (y 0).val
    omega
  · exact (Nat.zero_add _).symm
  · exact (Nat.zero_add _).symm

/-- The pieces a tile writes to the attention's output. -/
def pieces4 (i : grid0.Coords) (kv : Vec Ideal S32x512 .f32) (x0 : Vec Ideal S256x1024 .f32) (x3 : Vec Ideal S8x32x256 .f32) : List (View.Piece (Elt Ideal) S256x1024 .f32) :=
  [⟨Rect.unit ![0, 896] ![256, 128] inb_S256x1024_S256x128_0_896, k0_pay58 (k0_pay4 i) (k0_pay5 i) (k0_pay44 kv) (k0_pay45 kv) (qs x0 7) (bs x3 7)⟩,
   ⟨Rect.unit ![0, 768] ![256, 128] inb_S256x1024_S256x128_0_768, k0_pay56 (k0_pay4 i) (k0_pay5 i) (k0_pay44 kv) (k0_pay45 kv) (qs x0 6) (bs x3 6)⟩,
   ⟨Rect.unit ![0, 640] ![256, 128] inb_S256x1024_S256x128_0_640, k0_pay53 (k0_pay5 i) (k0_pay45 kv) (k0_pay50 (k0_pay4 i) (k0_pay44 kv) (qs x0 5) (bs x3 5)) (k0_pay51 (k0_pay4 i) (k0_pay44 kv) (qs x0 5) (bs x3 5))⟩,
   ⟨Rect.unit ![0, 512] ![256, 128] inb_S256x1024_S256x128_0_512, k0_pay49 (k0_pay4 i) (k0_pay5 i) (k0_pay44 kv) (k0_pay45 kv) (qs x0 4) (bs x3 4)⟩,
   ⟨Rect.unit ![0, 384] ![256, 128] inb_S256x1024_S256x128_0_384, k0_pay21 (k0_pay4 i) (k0_pay5 i) (k0_pay7 kv) (k0_pay8 kv) (qs x0 3) (bs x3 3)⟩,
   ⟨Rect.unit ![0, 256] ![256, 128] inb_S256x1024_S256x128_0_256, k0_pay19 (k0_pay8 kv) (k0_pay16 (k0_pay4 i) (k0_pay5 i) (k0_pay7 kv) (qs x0 2) (bs x3 2)) (k0_pay17 (k0_pay4 i) (k0_pay5 i) (k0_pay7 kv) (qs x0 2) (bs x3 2))⟩,
   ⟨Rect.unit ![0, 128] ![256, 128] inb_S256x1024_S256x128_0_128, k0_pay15 (k0_pay4 i) (k0_pay5 i) (k0_pay8 kv) (k0_pay12 kv (qs x0 1)) (bs x3 1)⟩,
   ⟨Rect.unit ![0, 0] ![256, 128] inb_S256x1024_S256x128_0_0, k0_pay11 (k0_pay4 i) (k0_pay5 i) kv (qs x0 0) (bs x3 0)⟩]

/-- The pieces a tile writes to the choice of blocks. -/
def pieces5 (i : grid0.Coords) (kv : Vec Ideal S32x512 .f32) (x0 : Vec Ideal S256x1024 .f32) (x3 : Vec Ideal S8x32x256 .f32) : List (View.Piece (Elt Ideal) S64x256 .f32) :=
  [⟨Rect.unit ![32, 0] ![32, 256] inb_S64x256_S32x256_32_0, chain1 (tileImp1 i kv x0 x3)⟩,
   ⟨Rect.unit ![0, 0] ![32, 256] inb_S64x256_S32x256_0_0, chain0 (tileImp0 i kv x0 x3)⟩]

theorem tileOut_at (i : grid0.Coords) (kv : Vec Ideal S32x512 .f32) (x0 : Vec Ideal S256x1024 .f32) (x3 : Vec Ideal S8x32x256 .f32)
    (h : Fin 8) (t : Fin 256) (d : Fin 128) (y : S256x1024.Idx) (h0 : (y 0).val = 0 + t.val) (h1 : (y 1).val = 128 * h.val + d.val) :
    tileOut i kv x0 x3 y = ov (k0_pay4 i) (k0_pay5 i) (kh kv h) (vh kv h) (qs x0 h) (bs x3 h) t d := by
  have e0 : y 0 = t := Fin.ext (by omega)
  have hd := d.isLt
  have e1 : (⟨(y 1).val / 128, by have := h.isLt; omega⟩ : Fin 8) = h := Fin.ext (by show (y 1).val / 128 = h.val; omega)
  have e2 : (⟨(y 1).val % 128, Nat.mod_lt _ (by decide)⟩ : Fin 128) = d := Fin.ext (by show (y 1).val % 128 = d.val; omega)
  unfold tileOut
  dsimp only
  rw [e0, e1, e2]

theorem canon4 (i : grid0.Coords) (kv : Vec Ideal S32x512 .f32) (x0 : Vec Ideal S256x1024 .f32) (x3 : Vec Ideal S8x32x256 .f32)
    (hc : ∀ y, ∃ p ∈ pieces4 i kv x0 x3, y ∈ p.1.set) : View.canon (pieces4 i kv x0 x3) = tileOut i kv x0 x3 := by
  funext y
  refine View.canon_apply_of_pieces (tileOut i kv x0 x3) _ ?_ y (hc y)
  unfold pieces4
  simp only [List.forall_mem_cons, List.not_mem_nil, false_imp_iff, implies_true, and_true]
  refine ⟨?_, ?_, ?_, ?_, ?_, ?_, ?_, ?_⟩
  · intro x
    refine Eq.trans ?_ (tileOut_at i kv x0 x3 7 (x 0) (x 1) _ (Rect.idx_unit_val _ _ _ x 0) (Rect.idx_unit_val _ _ _ x 1)).symm
    refine (congrArg _ (eq_ix2 x)).trans ?_
    exact head7 _ _ _ _ _ _ _
  · intro x
    refine Eq.trans ?_ (tileOut_at i kv x0 x3 6 (x 0) (x 1) _ (Rect.idx_unit_val _ _ _ x 0) (Rect.idx_unit_val _ _ _ x 1)).symm
    refine (congrArg _ (eq_ix2 x)).trans ?_
    exact head6 _ _ _ _ _ _ _
  · intro x
    refine Eq.trans ?_ (tileOut_at i kv x0 x3 5 (x 0) (x 1) _ (Rect.idx_unit_val _ _ _ x 0) (Rect.idx_unit_val _ _ _ x 1)).symm
    refine (congrArg _ (eq_ix2 x)).trans ?_
    exact head5 _ _ _ _ _ _ _
  · intro x
    refine Eq.trans ?_ (tileOut_at i kv x0 x3 4 (x 0) (x 1) _ (Rect.idx_unit_val _ _ _ x 0) (Rect.idx_unit_val _ _ _ x 1)).symm
    refine (congrArg _ (eq_ix2 x)).trans ?_
    exact head4 _ _ _ _ _ _ _
  · intro x
    refine Eq.trans ?_ (tileOut_at i kv x0 x3 3 (x 0) (x 1) _ (Rect.idx_unit_val _ _ _ x 0) (Rect.idx_unit_val _ _ _ x 1)).symm
    refine (congrArg _ (eq_ix2 x)).trans ?_
    exact head3 _ _ _ _ _ _ _
  · intro x
    refine Eq.trans ?_ (tileOut_at i kv x0 x3 2 (x 0) (x 1) _ (Rect.idx_unit_val _ _ _ x 0) (Rect.idx_unit_val _ _ _ x 1)).symm
    refine (congrArg _ (eq_ix2 x)).trans ?_
    exact head2 _ _ _ _ _ _ _
  · intro x
    refine Eq.trans ?_ (tileOut_at i kv x0 x3 1 (x 0) (x 1) _ (Rect.idx_unit_val _ _ _ x 0) (Rect.idx_unit_val _ _ _ x 1)).symm
    refine (congrArg _ (eq_ix2 x)).trans ?_
    exact head1 _ _ _ _ _ _ _
  · intro x
    refine Eq.trans ?_ (tileOut_at i kv x0 x3 0 (x 0) (x 1) _ (Rect.idx_unit_val _ _ _ x 0) (Rect.idx_unit_val _ _ _ x 1)).symm
    refine (congrArg _ (eq_ix2 x)).trans ?_
    exact head0 _ _ _ _ _ _ _

theorem tileSel_at0 (i : grid0.Coords) (kv : Vec Ideal S32x512 .f32) (x0 : Vec Ideal S256x1024 .f32) (x3 : Vec Ideal S8x32x256 .f32)
    (n : Fin 32) (t : Fin 256) (y : S64x256.Idx) (h0 : (y 0).val = 0 + n.val) (h1 : (y 1).val = 0 + t.val) :
    tileSel i kv x0 x3 y = chosen (fun m => tileImp0 i kv x0 x3 (ix2 m t)) n := by
  have e1 : y 1 = t := Fin.ext (by omega)
  have hn := n.isLt
  have e2 : (⟨(y 0).val % 32, Nat.mod_lt _ (by decide)⟩ : Fin 32) = n := Fin.ext (by show (y 0).val % 32 = n.val; omega)
  unfold tileSel
  dsimp only
  rw [e1, e2]
  simp only [if_pos (show (y 0).val < 32 by omega)]

theorem tileSel_at1 (i : grid0.Coords) (kv : Vec Ideal S32x512 .f32) (x0 : Vec Ideal S256x1024 .f32) (x3 : Vec Ideal S8x32x256 .f32)
    (n : Fin 32) (t : Fin 256) (y : S64x256.Idx) (h0 : (y 0).val = 32 + n.val) (h1 : (y 1).val = 0 + t.val) :
    tileSel i kv x0 x3 y = chosen (fun m => tileImp1 i kv x0 x3 (ix2 m t)) n := by
  have e1 : y 1 = t := Fin.ext (by omega)
  have hn := n.isLt
  have e2 : (⟨(y 0).val % 32, Nat.mod_lt _ (by decide)⟩ : Fin 32) = n := Fin.ext (by show (y 0).val % 32 = n.val; omega)
  unfold tileSel
  dsimp only
  rw [e1, e2]
  simp only [if_neg (show ¬(y 0).val < 32 by omega)]

theorem canon5 (i : grid0.Coords) (kv : Vec Ideal S32x512 .f32) (x0 : Vec Ideal S256x1024 .f32) (x3 : Vec Ideal S8x32x256 .f32)
    (hc : ∀ y, ∃ p ∈ pieces5 i kv x0 x3, y ∈ p.1.set) : View.canon (pieces5 i kv x0 x3) = tileSel i kv x0 x3 := by
  funext y
  refine View.canon_apply_of_pieces (tileSel i kv x0 x3) _ ?_ y (hc y)
  unfold pieces5
  simp only [List.forall_mem_cons, List.not_mem_nil, false_imp_iff, implies_true, and_true]
  refine ⟨?_, ?_⟩
  · intro x
    refine (congrArg _ (eq_ix2 x)).trans ?_
    refine (chain1_apply _ _ _).trans ?_
    exact (tileSel_at1 i kv x0 x3 (x 0) (x 1) _ (Rect.idx_unit_val _ _ _ x 0) (Rect.idx_unit_val _ _ _ x 1)).symm
  · intro x
    refine (congrArg _ (eq_ix2 x)).trans ?_
    refine (chain0_apply _ _ _).trans ?_
    exact (tileSel_at0 i kv x0 x3 (x 0) (x 1) _ (Rect.idx_unit_val _ _ _ x 0) (Rect.idx_unit_val _ _ _ x 1)).symm

/-- What a batch's first tile leaves in the attention's output. -/
theorem outA4 (c : Dev nD) (i : grid0.Coords) (arg2 : Memref sig .tc .vmem S256x1024 .f32) (harg2 : arg2.IsWhole) (arg3 : Memref sig .tc .vmem S2048x512 .f32) (harg3 : arg3.IsWhole) (arg4 : Memref sig .tc .vmem S64x512 .f32) (harg4 : arg4.IsWhole) (arg5 : Memref sig .tc .vmem S8x32x256 .f32) (harg5 : arg5.IsWhole) (arg6 : Memref sig .tc .vmem S256x1024 .f32) (harg6 : arg6.IsWhole) (arg7 : Memref sig .tc .vmem S64x256 .f32) (harg7 : arg7.IsWhole) (arg8 : Memref sig .tc .vmem S32x512 .f32) (harg8 : arg8.IsWhole) (hc0 : cond0_0 i) (x0 : Vec Ideal S256x1024 .f32) (x1 : Vec Ideal S2048x512 .f32) (x2 : Vec Ideal S64x512 .f32) (x3 : Vec Ideal S8x32x256 .f32) :
    out0_A_4 c i arg2 harg2 arg3 harg3 arg4 harg4 arg5 harg5 arg6 harg6 arg7 harg7 arg8 harg8 hc0 x0 x1 x2 x3 = tileOut i (k0_pay2 x1 x2) x0 x3 := by
  have e : (kernelRun0_A c i arg2 harg2 arg3 harg3 arg4 harg4 arg5 harg5 arg6 harg6 arg7 harg7 arg8 harg8 hc0 x0 x1 x2 x3).1 = pieces4 i (k0_pay2 x1 x2) x0 x3 := by
    unfold kernelRun0_A
    dsimp only
    sl_unfold_words
    simp only [View.readAt_eq_ld, harg2.read_unread, harg3.read_unread, harg4.read_unread, harg5.read_unread, harg8.read_unread, View.ld_unit_zero (S := S32x512) z2,
      View.ld_unit_zero (S := S2048x512) z2, View.ld_unit_zero (S := S64x512) z2, View.readCov_unit_zero (S := S32x512) _ z2, ldq0, ldq1, ldq2, ldq3, ldq4, ldq5, ldq6, ldq7, ldb0, ldb1, ldb2, ldb3, ldb4, ldb5, ldb6, ldb7]
    rfl
  have hc := cover0_A_4 c i arg2 harg2 arg3 harg3 arg4 harg4 arg5 harg5 arg6 harg6 arg7 harg7 arg8 harg8 hc0 x0 x1 x2 x3
  rw [e] at hc
  unfold out0_A_4
  rw [e, View.read_writes_eq_canon _ _ _ hc, canon4 _ _ _ _ hc]

/-- What a batch's first tile leaves in the choice of blocks. -/
theorem outA5 (c : Dev nD) (i : grid0.Coords) (arg2 : Memref sig .tc .vmem S256x1024 .f32) (harg2 : arg2.IsWhole) (arg3 : Memref sig .tc .vmem S2048x512 .f32) (harg3 : arg3.IsWhole) (arg4 : Memref sig .tc .vmem S64x512 .f32) (harg4 : arg4.IsWhole) (arg5 : Memref sig .tc .vmem S8x32x256 .f32) (harg5 : arg5.IsWhole) (arg6 : Memref sig .tc .vmem S256x1024 .f32) (harg6 : arg6.IsWhole) (arg7 : Memref sig .tc .vmem S64x256 .f32) (harg7 : arg7.IsWhole) (arg8 : Memref sig .tc .vmem S32x512 .f32) (harg8 : arg8.IsWhole) (hc0 : cond0_0 i) (x0 : Vec Ideal S256x1024 .f32) (x1 : Vec Ideal S2048x512 .f32) (x2 : Vec Ideal S64x512 .f32) (x3 : Vec Ideal S8x32x256 .f32) :
    out0_A_5 c i arg2 harg2 arg3 harg3 arg4 harg4 arg5 harg5 arg6 harg6 arg7 harg7 arg8 harg8 hc0 x0 x1 x2 x3 = tileSel i (k0_pay2 x1 x2) x0 x3 := by
  have e : (kernelRun0_A c i arg2 harg2 arg3 harg3 arg4 harg4 arg5 harg5 arg6 harg6 arg7 harg7 arg8 harg8 hc0 x0 x1 x2 x3).2.1 = pieces5 i (k0_pay2 x1 x2) x0 x3 := by
    unfold kernelRun0_A
    dsimp only
    sl_unfold_words
    simp only [View.readAt_eq_ld, harg2.read_unread, harg3.read_unread, harg4.read_unread, harg5.read_unread, harg8.read_unread, View.ld_unit_zero (S := S32x512) z2,
      View.ld_unit_zero (S := S2048x512) z2, View.ld_unit_zero (S := S64x512) z2, View.readCov_unit_zero (S := S32x512) _ z2, ldq0, ldq1, ldq2, ldq3, ldq4, ldq5, ldq6, ldq7, ldb0, ldb1, ldb2, ldb3, ldb4, ldb5, ldb6, ldb7]
    rfl
  have hc := cover0_A_5 c i arg2 harg2 arg3 harg3 arg4 harg4 arg5 harg5 arg6 harg6 arg7 harg7 arg8 harg8 hc0 x0 x1 x2 x3
  rw [e] at hc
  unfold out0_A_5
  rw [e, View.read_writes_eq_canon _ _ _ hc, canon5 _ _ _ _ hc]

/-- What a later tile leaves in the attention's output. -/
theorem outB4 (c : Dev nD) (i : grid0.Coords) (arg2 : Memref sig .tc .vmem S256x1024 .f32) (harg2 : arg2.IsWhole) (arg3 : Memref sig .tc .vmem S2048x512 .f32) (harg3 : arg3.IsWhole) (arg4 : Memref sig .tc .vmem S64x512 .f32) (harg4 : arg4.IsWhole) (arg5 : Memref sig .tc .vmem S8x32x256 .f32) (harg5 : arg5.IsWhole) (arg6 : Memref sig .tc .vmem S256x1024 .f32) (harg6 : arg6.IsWhole) (arg7 : Memref sig .tc .vmem S64x256 .f32) (harg7 : arg7.IsWhole) (arg8 : Memref sig .tc .vmem S32x512 .f32) (harg8 : arg8.IsWhole) (hc0 : ¬cond0_0 i) (x0 : Vec Ideal S256x1024 .f32) (x1 : Vec Ideal S2048x512 .f32) (x2 : Vec Ideal S64x512 .f32) (x3 : Vec Ideal S8x32x256 .f32) (xs0 : Vec Ideal S32x512 .f32) :
    out0_B_4 c i arg2 harg2 arg3 harg3 arg4 harg4 arg5 harg5 arg6 harg6 arg7 harg7 arg8 harg8 hc0 x0 x1 x2 x3 xs0 = tileOut i xs0 x0 x3 := by
  have e : (kernelRun0_B c i arg2 harg2 arg3 harg3 arg4 harg4 arg5 harg5 arg6 harg6 arg7 harg7 arg8 harg8 hc0 x0 x1 x2 x3 xs0).1 = pieces4 i xs0 x0 x3 := by
    unfold kernelRun0_B
    dsimp only
    sl_unfold_words
    simp only [View.readAt_eq_ld, harg2.read_unread, harg3.read_unread, harg4.read_unread, harg5.read_unread, harg8.read_unread, View.ld_unit_zero (S := S32x512) z2,
      View.ld_unit_zero (S := S2048x512) z2, View.ld_unit_zero (S := S64x512) z2, ldq0, ldq1, ldq2, ldq3, ldq4, ldq5, ldq6, ldq7, ldb0, ldb1, ldb2, ldb3, ldb4, ldb5, ldb6, ldb7]
    rfl
  have hc := cover0_B_4 c i arg2 harg2 arg3 harg3 arg4 harg4 arg5 harg5 arg6 harg6 arg7 harg7 arg8 harg8 hc0 x0 x1 x2 x3 xs0
  rw [e] at hc
  unfold out0_B_4
  rw [e, View.read_writes_eq_canon _ _ _ hc, canon4 _ _ _ _ hc]

/-- What a later tile leaves in the choice of blocks. -/
theorem outB5 (c : Dev nD) (i : grid0.Coords) (arg2 : Memref sig .tc .vmem S256x1024 .f32) (harg2 : arg2.IsWhole) (arg3 : Memref sig .tc .vmem S2048x512 .f32) (harg3 : arg3.IsWhole) (arg4 : Memref sig .tc .vmem S64x512 .f32) (harg4 : arg4.IsWhole) (arg5 : Memref sig .tc .vmem S8x32x256 .f32) (harg5 : arg5.IsWhole) (arg6 : Memref sig .tc .vmem S256x1024 .f32) (harg6 : arg6.IsWhole) (arg7 : Memref sig .tc .vmem S64x256 .f32) (harg7 : arg7.IsWhole) (arg8 : Memref sig .tc .vmem S32x512 .f32) (harg8 : arg8.IsWhole) (hc0 : ¬cond0_0 i) (x0 : Vec Ideal S256x1024 .f32) (x1 : Vec Ideal S2048x512 .f32) (x2 : Vec Ideal S64x512 .f32) (x3 : Vec Ideal S8x32x256 .f32) (xs0 : Vec Ideal S32x512 .f32) :
    out0_B_5 c i arg2 harg2 arg3 harg3 arg4 harg4 arg5 harg5 arg6 harg6 arg7 harg7 arg8 harg8 hc0 x0 x1 x2 x3 xs0 = tileSel i xs0 x0 x3 := by
  have e : (kernelRun0_B c i arg2 harg2 arg3 harg3 arg4 harg4 arg5 harg5 arg6 harg6 arg7 harg7 arg8 harg8 hc0 x0 x1 x2 x3 xs0).2.1 = pieces5 i xs0 x0 x3 := by
    unfold kernelRun0_B
    dsimp only
    sl_unfold_words
    simp only [View.readAt_eq_ld, harg2.read_unread, harg3.read_unread, harg4.read_unread, harg5.read_unread, harg8.read_unread, View.ld_unit_zero (S := S32x512) z2,
      View.ld_unit_zero (S := S2048x512) z2, View.ld_unit_zero (S := S64x512) z2, ldq0, ldq1, ldq2, ldq3, ldq4, ldq5, ldq6, ldq7, ldb0, ldb1, ldb2, ldb3, ldb4, ldb5, ldb6, ldb7]
    rfl
  have hc := cover0_B_5 c i arg2 harg2 arg3 harg3 arg4 harg4 arg5 harg5 arg6 harg6 arg7 harg7 arg8 harg8 hc0 x0 x1 x2 x3 xs0
  rw [e] at hc
  unfold out0_B_5
  rw [e, View.read_writes_eq_canon _ _ _ hc, canon5 _ _ _ _ hc]

/-- What a batch's first tile leaves in the block keys and values. -/
theorem soutA (c : Dev nD) (i : grid0.Coords) (arg2 : Memref sig .tc .vmem S256x1024 .f32) (harg2 : arg2.IsWhole) (arg3 : Memref sig .tc .vmem S2048x512 .f32) (harg3 : arg3.IsWhole) (arg4 : Memref sig .tc .vmem S64x512 .f32) (harg4 : arg4.IsWhole) (arg5 : Memref sig .tc .vmem S8x32x256 .f32) (harg5 : arg5.IsWhole) (arg6 : Memref sig .tc .vmem S256x1024 .f32) (harg6 : arg6.IsWhole) (arg7 : Memref sig .tc .vmem S64x256 .f32) (harg7 : arg7.IsWhole) (arg8 : Memref sig .tc .vmem S32x512 .f32) (harg8 : arg8.IsWhole) (hc0 : cond0_0 i) (x0 : Vec Ideal S256x1024 .f32) (x1 : Vec Ideal S2048x512 .f32) (x2 : Vec Ideal S64x512 .f32) (x3 : Vec Ideal S8x32x256 .f32) :
    sout0_A_0 c i arg2 harg2 arg3 harg3 arg4 harg4 arg5 harg5 arg6 harg6 arg7 harg7 arg8 harg8 hc0 x0 x1 x2 x3 = k0_pay2 x1 x2 := by
  unfold sout0_A_0
  rw [View.read_writes_eq_canon _ _ _ (scover0_A_0 c i arg2 harg2 arg3 harg3 arg4 harg4 arg5 harg5 arg6 harg6 arg7 harg7 arg8 harg8 hc0 x0 x1 x2 x3)]
  unfold kernelRun0_A
  dsimp only
  sl_unfold_words
  rw [View.canon_unit_zero z2]
  simp only [View.readAt_eq_ld, harg3.read_unread, harg4.read_unread, View.ld_unit_zero (S := S2048x512) z2, View.ld_unit_zero (S := S64x512) z2]

end Cert.Cmp
-- ==== Proof.Cmp.Bucket.lean ====
module

public import proofs.«01_k».proof.Proof.Cmp.Soft
public import Idealize.ShloMosaic.Lib.WordCmp
public import Idealize.ShloMosaic.Lib.IdealHost
public import Mathlib.Analysis.SpecialFunctions.Log.Basic

@[expose] public section

set_option maxRecDepth 16384

noncomputable section

namespace Cert.Cmp

open Idealize.ShloMosaic

/-- The bucket of a distance before the negative-index correction: the distance itself below 16, sixteen and a
    logarithmic step from there, at most 31. -/
def bkt0 (x : BitVec 32) : BitVec 32 :=
  Scalar.select (IntOp.cmpi CmpIPredicate.slt (IntOp.maxsi x 0#32) 16#32) (IntOp.maxsi x 0#32)
    (IntOp.minsi
      (IntOp.addi (16#32)
        (FloatOps.fptosi (F := Ideal) (φ := .f32) 32
          (Ideal.div
              (Ideal.log
                (Ideal.div (FloatOps.sitofp (F := Ideal) FTy.f32 (IntOp.maxsi (IntOp.maxsi x 0#32) 1#32)) (Ideal.ofBits FTy.f32 1098907648#32)))
              (Ideal.ofBits FTy.f32 1074075026#32) *
            Ideal.ofBits FTy.f32 1098907648#32)))
      31#32)

/-- The bucket with a negative index counted from the end. -/
def bkt (x : BitVec 32) : BitVec 32 :=
  Scalar.select (IntOp.cmpi CmpIPredicate.slt (bkt0 x) 0#32) (IntOp.addi (bkt0 x) 32#32) (bkt0 x)

/-- The table row an index word names: read signed, held between the first and the last. -/
def rowOf (w : BitVec 32) : Fin 32 := ⟨min w.toInt.toNat (32 - 1), by omega⟩

theorem toInt_small (d : ℕ) (h : d < 2 ^ 31) : (BitVec.ofNat 32 d).toInt = d := by
  rw [BitVec.toInt_eq_toNat_cond, BitVec.toNat_ofNat, Nat.mod_eq_of_lt (by omega), if_pos (by omega)]

theorem maxsi_small (d k : ℕ) (h : d < 2 ^ 31) (hk : k ≤ d) : IntOp.maxsi (BitVec.ofNat 32 d) (BitVec.ofNat 32 k) = BitVec.ofNat 32 d := by
  unfold IntOp.maxsi
  simp only [BitVec.slt, toInt_small d h, toInt_small k (by omega)]
  by_cases e : d = k
  · subst e; simp
  · first
    | rw [if_neg (by simp; omega)]
    | rw [if_pos (by simp; omega)]

theorem minsi_small (d k : ℕ) (h : d < 2 ^ 31) (hk : k ≤ d) : IntOp.minsi (BitVec.ofNat 32 d) (BitVec.ofNat 32 k) = BitVec.ofNat 32 k := by
  unfold IntOp.minsi
  simp only [BitVec.slt, toInt_small d h, toInt_small k (by omega)]
  by_cases e : d = k
  · subst e; simp
  · first
    | rw [if_neg (by simp; omega)]
    | rw [if_pos (by simp; omega)]

/-- The logarithm's divisor, as a number. -/
theorem divisor : Ideal.ofBits .f32 1074075026#32 = ((8721810 / 4194304 : ℝ) : EReal) := by
  simp [Ideal.ofBits, Ideal.ieee, -EReal.coe_mul]; norm_num

theorem sixteenR : Ideal.ofBits .f32 1098907648#32 = ((16 : ℝ) : EReal) := by
  simp [Ideal.ofBits, Ideal.ieee, -EReal.coe_mul]; norm_num

/-- Consecutive logarithms are at least the later number's reciprocal apart. -/
theorem log_next (k : ℝ) (hk : 0 < k) : 1 / (k + 1) ≤ Real.log (k + 1) - Real.log k := by
  rw [← Real.log_div (by positivity) (by positivity)]
  refine le_trans (le_of_eq ?_) (Real.one_sub_inv_le_log_of_pos (by positivity))
  field_simp
  ring

/-- A lower bound of the logarithm of two. -/
theorem log_two_lower : (0.66 : ℝ) ≤ Real.log 2 := by
  have h16 : Real.log 16 = 4 * Real.log 2 := by rw [show (16 : ℝ) = 2 ^ 4 by norm_num, Real.log_pow]; norm_num
  have h8 : Real.log 8 = 3 * Real.log 2 := by rw [show (8 : ℝ) = 2 ^ 3 by norm_num, Real.log_pow]; norm_num
  have a8 := log_next 8 (by norm_num)
  have a9 := log_next 9 (by norm_num)
  have a10 := log_next 10 (by norm_num)
  have a11 := log_next 11 (by norm_num)
  have a12 := log_next 12 (by norm_num)
  have a13 := log_next 13 (by norm_num)
  have a14 := log_next 14 (by norm_num)
  have a15 := log_next 15 (by norm_num)
  norm_num at a8 a9 a10 a11 a12 a13 a14 a15 ⊢
  linarith

/-- The logarithmic step of a distance from 128 on is at least 15 and far from overflow. -/
theorem step_bounds (d : ℕ) (h : 128 ≤ d) (h' : d ≤ 2047) :
    (15 : ℝ) ≤ Real.log (d / 16) * (1 / (8721810 / 4194304)) * 16 ∧ Real.log (d / 16) * (1 / (8721810 / 4194304)) * 16 < 2048 := by
  have hd : (128 : ℝ) ≤ d := by exact_mod_cast h
  have hd' : (d : ℝ) ≤ 2047 := by exact_mod_cast h'
  have h8 : Real.log 8 = 3 * Real.log 2 := by
    rw [show (8 : ℝ) = 2 ^ 3 by norm_num, Real.log_pow]; norm_num
  have hlo : Real.log 8 ≤ Real.log (d / 16) := Real.log_le_log (by norm_num) (by linarith)
  have hhi : Real.log (d / 16) ≤ d / 16 - 1 := Real.log_le_sub_one_of_pos (by linarith)
  have h2 := log_two_lower
  constructor
  · norm_num; linarith
  · norm_num; linarith

/-- The step as an integer word. -/
theorem step_word (d : ℕ) (h : 128 ≤ d) (h' : d ≤ 2047) :
    ∃ k : ℕ, 15 ≤ k ∧ k < 2048 ∧ FloatOps.fptosi (F := Ideal) (φ := .f32) 32
      (Ideal.div (Ideal.log (Ideal.div (FloatOps.sitofp (F := Ideal) FTy.f32 (BitVec.ofNat 32 d)) (Ideal.ofBits FTy.f32 1098907648#32)))
        (Ideal.ofBits FTy.f32 1074075026#32) * Ideal.ofBits FTy.f32 1098907648#32) = BitVec.ofNat 32 k := by
  obtain ⟨hl, hu⟩ := step_bounds d h h'
  have hd : (128 : ℝ) ≤ d := by exact_mod_cast h
  have hs : (FloatOps.sitofp (F := Ideal) FTy.f32 (BitVec.ofNat 32 d) : EReal) = ((d : ℝ) : EReal) := by
    show (((BitVec.ofNat 32 d).toInt : ℝ) : EReal) = _
    rw [toInt_small d (by omega)]
    norm_cast
  have hv : Ideal.div (Ideal.log (Ideal.div (FloatOps.sitofp (F := Ideal) FTy.f32 (BitVec.ofNat 32 d)) (Ideal.ofBits FTy.f32 1098907648#32)))
        (Ideal.ofBits FTy.f32 1074075026#32) * Ideal.ofBits FTy.f32 1098907648#32
      = ((Real.log (d / 16) * (1 / (8721810 / 4194304)) * 16 : ℝ) : EReal) := by
    have hq : Ideal.div ((d : ℝ) : EReal) ((16 : ℝ) : EReal) = ((d / 16 : ℝ) : EReal) := by
      rw [Ideal.div_coe (by norm_num), ← EReal.coe_mul, show (d : ℝ) * (1 / 16) = d / 16 by ring]
    rw [hs, sixteenR, divisor, hq, Ideal.log_coe, if_neg (by rw [not_le]; positivity), Ideal.div_coe (by norm_num), ← EReal.coe_mul,
      ← EReal.coe_mul]
  rw [hv]
  generalize Real.log (d / 16) * (1 / (8721810 / 4194304)) * 16 = r at hl hu
  have f1 : (15 : ℤ) ≤ ⌊r⌋ := Int.le_floor.2 (by exact_mod_cast hl)
  have f2 : ⌊r⌋ < 2048 := Int.floor_lt.2 (by exact_mod_cast hu)
  refine ⟨⌊r⌋.toNat, by omega, by omega, ?_⟩
  show Ideal.fptosi 32 (r : EReal) = _
  unfold Ideal.fptosi Ideal.toIntClamped
  rw [← BitVec.ofInt_natCast]
  congr 1
  have hr : (0 : ℝ) ≤ r := by linarith
  show max _ (min _ (if 0 ≤ r then ⌊r⌋ else ⌈r⌉)) = _
  rw [if_pos hr]
  norm_num
  omega

/-- From a distance of 128 on the bucket is the last one. -/
theorem bkt_far (d : ℕ) (h : 128 ≤ d) (h' : d ≤ 2047) : bkt (BitVec.ofNat 32 d) = 31#32 := by
  obtain ⟨k, hk, hk', e⟩ := step_word d h h'
  have h0 : bkt0 (BitVec.ofNat 32 d) = 31#32 := by
    unfold bkt0
    rw [maxsi_small d 0 (by omega) (by omega), maxsi_small d 1 (by omega) (by omega), e,
      WordCmp.cmpi_slt_ofNat (by omega) (by omega), decide_eq_false (show ¬ d < 16 by omega)]
    rw [show IntOp.addi 16#32 (BitVec.ofNat 32 k) = BitVec.ofNat 32 (16 + k) from (BitVec.ofNat_add _ _).symm,
      minsi_small (16 + k) 31 (by omega) (by omega)]
    rfl
  unfold bkt
  rw [h0]
  decide

/-- Distances from 128 on share the bucket of 128. -/
theorem bkt_min (d : ℕ) (h' : d ≤ 2047) : bkt (BitVec.ofNat 32 (min d 128)) = bkt (BitVec.ofNat 32 d) := by
  by_cases h : 128 ≤ d
  · rw [min_eq_right h, bkt_far d h h', bkt_far 128 le_rfl (by norm_num)]
  · rw [min_eq_left (by omega)]

end Cert.Cmp
-- ==== Proof.Cmp.Spec.lean ====
module

public import proofs.«01_k».proof.KernelIdeal
public import proofs.«01_k».proof.Proof.Cmp.Bucket

@[expose] public section

set_option maxRecDepth 16384

noncomputable section

namespace Cert.Cmp

open Idealize.ShloMosaic Cert.KernelIdeal

variable (P : S8192x5120.Idx → EReal) (W : S1x2x64x2.Idx → EReal) (B : S32x16.Idx → EReal)

/-- One where the block has ended at the token: the token may see it. -/
def vis (tok : Fin 2048) (n : Fin 32) : BitVec 1 := if 64 * n.val + 63 ≤ tok.val then 1#1 else 0#1

/-- The same as a number. -/
def fl (tok : Fin 2048) (n : Fin 32) : EReal := if 64 * n.val + 63 ≤ tok.val then 1 else 0

/-- Batch `b`'s token `tok`, as a row of the projection. -/
def row (b : Fin 4) (tok : Fin 2048) : Fin 8192 := ⟨2048 * b.val + tok.val, by have := b.isLt; have := tok.isLt; omega⟩

/-- Block `n`'s learned mix of its 64 rows, one column of the keys and values. -/
def blk (b : Fin 4) (n : Fin 32) (col : Fin 512) : EReal :=
  ∑ j : Fin 64, P (ix2 (row b ⟨64 * n.val + j.val, by have := n.isLt; have := j.isLt; omega⟩) ⟨2048 + col.val, by have := col.isLt; omega⟩)
    * W (ix4 0 ⟨col.val / 128 / 2, by have := col.isLt; omega⟩ j ⟨col.val / 128 % 2, by omega⟩)

/-- Block `n`'s key of head `h`'s group. -/
def bkey (b : Fin 4) (h : Fin 8) (n : Fin 32) (x : Fin 128) : EReal := blk P W b n ⟨128 * (h.val / 4) + x.val, by have := h.isLt; have := x.isLt; omega⟩

/-- Block `n`'s value of head `h`'s group. -/
def bval (b : Fin 4) (h : Fin 8) (n : Fin 32) (x : Fin 128) : EReal := blk P W b n ⟨256 + 128 * (h.val / 4) + x.val, by have := h.isLt; have := x.isLt; omega⟩

/-- The bias of head `h` for block `n` at token `tok`: the table's row for the bucket of their distance. -/
def bias (tok : Fin 2048) (h : Fin 8) (n : Fin 32) : EReal :=
  B (ix2 (rowOf (bkt (BitVec.ofNat 32 (tok.val - (64 * n.val + 63))))) ⟨h.val, by have := h.isLt; omega⟩)

/-- Head `h`'s scores at token `tok`. -/
def scr (b : Fin 4) (tok : Fin 2048) (h : Fin 8) : Fin 32 → EReal :=
  score (bkey P W b h) (fun x => P (ix2 (row b tok) ⟨128 * h.val + x.val, by have := h.isLt; have := x.isLt; omega⟩)) (bias B tok h)

/-- Head `h`'s weight of block `n` at token `tok`. -/
def wgt (b : Fin 4) (tok : Fin 2048) (h : Fin 8) (n : Fin 32) : EReal := prob (vis tok) (fl tok) (scr P W B b tok h) n

/-- Head `h`'s output at token `tok`. -/
def att (b : Fin 4) (tok : Fin 2048) (h : Fin 8) (d : Fin 128) : EReal := mix (vis tok) (fl tok) (scr P W B b tok h) (fun n => bval P W b h n d)

/-- Group `g`'s importance of block `n` at token `tok`. -/
def impo (b : Fin 4) (tok : Fin 2048) (g : Fin 2) (n : Fin 32) : EReal :=
  lift (BitVec.ofBool (decide (tok.val / 64 < n.val))) (BitVec.ofBool (decide (n.val = tok.val / 64)))
    (wgt P W B b tok ⟨4 * g.val, by have := g.isLt; omega⟩ n + wgt P W B b tok ⟨4 * g.val + 1, by have := g.isLt; omega⟩ n
      + wgt P W B b tok ⟨4 * g.val + 2, by have := g.isLt; omega⟩ n + wgt P W B b tok ⟨4 * g.val + 3, by have := g.isLt; omega⟩ n)

/-- Whether group `g` chooses block `n` at token `tok`. -/
def pick (b : Fin 4) (tok : Fin 2048) (g : Fin 2) (n : Fin 32) : EReal := chosen (impo P W B b tok g) n

/-! ## Scores of blocks not seen do not matter -/

variable {v : Fin 32 → BitVec 1} {f s s' : Fin 32 → EReal}

theorem masked_congr (h : ∀ n, v n = 1#1 → s n = s' n) : masked v s = masked v s' := by
  funext n
  unfold masked
  rcases BitVec.eq_zero_or_eq_one (v n) with e | e
  · rw [e]; rfl
  · rw [h n e]

/-- The weights depend on the seen blocks' scores alone. -/
theorem prob_congr (h : ∀ n, v n = 1#1 → s n = s' n) : prob v f s = prob v f s' := by
  have e := masked_congr h
  have hx : expo v f s = expo v f s' := by
    funext n
    show Ideal.exp (masked v s n - Finset.fold max _ (fun x => masked v s x) Finset.univ) * f n = _
    rw [e]; rfl
  funext n
  show Ideal.div (expo v f s n) (max (∑ x, expo v f s x) _) = _
  rw [hx]; rfl

/-- A block seen has ended. -/
theorem vis_eq_one {tok : Fin 2048} {n : Fin 32} (h : vis tok n = 1#1) : 64 * n.val + 63 ≤ tok.val := by
  unfold vis at h
  by_contra e
  rw [if_neg e] at h
  exact absurd h (by decide)

end Cert.Cmp
-- ==== Proof.Cmp.Words.lean ====
module

public import proofs.«01_k».proof.Proof.Cmp.Tile
public import proofs.«01_k».proof.Proof.Cmp.Spec

@[expose] public section

set_option maxRecDepth 16384

noncomputable section

namespace Cert.Cmp

open Idealize.ShloMosaic Idealize.ShloMosaic.TcCoe Cert.KernelIdeal Cert.KernelIdeal.Gen

/-- The kernel's quotient by 64, rounded down, on a word. -/
def fdiv (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32)
    (IntOp.divsi ArithUnit.vector x 64#32)

/-- On the tokens it is the block number. -/
theorem fdiv_tok : ∀ t : Fin 2048, fdiv (BitVec.ofNat 32 t.val) = BitVec.ofNat 32 (t.val / 64) := by decide +kernel

/-- A tile's token numbers. -/
theorem tok_word (i : grid0.Coords) (t : Fin 256) (tok : Fin 2048) (h : tok.val = 256 * (i 1).val + t.val) :
    IntOp.addi (Scalar.muli (BitVec.ofNat 32 (i 1).val) 256#32) (BitVec.ofNat 32 t.val) = BitVec.ofNat 32 tok.val := by
  rw [h]
  show BitVec.ofNat 32 (i 1).val * BitVec.ofNat 32 256 + BitVec.ofNat 32 t.val = _
  rw [← BitVec.ofNat_mul, ← BitVec.ofNat_add, Nat.mul_comm]

/-- The mask of a tile. -/
theorem mask_read (i : grid0.Coords) (n : Fin 32) (t : Fin 256) (tok : Fin 2048) (h : tok.val = 256 * (i 1).val + t.val) :
    k0_pay4 i (ix2 n t) = vis tok n := by
  have hn := n.isLt
  have ht := tok.isLt
  pointwise [k0_pay4, k0_pay3]
  rw [tok_word i t tok h]
  have e : IntOp.addi (IntOp.muli (BitVec.ofNat 32 n.val) 64#32) 63#32 = BitVec.ofNat 32 (64 * n.val + 63) := by
    show BitVec.ofNat 32 n.val * BitVec.ofNat 32 64 + BitVec.ofNat 32 63 = _
    rw [← BitVec.ofNat_mul, ← BitVec.ofNat_add, Nat.mul_comm]
  rw [e, WordCmp.cmpi_sge_ofNat (by omega) (by omega)]
  unfold vis
  by_cases hv : 64 * n.val + 63 ≤ tok.val
  · rw [if_pos hv, decide_eq_true hv]; rfl
  · rw [if_neg hv, decide_eq_false hv]; rfl

/-- The mask as numbers. -/
theorem weight_read (i : grid0.Coords) (n : Fin 32) (t : Fin 256) (tok : Fin 2048) (h : tok.val = 256 * (i 1).val + t.val) :
    k0_pay5 (F := Ideal) i (ix2 n t) = fl tok n := by
  have e : k0_pay5 (F := Ideal) i (ix2 n t) = Scalar.select (k0_pay4 i (ix2 n t)) 1 0 := by
    pointwise [k0_pay5, k0_pay4, k0_pay3]
  rw [e, mask_read i n t tok h]
  unfold vis fl
  by_cases hv : 64 * n.val + 63 ≤ tok.val
  · rw [if_pos hv, if_pos hv]; rfl
  · rw [if_neg hv, if_neg hv]; rfl

/-- The tokens' block numbers. -/
theorem own_read (i : grid0.Coords) (n : Fin 32) (t : Fin 256) (tok : Fin 2048) (h : tok.val = 256 * (i 1).val + t.val) :
    k0_pay6 i (ix2 n t) = BitVec.ofNat 32 (tok.val / 64) := by
  rw [← fdiv_tok, ← tok_word i t tok h]
  pointwise [k0_pay6, k0_pay3]
  rfl

end Cert.Cmp
-- ==== Proof.Cmp.Gather.lean ====
module

public import proofs.«01_k».proof.Proof.Gen.KernelIdeal.Frame
public import proofs.«01_k».proof.Proof.Cmp.Spec
public import Idealize.ShloMosaic.Lib.Pointwise
public import Idealize.ShloMosaic.Lib.StableHlo.ReadAt

@[expose] public section

set_option maxRecDepth 16384

noncomputable section

namespace Cert.Cmp

open Idealize.ShloMosaic Idealize.ShloMosaic.TcCoe Cert.KernelIdeal Cert.KernelIdeal.Gen

/-- The bias table's row for each of the 129 distances: the index word names the row. -/
theorem gather_table (x : S32x16.Idx → EReal) (idx : IVec S129x1 32) (k : Fin 129) (h : Fin 16) :
    Host.gather gather_S32x16_S129x1_S129x16_1_0_n_n_0_1_116 x idx (ix2 k h) = x (ix2 (rowOf (idx (ix2 k 0))) h) := by
  unfold Host.gather
  congr 1
  funext a
  apply Fin.ext
  match a with
  | ⟨0, _⟩ =>
    show GatherDims.start _ (ix2 k h) idx 0 + GatherDims.batchCoord _ (ix2 k h) 0 + GatherDims.offCoord _ (ix2 k h) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x16_S129x1_S129x16_1_0_n_n_0_1_116.startIndexMap from List.mem_singleton.mpr rfl)]
    have hsi : gather_S32x16_S129x1_S129x16_1_0_n_n_0_1_116.siIdx (ix2 k h) ⟨List.idxOf (0 : Fin 2) gather_S32x16_S129x1_S129x16_1_0_n_n_0_1_116.startIndexMap,
        List.idxOf_lt_length_iff.2 (List.mem_singleton.mpr rfl)⟩ = ix2 k 0 := by
      funext b; refine Fin.ext ?_
      match b with
      | ⟨0, _⟩ => rfl
      | ⟨1, _⟩ => rfl
    rw [hsi]
    rfl
  | ⟨1, _⟩ =>
    show GatherDims.start _ (ix2 k h) idx 1 + GatherDims.batchCoord _ (ix2 k h) 1 + GatherDims.offCoord _ (ix2 k h) 1 = _
    rw [GatherDims.batchCoord_eq_zero _ _ _ List.not_mem_nil]
    unfold GatherDims.start
    rw [dif_neg (show (1 : Fin 2) ∉ gather_S32x16_S129x1_S129x16_1_0_n_n_0_1_116.startIndexMap by decide)]
    simp only [Nat.zero_add]
    rfl

/-- A row of the small table, its number known. -/
theorem gather_dist (x : S129x16.Idx → EReal) (idx : IVec S64x64x1 32) (e j : Fin 64) (h : Fin 16) (k : Fin 129)
    (hk : idx (ix3 e j 0) = BitVec.ofNat 32 k.val) :
    Host.gather gather_S129x16_S64x64x1_S64x64x16_2_0_n_n_0_2_116 x idx (ix3 e j h) = x (ix2 k h) := by
  unfold Host.gather
  congr 1
  funext a
  apply Fin.ext
  match a with
  | ⟨0, _⟩ =>
    show GatherDims.start _ (ix3 e j h) idx 0 + GatherDims.batchCoord _ (ix3 e j h) 0 + GatherDims.offCoord _ (ix3 e j h) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S129x16_S64x64x1_S64x64x16_2_0_n_n_0_2_116.startIndexMap from List.mem_singleton.mpr rfl)]
    have hsi : gather_S129x16_S64x64x1_S64x64x16_2_0_n_n_0_2_116.siIdx (ix3 e j h) ⟨List.idxOf (0 : Fin 2) gather_S129x16_S64x64x1_S64x64x16_2_0_n_n_0_2_116.startIndexMap,
        List.idxOf_lt_length_iff.2 (List.mem_singleton.mpr rfl)⟩ = ix3 e j 0 := by
      funext b; refine Fin.ext ?_
      match b with
      | ⟨0, _⟩ => rfl
      | ⟨1, _⟩ => rfl
      | ⟨2, _⟩ => rfl
    rw [hsi, hk]
    show min (BitVec.ofNat 32 k.val).toInt.toNat (129 - 1) = k.val
    have := k.isLt
    rw [toInt_small k.val (by omega)]
    omega
  | ⟨1, _⟩ =>
    show GatherDims.start _ (ix3 e j h) idx 1 + GatherDims.batchCoord _ (ix3 e j h) 1 + GatherDims.offCoord _ (ix3 e j h) 1 = _
    rw [GatherDims.batchCoord_eq_zero _ _ _ List.not_mem_nil]
    unfold GatherDims.start
    rw [dif_neg (show (1 : Fin 2) ∉ gather_S129x16_S64x64x1_S64x64x16_2_0_n_n_0_2_116.startIndexMap by decide)]
    simp only [Nat.zero_add]
    rfl

/-- The constant table of distances: nothing in the first row of tiles, the distance held at 128 in the later ones. -/
theorem dist_table : ∀ e j : Fin 64, ∀ h : 64 * e.val + j.val < 4096,
    lit0 ⟨64 * e.val + j.val, h⟩ = (if e.val = 0 then 0#32 else if e.val < 33 then lit0 ⟨64 * e.val + j.val, h⟩
      else BitVec.ofNat 32 (min (64 * (64 - e.val) + j.val - 63) 128)) := by
  decide +kernel

end Cert.Cmp
-- ==== Proof.Cmp.Dist.lean ====
module

public import proofs.«01_k».proof.Proof.Gen.KernelIdeal.Frame
public import proofs.«01_k».proof.Proof.Cmp.Gather
public import Idealize.ShloMosaic.Lib.Pointwise
public import Idealize.ShloMosaic.Lib.StableHlo.ReadAt

@[expose] public section

set_option maxRecDepth 16384

noncomputable section

namespace Cert.Cmp

open Idealize.ShloMosaic Idealize.ShloMosaic.TcCoe Cert.KernelIdeal Cert.KernelIdeal.Gen

/-- The table's entry for a token's distance from a block it sees. -/
theorem dist_entry (n : Fin 32) (t : Fin 2048) (hv : 64 * n.val + 63 ≤ t.val) (e j : Fin 64) (he : e.val = (t.val / 64 * 63 + n.val) % 64)
    (hj : j.val = t.val % 64) : lit0 (S64x64.rowMajor (ix2 e j)) = BitVec.ofNat 32 (min (t.val - (64 * n.val + 63)) 128) := by
  have hn := n.isLt
  have ht := t.isLt
  have he' := e.isLt
  have hj' := j.isLt
  have hB : 64 * e.val + j.val < 4096 := by omega
  have hb : S64x64.rowMajor (ix2 e j) = ⟨64 * e.val + j.val, hB⟩ := Fin.ext (by
    rw [Shape.rowMajor_val_two]
    show e.val * 64 + j.val = 64 * e.val + j.val
    omega)
  have ht := dist_table e j hB
  generalize lit0 = f at ht ⊢
  refine (congrArg f hb).trans (ht.trans ?_)
  clear ht
  by_cases h0 : n.val = t.val / 64
  · rw [if_pos (by omega)]
    rw [show min (t.val - (64 * n.val + 63)) 128 = 0 by omega]
  · rw [if_neg (by omega), if_neg (by omega)]
    congr 1
    omega

end Cert.Cmp
-- ==== Proof.Cmp.Host.lean ====
module

public import proofs.«01_k».proof.Proof.Gen.KernelIdeal.Frame
public import proofs.«01_k».proof.Proof.Cmp.Dist
public import Idealize.ShloMosaic.Lib.Pointwise
public import Idealize.ShloMosaic.Lib.StableHlo.ReadAt

@[expose] public section

set_option maxRecDepth 16384

noncomputable section

namespace Cert.Cmp

open Idealize.ShloMosaic Idealize.ShloMosaic.TcCoe Cert.KernelIdeal Cert.KernelIdeal.Gen

/-- The distances 0 to 128, none negative. -/
def dists : IVec S129 32 := maxsi (iotaInDim S129 32 0) (broadcastInDim S129 ![] bcast_S_S129 (constantI S_ 32 0#32))

/-- The buckets of the distances 0 to 128 before the negative-index correction. -/
def bkts : IVec S129 32 :=
  select (cmpi CmpIPredicate.slt dists (broadcastInDim S129 ![] bcast_S_S129 (constantI S_ 32 16#32))) dists
    (minsi
      (addi (broadcastInDim S129 ![] bcast_S_S129 (constantI S_ 32 16#32))
        (fptosi 32
          (mulf
            (Host.divf
              (Host.log
                (Host.divf (sitofp (F := Ideal) FTy.f32 (maxsi dists (broadcastInDim S129 ![] bcast_S_S129 (constantI S_ 32 1#32))))
                  (broadcastInDim S129 ![] bcast_S_S129 (constant S_ FTy.f32 1098907648#32))))
              (broadcastInDim S129 ![] bcast_S_S129 (constant S_ FTy.f32 1074075026#32)))
            (broadcastInDim S129 ![] bcast_S_S129 (constant S_ FTy.f32 1098907648#32)))))
      (broadcastInDim S129 ![] bcast_S_S129 (constantI S_ 32 31#32)))

/-- The index array of the small table: distance `k`'s bucket. -/
theorem table_read (k : Fin 129) :
    broadcastInDim S129x1 ![0] bcast_S129_S129x1_0
      (select (cmpi CmpIPredicate.slt bkts (broadcastInDim S129 ![] bcast_S_S129 (constantI S_ 32 0#32)))
        (addi bkts (broadcastInDim S129 ![] bcast_S_S129 (constantI S_ 32 32#32))) bkts) (ix2 k 0) = bkt (BitVec.ofNat 32 k.val) := by
  pointwise [bkts, dists]
  rfl

/-- The index array's entry at a tile: the table's own word (no word of the table is negative, and the program's select
    keeps it). -/
theorem entry_read (f : Fin 4096 → BitVec 32) (z : IVec S64x64 32) (e j : Fin 64) :
    broadcastInDim S64x64x1 ![0, 1] bcast_S64x64_S64x64x1_0_1
      (select (constantI S64x64 1 0#1) (addi (fun i => f (S64x64.rowMajor i)) z) fun i => f (S64x64.rowMajor i)) (ix3 e j 0)
      = f (S64x64.rowMajor (ix2 e j)) := by
  pointwise []

variable (m : (ℓ : Loc nD τ sig) → Buf (Elt Ideal) ℓ)

/-- The projection. -/
abbrev AP (c : Dev nD) : S8192x5120.Idx → EReal := m ((c : Thread nD τ).loc main_arg0)
/-- The learned mix. -/
abbrev AW (c : Dev nD) : S1x2x64x2.Idx → EReal := m ((c : Thread nD τ).loc main_arg1)
/-- The bias table. -/
abbrev AB (c : Dev nD) : S32x16.Idx → EReal := m ((c : Thread nD τ).loc main_arg2)

/-- The learned mix spread over the columns. -/
theorem V_mix (c : Dev nD) (j : Fin 64) (col : Fin 512) :
    V m c main_v4 (ix2 j col) = AW m c (ix4 0 ⟨col.val / 128 / 2, by have := col.isLt; omega⟩ j ⟨col.val / 128 % 2, by omega⟩) := by
  unfold V hostOps0 hostOps0_1 hostOps0_2
  after_reads_at

/-- The spread biases, at a block the token sees. -/
theorem V_bias (c : Dev nD) (h : Fin 8) (n : Fin 32) (t : Fin 2048) (hv : 64 * n.val + 63 ≤ t.val) :
    V m c main_v46 (ix3 h n t) = bias (AB m c) t h n := by
  have hn := n.isLt
  have ht := t.isLt
  unfold V hostOps0 hostOps0_1 hostOps0_2
  after_reads_at
  refine (gather_dist _ _ _ _ _ ⟨min (t.val - (64 * n.val + 63)) 128, by omega⟩ ?_).trans ?_
  · exact (entry_read lit0 _ _ _).trans (dist_entry n t hv _ _ rfl rfl)
  · refine (gather_table _ _ _ _).trans ?_
    exact congrArg (fun w => AB m c (ix2 (rowOf w) (⟨h.val, by have := h.isLt; omega⟩ : Fin 16)))
      ((table_read ⟨min (t.val - (64 * n.val + 63)) 128, by omega⟩).trans (bkt_min (t.val - (64 * n.val + 63)) (by omega)))

end Cert.Cmp
-- ==== Proof.Cmp.Value.lean ====
module

public import proofs.«01_k».proof.Proof.Gen.KernelIdeal.Value
public import proofs.«01_k».proof.Proof.Cmp.Words
public import proofs.«01_k».proof.Proof.Cmp.Host

@[expose] public section

set_option maxRecDepth 16384

noncomputable section

namespace Cert.Cmp

open Idealize.ShloMosaic Idealize.ShloMosaic.TcCoe Cert.KernelIdeal Cert.KernelIdeal.Gen

section tile
variable (P : S8192x5120.Idx → EReal) (W : S1x2x64x2.Idx → EReal) (B : S32x16.Idx → EReal) (b : Fin 4) (i : grid0.Coords)
  (kv : Vec Ideal S32x512 .f32) (x0 : Vec Ideal S256x1024 .f32) (x3 : Vec Ideal S8x32x256 .f32) (t : Fin 256) (tok : Fin 2048)

/-- One head's weights in a tile, its blocks known. -/
theorem prob_tile (htok : tok.val = 256 * (i 1).val + t.val)
    (hkv : ∀ (n : Fin 32) (col : Fin 512), kv (ix2 n col) = blk P W b n col)
    (hx : ∀ e : Fin 1024, x0 (ix2 t e) = P (ix2 (row b tok) ⟨e.val, by have := e.isLt; omega⟩))
    (hb : ∀ (h : Fin 8) (n : Fin 32), 64 * n.val + 63 ≤ tok.val → x3 (ix3 h n t) = bias B tok h n) (h : Fin 8) :
    prob (fun n => k0_pay4 i (ix2 n t)) (fun n => k0_pay5 (F := Ideal) i (ix2 n t)) (sc (kh kv h) (qs x0 h) (bs x3 h) t)
      = prob (vis tok) (fl tok) (scr P W B b tok h) := by
  rw [show (fun n => k0_pay4 i (ix2 n t)) = vis tok from funext fun n => mask_read i n t tok htok,
    show (fun n => k0_pay5 (F := Ideal) i (ix2 n t)) = fl tok from funext fun n => weight_read i n t tok htok]
  refine prob_congr fun n hn => ?_
  have hh := h.isLt
  have ek : ∀ x : Fin 128, kh kv h n x = bkey P W b h n x := fun x => by
    have hxl := x.isLt
    unfold kh bkey
    by_cases h4 : h.val < 4
    · rw [if_pos h4]
      unfold kc0
      rw [hkv]
      congr 1
      apply Fin.ext
      show x.val = 128 * (h.val / 4) + x.val
      omega
    · rw [if_neg h4]
      unfold kc1
      rw [hkv]
      congr 1
      apply Fin.ext
      show 128 + x.val = 128 * (h.val / 4) + x.val
      omega
  show (∑ x, kh kv h n x * x0 (ix2 t ⟨128 * h.val + x.val, _⟩)) * _ + x3 (ix3 h n t)
    = (∑ x, bkey P W b h n x * P (ix2 (row b tok) ⟨128 * h.val + x.val, _⟩)) * _ + bias B tok h n
  rw [hb h n (vis_eq_one hn)]
  refine congrArg (fun z => z * _ + _) (Finset.sum_congr rfl fun x _ => ?_)
  rw [ek x, hx]

/-- What a tile writes to the output. -/
theorem tileOut_read (htok : tok.val = 256 * (i 1).val + t.val)
    (hkv : ∀ (n : Fin 32) (col : Fin 512), kv (ix2 n col) = blk P W b n col)
    (hx : ∀ e : Fin 1024, x0 (ix2 t e) = P (ix2 (row b tok) ⟨e.val, by have := e.isLt; omega⟩))
    (hb : ∀ (h : Fin 8) (n : Fin 32), 64 * n.val + 63 ≤ tok.val → x3 (ix3 h n t) = bias B tok h n) (h : Fin 8) (d : Fin 128)
    (e : Fin 1024) (he : e.val = 128 * h.val + d.val) :
    tileOut i kv x0 x3 (ix2 t e) = att P W B b tok h d := by
  have hd := d.isLt
  have hh := h.isLt
  have e1 : (⟨e.val / 128, by have := e.isLt; omega⟩ : Fin 8) = h := Fin.ext (by show e.val / 128 = h.val; omega)
  have e2 : (⟨e.val % 128, Nat.mod_lt _ (by decide)⟩ : Fin 128) = d := Fin.ext (by show e.val % 128 = d.val; omega)
  show ov (k0_pay4 i) (k0_pay5 i) (kh kv ⟨e.val / 128, _⟩) (vh kv ⟨e.val / 128, _⟩) (qs x0 ⟨e.val / 128, _⟩) (bs x3 ⟨e.val / 128, _⟩) t
    ⟨e.val % 128, _⟩ = _
  rw [e1, e2]
  unfold ov att mix
  refine Finset.sum_congr rfl fun n _ => ?_
  rw [prob_tile P W B b i kv x0 x3 t tok htok hkv hx hb h]
  congr 1
  unfold vh bval
  by_cases h4 : h.val < 4
  · rw [if_pos h4]
    unfold vc0
    dsimp only
    rw [hkv]
    congr 1
    apply Fin.ext
    show 256 + d.val = 256 + 128 * (h.val / 4) + d.val
    omega
  · rw [if_neg h4]
    unfold vc1
    dsimp only
    rw [hkv]
    congr 1
    apply Fin.ext
    show 384 + d.val = 256 + 128 * (h.val / 4) + d.val
    omega

/-- An importance over words that name the query's block. -/
theorem imp_read (htok : tok.val = 256 * (i 1).val + t.val) (x : EReal) (n : Fin 32) :
    imp (k0_pay6 i) x n t = lift (BitVec.ofBool (decide (tok.val / 64 < n.val))) (BitVec.ofBool (decide (n.val = tok.val / 64))) x := by
  have hn := n.isLt
  have ht := tok.isLt
  unfold imp
  rw [own_read i n t tok htok, WordCmp.cmpi_sgt_ofNat (by omega) (by omega), WordCmp.cmpi_eq_ofNat (by omega) (by omega)]

/-- The first group's importances in a tile. -/
theorem tileImp0_read (htok : tok.val = 256 * (i 1).val + t.val)
    (hkv : ∀ (n : Fin 32) (col : Fin 512), kv (ix2 n col) = blk P W b n col)
    (hx : ∀ e : Fin 1024, x0 (ix2 t e) = P (ix2 (row b tok) ⟨e.val, by have := e.isLt; omega⟩))
    (hb : ∀ (h : Fin 8) (n : Fin 32), 64 * n.val + 63 ≤ tok.val → x3 (ix3 h n t) = bias B tok h n) (n : Fin 32) :
    tileImp0 i kv x0 x3 (ix2 n t) = impo P W B b tok 0 n := by
  have k : ∀ h : Fin 8, h.val < 4 → pr (k0_pay4 i) (k0_pay5 i) (kc0 kv) (qs x0 h) (bs x3 h) n t = wgt P W B b tok h n := fun h h4 => by
    have e := congrFun (prob_tile P W B b i kv x0 x3 t tok htok hkv hx hb h) n
    unfold kh at e
    rw [if_pos h4] at e
    exact e
  unfold tileImp0
  rw [imp0, imp_read i t tok htok, k 0 (by decide), k 1 (by decide), k 2 (by decide), k 3 (by decide)]
  rfl

/-- The second group's importances in a tile. -/
theorem tileImp1_read (htok : tok.val = 256 * (i 1).val + t.val)
    (hkv : ∀ (n : Fin 32) (col : Fin 512), kv (ix2 n col) = blk P W b n col)
    (hx : ∀ e : Fin 1024, x0 (ix2 t e) = P (ix2 (row b tok) ⟨e.val, by have := e.isLt; omega⟩))
    (hb : ∀ (h : Fin 8) (n : Fin 32), 64 * n.val + 63 ≤ tok.val → x3 (ix3 h n t) = bias B tok h n) (n : Fin 32) :
    tileImp1 i kv x0 x3 (ix2 n t) = impo P W B b tok 1 n := by
  have k : ∀ h : Fin 8, ¬ h.val < 4 → pr (k0_pay4 i) (k0_pay5 i) (kc1 kv) (qs x0 h) (bs x3 h) n t = wgt P W B b tok h n := fun h h4 => by
    have e := congrFun (prob_tile P W B b i kv x0 x3 t tok htok hkv hx hb h) n
    unfold kh at e
    rw [if_neg h4] at e
    exact e
  unfold tileImp1
  rw [imp1, imp_read i t tok htok, k 4 (by decide), k 5 (by decide), k 6 (by decide), k 7 (by decide)]
  rfl

/-- What a tile writes to the choice. -/
theorem tileSel_read (htok : tok.val = 256 * (i 1).val + t.val)
    (hkv : ∀ (n : Fin 32) (col : Fin 512), kv (ix2 n col) = blk P W b n col)
    (hx : ∀ e : Fin 1024, x0 (ix2 t e) = P (ix2 (row b tok) ⟨e.val, by have := e.isLt; omega⟩))
    (hb : ∀ (h : Fin 8) (n : Fin 32), 64 * n.val + 63 ≤ tok.val → x3 (ix3 h n t) = bias B tok h n) (g : Fin 2) (n : Fin 32)
    (e : Fin 64) (he : e.val = 32 * g.val + n.val) :
    tileSel i kv x0 x3 (ix2 e t) = pick P W B b tok g n := by
  have hn := n.isLt
  have hg := g.isLt
  have e2 : (⟨e.val % 32, Nat.mod_lt _ (by decide)⟩ : Fin 32) = n := Fin.ext (by show e.val % 32 = n.val; omega)
  show chosen (fun m => if e.val < 32 then tileImp0 i kv x0 x3 (ix2 m t) else tileImp1 i kv x0 x3 (ix2 m t)) ⟨e.val % 32, _⟩ = _
  rw [e2]
  unfold pick
  congr 1
  funext m
  by_cases h : e.val < 32
  · rw [if_pos h, tileImp0_read P W B b i kv x0 x3 t tok htok hkv hx hb, show g = 0 from Fin.ext (by show g.val = 0; omega)]
  · rw [if_neg h, tileImp1_read P W B b i kv x0 x3 t tok htok hkv hx hb, show g = 1 from Fin.ext (by show g.val = 1; omega)]

end tile

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![t.val / 8, 4] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0, t.val % 8] := (by decide +kernel : ∀ t : Fin grid0.N, _)
theorem tile_no : ∀ t : Fin cfg0.N, (grid0.coords t 1).val = t.val % 8 := (by decide +kernel : ∀ t : Fin grid0.N, _)

/-- Point `t`'s queries. -/
theorem blk_q (c : Dev nD) (t : Fin cfg0.N) (r : Fin 256) (e : Fin 1024) (R : Fin 8192) (hR : R.val = 256 * t.val + r.val) :
    (iblk m c 0 t : Vec Ideal S256x1024 .f32) (ix2 r e) = AP m c (ix2 R ⟨e.val, by have := e.isLt; omega⟩) := by
  unfold iblk
  rw [View.read_apply]
  show V m c main_arg0 _ = _
  rw [V_main_arg0]
  congr 1
  funext a
  apply Fin.ext
  match a with
  | ⟨0, _⟩ => show win0_0.index t 0 * 256 + 1 * r.val = R.val; rw [index0]; simp only [Matrix.cons_val_zero]; omega
  | ⟨1, _⟩ => show win0_0.index t 1 * 1024 + 1 * e.val = e.val; rw [index0]; simp only [Matrix.cons_val_one, Matrix.cons_val_zero]; omega

/-- The batch's keys and values. -/
theorem blk_kv (c : Dev nD) (t : Fin cfg0.N) (r : Fin 2048) (e : Fin 512) (R : Fin 8192) (E : Fin 5120)
    (hR : R.val = 2048 * (t.val / 8) + r.val) (hE : E.val = 2048 + e.val) :
    (iblk m c 1 t : Vec Ideal S2048x512 .f32) (ix2 r e) = AP m c (ix2 R E) := by
  unfold iblk
  rw [View.read_apply]
  show V m c main_arg0 _ = _
  rw [V_main_arg0]
  congr 1
  funext a
  apply Fin.ext
  match a with
  | ⟨0, _⟩ => show win0_1.index t 0 * 2048 + 1 * r.val = R.val; rw [index1]; simp only [Matrix.cons_val_zero]; omega
  | ⟨1, _⟩ => show win0_1.index t 1 * 512 + 1 * e.val = E.val; rw [index1]; simp only [Matrix.cons_val_one, Matrix.cons_val_zero]; omega

/-- The learned mix over the columns. -/
theorem blk_w (c : Dev nD) (t : Fin cfg0.N) (j : Fin 64) (col : Fin 512) :
    (iblk m c 2 t : Vec Ideal S64x512 .f32) (ix2 j col)
      = AW m c (ix4 0 ⟨col.val / 128 / 2, by have := col.isLt; omega⟩ j ⟨col.val / 128 % 2, by omega⟩) := by
  unfold iblk
  rw [View.read_apply]
  show V m c main_v4 _ = _
  rw [← V_mix]
  congr 1
  funext a
  apply Fin.ext
  match a with
  | ⟨0, _⟩ => show win0_2.index t 0 * 64 + 1 * j.val = j.val; rw [index2]; simp only [Matrix.cons_val_zero]; omega
  | ⟨1, _⟩ => show win0_2.index t 1 * 512 + 1 * col.val = col.val; rw [index2]; simp only [Matrix.cons_val_one, Matrix.cons_val_zero]; omega

/-- A tile's biases, at the blocks seen. -/
theorem blk_b (c : Dev nD) (t : Fin cfg0.N) (h : Fin 8) (n : Fin 32) (r : Fin 256) (tok : Fin 2048) (htok : tok.val = 256 * (t.val % 8) + r.val)
    (hv : 64 * n.val + 63 ≤ tok.val) : (iblk m c 3 t : Vec Ideal S8x32x256 .f32) (ix3 h n r) = bias (AB m c) tok h n := by
  unfold iblk
  rw [View.read_apply]
  show V m c main_v46 _ = _
  rw [← V_bias m c h n tok hv]
  congr 1
  funext a
  apply Fin.ext
  match a with
  | ⟨0, _⟩ => show win0_3.index t 0 * 8 + 1 * h.val = h.val; rw [index3]; show 0 * 8 + 1 * h.val = h.val; omega
  | ⟨1, _⟩ => show win0_3.index t 1 * 32 + 1 * n.val = n.val; rw [index3]; show 0 * 32 + 1 * n.val = n.val; omega
  | ⟨2, _⟩ => show win0_3.index t 2 * 256 + 1 * r.val = tok.val; rw [index3]; show t.val % 8 * 256 + 1 * r.val = tok.val; omega

/-- The mixed blocks of a batch, from its rows. -/
theorem mix_eq (P : S8192x5120.Idx → EReal) (W : S1x2x64x2.Idx → EReal) (b : Fin 4) (x : Vec Ideal S2048x512 .f32) (w : Vec Ideal S64x512 .f32)
    (n : Fin 32) (col : Fin 512)
    (hx : ∀ r : Fin 2048, x (ix2 r col) = P (ix2 (row b r) ⟨2048 + col.val, by have := col.isLt; omega⟩))
    (hw : ∀ j : Fin 64, w (ix2 j col) = W (ix4 0 ⟨col.val / 128 / 2, by have := col.isLt; omega⟩ j ⟨col.val / 128 % 2, by omega⟩)) :
    k0_pay2 x w (ix2 n col) = blk P W b n col := by
  have e : k0_pay2 x w (ix2 n col) = ∑ j : Fin 64, x (ix2 ⟨n.val * 64 + j.val, by have := n.isLt; have := j.isLt; omega⟩ col) * w (ix2 j col) := by
    pointwise [k0_pay2]
  rw [e]
  unfold blk
  refine Finset.sum_congr rfl fun j _ => ?_
  rw [hx, hw]
  congr 5
  omega

/-- The first tile of a batch leaves its mixed blocks in the scratch. -/
theorem first_kv (c : Dev nD) (b : Fin 4) (t : Fin cfg0.N) (h0 : t.val / 8 = b.val) (n : Fin 32) (col : Fin 512) :
    k0_pay2 (iblk m c 1 t : Vec Ideal S2048x512 .f32) (iblk m c 2 t : Vec Ideal S64x512 .f32) (ix2 n col) = blk (AP m c) (AW m c) b n col :=
  mix_eq (AP m c) (AW m c) b _ _ n col
    (fun r => blk_kv m c t r col (row b r) ⟨2048 + col.val, by have := col.isLt; omega⟩ (by show 2048 * b.val + r.val = _; rw [h0]) rfl)
    (fun j => blk_w m c t j col)

/-- After every tile the scratch holds the batch's mixed blocks. -/
theorem scratch_kv (c : Dev nD) (b : Fin 4) (k : ℕ) (hk : k < 8) (hlt : 8 * b.val + k < cfg0.N) (n : Fin 32) (col : Fin 512) :
    (outsAt0 m c (8 * b.val + k) hlt).2.2 (ix2 n col) = blk (AP m c) (AW m c) b n col := by
  induction k with
  | zero =>
    rw [outsAt0_A m c ⟨8 * b.val + 0, hlt⟩ (by show (8 * b.val + 0) % 8 = 0; omega)]
    dsimp only
    rw [soutA]
    exact first_kv m c b _ (by show (8 * b.val + 0) / 8 = b.val; omega) n col
  | succ k ih =>
    rw [outsAt0_B m c ⟨8 * b.val + (k + 1), hlt⟩ (by show ¬ (8 * b.val + (k + 1)) % 8 = 0; omega)]
    exact ih (by omega) (by omega)

/-- The two results a point writes, in one form for every tile of a batch. -/
theorem outs_eq (c : Dev nD) (b : Fin 4) (k : ℕ) (hk : k < 8) (hlt : 8 * b.val + k < cfg0.N) :
    ∃ kv : Vec Ideal S32x512 .f32, (∀ (n : Fin 32) (col : Fin 512), kv (ix2 n col) = blk (AP m c) (AW m c) b n col) ∧
      (∀ y, (outsAt0 m c (8 * b.val + k) hlt).1 y
        = tileOut (grid0.coords ⟨8 * b.val + k, hlt⟩) kv (iblk m c 0 ⟨8 * b.val + k, hlt⟩) (iblk m c 3 ⟨8 * b.val + k, hlt⟩) y) ∧
      (∀ y, (outsAt0 m c (8 * b.val + k) hlt).2.1 y
        = tileSel (grid0.coords ⟨8 * b.val + k, hlt⟩) kv (iblk m c 0 ⟨8 * b.val + k, hlt⟩) (iblk m c 3 ⟨8 * b.val + k, hlt⟩) y) := by
  by_cases h0 : k = 0
  · subst h0
    refine ⟨k0_pay2 (iblk m c 1 ⟨8 * b.val + 0, hlt⟩ : Vec Ideal S2048x512 .f32) (iblk m c 2 ⟨8 * b.val + 0, hlt⟩ : Vec Ideal S64x512 .f32),
      fun n col => first_kv m c b _ (by show (8 * b.val + 0) / 8 = b.val; omega) n col, fun y => ?_, fun y => ?_⟩
    · rw [outsAt0_A m c ⟨8 * b.val + 0, hlt⟩ (by show (8 * b.val + 0) % 8 = 0; omega)]
      dsimp only
      rw [outA4]
    · rw [outsAt0_A m c ⟨8 * b.val + 0, hlt⟩ (by show (8 * b.val + 0) % 8 = 0; omega)]
      dsimp only
      rw [outA5]
  · obtain ⟨j, rfl⟩ : ∃ j, k = j + 1 := ⟨k - 1, by omega⟩
    refine ⟨(outsAt0 m c (8 * b.val + j) (by omega)).2.2, fun n col => scratch_kv m c b j (by omega) _ n col, fun y => ?_, fun y => ?_⟩
    · rw [outsAt0_B m c ⟨8 * b.val + (j + 1), hlt⟩ (by show ¬ (8 * b.val + (j + 1)) % 8 = 0; omega)]
      dsimp only
      rw [outB4]
      rfl
    · rw [outsAt0_B m c ⟨8 * b.val + (j + 1), hlt⟩ (by show ¬ (8 * b.val + (j + 1)) % 8 = 0; omega)]
      dsimp only
      rw [outB5]
      rfl

/-- A point's results depend on its number alone. -/
theorem outs_congr (c : Dev nD) {p q : ℕ} (h : p = q) (hp : p < cfg0.N) (hq : q < cfg0.N) : outsAt0 m c p hp = outsAt0 m c q hq := by
  subst h
  rfl

/-- The kernel's attended row. -/
theorem result4_apply (c : Dev nD) (b : Fin 4) (tok : Fin 2048) (h : Fin 8) (d : Fin 128) (R : Fin 8192) (e : Fin 1024)
    (hR : R.val = 2048 * b.val + tok.val) (he : e.val = 128 * h.val + d.val) :
    Value.G4 m c (ix2 R e) = att (AP m c) (AW m c) (AB m c) b tok h d := by
  have hN : cfg0.N = 32 := N_0
  have hb := b.isLt
  have ht := tok.isLt
  have hh := h.isLt
  have hd := d.isLt
  have hlt : 8 * b.val + tok.val / 256 < cfg0.N := by omega
  have hpt : Value.pt4Of (ix2 R e) = 8 * b.val + tok.val / 256 := by
    show 1 * (R.val / 256 - 0) + 1 * (e.val / 1024 - 0) = _
    omega
  have hloc : Value.loc4Of (ix2 R e) = ix2 ⟨tok.val % 256, by omega⟩ e := by
    funext a
    apply Fin.ext
    match a with
    | ⟨0, _⟩ => show R.val % 256 = tok.val % 256; omega
    | ⟨1, _⟩ => show e.val % 1024 = e.val; omega
  have hlt' : Value.pt4Of (ix2 R e) < cfg0.N := by omega
  obtain ⟨kv, hkv, h4, -⟩ := outs_eq m c b (tok.val / 256) (by omega) hlt
  unfold Value.G4
  rw [dif_pos hlt', hloc]
  rw [← Value.outsAt0_sweep m c _ hlt']
  have e0 : (outsAt0 m c (Value.pt4Of (ix2 R e)) hlt').1 (ix2 ⟨tok.val % 256, by omega⟩ e)
      = (outsAt0 m c (8 * b.val + tok.val / 256) hlt).1 (ix2 ⟨tok.val % 256, by omega⟩ e) := by
    exact congrArg (fun z => z.1 (ix2 ⟨tok.val % 256, by omega⟩ e)) (outs_congr m c hpt hlt' hlt)
  rw [e0, h4]
  have hq : (8 * b.val + tok.val / 256) % 8 = tok.val / 256 := by omega
  have htok : tok.val = 256 * ((8 * b.val + tok.val / 256) % 8) + tok.val % 256 := by omega
  exact tileOut_read (AP m c) (AW m c) (AB m c) b _ kv _ _ ⟨tok.val % 256, by omega⟩ tok
    (by rw [tile_no]; exact htok) hkv
    (fun e => blk_q m c _ _ e (row b tok) (by show 2048 * b.val + tok.val = 256 * (8 * b.val + tok.val / 256) + tok.val % 256; omega))
    (fun h n hv => blk_b m c _ h n _ tok htok hv) h d e he

/-- The kernel's choice of blocks. -/
theorem result5_apply (c : Dev nD) (b : Fin 4) (tok : Fin 2048) (g : Fin 2) (n : Fin 32) (R : Fin 8192) (e : Fin 64)
    (hR : R.val = 2048 * b.val + tok.val) (he : e.val = 32 * g.val + n.val) :
    Value.G5 m c (ix2 e R) = pick (AP m c) (AW m c) (AB m c) b tok g n := by
  have hN : cfg0.N = 32 := N_0
  have hb := b.isLt
  have ht := tok.isLt
  have hg := g.isLt
  have hn := n.isLt
  have hlt : 8 * b.val + tok.val / 256 < cfg0.N := by omega
  have hpt : Value.pt5Of (ix2 e R) = 8 * b.val + tok.val / 256 := by
    show 32 * (e.val / 64 - 0) + 1 * (R.val / 256 - 0) = _
    omega
  have hloc : Value.loc5Of (ix2 e R) = ix2 e ⟨tok.val % 256, by omega⟩ := by
    funext a
    apply Fin.ext
    match a with
    | ⟨0, _⟩ => show e.val % 64 = e.val; omega
    | ⟨1, _⟩ => show R.val % 256 = tok.val % 256; omega
  have hlt' : Value.pt5Of (ix2 e R) < cfg0.N := by omega
  obtain ⟨kv, hkv, -, h5⟩ := outs_eq m c b (tok.val / 256) (by omega) hlt
  unfold Value.G5
  rw [dif_pos hlt', hloc]
  rw [← Value.outsAt0_sweep m c _ hlt']
  have e0 : (outsAt0 m c (Value.pt5Of (ix2 e R)) hlt').2.1 (ix2 e ⟨tok.val % 256, by omega⟩)
      = (outsAt0 m c (8 * b.val + tok.val / 256) hlt).2.1 (ix2 e ⟨tok.val % 256, by omega⟩) := by
    exact congrArg (fun z => z.2.1 (ix2 e ⟨tok.val % 256, by omega⟩)) (outs_congr m c hpt hlt' hlt)
  rw [e0, h5]
  have htok : tok.val = 256 * ((8 * b.val + tok.val / 256) % 8) + tok.val % 256 := by omega
  exact tileSel_read (AP m c) (AW m c) (AB m c) b _ kv _ _ ⟨tok.val % 256, by omega⟩ tok
    (by rw [tile_no]; exact htok) hkv
    (fun e => blk_q m c _ _ e (row b tok) (by show 2048 * b.val + tok.val = 256 * (8 * b.val + tok.val / 256) + tok.val % 256; omega))
    (fun h n hv => blk_b m c _ h n _ tok htok hv) g n e he

end Cert.Cmp
-- ==== Proof.Cmp.TopK.lean ====
module

public import proofs.«01_k».proof.Proof.Cmp.Soft
public import Idealize.ShloMosaic.Lib.SortFacts
public import Idealize.ShloMosaic.Lib.WordCmp
public import Idealize.ShloMosaic.Lib.IdealHost

@[expose] public section

set_option maxRecDepth 16384

noncomputable section

namespace Cert.Cmp

open Idealize.ShloMosaic

/-- `a` is ahead of `b`: the larger value, and among equals the smaller number. -/
def ahead (f : Fin 32 → EReal) (a b : Fin 32) : Prop := f b < f a ∨ (f a = f b ∧ a < b)

theorem ahead_trans {f : Fin 32 → EReal} {a b c : Fin 32} (h : ahead f a b) (k : ahead f b c) : ahead f a c := by
  unfold ahead at *
  rcases h with h | ⟨h, h'⟩ <;> rcases k with k | ⟨k, k'⟩
  · exact Or.inl (lt_trans k h)
  · exact Or.inl (k ▸ h)
  · exact Or.inl (h ▸ k)
  · exact Or.inr ⟨h.trans k, lt_trans h' k'⟩

theorem ahead_irrefl (f : Fin 32 → EReal) (a : Fin 32) : ¬ ahead f a a := by
  unfold ahead
  rintro (h | ⟨_, h⟩)
  · exact lt_irrefl _ h
  · exact lt_irrefl _ h

/-- Values compared alone, the larger one first. -/
def larger (f : Fin 32 → EReal) (a b : Fin 32) : Bool := decide (f b < f a)

/-- Putting a number that is smaller than all the others into a list in order leaves it in order. -/
theorem pairwise_put (f : Fin 32 → EReal) (a : Fin 32) (l : List (Fin 32)) (hl : l.Pairwise (ahead f)) (ha : ∀ b ∈ l, a < b) :
    (insertBefore (larger f) a l).Pairwise (ahead f) := by
  induction l with
  | nil => unfold insertBefore; exact List.pairwise_singleton _ _
  | cons b l ih =>
    rw [List.pairwise_cons] at hl
    unfold insertBefore
    by_cases h : larger f b a = true
    · rw [if_pos h, List.pairwise_cons]
      refine ⟨fun c hc => ?_, ih hl.2 fun c hc => ha c (List.mem_cons_of_mem _ hc)⟩
      rcases List.mem_cons.1 ((perm_insertBefore (larger f) a l).mem_iff.1 hc) with rfl | hc
      · exact Or.inl (of_decide_eq_true h)
      · exact hl.1 c hc
    · rw [if_neg h, List.pairwise_cons]
      have hab : ahead f a b := by
        have h' : ¬ f a < f b := fun e => h (decide_eq_true e)
        rcases lt_or_eq_of_le (not_lt.1 h') with e | e
        · exact Or.inl e
        · exact Or.inr ⟨e.symm, ha b List.mem_cons_self⟩
      refine ⟨fun c hc => ?_, List.pairwise_cons.2 hl⟩
      rcases List.mem_cons.1 hc with rfl | hc
      · exact hab
      · exact ahead_trans hab (hl.1 c hc)

/-- The stable sort of a rising list, larger values first, puts what is ahead first. -/
theorem pairwise_sorted (f : Fin 32 → EReal) (l : List (Fin 32)) (hl : l.Pairwise (· < ·)) :
    (stableSort (larger f) l).Pairwise (ahead f) := by
  induction l with
  | nil => unfold stableSort; exact List.Pairwise.nil
  | cons a l ih =>
    rw [List.pairwise_cons] at hl
    exact pairwise_put f a _ (ih hl.2) fun b hb => hl.1 b ((perm_stableSort _ l).mem_iff.1 hb)

/-- Two entries of a list in order, the earlier first. -/
theorem get_sorted {N : ℕ} (s : List (Fin 32)) (R : Fin 32 → Fin 32 → Prop) (hs : N = s.length) (hp : s.Pairwise R) (j k : Fin N) (h : j < k) :
    R (s.get (j.cast hs)) (s.get (k.cast hs)) := by
  subst hs
  exact List.pairwise_iff_get.1 hp j k h

/-- The sorted places are in order. -/
theorem pairwise_positions (f : Fin 32 → EReal) : (sortPositions 32 (larger f)).Pairwise (ahead f) := by
  unfold sortPositions
  have h := List.pairwise_lt_finRange 32
  generalize List.finRange 32 = l at h
  exact pairwise_sorted f l h

/-- Of two places in the sorted order the earlier one holds the number that is ahead. -/
theorem ahead_sorted (f : Fin 32 → EReal) (j k : Fin 32) (h : j < k) :
    ahead f (sortedFrom (larger f) j) (sortedFrom (larger f) k) := by
  exact get_sorted (sortPositions 32 (larger f)) (ahead f) (length_sortPositions 32 (larger f)).symm (pairwise_positions f) j k h

theorem ahead_sorted_iff (f : Fin 32 → EReal) (j k : Fin 32) :
    ahead f (sortedFrom (larger f) j) (sortedFrom (larger f) k) ↔ j < k := by
  refine ⟨fun h => ?_, ahead_sorted f j k⟩
  rcases lt_trichotomy j k with e | e | e
  · exact e
  · subst e; exact absurd h (ahead_irrefl f _)
  · exact absurd (ahead_trans h (ahead_sorted f k j e)) (ahead_irrefl f _)

open Classical in
/-- The comparison's number says whether block `m` is ahead of block `n`. -/
theorem beats_eq (f : Fin 32 → EReal) (n m : Fin 32) : beats f n m = if ahead f m n then 1 else 0 := by
  unfold beats ahead
  by_cases h : f n < f m
  · rw [if_pos h, if_pos (Or.inl h)]
  · rw [if_neg h]
    by_cases e : f m = f n
    · rw [if_pos e, WordCmp.cmpi_sgt_ofNat (by have := n.isLt; omega) (by have := m.isLt; omega)]
      by_cases k : m < n
      · rw [if_pos (Or.inr ⟨e, k⟩), decide_eq_true (show m.val < n.val from k)]; rfl
      · rw [if_neg (by rintro (a | ⟨_, a⟩); exacts [h a, k a]), decide_eq_false (show ¬ m.val < n.val from k)]; rfl
    · rw [if_neg e, if_neg (by rintro (a | ⟨a, _⟩); exacts [h a, e a])]

/-- The rank of the number at place `k` of the sorted order is `k`. -/
theorem rank_sorted (f : Fin 32 → EReal) (k : Fin 32) : rank f (sortedFrom (larger f) k) = ((k.val : ℕ) : EReal) := by
  classical
  unfold rank
  simp only [beats_eq]
  have hb : Function.Bijective (sortedFrom (larger f)) := ⟨sortedFrom_injective _, sortedFrom_surjective _⟩
  rw [← hb.sum_comp (fun m => if ahead f m (sortedFrom (larger f) k) then (1 : EReal) else 0)]
  simp only [ahead_sorted_iff]
  rw [← Finset.sum_filter, Finset.sum_const, nsmul_one]
  congr 1
  rw [show (Finset.univ.filter fun j : Fin 32 => j < k) = Finset.Iio k by ext; simp, Fin.card_Iio]

/-- The bound the rank is compared with is sixteen. -/
theorem sixteen : Ideal.ofBits .f32 1098907648#32 = ((16 : ℕ) : EReal) := by
  rw [show ((16 : ℕ) : EReal) = ((16 : ℝ) : EReal) by norm_cast]
  simp [Ideal.ofBits, Ideal.ieee, -EReal.coe_mul]; norm_num

/-- Block `n` is one of the sixteen picked exactly where its rank is under sixteen. -/
theorem chosen_eq (f : Fin 32 → EReal) (n : Fin 32) :
    ∑ k : Fin 16, (if sortedFrom (larger f) ⟨k.val, by omega⟩ = n then (1 : EReal) else 0) = chosen f n := by
  obtain ⟨p, rfl⟩ := sortedFrom_surjective (larger f) n
  unfold chosen
  rw [rank_sorted, sixteen]
  simp only [(sortedFrom_injective (larger f)).eq_iff]
  by_cases h : p.val < 16
  · rw [if_pos (by exact_mod_cast h), Finset.sum_eq_single (⟨p.val, h⟩ : Fin 16)]
    · rw [if_pos rfl]
    · intro b _ hb
      rw [if_neg]
      intro e
      exact hb (Fin.ext (congrArg (fun i : Fin 32 => i.val) e))
    · intro e; exact absurd (Finset.mem_univ _) e
  · rw [if_neg (by exact_mod_cast h)]
    refine Finset.sum_eq_zero fun k _ => ?_
    rw [if_neg]
    intro e
    exact h (by have := congrArg Fin.val e; simp only at this; have := k.isLt; omega)

end Cert.Cmp
-- ==== Proof.Cmp.Stages.lean ====
module

public import proofs.«01_k».proof.Proof.Gen.ReferenceIdeal.Read
public import proofs.«01_k».proof.Proof.Cmp.Spec
public import proofs.«01_k».proof.Proof.Cmp.TopK
public import Idealize.ShloMosaic.Lib.Pointwise

@[expose] public section

set_option maxRecDepth 16384

noncomputable section

namespace Cert.Cmp

open Idealize.ShloMosaic Idealize.ShloMosaic.TcCoe Cert.ReferenceIdeal Cert.ReferenceIdeal.Read

variable (x0 : S8192x5120.Idx → EReal) (x1 : S1x2x64x2.Idx → EReal) (x2 : S32x16.Idx → EReal)

/-- A query row. -/
theorem q_read (b : Fin 4) (t : Fin 2048) (g : Fin 2) (r : Fin 4) (d : Fin 128) :
    val_main_v1 (F := Ideal) x0 (ix5 b t g r d) = x0 (ix2 (row b t) ⟨128 * (4 * g.val + r.val) + d.val, by omega⟩) := by
  pointwise [val_main_v1, val_main_v0]
  have e1 : (⟨b.val * 2048 + t.val, by omega⟩ : Fin 8192) = row b t := Fin.ext (by show b.val * 2048 + t.val = 2048 * b.val + t.val; omega)
  have e2 : (⟨g.val * 512 + r.val * 128 + d.val, by omega⟩ : Fin 5120) = ⟨128 * (4 * g.val + r.val) + d.val, by omega⟩ := Fin.ext (by
    show g.val * 512 + r.val * 128 + d.val = 128 * (4 * g.val + r.val) + d.val; omega)
  exact congrArg x0 (congrArg₂ ix2 e1 e2)

/-- A block's rows of keys (`k = 0`) and values (`k = 1`). -/
theorem kv_read (b : Fin 4) (n : Fin 32) (j : Fin 64) (k g : Fin 2) (d : Fin 128) :
    val_main_v7 (F := Ideal) x0 (ix6 b n j k g d)
      = x0 (ix2 (row b ⟨64 * n.val + j.val, by omega⟩) ⟨2048 + (256 * k.val + 128 * g.val + d.val), by omega⟩) := by
  pointwise [val_main_v7, val_main_v3, val_main_v2]
  have e1 : (⟨b.val * 2048 + (n.val * 64 + j.val), by omega⟩ : Fin 8192) = row b ⟨64 * n.val + j.val, by omega⟩ := Fin.ext (by
    show b.val * 2048 + (n.val * 64 + j.val) = 2048 * b.val + (64 * n.val + j.val); omega)
  have e2 : (⟨2048 + (k.val * 256 + g.val * 128 + d.val), by omega⟩ : Fin 5120) = ⟨2048 + (256 * k.val + 128 * g.val + d.val), by omega⟩ := Fin.ext (by
    show 2048 + (k.val * 256 + g.val * 128 + d.val) = 2048 + (256 * k.val + 128 * g.val + d.val); omega)
  exact congrArg x0 (congrArg₂ ix2 e1 e2)

/-- The learned mix. -/
theorem w_read (k g : Fin 2) (j : Fin 64) :
    val_main_v8 (F := Ideal) x1 (ix3 k j g) = x1 (ix4 0 k j g) := by
  pointwise [val_main_v8]

/-- The mixed keys. -/
theorem k_read (b : Fin 4) (n : Fin 32) (g : Fin 2) (d : Fin 128) :
    val_main_v12 (F := Ideal) x0 x1 (ix4 b n g d) = val_main_v9 (F := Ideal) x0 x1 (ix5 0 g b n d) := by
  pointwise [val_main_v12, val_main_v11, val_main_v10]

/-- The mixed values. -/
theorem v_read (b : Fin 4) (n : Fin 32) (g : Fin 2) (d : Fin 128) :
    val_main_v14 (F := Ideal) x0 x1 (ix4 b n g d) = val_main_v9 (F := Ideal) x0 x1 (ix5 1 g b n d) := by
  pointwise [val_main_v14, val_main_v13, val_main_v10]

/-- A score: scaled product plus bias. -/
theorem s_read (b : Fin 4) (t : Fin 2048) (g : Fin 2) (r : Fin 4) (n : Fin 32) :
    val_main_v61 (F := Ideal) x0 x1 x2 (ix5 b t g r n)
      = val_main_v56 (F := Ideal) x0 x1 (ix5 b g n t r) * Ideal.ofBits .f32 1035273459#32 + val_main_v53 (F := Ideal) x2 (ix4 t n g r) := by
  pointwise [val_main_v61, val_main_v60, val_main_v59, val_main_v58, val_main_v57, val_main_v55, val_main_v54, val_main_cst_11]

/-- The bias table by groups. -/
theorem b_read (r : Fin 32) (g : Fin 2) (k : Fin 4) :
    val_main_v6 (F := Ideal) x2 (ix3 r g k) = x2 (ix2 r ⟨4 * g.val + k.val, by omega⟩) := by
  pointwise [val_main_v6, val_main_v5]
  have e2 : (⟨g.val * 4 + k.val, by omega⟩ : Fin 16) = ⟨4 * g.val + k.val, by omega⟩ := Fin.ext (by show g.val * 4 + k.val = 4 * g.val + k.val; omega)
  exact congrArg x2 (congrArg (ix2 r) e2)

/-- The bucket of a distance. -/
theorem dist_read (t : Fin 2048) (n : Fin 32) :
    val_main_v51 (F := Ideal) (ix2 t n) = bkt (val_main_v26 (F := Ideal) (ix2 t n)) := by
  pointwise [val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_c_2, val_main_c_3, val_main_cst, val_main_cst_4, val_main_cst_5, val_main_c_6, val_main_c_7, val_main_c_8, val_main_c_9, val_main_c_10]
  rfl

/-- The distance from the end of a block. -/
theorem far_read (t : Fin 2048) (n : Fin 32) :
    val_main_v26 (F := Ideal) (ix2 t n) = BitVec.ofNat 32 t.val - BitVec.ofNat 32 (64 * n.val + 63) := by
  pointwise [val_main_v26, val_main_v25, val_main_v24, val_main_v23, val_main_v22, val_main_v21, val_main_v20, val_main_v19, val_main_v18, val_main_v17, val_main_v16, val_main_v15, val_main_v4, val_main_c, val_main_c_0, val_main_c_1]
  have e : IntOp.subi (IntOp.muli (IntOp.addi (BitVec.ofNat 32 n.val) 1#32) 64#32) 1#32 = BitVec.ofNat 32 (64 * n.val + 63) := by
    have hn := n.isLt
    apply BitVec.eq_of_toNat_eq
    simp only [IntOp.subi, IntOp.muli, IntOp.addi, BitVec.toNat_sub, BitVec.toNat_mul, BitVec.toNat_add, BitVec.toNat_ofNat]
    omega
  rw [e]
  rfl

/-- A masked score. -/
theorem m_read (b : Fin 4) (t : Fin 2048) (g : Fin 2) (r : Fin 4) (n : Fin 32) :
    val_main_v65 (F := Ideal) x0 x1 x2 (ix5 b t g r n)
      = Scalar.select (val_main_v63 (F := Ideal) (ix2 t n)) (val_main_v61 (F := Ideal) x0 x1 x2 (ix5 b t g r n)) (Ideal.ofBits .f32 4048155338#32) := by
  pointwise [val_main_v65, val_main_call1_v1, val_main_call1_v2, val_main_call1_v0, val_main_v64, val_main_cst_13]
  rfl

/-- An exponential, times the mask. -/
theorem e_read (b : Fin 4) (t : Fin 2048) (g : Fin 2) (r : Fin 4) (n : Fin 32) :
    val_main_v73 (F := Ideal) x0 x1 x2 (ix5 b t g r n)
      = Ideal.exp (val_main_v65 (F := Ideal) x0 x1 x2 (ix5 b t g r n) - val_main_v66 (F := Ideal) x0 x1 x2 (ix4 b t g r))
        * FloatOps.uitofp (F := Ideal) .f32 (val_main_v63 (F := Ideal) (ix2 t n)) := by
  pointwise [val_main_v73, val_main_v72, val_main_v71, val_main_v70, val_main_v69, val_main_v68, val_main_v67, val_main_v64]

/-- A weight. -/
theorem p_read (b : Fin 4) (t : Fin 2048) (g : Fin 2) (r : Fin 4) (n : Fin 32) :
    val_main_v79 (F := Ideal) x0 x1 x2 (ix5 b t g r n)
      = Ideal.div (val_main_v73 (F := Ideal) x0 x1 x2 (ix5 b t g r n)) (max (val_main_v74 (F := Ideal) x0 x1 x2 (ix4 b t g r)) (Ideal.ofBits .f32 228737632#32)) := by
  pointwise [val_main_v79, val_main_v78, val_main_v77, val_main_v76, val_main_v75, val_main_cst_16]

/-- An importance. -/
theorem c_read (b : Fin 4) (t : Fin 2048) (g : Fin 2) (n : Fin 32) :
    val_main_v96 (F := Ideal) x0 x1 x2 (ix4 b t g n)
      = lift (IntOp.cmpi .sgt (BitVec.ofNat 32 n.val) (val_main_v85 (F := Ideal) (ix1 t))) (IntOp.cmpi .eq (BitVec.ofNat 32 n.val) (val_main_v85 (F := Ideal) (ix1 t)))
        (val_main_v82 (F := Ideal) x0 x1 x2 (ix4 b t g n)) := by
  pointwise [val_main_v96, val_main_v95, val_main_call3_v0, val_main_call3_v1, val_main_call3_v2, val_main_call4_v0, val_main_call4_v1, val_main_call4_v2, val_main_cst_19, val_main_cst_20, val_main_v94, val_main_v93, val_main_v92, val_main_v91, val_main_v90, val_main_v89, val_main_v88, val_main_v87, val_main_v86, val_main_v84, val_main_v83]
  rfl

/-- The output's rows. -/
theorem o_read (R : Fin 8192) (e : Fin 1024) :
    val_main_v105 (F := Ideal) x0 x1 x2 (ix2 R e)
      = val_main_v80 (F := Ideal) x0 x1 x2 (ix5 ⟨R.val / 2048, by omega⟩ ⟨e.val / 512, by omega⟩ ⟨e.val % 128, by omega⟩ ⟨R.val % 2048, by omega⟩ ⟨e.val / 128 % 4, by omega⟩) := by
  pointwise [val_main_v105, val_main_v81]

/-- The choice's rows. -/
theorem h_read (R : Fin 8192) (e : Fin 64) :
    val_main_v107 (F := Ideal) x0 x1 x2 (ix2 e R)
      = val_main_v104 (F := Ideal) x0 x1 x2 (ix4 ⟨R.val / 2048, by omega⟩ ⟨R.val % 2048, by omega⟩ ⟨e.val / 32, by omega⟩ ⟨e.val % 32, by omega⟩) := by
  pointwise [val_main_v107, val_main_v106]

/-- Equal words give one. -/
theorem one_word (a : BitVec 32) : FloatOps.uitofp (F := Ideal) FTy.f32 (IntOp.cmpi CmpIPredicate.eq a a) = (1 : EReal) := by
  rw [show IntOp.cmpi CmpIPredicate.eq a a = 1#1 from by simp [IntOp.cmpi]]
  show ((((1#1).toNat : ℝ)) : EReal) = 1
  simp

/-- Different words give zero. -/
theorem zero_word (a b : BitVec 32) (h : a ≠ b) : FloatOps.uitofp (F := Ideal) FTy.f32 (IntOp.cmpi CmpIPredicate.eq a b) = (0 : EReal) := by
  rw [show IntOp.cmpi CmpIPredicate.eq a b = 0#1 from by
    show BitVec.ofBool (a == b) = 0#1
    rw [beq_false_of_ne h]
    rfl]
  show ((((0#1).toNat : ℝ)) : EReal) = 0
  simp

/-- One where the block was named. -/
theorem hot_read (b : Fin 4) (t : Fin 2048) (g : Fin 2) (k : Fin 16) (n : Fin 32) :
    val_main_v103 (F := Ideal) x0 x1 x2 (ix5 b t g k n)
      = if val_main_indices (F := Ideal) x0 x1 x2 (ix4 b t g k) = BitVec.ofNat 32 n.val then 1 else 0 := by
  pointwise [val_main_v103, val_main_v102, val_main_v101, val_main_v100, val_main_v99, val_main_v98, val_main_v97]
  by_cases h : val_main_indices (F := Ideal) x0 x1 x2 (ix4 b t g k) = BitVec.ofNat 32 n.val
  · rw [if_pos h, h]
    exact one_word _
  · rw [if_neg h]
    exact zero_word _ _ h

/-- The largest masked score. -/
theorem max_read (b : Fin 4) (t : Fin 2048) (g : Fin 2) (r : Fin 4) :
    val_main_v66 (F := Ideal) x0 x1 x2 (ix4 b t g r)
      = Finset.fold max (Ideal.ofBits .f32 4286578688#32) (fun n : Fin 32 => val_main_v65 (F := Ideal) x0 x1 x2 (ix5 b t g r n)) Finset.univ := by
  pointwise [val_main_v66, val_main_cst_14]

/-- The sum of the exponentials. -/
theorem sum_read (b : Fin 4) (t : Fin 2048) (g : Fin 2) (r : Fin 4) :
    val_main_v74 (F := Ideal) x0 x1 x2 (ix4 b t g r)
      = ∑ n : Fin 32, val_main_v73 (F := Ideal) x0 x1 x2 (ix5 b t g r n) := by
  pointwise [val_main_v74, val_main_cst_15]

/-- The sum over a group's heads. -/
theorem heads_read (b : Fin 4) (t : Fin 2048) (g : Fin 2) (n : Fin 32) :
    val_main_v82 (F := Ideal) x0 x1 x2 (ix4 b t g n)
      = ∑ r : Fin 4, val_main_v79 (F := Ideal) x0 x1 x2 (ix5 b t g r n) := by
  pointwise [val_main_v82, val_main_cst_17]

/-- The sum over the sixteen named blocks. -/
theorem tops_read (b : Fin 4) (t : Fin 2048) (g : Fin 2) (n : Fin 32) :
    val_main_v104 (F := Ideal) x0 x1 x2 (ix4 b t g n)
      = ∑ k : Fin 16, val_main_v103 (F := Ideal) x0 x1 x2 (ix5 b t g k n) := by
  pointwise [val_main_v104, val_main_cst_21]

/-- The weighted sum of values. -/
theorem out_read (b : Fin 4) (t : Fin 2048) (g : Fin 2) (r : Fin 4) (d : Fin 128) :
    val_main_v80 (F := Ideal) x0 x1 x2 (ix5 b g d t r)
      = ∑ n : Fin 32, val_main_v14 (F := Ideal) x0 x1 (ix4 b n g d) * val_main_v79 (F := Ideal) x0 x1 x2 (ix5 b t g r n) := by
  pointwise [val_main_v80]

/-- The product of a block key and a query. -/
theorem qk_read (b : Fin 4) (t : Fin 2048) (g : Fin 2) (r : Fin 4) (n : Fin 32) :
    val_main_v56 (F := Ideal) x0 x1 (ix5 b g n t r)
      = ∑ d : Fin 128, val_main_v12 (F := Ideal) x0 x1 (ix4 b n g d) * val_main_v1 (F := Ideal) x0 (ix5 b t g r d) := by
  pointwise [val_main_v56]

/-- A block's learned mix. -/
theorem mix_read (k g : Fin 2) (b : Fin 4) (n : Fin 32) (d : Fin 128) :
    val_main_v9 (F := Ideal) x0 x1 (ix5 k g b n d)
      = ∑ j : Fin 64, val_main_v8 (F := Ideal) x1 (ix3 k j g) * val_main_v7 (F := Ideal) x0 (ix6 b n j k g d) := by
  pointwise [val_main_v9]

end Cert.Cmp
-- ==== Proof.Cmp.Scalars.lean ====
module

public import proofs.«01_k».proof.Proof.Gen.ReferenceIdeal.Read
public import proofs.«01_k».proof.Proof.Cmp.Spec
public import proofs.«01_k».proof.Proof.Cmp.TopK
public import Idealize.ShloMosaic.Lib.Pointwise

@[expose] public section

set_option maxRecDepth 16384

noncomputable section

namespace Cert.Cmp

open Idealize.ShloMosaic Idealize.ShloMosaic.TcCoe Cert.ReferenceIdeal Cert.ReferenceIdeal.Gen Cert.ReferenceIdeal.Read

/-- The reference's row of the grouped bias table: the index word names the row. -/
theorem gather_bias (x : S32x2x4.Idx → EReal) (idx : IVec S2048x32x1 32) (t : Fin 2048) (n : Fin 32) (g : Fin 2) (r : Fin 4) :
    Host.gather gather_S32x2x4_S2048x32x1_S2048x32x2x4_23_0_n_n_0_2_124 x idx (ix4 t n g r) = x (ix3 (rowOf (idx (ix3 t n 0))) g r) := by
  unfold Host.gather
  congr 1
  funext a
  apply Fin.ext
  match a with
  | ⟨0, _⟩ =>
    show GatherDims.start _ (ix4 t n g r) idx 0 + GatherDims.batchCoord _ (ix4 t n g r) 0 + GatherDims.offCoord _ (ix4 t n g r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S32x2x4_S2048x32x1_S2048x32x2x4_23_0_n_n_0_2_124.startIndexMap from List.mem_singleton.mpr rfl)]
    have hsi : gather_S32x2x4_S2048x32x1_S2048x32x2x4_23_0_n_n_0_2_124.siIdx (ix4 t n g r) ⟨List.idxOf (0 : Fin 3) gather_S32x2x4_S2048x32x1_S2048x32x2x4_23_0_n_n_0_2_124.startIndexMap,
        List.idxOf_lt_length_iff.2 (List.mem_singleton.mpr rfl)⟩ = ix3 t n 0 := by
      funext b; refine Fin.ext ?_
      match b with
      | ⟨0, _⟩ => rfl
      | ⟨1, _⟩ => rfl
      | ⟨2, _⟩ => rfl
    rw [hsi]
    rfl
  | ⟨1, _⟩ =>
    show GatherDims.start _ (ix4 t n g r) idx 1 + GatherDims.batchCoord _ (ix4 t n g r) 1 + GatherDims.offCoord _ (ix4 t n g r) 1 = _
    rw [GatherDims.batchCoord_eq_zero _ _ _ List.not_mem_nil]
    unfold GatherDims.start
    rw [dif_neg (show (1 : Fin 3) ∉ gather_S32x2x4_S2048x32x1_S2048x32x2x4_23_0_n_n_0_2_124.startIndexMap by decide)]
    simp only [Nat.zero_add]
    rfl
  | ⟨2, _⟩ =>
    show GatherDims.start _ (ix4 t n g r) idx 2 + GatherDims.batchCoord _ (ix4 t n g r) 2 + GatherDims.offCoord _ (ix4 t n g r) 2 = _
    rw [GatherDims.batchCoord_eq_zero _ _ _ List.not_mem_nil]
    unfold GatherDims.start
    rw [dif_neg (show (2 : Fin 3) ∉ gather_S32x2x4_S2048x32x1_S2048x32x2x4_23_0_n_n_0_2_124.startIndexMap by decide)]
    simp only [Nat.zero_add]
    rfl

/-- The order of the values, as a word. -/
theorem gt_word (u v : EReal) : (FloatOps.cmpfTotal (F := Ideal) (φ := .f32) .gt u v == 1#1) = decide (v < u) := by
  show (BitVec.ofBool (decide (v < u)) == 1#1) = decide (v < u)
  by_cases hlt : v < u
  · rw [decide_eq_true hlt]; rfl
  · rw [decide_eq_false hlt]; rfl

/-- The stable top-sixteen's positions: what the sort by falling value puts at each place. -/
theorem topK_read (x : S4x2048x2x32.Idx → EReal) (h : S4x2048x2x32.Slices (fun _ => 0) S4x2048x2x16) (b : Fin 4) (t : Fin 2048) (g : Fin 2) (k : Fin 16) :
    (Host.topK S4x2048x2x16 3 (FloatOps.cmpfTotal (F := Ideal) (φ := .f32) .gt) x h).2 (ix4 b t g k)
      = BitVec.ofNat 32 (sortedFrom (larger fun n => x (ix4 b t g n)) ⟨k.val, by omega⟩).val := by
  have e0 : ∀ n : Fin 32, (ix4 b t g (⟨k.val, by omega⟩ : Fin 32) : S4x2048x2x32.Idx).along 3 n = ix4 b t g n := fun n => by
    funext a
    match a with
    | ⟨0, _⟩ => rfl
    | ⟨1, _⟩ => rfl
    | ⟨2, _⟩ => rfl
    | ⟨3, _⟩ => rfl
  have e1 : (fun n n' : Fin 32 => (FloatOps.cmpfTotal (F := Ideal) (φ := .f32) .gt
        (x ((ix4 b t g (⟨k.val, by omega⟩ : Fin 32) : S4x2048x2x32.Idx).along 3 n))
        (x ((ix4 b t g (⟨k.val, by omega⟩ : Fin 32) : S4x2048x2x32.Idx).along 3 n')) == 1#1)) = larger fun n => x (ix4 b t g n) := by
    funext n n'
    rw [e0 n, e0 n']
    exact gt_word _ _
  rw [← e1]
  unfold Host.topK extractStridedSlice
  dsimp only
  refine (congrArg (Host.sort2 S4x2048x2x32 3 _ x _).2 (a₂ := ix4 b t g (⟨k.val, by omega⟩ : Fin 32)) ?_).trans ?_
  · funext a
    apply Fin.ext
    match a with
    | ⟨0, _⟩ => exact Nat.zero_add _
    | ⟨1, _⟩ => exact Nat.zero_add _
    | ⟨2, _⟩ => exact Nat.zero_add _
    | ⟨3, _⟩ => exact Nat.zero_add _
  · unfold Host.sort2
    rw [dif_pos (show 3 < S4x2048x2x32.rank by decide)]
    dsimp only
    rw [dif_pos (show 3 < 4 by decide)]
    unfold iotaInDim
    refine congrArg (fun z : Fin 32 => BitVec.ofNat 32 z.val) ?_
    unfold Shape.Idx.along
    rw [Function.update_self]
    refine congrArg₂ sortedFrom ?_ rfl
    funext n n'
    rfl

/-- The reference's quotient by 64, rounded down, on a word. -/
def rdiv (x : BitVec 32) : BitVec 32 :=
  Scalar.select
    (IntOp.andi
      (IntOp.cmpi .ne (if x = 0 then (0 : BitVec 32) else if x.msb = true then -1 else 1) (if (64#32) = 0 then (0 : BitVec 32) else if (64#32).msb = true then -1 else 1))
      (IntOp.cmpi .ne (IntOp.remsi ArithUnit.host x 64#32) 0#32))
    (IntOp.subi (IntOp.divsi ArithUnit.host x 64#32) 1#32)
    (IntOp.divsi ArithUnit.host x 64#32)

/-- On the tokens it is the block number. -/
theorem rdiv_tok : ∀ t : Fin 2048, rdiv (BitVec.ofNat 32 t.val) = BitVec.ofNat 32 (t.val / 64) := by decide +kernel

/-- A token's own block. -/
theorem cur_read (t : Fin 2048) : val_main_v85 (F := Ideal) (ix1 t) = BitVec.ofNat 32 (t.val / 64) := by
  rw [← rdiv_tok]
  pointwise [val_main_v85, val_main_call2_v0, val_main_call2_v1, val_main_call2_v2, val_main_call2_v3, val_main_call2_v4, val_main_call2_v5, val_main_call2_v6, val_main_call2_v7, val_main_call2_v8, val_main_call2_v9, val_main_call2_v10, val_main_call2_v11, val_main_call2_v12, val_main_call2_v13, val_main_call2_c, val_main_call2_c_0, val_main_c_18, val_main_v4]
  rfl

/-- The distance of a block seen. -/
theorem far_word (t : Fin 2048) (n : Fin 32) (h : 64 * n.val + 63 ≤ t.val) :
    BitVec.ofNat 32 t.val - BitVec.ofNat 32 (64 * n.val + 63) = BitVec.ofNat 32 (t.val - (64 * n.val + 63)) := by
  have ht := t.isLt
  apply BitVec.eq_of_toNat_eq
  simp only [BitVec.toNat_sub, BitVec.toNat_ofNat]
  omega

/-- A distance is not negative exactly where the block has ended. -/
theorem vis_word (t : Fin 2048) (n : Fin 32) :
    IntOp.cmpi .sge (BitVec.ofNat 32 t.val - BitVec.ofNat 32 (64 * n.val + 63)) 0#32 = vis t n := by
  have ht := t.isLt
  have hn := n.isLt
  unfold vis
  by_cases h : 64 * n.val + 63 ≤ t.val
  · rw [if_pos h, far_word t n h, WordCmp.cmpi_sge_ofNat (by omega) (by omega), decide_eq_true (Nat.zero_le _)]
    rfl
  · rw [if_neg h]
    have e : (BitVec.ofNat 32 t.val - BitVec.ofNat 32 (64 * n.val + 63)).slt 0#32 = true := by
      rw [BitVec.slt_zero_eq_msb, BitVec.msb_eq_decide]
      simp only [BitVec.toNat_sub, BitVec.toNat_ofNat, decide_eq_true_eq]
      omega
    show BitVec.ofBool (BitVec.sle 0#32 _) = 0#1
    rw [BitVec.sle_eq_not_slt, e]
    rfl

/-- The mask as a number. -/
theorem fl_word (t : Fin 2048) (n : Fin 32) : FloatOps.uitofp (F := Ideal) FTy.f32 (vis t n) = fl t n := by
  unfold vis fl
  by_cases h : 64 * n.val + 63 ≤ t.val
  · rw [if_pos h, if_pos h]
    show ((((1#1).toNat : ℝ)) : EReal) = 1
    simp
  · rw [if_neg h, if_neg h]
    show ((((0#1).toNat : ℝ)) : EReal) = 0
    simp

end Cert.Cmp
-- ==== Proof.Cmp.Ref.lean ====
module

public import proofs.«01_k».proof.Proof.Cmp.Stages
public import proofs.«01_k».proof.Proof.Cmp.Scalars

@[expose] public section

set_option maxRecDepth 16384

noncomputable section

namespace Cert.Cmp

open Idealize.ShloMosaic Idealize.ShloMosaic.TcCoe Cert.ReferenceIdeal Cert.ReferenceIdeal.Read

variable (x0 : S8192x5120.Idx → EReal) (x1 : S1x2x64x2.Idx → EReal) (x2 : S32x16.Idx → EReal)

/-- Head `r` of group `g`. -/
def hd (g : Fin 2) (r : Fin 4) : Fin 8 := ⟨4 * g.val + r.val, by omega⟩

/-- The reference's mixed blocks. -/
theorem ref_blk (k g : Fin 2) (b : Fin 4) (n : Fin 32) (d : Fin 128) (col : Fin 512) (hc : col.val = 256 * k.val + 128 * g.val + d.val) :
    val_main_v9 (F := Ideal) x0 x1 (ix5 k g b n d) = blk x0 x1 b n col := by
  rw [mix_read]
  unfold blk
  refine Finset.sum_congr rfl fun j _ => ?_
  rw [w_read, kv_read, mul_comm]
  have e1 : (⟨2048 + (256 * k.val + 128 * g.val + d.val), by omega⟩ : Fin 5120) = ⟨2048 + col.val, by omega⟩ :=
    Fin.ext (by show 2048 + (256 * k.val + 128 * g.val + d.val) = 2048 + col.val; omega)
  have e2 : k = (⟨col.val / 128 / 2, by omega⟩ : Fin 2) := Fin.ext (by show k.val = col.val / 128 / 2; omega)
  have e3 : g = (⟨col.val / 128 % 2, by omega⟩ : Fin 2) := Fin.ext (by show g.val = col.val / 128 % 2; omega)
  refine congrArg₂ (· * ·) (congrArg x0 (congrArg (ix2 _) e1)) ?_
  exact congrArg x1 ((congrArg (fun z => ix4 0 z j g) e2).trans (congrArg (fun z => ix4 0 _ j z) e3))

/-- The reference's scores of the blocks seen. -/
theorem ref_score (b : Fin 4) (t : Fin 2048) (g : Fin 2) (r : Fin 4) (n : Fin 32) (hv : 64 * n.val + 63 ≤ t.val) :
    val_main_v61 (F := Ideal) x0 x1 x2 (ix5 b t g r n) = scr x0 x1 x2 b t (hd g r) n := by
  rw [s_read, qk_read]
  unfold scr score
  refine congrArg₂ (· + ·) (congrArg (· * _) (Finset.sum_congr rfl fun x _ => ?_)) ?_
  · rw [k_read, q_read]
    refine congrArg₂ (· * ·) ?_ rfl
    unfold bkey
    refine ref_blk x0 x1 0 g b n x _ ?_
    show 128 * ((4 * g.val + r.val) / 4) + x.val = 256 * 0 + 128 * g.val + x.val
    omega
  · have e : val_main_v53 (F := Ideal) x2 (ix4 t n g r)
        = val_main_v6 (F := Ideal) x2 (ix3 (rowOf (val_main_v52 (F := Ideal) (ix3 t n 0))) g r) := by
      unfold val_main_v53
      exact gather_bias _ _ t n g r
    have e' : val_main_v52 (F := Ideal) (ix3 t n 0) = val_main_v51 (F := Ideal) (ix2 t n) := by
      pointwise [val_main_v52]
    rw [e, e', b_read, dist_read, far_read, far_word t n hv]
    rfl

/-- The reference's masked scores. -/
theorem ref_masked (b : Fin 4) (t : Fin 2048) (g : Fin 2) (r : Fin 4) (n : Fin 32) :
    val_main_v65 (F := Ideal) x0 x1 x2 (ix5 b t g r n) = masked (vis t) (scr x0 x1 x2 b t (hd g r)) n := by
  have e : val_main_v63 (F := Ideal) (ix2 t n) = vis t n := by
    rw [← vis_word, ← far_read]
    pointwise [val_main_v63, val_main_v62, val_main_c_12]
  rw [m_read, e]
  unfold masked
  rcases BitVec.eq_zero_or_eq_one (vis t n) with h | h
  · rw [h]; rfl
  · rw [ref_score x0 x1 x2 b t g r n (vis_eq_one h)]

/-- The reference's exponentials. -/
theorem ref_expo (b : Fin 4) (t : Fin 2048) (g : Fin 2) (r : Fin 4) (n : Fin 32) :
    val_main_v73 (F := Ideal) x0 x1 x2 (ix5 b t g r n) = expo (vis t) (fl t) (scr x0 x1 x2 b t (hd g r)) n := by
  have e : val_main_v63 (F := Ideal) (ix2 t n) = vis t n := by
    rw [← vis_word, ← far_read]
    pointwise [val_main_v63, val_main_v62, val_main_c_12]
  rw [e_read, max_read, e, fl_word]
  unfold expo
  rw [ref_masked, show (fun n : Fin 32 => val_main_v65 (F := Ideal) x0 x1 x2 (ix5 b t g r n)) = fun n => masked (vis t) (scr x0 x1 x2 b t (hd g r)) n from
    funext fun n => ref_masked x0 x1 x2 b t g r n]

/-- The reference's weights. -/
theorem ref_prob (b : Fin 4) (t : Fin 2048) (g : Fin 2) (r : Fin 4) (n : Fin 32) :
    val_main_v79 (F := Ideal) x0 x1 x2 (ix5 b t g r n) = wgt x0 x1 x2 b t (hd g r) n := by
  rw [p_read, sum_read]
  unfold wgt prob
  rw [ref_expo]
  refine congrArg (fun z => Ideal.div _ (max z _)) (Finset.sum_congr rfl fun n _ => ref_expo x0 x1 x2 b t g r n)

/-- The reference's attended rows. -/
theorem ref_att (b : Fin 4) (t : Fin 2048) (h : Fin 8) (d : Fin 128) (R : Fin 8192) (e : Fin 1024)
    (hR : R.val = 2048 * b.val + t.val) (he : e.val = 128 * h.val + d.val) :
    val_main_v105 (F := Ideal) x0 x1 x2 (ix2 R e) = att x0 x1 x2 b t h d := by
  have hg : h.val / 4 < 2 := by omega
  have hr : h.val % 4 < 4 := by omega
  have e1 : (⟨R.val / 2048, by omega⟩ : Fin 4) = b := Fin.ext (by show R.val / 2048 = b.val; omega)
  have e2 : (⟨R.val % 2048, by omega⟩ : Fin 2048) = t := Fin.ext (by show R.val % 2048 = t.val; omega)
  have e3 : (⟨e.val / 512, by omega⟩ : Fin 2) = ⟨h.val / 4, hg⟩ := Fin.ext (by show e.val / 512 = h.val / 4; omega)
  have e4 : (⟨e.val / 128 % 4, by omega⟩ : Fin 4) = ⟨h.val % 4, hr⟩ := Fin.ext (by show e.val / 128 % 4 = h.val % 4; omega)
  have e5 : (⟨e.val % 128, by omega⟩ : Fin 128) = d := Fin.ext (by show e.val % 128 = d.val; omega)
  have e6 : hd ⟨h.val / 4, hg⟩ ⟨h.val % 4, hr⟩ = h := Fin.ext (by show 4 * (h.val / 4) + h.val % 4 = h.val; omega)
  rw [o_read, e1, e2, e3, e4, e5, out_read]
  unfold att mix
  refine Finset.sum_congr rfl fun n _ => ?_
  rw [ref_prob, e6, v_read, mul_comm]
  refine congrArg₂ (· * ·) rfl ?_
  unfold bval
  refine ref_blk x0 x1 1 ⟨h.val / 4, hg⟩ b n d _ ?_
  show 256 + 128 * (h.val / 4) + d.val = 256 * 1 + 128 * (h.val / 4) + d.val
  omega

/-- The reference's importances. -/
theorem ref_impo (b : Fin 4) (t : Fin 2048) (g : Fin 2) (n : Fin 32) :
    val_main_v96 (F := Ideal) x0 x1 x2 (ix4 b t g n) = impo x0 x1 x2 b t g n := by
  rw [c_read, cur_read, heads_read, WordCmp.cmpi_sgt_ofNat (by omega) (by omega), WordCmp.cmpi_eq_ofNat (by omega) (by omega)]
  unfold impo
  refine congrArg (lift _ _) ?_
  rw [Fin.sum_univ_four, ref_prob, ref_prob, ref_prob, ref_prob]
  rfl

/-- The reference's choice. -/
theorem ref_pick (b : Fin 4) (t : Fin 2048) (g : Fin 2) (n : Fin 32) (R : Fin 8192) (e : Fin 64)
    (hR : R.val = 2048 * b.val + t.val) (he : e.val = 32 * g.val + n.val) :
    val_main_v107 (F := Ideal) x0 x1 x2 (ix2 e R) = pick x0 x1 x2 b t g n := by
  have e1 : (⟨R.val / 2048, by omega⟩ : Fin 4) = b := Fin.ext (by show R.val / 2048 = b.val; omega)
  have e2 : (⟨R.val % 2048, by omega⟩ : Fin 2048) = t := Fin.ext (by show R.val % 2048 = t.val; omega)
  have e3 : (⟨e.val / 32, by omega⟩ : Fin 2) = g := Fin.ext (by show e.val / 32 = g.val; omega)
  have e4 : (⟨e.val % 32, by omega⟩ : Fin 32) = n := Fin.ext (by show e.val % 32 = n.val; omega)
  rw [h_read, e1, e2, e3, e4, tops_read]
  unfold pick
  rw [← chosen_eq]
  refine Finset.sum_congr rfl fun k _ => ?_
  have ei : val_main_indices (F := Ideal) x0 x1 x2 (ix4 b t g k)
      = BitVec.ofNat 32 (sortedFrom (larger (impo x0 x1 x2 b t g)) ⟨k.val, by omega⟩).val := by
    unfold val_main_indices
    refine (topK_read _ _ b t g k).trans ?_
    rw [show (fun n : Fin 32 => val_main_v96 (F := Ideal) x0 x1 x2 (ix4 b t g n)) = impo x0 x1 x2 b t g from funext fun n => ref_impo x0 x1 x2 b t g n]
  rw [hot_read, ei]
  refine if_congr ⟨fun h => ?_, fun h => by rw [h]⟩ rfl rfl
  have h' := congrArg BitVec.toNat h
  simp only [BitVec.toNat_ofNat] at h'
  exact Fin.ext (by omega)

end Cert.Cmp
-- ==== Proof.Cmp.Claim.lean ====
/-
  The compressed-attention kernel and its reference leave the same two results over the extended reals.
-/
module

public import proofs.«01_k».proof.Proof.Cmp.Value
public import proofs.«01_k».proof.Proof.Cmp.Ref
public import proofs.«01_k».proof.Proof.Gen.ReferenceIdeal.Run
public import proofs.«01_k».proof.Defs
public import Idealize.ShloMosaic.Lib.Claim

@[expose] public section

set_option maxRecDepth 16384

noncomputable section

namespace Cert.Cmp

open Idealize.ShloMosaic Idealize.ShloMosaic.TcCoe Idealize.SL.Sem

/-- The two attended rows, index by index. -/
theorem rows_eq (m : (ℓ : Loc Cert.KernelIdeal.nD Cert.KernelIdeal.τ Cert.KernelIdeal.sig) → Buf (Elt Ideal) ℓ) (c : Dev Cert.KernelIdeal.nD)
    (a0 : Cert.KernelIdeal.S8192x5120.Idx → EReal) (a1 : Cert.KernelIdeal.S1x2x64x2.Idx → EReal) (a2 : Cert.KernelIdeal.S32x16.Idx → EReal)
    (h0 : a0 = AP m c) (h1 : a1 = AW m c) (h2 : a2 = AB m c) (R : Fin 8192) (e : Fin 1024) :
    Cert.ReferenceIdeal.Read.val_main_v105 (F := Ideal) a0 a1 a2 (ix2 R e) = Cert.KernelIdeal.Value.G4 m c (ix2 R e) := by
  subst h0 h1 h2
  have hR : R.val = 2048 * (R.val / 2048) + R.val % 2048 := by omega
  have he : e.val = 128 * (e.val / 128) + e.val % 128 := by omega
  have h1 : R.val / 2048 < 4 := by omega
  have h2 : R.val % 2048 < 2048 := by omega
  have h3 : e.val / 128 < 8 := by omega
  have h4 : e.val % 128 < 128 := by omega
  rw [ref_att (AP m c) (AW m c) (AB m c) ⟨R.val / 2048, h1⟩ ⟨R.val % 2048, h2⟩ ⟨e.val / 128, h3⟩ ⟨e.val % 128, h4⟩ R e hR he,
    result4_apply m c ⟨R.val / 2048, h1⟩ ⟨R.val % 2048, h2⟩ ⟨e.val / 128, h3⟩ ⟨e.val % 128, h4⟩ R e hR he]

/-- The two choices, index by index. -/
theorem picks_eq (m : (ℓ : Loc Cert.KernelIdeal.nD Cert.KernelIdeal.τ Cert.KernelIdeal.sig) → Buf (Elt Ideal) ℓ) (c : Dev Cert.KernelIdeal.nD)
    (a0 : Cert.KernelIdeal.S8192x5120.Idx → EReal) (a1 : Cert.KernelIdeal.S1x2x64x2.Idx → EReal) (a2 : Cert.KernelIdeal.S32x16.Idx → EReal)
    (h0 : a0 = AP m c) (h1 : a1 = AW m c) (h2 : a2 = AB m c) (e : Fin 64) (R : Fin 8192) :
    Cert.ReferenceIdeal.Read.val_main_v107 (F := Ideal) a0 a1 a2 (ix2 e R) = Cert.KernelIdeal.Value.G5 m c (ix2 e R) := by
  subst h0 h1 h2
  have hR : R.val = 2048 * (R.val / 2048) + R.val % 2048 := by omega
  have he : e.val = 32 * (e.val / 32) + e.val % 32 := by omega
  have h1 : R.val / 2048 < 4 := by omega
  have h2 : R.val % 2048 < 2048 := by omega
  have h3 : e.val / 32 < 2 := by omega
  have h4 : e.val % 32 < 32 := by omega
  rw [ref_pick (AP m c) (AW m c) (AB m c) ⟨R.val / 2048, h1⟩ ⟨R.val % 2048, h2⟩ ⟨e.val / 32, h3⟩ ⟨e.val % 32, h4⟩ R e hR he,
    result5_apply m c ⟨R.val / 2048, h1⟩ ⟨R.val % 2048, h2⟩ ⟨e.val / 32, h3⟩ ⟨e.val % 32, h4⟩ R e hR he]

/-- From the same arguments the kernel's attended rows and its choice of blocks equal the reference's. -/
theorem algebraic : Cert.algebraic_KernelIdeal_ReferenceIdeal := by
  pair_intro
  · run_from (Cert.KernelIdeal.Value.run m g)
  · run_from (Cert.ReferenceIdeal.Value.run m' g')
    · refine (Cert.ReferenceIdeal.Read.val_main_v105_eq _ _).trans ?_
      funext i
      obtain ⟨R, e, rfl⟩ : ∃ (R : Fin 8192) (e : Fin 1024), i = ix2 R e := ⟨i 0, i 1, eq_ix2 i⟩
      exact rows_eq m c _ _ _ (hagree c).1 (hagree c).2.1 (hagree c).2.2 R e
    · refine (Cert.ReferenceIdeal.Read.val_main_v107_eq _ _).trans ?_
      funext i
      obtain ⟨e, R, rfl⟩ : ∃ (e : Fin 64) (R : Fin 8192), i = ix2 e R := ⟨i 0, i 1, eq_ix2 i⟩
      exact picks_eq m c _ _ _ (hagree c).1 (hagree c).2.1 (hagree c).2.2 e R

end Cert.Cmp

end
-- ==== Proof.Proj.Norm.lean ====
/-
  The normalised row, as a function of the row and the gain.
-/
module

public import Idealize.ShloMosaic.Lib.Pointwise

@[expose] public section

noncomputable section

namespace Cert.Proj

open Idealize.ShloMosaic

/-- A row of 2048 numbers over its root mean square, times the gain. -/
def normed (row g : Fin 2048 → EReal) (d : Fin 2048) : EReal :=
  row d * Ideal.rsqrt (Ideal.div (∑ j : Fin 2048, row j * row j) (Ideal.ofBits .f32 0x45000000#32) + Ideal.ofBits .f32 0x358637BD#32) * g d

/-- The zero offsets of a matrix. -/
theorem off2 : (![0, 0] : Fin 2 → Nat) = fun _ => 0 := funext fun a => by fin_cases a <;> rfl

end Cert.Proj

end
-- ==== Proof.Ab.Cases.lean ====
/-
  What one point of the input projection's grid computes: the first column block of a row block normalises the rows into
  the scratch, and every column block writes the product of the scratch with its columns of the weight.
-/
module

public import proofs.«01_k».proof.Proof.Gen.Kernel3Ideal.Value
public import proofs.«01_k».proof.Proof.Proj.Norm
public import Idealize.ShloMosaic.Lib.Pipeline.Value
public import Idealize.ShloMosaic.Lib.Tactic

@[expose] public section

set_option maxRecDepth 16384

noncomputable section

namespace Cert.Ab

open Cert.Kernel3Ideal Cert.Kernel3Ideal.Gen Idealize.ShloMosaic Idealize.ShloMosaic.TcCoe Idealize.SL.Sem Cert.Proj

variable {F : FTy → Type} [FloatOps F]

/-- The first column block leaves the normalised rows in the scratch. -/
theorem first_scratch (c : Dev nD) (i : grid0.Coords) (arg2 : Memref sig .tc .vmem S1024x2048 .f32) (h2 : arg2.IsWhole) (arg3 : Memref sig .tc .vmem S1x2048 .f32) (h3 : arg3.IsWhole) (arg4 : Memref sig .tc .vmem S2048x1024 .bf16) (h4 : arg4.IsWhole) (arg5 : Memref sig .tc .vmem S1024x1024 .f32) (h5 : arg5.IsWhole) (arg6 : Memref sig .tc .vmem S1024x2048 .bf16) (h6 : arg6.IsWhole) (c0 : cond0_0 i)
    (x0 : Vec F S1024x2048 .f32) (x1 : Vec F S1x2048 .f32) (x2 : Vec F S2048x1024 .bf16) :
    sout0_A_0 c i arg2 h2 arg3 h3 arg4 h4 arg5 h5 arg6 h6 c0 x0 x1 x2 = k0_pay1 x0 x1 := by
  unfold sout0_A_0
  rw [View.read_writes_eq_canon _ _ _ (scover0_A_0 c i arg2 h2 arg3 h3 arg4 h4 arg5 h5 arg6 h6 c0 x0 x1 x2)]
  unfold kernelRun0_A
  dsimp only
  sl_unfold_words
  rw [View.canon_unit_zero off2]
  simp only [View.readAt_eq_ld, h2.read_unread, h3.read_unread, h4.read_unread, h5.read_unread, h6.read_unread, View.ld_unit_zero (S := S1024x2048) off2, View.ld_unit_zero (S := S1x2048) off2, View.ld_unit_zero (S := S2048x1024) off2]

/-- The first column block writes the product of the normalised rows. -/
theorem first_out (c : Dev nD) (i : grid0.Coords) (arg2 : Memref sig .tc .vmem S1024x2048 .f32) (h2 : arg2.IsWhole) (arg3 : Memref sig .tc .vmem S1x2048 .f32) (h3 : arg3.IsWhole) (arg4 : Memref sig .tc .vmem S2048x1024 .bf16) (h4 : arg4.IsWhole) (arg5 : Memref sig .tc .vmem S1024x1024 .f32) (h5 : arg5.IsWhole) (arg6 : Memref sig .tc .vmem S1024x2048 .bf16) (h6 : arg6.IsWhole) (c0 : cond0_0 i)
    (x0 : Vec F S1024x2048 .f32) (x1 : Vec F S1x2048 .f32) (x2 : Vec F S2048x1024 .bf16) :
    out0_A_3 c i arg2 h2 arg3 h3 arg4 h4 arg5 h5 arg6 h6 c0 x0 x1 x2 = k0_pay2 (k0_pay1 x0 x1) x2 := by
  unfold out0_A_3
  rw [View.read_writes_eq_canon _ _ _ (cover0_A_3 c i arg2 h2 arg3 h3 arg4 h4 arg5 h5 arg6 h6 c0 x0 x1 x2)]
  unfold kernelRun0_A
  dsimp only
  sl_unfold_words
  rw [View.canon_unit_zero off2, View.readCov_unit_zero (S := S1024x2048) _ off2]
  simp only [View.readAt_eq_ld, h2.read_unread, h3.read_unread, h4.read_unread, h5.read_unread, h6.read_unread, View.ld_unit_zero (S := S1024x2048) off2, View.ld_unit_zero (S := S1x2048) off2, View.ld_unit_zero (S := S2048x1024) off2]

/-- A later column block writes the product of the scratch. -/
theorem later_out (c : Dev nD) (i : grid0.Coords) (arg2 : Memref sig .tc .vmem S1024x2048 .f32) (h2 : arg2.IsWhole) (arg3 : Memref sig .tc .vmem S1x2048 .f32) (h3 : arg3.IsWhole) (arg4 : Memref sig .tc .vmem S2048x1024 .bf16) (h4 : arg4.IsWhole) (arg5 : Memref sig .tc .vmem S1024x1024 .f32) (h5 : arg5.IsWhole) (arg6 : Memref sig .tc .vmem S1024x2048 .bf16) (h6 : arg6.IsWhole) (c0 : ¬cond0_0 i)
    (x0 : Vec F S1024x2048 .f32) (x1 : Vec F S1x2048 .f32) (x2 : Vec F S2048x1024 .bf16) (acc : Vec F S1024x2048 .bf16) :
    out0_B_3 c i arg2 h2 arg3 h3 arg4 h4 arg5 h5 arg6 h6 c0 x0 x1 x2 acc = k0_pay2 acc x2 := by
  unfold out0_B_3
  rw [View.read_writes_eq_canon _ _ _ (cover0_B_3 c i arg2 h2 arg3 h3 arg4 h4 arg5 h5 arg6 h6 c0 x0 x1 x2 acc)]
  unfold kernelRun0_B
  dsimp only
  sl_unfold_words
  rw [View.canon_unit_zero off2]
  simp only [View.readAt_eq_ld, h2.read_unread, h3.read_unread, h4.read_unread, h5.read_unread, h6.read_unread, View.ld_unit_zero (S := S1024x2048) off2, View.ld_unit_zero (S := S1x2048) off2, View.ld_unit_zero (S := S2048x1024) off2]

end Cert.Ab

end
-- ==== Proof.Ab.Pays.lean ====
/-
  The input projection's two computations read at an index: the normalised rows and the product with the weight.
-/
module

public import proofs.«01_k».proof.Proof.Gen.Kernel3Ideal.Value
public import proofs.«01_k».proof.Proof.Proj.Norm

@[expose] public section

set_option maxRecDepth 16384

noncomputable section

namespace Cert.Ab

open Cert.Kernel3Ideal Cert.Kernel3Ideal.Gen Idealize.ShloMosaic Cert.Proj

/-- What goes into the scratch: the normalised rows. -/
theorem norm_apply (x : Vec Ideal S1024x2048 .f32) (g : Vec Ideal S1x2048 .f32) (r : Fin 1024) (d : Fin 2048) :
    k0_pay1 x g (ix2 r d) = normed (fun j => x (ix2 r j)) (fun j => g (ix2 0 j)) d := by
  unfold normed
  pointwise [k0_pay1]

/-- What is written: the product with the weight's columns. -/
theorem prod_apply (h : Vec Ideal S1024x2048 .bf16) (w : Vec Ideal S2048x1024 .bf16) (r e : Fin 1024) :
    k0_pay2 h w (ix2 r e) = ∑ d : Fin 2048, h (ix2 r d) * w (ix2 d e) := by
  pointwise [k0_pay2]

end Cert.Ab

end
-- ==== Proof.Ab.Value.lean ====
/-
  What the input projection's result array holds, element by element, over the extended reals.
-/
module

public import proofs.«01_k».proof.Proof.Ab.Cases
public import proofs.«01_k».proof.Proof.Ab.Pays
public import Idealize.ShloMosaic.Lib.StableHlo.ReadAt

@[expose] public section

set_option maxRecDepth 16384

noncomputable section

namespace Cert.Ab

open Cert.Kernel3Ideal Cert.Kernel3Ideal.Gen Idealize.ShloMosaic Idealize.ShloMosaic.TcCoe Idealize.SL.Sem Cert.Proj

variable (m : (ℓ : Loc nD τ sig) → Buf (Elt Ideal) ℓ)

/-- The rows that enter the layer. -/
abbrev X (c : Dev nD) : S8192x2048.Idx → EReal := m ((c : Thread nD τ).loc main_arg0)
/-- The gains of both layers. -/
abbrev Gains (c : Dev nD) : S2x2048.Idx → EReal := m ((c : Thread nD τ).loc main_arg1)
/-- The weight. -/
abbrev Wt (c : Dev nD) : S1x2048x3072.Idx → EReal := m ((c : Thread nD τ).loc main_arg2)

theorem index0 : ∀ t : Fin cfg0.N, win0_0.index t = ![t.val / 3, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, t.val % 3] := (by decide +kernel : ∀ t : Fin grid0.N, _)

/-- The gain as one row. -/
theorem V_g (c : Dev nD) (d : Fin 2048) : V m c main_v4 (ix2 0 d) = Gains m c (ix2 0 d) := by
  unfold V hostOps0
  after_reads_at
  try rfl
/-- The rounded weight holds the weight. -/
theorem V_w (c : Dev nD) (d : Fin 2048) (e : Fin 3072) : V m c main_v3 (ix2 d e) = Wt m c (ix3 0 d e) := by
  unfold V hostOps0
  after_reads_at
  try rfl

/-- Point `t`'s rows. -/
theorem blk_x (c : Dev nD) (t : Fin cfg0.N) (r : Fin 1024) (d : Fin 2048) (R : Fin 8192) (hR : R.val = 1024 * (t.val / 3) + r.val) :
    (iblk m c 0 t : Vec Ideal S1024x2048 .f32) (ix2 r d) = X m c (ix2 R d) := by
  unfold iblk
  rw [View.read_apply]
  show V m c main_arg0 _ = _
  rw [V_main_arg0]
  congr 1
  funext a
  apply Fin.ext
  match a with
  | ⟨0, _⟩ => show win0_0.index t 0 * 1024 + 1 * r.val = R.val; rw [index0]; simp only [Matrix.cons_val_zero]; omega
  | ⟨1, _⟩ => show win0_0.index t 1 * 2048 + 1 * d.val = d.val; rw [index0]; simp only [Matrix.cons_val_one, Matrix.cons_val_zero]; omega

/-- The gain's block is the whole row. -/
theorem blk_g (c : Dev nD) (t : Fin cfg0.N) (d : Fin 2048) : (iblk m c 1 t : Vec Ideal S1x2048 .f32) (ix2 0 d) = Gains m c (ix2 0 d) := by
  unfold iblk
  rw [View.read_apply]
  show V m c main_v4 _ = _
  rw [← V_g]
  congr 1
  funext a
  apply Fin.ext
  match a with
  | ⟨0, _⟩ => show win0_1.index t 0 * 1 + 1 * 0 = 0; rw [index1]; rfl
  | ⟨1, _⟩ => show win0_1.index t 1 * 2048 + 1 * d.val = d.val; rw [index1]; show 0 * 2048 + 1 * d.val = d.val; omega

/-- Point `t`'s columns of the weight. -/
theorem blk_w (c : Dev nD) (t : Fin cfg0.N) (d : Fin 2048) (e : Fin 1024) (E : Fin 3072) (hE : E.val = 1024 * (t.val % 3) + e.val) :
    (iblk m c 2 t : Vec Ideal S2048x1024 .bf16) (ix2 d e) = Wt m c (ix3 0 d E) := by
  unfold iblk
  rw [View.read_apply]
  show V m c main_v3 _ = _
  rw [← V_w]
  congr 1
  funext a
  apply Fin.ext
  match a with
  | ⟨0, _⟩ => show win0_2.index t 0 * 2048 + 1 * d.val = d.val; rw [index2]; show 0 * 2048 + 1 * d.val = d.val; omega
  | ⟨1, _⟩ => show win0_2.index t 1 * 1024 + 1 * e.val = E.val; rw [index2]; show t.val % 3 * 1024 + 1 * e.val = E.val; omega

/-- The normalised row `R` at `d`. -/
def hrow (x : S8192x2048.Idx → EReal) (g : S2x2048.Idx → EReal) (R : Fin 8192) (d : Fin 2048) : EReal :=
  normed (fun j => x (ix2 R j)) (fun j => g (ix2 0 j)) d

/-- The projection of row `R` at column `E`. -/
def out (x : S8192x2048.Idx → EReal) (g : S2x2048.Idx → EReal) (w : S1x2048x3072.Idx → EReal) (R : Fin 8192) (E : Fin 3072) : EReal :=
  ∑ d : Fin 2048, hrow x g R d * w (ix3 0 d E)

/-- The normalised block, its inputs known. -/
theorem pay1_eq (X : S8192x2048.Idx → EReal) (G : S2x2048.Idx → EReal) (x : Vec Ideal S1024x2048 .f32) (g : Vec Ideal S1x2048 .f32)
    (r : Fin 1024) (R : Fin 8192) (hx : ∀ d : Fin 2048, x (ix2 r d) = X (ix2 R d)) (hg : ∀ d : Fin 2048, g (ix2 0 d) = G (ix2 0 d)) (d : Fin 2048) :
    k0_pay1 x g (ix2 r d) = hrow X G R d := by
  refine (norm_apply x g r d).trans ?_
  unfold hrow
  rw [funext hx, funext hg]

/-- The scratch after every point holds the normalised rows of the point's row block. -/
theorem scratch_apply (c : Dev nD) (q : ℕ) (r : Fin 1024) (R : Fin 8192) (hR : R.val = 1024 * q + r.val) (d : Fin 2048) :
    ∀ (j : ℕ) (_ : j < 3) (h : 3 * q + j < cfg0.N), (outsAt0 m c (3 * q + j) h).2 (ix2 r d) = hrow (X m c) (Gains m c) R d := by
  intro j
  induction j with
  | zero =>
    intro _ h
    rw [outsAt0_A m c ⟨3 * q + 0, h⟩ (by show (3 * q + 0) % 3 = 0; omega)]
    dsimp only
    rw [first_scratch]
    exact pay1_eq (X m c) (Gains m c) _ _ r R (fun d => blk_x m c _ r d R (by show R.val = 1024 * ((3 * q + 0) / 3) + r.val; omega)) (fun d => blk_g m c _ d) d
  | succ j ih =>
    intro hj h
    rw [outsAt0_B m c ⟨3 * q + (j + 1), h⟩ (by show ¬(3 * q + (j + 1)) % 3 = 0; omega)]
    dsimp only
    unfold sout0_B_0
    exact ih (by omega) (by omega)

/-- A product block, its inputs known. -/
theorem pay2_eq (H : Fin 2048 → EReal) (W : S1x2048x3072.Idx → EReal) (h : Vec Ideal S1024x2048 .bf16) (w : Vec Ideal S2048x1024 .bf16)
    (r e : Fin 1024) (E : Fin 3072) (hh : ∀ d : Fin 2048, h (ix2 r d) = H d) (hw : ∀ d : Fin 2048, w (ix2 d e) = W (ix3 0 d E)) :
    k0_pay2 h w (ix2 r e) = ∑ d : Fin 2048, H d * W (ix3 0 d E) := by
  refine (prod_apply h w r e).trans (Finset.sum_congr rfl fun d _ => ?_)
  rw [hh, hw]

/-- What each point writes. -/
theorem point_apply (c : Dev nD) (q j : ℕ) (hj : j < 3) (h : 3 * q + j < cfg0.N) (r e : Fin 1024) (R : Fin 8192) (hR : R.val = 1024 * q + r.val)
    (E : Fin 3072) (hE : E.val = 1024 * j + e.val) : (outsAt0 m c (3 * q + j) h).1 (ix2 r e) = out (X m c) (Gains m c) (Wt m c) R E := by
  unfold out
  rcases j with _ | j
  · rw [outsAt0_A m c ⟨3 * q + 0, h⟩ (by show (3 * q + 0) % 3 = 0; omega)]
    dsimp only
    rw [first_out]
    refine pay2_eq (hrow (X m c) (Gains m c) R) (Wt m c) _ _ r e E (fun d => ?_) (fun d => blk_w m c _ d e E (by show E.val = 1024 * ((3 * q + 0) % 3) + e.val; omega))
    exact pay1_eq (X m c) (Gains m c) _ _ r R (fun d => blk_x m c _ r d R (by show R.val = 1024 * ((3 * q + 0) / 3) + r.val; omega)) (fun d => blk_g m c _ d) d
  · rw [outsAt0_B m c ⟨3 * q + (j + 1), h⟩ (by show ¬(3 * q + (j + 1)) % 3 = 0; omega)]
    dsimp only
    rw [later_out]
    exact pay2_eq (hrow (X m c) (Gains m c) R) (Wt m c) _ _ r e E (fun d => scratch_apply m c q r R hR d j (by omega) (by omega))
      (fun d => blk_w m c _ d e E (by show E.val = 1024 * ((3 * q + (j + 1)) % 3) + e.val; omega))

/-- The contents after a point depend only on its number. -/
theorem outs_congr (c : Dev nD) {n n' : ℕ} (e : n = n') (h : n < cfg0.N) (h' : n' < cfg0.N) : outsAt0 m c n h = outsAt0 m c n' h' := by
  subst e; rfl

/-- The result array, element by element. -/
theorem result_apply (c : Dev nD) (R : Fin 8192) (E : Fin 3072) :
    Cert.Kernel3Ideal.Value.G3 m c (ix2 R E) = out (X m c) (Gains m c) (Wt m c) R E := by
  have hR := R.isLt
  have hE := E.isLt
  obtain ⟨q, r, hq, hr⟩ : ∃ (q : ℕ) (r : Fin 1024), q < 8 ∧ R.val = 1024 * q + r.val :=
    ⟨R.val / 1024, ⟨R.val % 1024, by omega⟩, by omega, by show R.val = 1024 * (R.val / 1024) + R.val % 1024; omega⟩
  obtain ⟨j, e, hj, he⟩ : ∃ (j : ℕ) (e : Fin 1024), j < 3 ∧ E.val = 1024 * j + e.val :=
    ⟨E.val / 1024, ⟨E.val % 1024, by omega⟩, by omega, by show E.val = 1024 * (E.val / 1024) + E.val % 1024; omega⟩
  have hrl := r.isLt
  have hel := e.isLt
  have hN : cfg0.N = 24 := N_0
  have hpt : Cert.Kernel3Ideal.Value.pt3Of (ix2 R E) = 3 * q + j := by
    show 3 * (R.val / 1024 - 0) + 1 * (E.val / 1024 - 0) = _
    omega
  have hloc : Cert.Kernel3Ideal.Value.loc3Of (ix2 R E) = ix2 r e := by
    funext a
    apply Fin.ext
    match a with
    | ⟨0, _⟩ => show R.val % 1024 = r.val; omega
    | ⟨1, _⟩ => show E.val % 1024 = e.val; omega
  have hlt : 3 * q + j < cfg0.N := by omega
  have hlt' : Cert.Kernel3Ideal.Value.pt3Of (ix2 R E) < cfg0.N := by rw [hpt]; exact hlt
  unfold Cert.Kernel3Ideal.Value.G3
  rw [dif_pos hlt', hloc]
  rw [← Cert.Kernel3Ideal.Value.outsAt0_sweep m c _ hlt']
  exact (congrArg (fun z => z.1 (ix2 r e)) (outs_congr m c hpt hlt' hlt)).trans (point_apply m c q j hj hlt r e R hr E he)

end Cert.Ab

end
-- ==== Proof.Ab.Ref.lean ====
/-
  The input projection's reference read at an index: it is the closed form the kernel's result was brought to.
-/
module

public import proofs.«01_k».proof.Proof.Ab.Value
public import proofs.«01_k».proof.Proof.Gen.Reference3Ideal.Read

@[expose] public section

set_option maxRecDepth 16384

noncomputable section

namespace Cert.Ab

open Cert.Reference3Ideal Cert.Reference3Ideal.Gen Cert.Reference3Ideal.Read Idealize.ShloMosaic Cert.Proj

/-- The reference's normalised row. -/
theorem ref_row (x : FVec Ideal S8192x2048 .f32) (g : FVec Ideal S2x2048 .f32) (R : Fin 8192) (d : Fin 2048) :
    val_main_v14 (F := Ideal) x g (ix2 R d) = hrow x g R d := by
  unfold hrow normed
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The reference's result. -/
theorem ref_out (x : FVec Ideal S8192x2048 .f32) (g : FVec Ideal S2x2048 .f32) (w : FVec Ideal S1x2048x3072 .f32) (R : Fin 8192) (E : Fin 3072) :
    val_main_v16 (F := Ideal) x g w (ix2 R E) = out x g w R E := by
  unfold out
  pointwise [val_main_v16, val_main_v15, ref_row]

end Cert.Ab

end
-- ==== Proof.Ab.Claim.lean ====
/-
  The input projection and its reference leave the same result over the extended reals.
-/
module

public import proofs.«01_k».proof.Proof.Ab.Ref
public import proofs.«01_k».proof.Proof.Gen.Reference3Ideal.Run
public import proofs.«01_k».proof.Defs
public import Idealize.ShloMosaic.Lib.Claim

@[expose] public section

set_option maxRecDepth 16384

noncomputable section

namespace Cert.Ab

open Idealize.ShloMosaic Idealize.ShloMosaic.TcCoe Idealize.SL.Sem

/-- From the same arguments the kernel's result array equals the reference's. -/
theorem algebraic : Cert.algebraic_Kernel3Ideal_Reference3Ideal := by
  pair_intro
  · run_from (Cert.Kernel3Ideal.Value.run m g)
  · run_from (Cert.Reference3Ideal.Value.run m' g')
    refine (Cert.Reference3Ideal.Read.val_main_v16_eq (F := Ideal) _ _ _).trans ?_
    funext i
    obtain ⟨R, E, rfl⟩ : ∃ (R : Fin 8192) (E : Fin 3072), i = ix2 R E := ⟨i 0, i 1, eq_ix2 i⟩
    exact (ref_out _ _ _ R E).trans (result_apply m c R E).symm

end Cert.Ab

end
-- ==== Proof.AbOut.Value.lean ====
/-
  What the first layer's output projection leaves in its two result arrays, element by element, over the extended reals:
  the new residual stream and its normalised rows.
-/
module

public import proofs.«01_k».proof.Proof.Gen.Kernel4Ideal.Value
public import proofs.«01_k».proof.Proof.Proj.Norm
public import Idealize.ShloMosaic.Lib.Pipeline.Value
public import Idealize.ShloMosaic.Lib.StableHlo.ReadAt

@[expose] public section

set_option maxRecDepth 16384

noncomputable section

namespace Cert.AbOut

open Cert.Kernel4Ideal Cert.Kernel4Ideal.Gen Idealize.ShloMosaic Idealize.ShloMosaic.TcCoe Idealize.SL.Sem Cert.Proj

variable (m : (ℓ : Loc nD τ sig) → Buf (Elt Ideal) ℓ)

/-- The mixer's rows. -/
abbrev A (c : Dev nD) : S8192x2048.Idx → EReal := m ((c : Thread nD τ).loc main_arg0)
/-- The weight. -/
abbrev Wt (c : Dev nD) : S1x2048x2048.Idx → EReal := m ((c : Thread nD τ).loc main_arg1)
/-- The residual stream. -/
abbrev X (c : Dev nD) : S8192x2048.Idx → EReal := m ((c : Thread nD τ).loc main_arg2)
/-- The gains of both layers. -/
abbrev Gains (c : Dev nD) : S2x2048.Idx → EReal := m ((c : Thread nD τ).loc main_arg3)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

/-- The rounded weight holds the weight. -/
theorem V_w0 (c : Dev nD) (d : Fin 2048) (e : Fin 2048) : V m c main_v1 (ix2 d e) = Wt m c (ix3 0 d e) := by
  unfold V hostOps0
  after_reads_at
  try rfl
/-- The gain as one row. -/
theorem V_g (c : Dev nD) (e : Fin 2048) : V m c main_v4 (ix2 0 e) = Gains m c (ix2 0 e) := by
  unfold V hostOps0
  after_reads_at
  try rfl

/-- Point `t`'s rows of the mixer's output. -/
theorem blk_a0 (c : Dev nD) (t : Fin cfg0.N) (r : Fin 512) (d : Fin 2048) (R : Fin 8192) (hR : R.val = 512 * t.val + r.val) :
    (iblk m c 0 t : Vec Ideal S512x2048 .bf16) (ix2 r d) = A m c (ix2 R d) := by
  unfold iblk
  rw [View.read_apply]
  show V m c main_arg0 _ = _
  rw [V_main_arg0]
  congr 1
  funext a
  apply Fin.ext
  match a with
  | ⟨0, _⟩ => show win0_0.index t 0 * 512 + 1 * r.val = R.val; rw [index0]; simp only [Matrix.cons_val_zero]; omega
  | ⟨1, _⟩ => show win0_0.index t 1 * 2048 + 1 * d.val = d.val; rw [index0]; simp only [Matrix.cons_val_one, Matrix.cons_val_zero]; omega

/-- The weight's block is the whole of it. -/
theorem blk_w0 (c : Dev nD) (t : Fin cfg0.N) (d : Fin 2048) (e : Fin 2048) :
    (iblk m c 1 t : Vec Ideal S2048x2048 .bf16) (ix2 d e) = Wt m c (ix3 0 d e) := by
  unfold iblk
  rw [View.read_apply]
  show V m c main_v1 _ = _
  rw [← V_w0]
  congr 1
  funext a
  apply Fin.ext
  match a with
  | ⟨0, _⟩ => show win0_1.index t 0 * 2048 + 1 * d.val = d.val; rw [index1]; simp only [Matrix.cons_val_zero]; omega
  | ⟨1, _⟩ => show win0_1.index t 1 * 2048 + 1 * e.val = e.val; rw [index1]; simp only [Matrix.cons_val_one, Matrix.cons_val_zero]; omega

/-- Point `t`'s rows of the residual. -/
theorem blk_x (c : Dev nD) (t : Fin cfg0.N) (r : Fin 512) (e : Fin 2048) (R : Fin 8192) (hR : R.val = 512 * t.val + r.val) :
    (iblk m c 2 t : Vec Ideal S512x2048 .f32) (ix2 r e) = X m c (ix2 R e) := by
  unfold iblk
  rw [View.read_apply]
  show V m c main_arg2 _ = _
  rw [V_main_arg2]
  congr 1
  funext a
  apply Fin.ext
  match a with
  | ⟨0, _⟩ => show win0_2.index t 0 * 512 + 1 * r.val = R.val; rw [index2]; simp only [Matrix.cons_val_zero]; omega
  | ⟨1, _⟩ => show win0_2.index t 1 * 2048 + 1 * e.val = e.val; rw [index2]; simp only [Matrix.cons_val_one, Matrix.cons_val_zero]; omega

/-- The gain's block is the whole row. -/
theorem blk_g (c : Dev nD) (t : Fin cfg0.N) (e : Fin 2048) :
    (iblk m c 3 t : Vec Ideal S1x2048 .f32) (ix2 0 e) = Gains m c (ix2 0 e) := by
  unfold iblk
  rw [View.read_apply]
  show V m c main_v4 _ = _
  rw [← V_g]
  congr 1
  funext a
  apply Fin.ext
  match a with
  | ⟨0, _⟩ => show win0_3.index t 0 * 1 + 1 * 0 = 0; rw [index3]; rfl
  | ⟨1, _⟩ => show win0_3.index t 1 * 2048 + 1 * e.val = e.val; rw [index3]; simp only [Matrix.cons_val_one, Matrix.cons_val_zero]; omega

/-- The new residual stream: the old one plus the mixer's rows times the weight. -/
def res (a : S8192x2048.Idx → EReal) (w : S1x2048x2048.Idx → EReal) (x : S8192x2048.Idx → EReal) (R : Fin 8192) (e : Fin 2048) : EReal :=
  x (ix2 R e) + ∑ d : Fin 2048, a (ix2 R d) * w (ix3 0 d e)

/-- Its normalised rows. -/
def nrm (a : S8192x2048.Idx → EReal) (w : S1x2048x2048.Idx → EReal) (x : S8192x2048.Idx → EReal) (g : S2x2048.Idx → EReal) (R : Fin 8192) (e : Fin 2048) : EReal :=
  normed (fun j => res a w x R j) (fun j => g (ix2 0 j)) e

/-- A block's sum. -/
theorem sum_apply (x : Vec Ideal S512x2048 .f32) (a : Vec Ideal S512x2048 .bf16) (w0 : Vec Ideal S2048x2048 .bf16) (r : Fin 512) (e : Fin 2048) :
    k0_pay1 x a w0 (ix2 r e) = x (ix2 r e) + ∑ d : Fin 2048, a (ix2 r d) * w0 (ix2 d e) := by
  pointwise [k0_pay1]

/-- A block's normalised sum. -/
theorem norm_apply (x : Vec Ideal S512x2048 .f32) (a : Vec Ideal S512x2048 .bf16) (w0 : Vec Ideal S2048x2048 .bf16) (g : Vec Ideal S1x2048 .f32) (r : Fin 512) (e : Fin 2048) :
    k0_pay2 x a w0 g (ix2 r e) = normed (fun j => k0_pay1 x a w0 (ix2 r j)) (fun j => g (ix2 0 j)) e := by
  unfold normed
  pointwise [k0_pay2]

/-- A block's sum, its inputs known. -/
theorem sum_eq (A : S8192x2048.Idx → EReal) (W : S1x2048x2048.Idx → EReal) (X : S8192x2048.Idx → EReal) (x : Vec Ideal S512x2048 .f32) (a : Vec Ideal S512x2048 .bf16) (w0 : Vec Ideal S2048x2048 .bf16) (r : Fin 512) (R : Fin 8192)
    (hx : ∀ e : Fin 2048, x (ix2 r e) = X (ix2 R e)) (ha : ∀ d : Fin 2048, a (ix2 r d) = A (ix2 R d))
    (h0 : ∀ (d : Fin 2048) (e : Fin 2048), w0 (ix2 d e) = W (ix3 0 d e)) (e : Fin 2048) :
    k0_pay1 x a w0 (ix2 r e) = res A W X R e := by
  refine (sum_apply x a w0 r e).trans ?_
  unfold res
  simp only [hx, ha, h0]

/-- A block's normalised sum, its inputs known. -/
theorem norm_eq (A : S8192x2048.Idx → EReal) (W : S1x2048x2048.Idx → EReal) (X : S8192x2048.Idx → EReal) (G : S2x2048.Idx → EReal) (x : Vec Ideal S512x2048 .f32) (a : Vec Ideal S512x2048 .bf16) (w0 : Vec Ideal S2048x2048 .bf16) (g : Vec Ideal S1x2048 .f32) (r : Fin 512) (R : Fin 8192)
    (hx : ∀ e : Fin 2048, x (ix2 r e) = X (ix2 R e)) (ha : ∀ d : Fin 2048, a (ix2 r d) = A (ix2 R d))
    (h0 : ∀ (d : Fin 2048) (e : Fin 2048), w0 (ix2 d e) = W (ix3 0 d e)) (hg : ∀ e : Fin 2048, g (ix2 0 e) = G (ix2 0 e)) (e : Fin 2048) :
    k0_pay2 x a w0 g (ix2 r e) = nrm A W X G R e := by
  refine (norm_apply x a w0 g r e).trans ?_
  unfold nrm
  rw [funext (sum_eq A W X x a w0 r R hx ha h0), funext hg]

/-- What a point leaves in the first output. -/
theorem out_sum (x0 : Vec Ideal S512x2048 .bf16) (x1 : Vec Ideal S2048x2048 .bf16) (x2 : Vec Ideal S512x2048 .f32) (x3 : Vec Ideal S1x2048 .f32) : out0_4 x0 x1 x2 x3 = k0_pay1 x2 x0 x1 := by
  unfold out0_4 r0_0 r0_1
  rw [View.canon_unit_zero off2]
  simp only [View.ld_unit_zero (S := S512x2048) off2, View.ld_unit_zero (S := S2048x2048) off2]

/-- What a point leaves in the second output. -/
theorem out_norm (x0 : Vec Ideal S512x2048 .bf16) (x1 : Vec Ideal S2048x2048 .bf16) (x2 : Vec Ideal S512x2048 .f32) (x3 : Vec Ideal S1x2048 .f32) : out0_5 x0 x1 x2 x3 = k0_pay2 x2 x0 x1 x3 := by
  unfold out0_5 r0_0 r0_1 r0_2
  rw [View.canon_unit_zero off2]
  simp only [View.ld_unit_zero (S := S512x2048) off2, View.ld_unit_zero (S := S1x2048) off2, View.ld_unit_zero (S := S2048x2048) off2]

/-- The point that holds a row writes it back. -/
theorem flush4 : ∀ t : Fin cfg0.N, (cfg0.win 4).flush t = true := (by decide +kernel : ∀ t : Fin grid0.N, win0_4.flush t = true)

/-- The new residual stream, element by element. -/
theorem result_sum (c : Dev nD) (R : Fin 8192) (e : Fin 2048) :
    ((dats m 0 c).arrAt 4 cfg0.N : S8192x2048.Idx → EReal) (ix2 R e) = res (A m c) (Wt m c) (X m c) R e := by
  have hRl := R.isLt
  have hN : cfg0.N = 16 := N_0
  obtain ⟨t, r, hR⟩ : ∃ (t : Fin cfg0.N) (r : Fin 512), R.val = 512 * t.val + r.val :=
    ⟨⟨R.val / 512, by omega⟩, ⟨R.val % 512, by omega⟩, by show R.val = 512 * (R.val / 512) + R.val % 512; omega⟩
  have hb := congrFun (Cert.Kernel4Ideal.Value.blocks4 m c t (flush4 t)) (ix2 r e)
  rw [View.read_apply] at hb
  have he : ((cfg0.win 4).blk t).view.emb (ix2 r e) = ix2 R e := by
    funext a
    apply Fin.ext
    match a with
    | ⟨0, _⟩ => show win0_4.index t 0 * 512 + 1 * r.val = R.val; rw [index4]; simp only [Matrix.cons_val_zero]; omega
    | ⟨1, _⟩ => show win0_4.index t 1 * 2048 + 1 * e.val = e.val; rw [index4]; simp only [Matrix.cons_val_one, Matrix.cons_val_zero]; omega
  rw [he] at hb
  refine hb.trans ?_
  rw [Cert.Kernel4Ideal.Value.flushed4 m c t, out_sum]
  exact sum_eq (A m c) (Wt m c) (X m c) _ _ _ r R (fun e => blk_x m c t r e R hR) (fun d => blk_a0 m c t r d R hR) (fun d e => blk_w0 m c t d e) e

/-- The point that holds a row writes it back. -/
theorem flush5 : ∀ t : Fin cfg0.N, (cfg0.win 5).flush t = true := (by decide +kernel : ∀ t : Fin grid0.N, win0_5.flush t = true)

/-- The normalised rows, element by element. -/
theorem result_norm (c : Dev nD) (R : Fin 8192) (e : Fin 2048) :
    ((dats m 0 c).arrAt 5 cfg0.N : S8192x2048.Idx → EReal) (ix2 R e) = nrm (A m c) (Wt m c) (X m c) (Gains m c) R e := by
  have hRl := R.isLt
  have hN : cfg0.N = 16 := N_0
  obtain ⟨t, r, hR⟩ : ∃ (t : Fin cfg0.N) (r : Fin 512), R.val = 512 * t.val + r.val :=
    ⟨⟨R.val / 512, by omega⟩, ⟨R.val % 512, by omega⟩, by show R.val = 512 * (R.val / 512) + R.val % 512; omega⟩
  have hb := congrFun (Cert.Kernel4Ideal.Value.blocks5 m c t (flush5 t)) (ix2 r e)
  rw [View.read_apply] at hb
  have he : ((cfg0.win 5).blk t).view.emb (ix2 r e) = ix2 R e := by
    funext a
    apply Fin.ext
    match a with
    | ⟨0, _⟩ => show win0_5.index t 0 * 512 + 1 * r.val = R.val; rw [index5]; simp only [Matrix.cons_val_zero]; omega
    | ⟨1, _⟩ => show win0_5.index t 1 * 2048 + 1 * e.val = e.val; rw [index5]; simp only [Matrix.cons_val_one, Matrix.cons_val_zero]; omega
  rw [he] at hb
  refine hb.trans ?_
  rw [Cert.Kernel4Ideal.Value.flushed5 m c t, out_norm]
  exact norm_eq (A m c) (Wt m c) (X m c) (Gains m c) _ _ _ _ r R (fun e => blk_x m c t r e R hR) (fun d => blk_a0 m c t r d R hR) (fun d e => blk_w0 m c t d e) (fun e => blk_g m c t e) e

end Cert.AbOut

end
-- ==== Proof.AbOut.Ref.lean ====
/-
  The first layer's output projection: its reference read at an index, for both results.
-/
module

public import proofs.«01_k».proof.Proof.AbOut.Value
public import proofs.«01_k».proof.Proof.Gen.Reference4Ideal.Read

@[expose] public section

set_option maxRecDepth 16384

noncomputable section

namespace Cert.AbOut

open Cert.Reference4Ideal Cert.Reference4Ideal.Gen Cert.Reference4Ideal.Read Idealize.ShloMosaic Cert.Proj

/-- The reference's new residual stream. -/
theorem ref_res (a : FVec Ideal S8192x2048 .bf16) (w : FVec Ideal S1x2048x2048 .f32) (x : FVec Ideal S8192x2048 .f32) (R : Fin 8192) (E : Fin 2048) :
    val_main_v3 (F := Ideal) a w x (ix2 R E) = res a w x R E := by
  unfold res
  pointwise [val_main_v3, val_main_v2, val_main_v1, val_main_v0]

/-- The reference's normalised rows. -/
theorem ref_nrm (a : FVec Ideal S8192x2048 .bf16) (w : FVec Ideal S1x2048x2048 .f32) (x : FVec Ideal S8192x2048 .f32) (g : FVec Ideal S2x2048 .f32) (R : Fin 8192) (E : Fin 2048) :
    val_main_v19 (F := Ideal) a w x g (ix2 R E) = nrm a w x g R E := by
  unfold nrm normed
  pointwise [val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, ref_res]

end Cert.AbOut

end
-- ==== Proof.AbOut.Claim.lean ====
/-
  The first layer's output projection and its reference leave the same two results over the extended reals.
-/
module

public import proofs.«01_k».proof.Proof.AbOut.Ref
public import proofs.«01_k».proof.Proof.Gen.Reference4Ideal.Run
public import proofs.«01_k».proof.Defs
public import Idealize.ShloMosaic.Lib.Claim

@[expose] public section

set_option maxRecDepth 16384

noncomputable section

namespace Cert.AbOut

open Idealize.ShloMosaic Idealize.ShloMosaic.TcCoe Idealize.SL.Sem

/-- From the same arguments the kernel's two result arrays equal the reference's. -/
theorem algebraic : Cert.algebraic_Kernel4Ideal_Reference4Ideal := by
  pair_intro
  · run_from (Cert.Kernel4Ideal.Value.run_blocks m g)
  · run_from (Cert.Reference4Ideal.Value.run m' g')
    · refine (Cert.Reference4Ideal.Read.val_main_v3_eq (F := Ideal) _ _ _).trans ?_
      funext i
      obtain ⟨R, E, rfl⟩ : ∃ (R : Fin 8192) (E : Fin 2048), i = ix2 R E := ⟨i 0, i 1, eq_ix2 i⟩
      exact (ref_res _ _ _ R E).trans (result_sum m c R E).symm
    · refine (Cert.Reference4Ideal.Read.val_main_v19_eq (F := Ideal) _ _ _ _).trans ?_
      funext i
      obtain ⟨R, E, rfl⟩ : ∃ (R : Fin 8192) (E : Fin 2048), i = ix2 R E := ⟨i 0, i 1, eq_ix2 i⟩
      exact (ref_nrm _ _ _ _ R E).trans (result_norm m c R E).symm

end Cert.AbOut

end
-- ==== Proof.CdOut.Value.lean ====
/-
  What the second layer's output projection leaves in its two result arrays, element by element, over the extended reals:
  the new residual stream and its normalised rows.
-/
module

public import proofs.«01_k».proof.Proof.Gen.Kernel5Ideal.Value
public import proofs.«01_k».proof.Proof.Proj.Norm
public import Idealize.ShloMosaic.Lib.Pipeline.Value
public import Idealize.ShloMosaic.Lib.StableHlo.ReadAt

@[expose] public section

set_option maxRecDepth 16384

noncomputable section

namespace Cert.CdOut

open Cert.Kernel5Ideal Cert.Kernel5Ideal.Gen Idealize.ShloMosaic Idealize.ShloMosaic.TcCoe Idealize.SL.Sem Cert.Proj

variable (m : (ℓ : Loc nD τ sig) → Buf (Elt Ideal) ℓ)

/-- The mixer's rows, the first half. -/
abbrev A (c : Dev nD) : S8192x1024.Idx → EReal := m ((c : Thread nD τ).loc main_arg0)
/-- The mixer's rows, the second half. -/
abbrev B (c : Dev nD) : S8192x1024.Idx → EReal := m ((c : Thread nD τ).loc main_arg1)
/-- The weight. -/
abbrev Wt (c : Dev nD) : S1x2048x2048.Idx → EReal := m ((c : Thread nD τ).loc main_arg2)
/-- The residual stream. -/
abbrev X (c : Dev nD) : S8192x2048.Idx → EReal := m ((c : Thread nD τ).loc main_arg3)
/-- The gains of both layers. -/
abbrev Gains (c : Dev nD) : S2x2048.Idx → EReal := m ((c : Thread nD τ).loc main_arg4)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

/-- The first half of the rounded weight holds that half of the weight. -/
theorem V_w0 (c : Dev nD) (d : Fin 1024) (e : Fin 2048) : V m c main_v2 (ix2 d e) = Wt m c (ix3 0 ⟨d.val, by omega⟩ e) := by
  unfold V hostOps0
  after_reads_at
  try rfl
/-- The second half of the rounded weight holds that half of the weight. -/
theorem V_w1 (c : Dev nD) (d : Fin 1024) (e : Fin 2048) : V m c main_v3 (ix2 d e) = Wt m c (ix3 0 ⟨1024 + d.val, by omega⟩ e) := by
  unfold V hostOps0
  after_reads_at
  try rfl
/-- The gain as one row. -/
theorem V_g (c : Dev nD) (e : Fin 2048) : V m c main_v6 (ix2 0 e) = Gains m c (ix2 1 e) := by
  unfold V hostOps0
  after_reads_at
  try rfl

/-- Point `t`'s rows of the mixer's output. -/
theorem blk_a0 (c : Dev nD) (t : Fin cfg0.N) (r : Fin 512) (d : Fin 1024) (R : Fin 8192) (hR : R.val = 512 * t.val + r.val) :
    (iblk m c 0 t : Vec Ideal S512x1024 .bf16) (ix2 r d) = A m c (ix2 R d) := by
  unfold iblk
  rw [View.read_apply]
  show V m c main_arg0 _ = _
  rw [V_main_arg0]
  congr 1
  funext a
  apply Fin.ext
  match a with
  | ⟨0, _⟩ => show win0_0.index t 0 * 512 + 1 * r.val = R.val; rw [index0]; simp only [Matrix.cons_val_zero]; omega
  | ⟨1, _⟩ => show win0_0.index t 1 * 1024 + 1 * d.val = d.val; rw [index0]; simp only [Matrix.cons_val_one, Matrix.cons_val_zero]; omega

/-- Point `t`'s rows of the mixer's output. -/
theorem blk_a1 (c : Dev nD) (t : Fin cfg0.N) (r : Fin 512) (d : Fin 1024) (R : Fin 8192) (hR : R.val = 512 * t.val + r.val) :
    (iblk m c 1 t : Vec Ideal S512x1024 .bf16) (ix2 r d) = B m c (ix2 R d) := by
  unfold iblk
  rw [View.read_apply]
  show V m c main_arg1 _ = _
  rw [V_main_arg1]
  congr 1
  funext a
  apply Fin.ext
  match a with
  | ⟨0, _⟩ => show win0_1.index t 0 * 512 + 1 * r.val = R.val; rw [index1]; simp only [Matrix.cons_val_zero]; omega
  | ⟨1, _⟩ => show win0_1.index t 1 * 1024 + 1 * d.val = d.val; rw [index1]; simp only [Matrix.cons_val_one, Matrix.cons_val_zero]; omega

/-- The weight's block is the whole of it. -/
theorem blk_w0 (c : Dev nD) (t : Fin cfg0.N) (d : Fin 1024) (e : Fin 2048) :
    (iblk m c 2 t : Vec Ideal S1024x2048 .bf16) (ix2 d e) = Wt m c (ix3 0 ⟨d.val, by omega⟩ e) := by
  unfold iblk
  rw [View.read_apply]
  show V m c main_v2 _ = _
  rw [← V_w0]
  congr 1
  funext a
  apply Fin.ext
  match a with
  | ⟨0, _⟩ => show win0_2.index t 0 * 1024 + 1 * d.val = d.val; rw [index2]; simp only [Matrix.cons_val_zero]; omega
  | ⟨1, _⟩ => show win0_2.index t 1 * 2048 + 1 * e.val = e.val; rw [index2]; simp only [Matrix.cons_val_one, Matrix.cons_val_zero]; omega

/-- The weight's block is the whole of it. -/
theorem blk_w1 (c : Dev nD) (t : Fin cfg0.N) (d : Fin 1024) (e : Fin 2048) :
    (iblk m c 3 t : Vec Ideal S1024x2048 .bf16) (ix2 d e) = Wt m c (ix3 0 ⟨1024 + d.val, by omega⟩ e) := by
  unfold iblk
  rw [View.read_apply]
  show V m c main_v3 _ = _
  rw [← V_w1]
  congr 1
  funext a
  apply Fin.ext
  match a with
  | ⟨0, _⟩ => show win0_3.index t 0 * 1024 + 1 * d.val = d.val; rw [index3]; simp only [Matrix.cons_val_zero]; omega
  | ⟨1, _⟩ => show win0_3.index t 1 * 2048 + 1 * e.val = e.val; rw [index3]; simp only [Matrix.cons_val_one, Matrix.cons_val_zero]; omega

/-- Point `t`'s rows of the residual. -/
theorem blk_x (c : Dev nD) (t : Fin cfg0.N) (r : Fin 512) (e : Fin 2048) (R : Fin 8192) (hR : R.val = 512 * t.val + r.val) :
    (iblk m c 4 t : Vec Ideal S512x2048 .f32) (ix2 r e) = X m c (ix2 R e) := by
  unfold iblk
  rw [View.read_apply]
  show V m c main_arg3 _ = _
  rw [V_main_arg3]
  congr 1
  funext a
  apply Fin.ext
  match a with
  | ⟨0, _⟩ => show win0_4.index t 0 * 512 + 1 * r.val = R.val; rw [index4]; simp only [Matrix.cons_val_zero]; omega
  | ⟨1, _⟩ => show win0_4.index t 1 * 2048 + 1 * e.val = e.val; rw [index4]; simp only [Matrix.cons_val_one, Matrix.cons_val_zero]; omega

/-- The gain's block is the whole row. -/
theorem blk_g (c : Dev nD) (t : Fin cfg0.N) (e : Fin 2048) :
    (iblk m c 5 t : Vec Ideal S1x2048 .f32) (ix2 0 e) = Gains m c (ix2 1 e) := by
  unfold iblk
  rw [View.read_apply]
  show V m c main_v6 _ = _
  rw [← V_g]
  congr 1
  funext a
  apply Fin.ext
  match a with
  | ⟨0, _⟩ => show win0_5.index t 0 * 1 + 1 * 0 = 0; rw [index5]; rfl
  | ⟨1, _⟩ => show win0_5.index t 1 * 2048 + 1 * e.val = e.val; rw [index5]; simp only [Matrix.cons_val_one, Matrix.cons_val_zero]; omega

/-- The new residual stream: the old one plus the mixer's rows times the weight. -/
def res (a : S8192x1024.Idx → EReal) (b : S8192x1024.Idx → EReal) (w : S1x2048x2048.Idx → EReal) (x : S8192x2048.Idx → EReal) (R : Fin 8192) (e : Fin 2048) : EReal :=
  x (ix2 R e) + ∑ d : Fin 1024, a (ix2 R d) * w (ix3 0 ⟨d.val, by omega⟩ e) + ∑ d : Fin 1024, b (ix2 R d) * w (ix3 0 ⟨1024 + d.val, by omega⟩ e)

/-- Its normalised rows. -/
def nrm (a : S8192x1024.Idx → EReal) (b : S8192x1024.Idx → EReal) (w : S1x2048x2048.Idx → EReal) (x : S8192x2048.Idx → EReal) (g : S2x2048.Idx → EReal) (R : Fin 8192) (e : Fin 2048) : EReal :=
  normed (fun j => res a b w x R j) (fun j => g (ix2 1 j)) e

/-- A block's sum. -/
theorem sum_apply (x : Vec Ideal S512x2048 .f32) (a : Vec Ideal S512x1024 .bf16) (w0 : Vec Ideal S1024x2048 .bf16) (b : Vec Ideal S512x1024 .bf16) (w1 : Vec Ideal S1024x2048 .bf16) (r : Fin 512) (e : Fin 2048) :
    k0_pay1 x a w0 b w1 (ix2 r e) = x (ix2 r e) + ∑ d : Fin 1024, a (ix2 r d) * w0 (ix2 d e) + ∑ d : Fin 1024, b (ix2 r d) * w1 (ix2 d e) := by
  pointwise [k0_pay1]

/-- A block's normalised sum. -/
theorem norm_apply (x : Vec Ideal S512x2048 .f32) (a : Vec Ideal S512x1024 .bf16) (w0 : Vec Ideal S1024x2048 .bf16) (b : Vec Ideal S512x1024 .bf16) (w1 : Vec Ideal S1024x2048 .bf16) (g : Vec Ideal S1x2048 .f32) (r : Fin 512) (e : Fin 2048) :
    k0_pay2 x a w0 b w1 g (ix2 r e) = normed (fun j => k0_pay1 x a w0 b w1 (ix2 r j)) (fun j => g (ix2 0 j)) e := by
  unfold normed
  pointwise [k0_pay2]

/-- A block's sum, its inputs known. -/
theorem sum_eq (A B : S8192x1024.Idx → EReal) (W : S1x2048x2048.Idx → EReal) (X : S8192x2048.Idx → EReal) (x : Vec Ideal S512x2048 .f32) (a : Vec Ideal S512x1024 .bf16) (w0 : Vec Ideal S1024x2048 .bf16) (b : Vec Ideal S512x1024 .bf16) (w1 : Vec Ideal S1024x2048 .bf16) (r : Fin 512) (R : Fin 8192)
    (hx : ∀ e : Fin 2048, x (ix2 r e) = X (ix2 R e)) (ha : ∀ d : Fin 1024, a (ix2 r d) = A (ix2 R d)) (hb : ∀ d : Fin 1024, b (ix2 r d) = B (ix2 R d))
    (h0 : ∀ (d : Fin 1024) (e : Fin 2048), w0 (ix2 d e) = W (ix3 0 ⟨d.val, by omega⟩ e)) (h1 : ∀ (d : Fin 1024) (e : Fin 2048), w1 (ix2 d e) = W (ix3 0 ⟨1024 + d.val, by omega⟩ e)) (e : Fin 2048) :
    k0_pay1 x a w0 b w1 (ix2 r e) = res A B W X R e := by
  refine (sum_apply x a w0 b w1 r e).trans ?_
  unfold res
  simp only [hx, ha, hb, h0, h1]

/-- A block's normalised sum, its inputs known. -/
theorem norm_eq (A B : S8192x1024.Idx → EReal) (W : S1x2048x2048.Idx → EReal) (X : S8192x2048.Idx → EReal) (G : S2x2048.Idx → EReal) (x : Vec Ideal S512x2048 .f32) (a : Vec Ideal S512x1024 .bf16) (w0 : Vec Ideal S1024x2048 .bf16) (b : Vec Ideal S512x1024 .bf16) (w1 : Vec Ideal S1024x2048 .bf16) (g : Vec Ideal S1x2048 .f32) (r : Fin 512) (R : Fin 8192)
    (hx : ∀ e : Fin 2048, x (ix2 r e) = X (ix2 R e)) (ha : ∀ d : Fin 1024, a (ix2 r d) = A (ix2 R d)) (hb : ∀ d : Fin 1024, b (ix2 r d) = B (ix2 R d))
    (h0 : ∀ (d : Fin 1024) (e : Fin 2048), w0 (ix2 d e) = W (ix3 0 ⟨d.val, by omega⟩ e)) (h1 : ∀ (d : Fin 1024) (e : Fin 2048), w1 (ix2 d e) = W (ix3 0 ⟨1024 + d.val, by omega⟩ e)) (hg : ∀ e : Fin 2048, g (ix2 0 e) = G (ix2 1 e)) (e : Fin 2048) :
    k0_pay2 x a w0 b w1 g (ix2 r e) = nrm A B W X G R e := by
  refine (norm_apply x a w0 b w1 g r e).trans ?_
  unfold nrm
  rw [funext (sum_eq A B W X x a w0 b w1 r R hx ha hb h0 h1), funext hg]

/-- What a point leaves in the first output. -/
theorem out_sum (x0 x1 : Vec Ideal S512x1024 .bf16) (x2 x3 : Vec Ideal S1024x2048 .bf16) (x4 : Vec Ideal S512x2048 .f32) (x5 : Vec Ideal S1x2048 .f32) : out0_6 x0 x1 x2 x3 x4 x5 = k0_pay1 x4 x0 x2 x1 x3 := by
  unfold out0_6 r0_0 r0_1 r0_2
  rw [View.canon_unit_zero off2]
  simp only [View.ld_unit_zero (S := S512x2048) off2, View.ld_unit_zero (S := S512x1024) off2, View.ld_unit_zero (S := S1024x2048) off2]

/-- What a point leaves in the second output. -/
theorem out_norm (x0 x1 : Vec Ideal S512x1024 .bf16) (x2 x3 : Vec Ideal S1024x2048 .bf16) (x4 : Vec Ideal S512x2048 .f32) (x5 : Vec Ideal S1x2048 .f32) : out0_7 x0 x1 x2 x3 x4 x5 = k0_pay2 x4 x0 x2 x1 x3 x5 := by
  unfold out0_7 r0_0 r0_1 r0_2 r0_3
  rw [View.canon_unit_zero off2]
  simp only [View.ld_unit_zero (S := S512x2048) off2, View.ld_unit_zero (S := S1x2048) off2, View.ld_unit_zero (S := S512x1024) off2, View.ld_unit_zero (S := S1024x2048) off2]

/-- The point that holds a row writes it back. -/
theorem flush6 : ∀ t : Fin cfg0.N, (cfg0.win 6).flush t = true := (by decide +kernel : ∀ t : Fin grid0.N, win0_6.flush t = true)

/-- The new residual stream, element by element. -/
theorem result_sum (c : Dev nD) (R : Fin 8192) (e : Fin 2048) :
    ((dats m 0 c).arrAt 6 cfg0.N : S8192x2048.Idx → EReal) (ix2 R e) = res (A m c) (B m c) (Wt m c) (X m c) R e := by
  have hRl := R.isLt
  have hN : cfg0.N = 16 := N_0
  obtain ⟨t, r, hR⟩ : ∃ (t : Fin cfg0.N) (r : Fin 512), R.val = 512 * t.val + r.val :=
    ⟨⟨R.val / 512, by omega⟩, ⟨R.val % 512, by omega⟩, by show R.val = 512 * (R.val / 512) + R.val % 512; omega⟩
  have hb := congrFun (Cert.Kernel5Ideal.Value.blocks6 m c t (flush6 t)) (ix2 r e)
  rw [View.read_apply] at hb
  have he : ((cfg0.win 6).blk t).view.emb (ix2 r e) = ix2 R e := by
    funext a
    apply Fin.ext
    match a with
    | ⟨0, _⟩ => show win0_6.index t 0 * 512 + 1 * r.val = R.val; rw [index6]; simp only [Matrix.cons_val_zero]; omega
    | ⟨1, _⟩ => show win0_6.index t 1 * 2048 + 1 * e.val = e.val; rw [index6]; simp only [Matrix.cons_val_one, Matrix.cons_val_zero]; omega
  rw [he] at hb
  refine hb.trans ?_
  rw [Cert.Kernel5Ideal.Value.flushed6 m c t, out_sum]
  exact sum_eq (A m c) (B m c) (Wt m c) (X m c) _ _ _ _ _ r R (fun e => blk_x m c t r e R hR) (fun d => blk_a0 m c t r d R hR) (fun d => blk_a1 m c t r d R hR) (fun d e => blk_w0 m c t d e) (fun d e => blk_w1 m c t d e) e

/-- The point that holds a row writes it back. -/
theorem flush7 : ∀ t : Fin cfg0.N, (cfg0.win 7).flush t = true := (by decide +kernel : ∀ t : Fin grid0.N, win0_7.flush t = true)

/-- The normalised rows, element by element. -/
theorem result_norm (c : Dev nD) (R : Fin 8192) (e : Fin 2048) :
    ((dats m 0 c).arrAt 7 cfg0.N : S8192x2048.Idx → EReal) (ix2 R e) = nrm (A m c) (B m c) (Wt m c) (X m c) (Gains m c) R e := by
  have hRl := R.isLt
  have hN : cfg0.N = 16 := N_0
  obtain ⟨t, r, hR⟩ : ∃ (t : Fin cfg0.N) (r : Fin 512), R.val = 512 * t.val + r.val :=
    ⟨⟨R.val / 512, by omega⟩, ⟨R.val % 512, by omega⟩, by show R.val = 512 * (R.val / 512) + R.val % 512; omega⟩
  have hb := congrFun (Cert.Kernel5Ideal.Value.blocks7 m c t (flush7 t)) (ix2 r e)
  rw [View.read_apply] at hb
  have he : ((cfg0.win 7).blk t).view.emb (ix2 r e) = ix2 R e := by
    funext a
    apply Fin.ext
    match a with
    | ⟨0, _⟩ => show win0_7.index t 0 * 512 + 1 * r.val = R.val; rw [index7]; simp only [Matrix.cons_val_zero]; omega
    | ⟨1, _⟩ => show win0_7.index t 1 * 2048 + 1 * e.val = e.val; rw [index7]; simp only [Matrix.cons_val_one, Matrix.cons_val_zero]; omega
  rw [he] at hb
  refine hb.trans ?_
  rw [Cert.Kernel5Ideal.Value.flushed7 m c t, out_norm]
  exact norm_eq (A m c) (B m c) (Wt m c) (X m c) (Gains m c) _ _ _ _ _ _ r R (fun e => blk_x m c t r e R hR) (fun d => blk_a0 m c t r d R hR) (fun d => blk_a1 m c t r d R hR) (fun d e => blk_w0 m c t d e) (fun d e => blk_w1 m c t d e) (fun e => blk_g m c t e) e

end Cert.CdOut

end
-- ==== Proof.CdOut.Ref.lean ====
/-
  The second layer's output projection: its reference read at an index, for both results. The reference joins the two
  attentions' rows and multiplies once; the sum over the joined axis splits into the kernel's two sums.
-/
module

public import proofs.«01_k».proof.Proof.CdOut.Value
public import proofs.«01_k».proof.Proof.Gen.Reference5Ideal.Read

@[expose] public section

set_option maxRecDepth 16384

noncomputable section

namespace Cert.CdOut

open Cert.Reference5Ideal Cert.Reference5Ideal.Gen Cert.Reference5Ideal.Read Idealize.ShloMosaic Cert.Proj

/-- The joined rows' first half is the first attention's. -/
theorem join_left (a b : FVec Ideal S8192x1024 .bf16) (R : Fin 8192) (d : Fin 1024) (D : Fin 2048) (hD : D.val = d.val) :
    val_main_v0 (F := Ideal) a b (ix2 R D) = a (ix2 R d) := by
  have hlt := d.isLt
  unfold val_main_v0
  rw [concatenate_pair_apply, dif_pos (by show D.val < 1024; omega)]
  refine congrArg a (funext fun k => Fin.ext ?_)
  fin_cases k
  · rfl
  · exact hD

/-- The joined rows' second half is the second attention's. -/
theorem join_right (a b : FVec Ideal S8192x1024 .bf16) (R : Fin 8192) (d : Fin 1024) (D : Fin 2048) (hD : D.val = 1024 + d.val) :
    val_main_v0 (F := Ideal) a b (ix2 R D) = b (ix2 R d) := by
  unfold val_main_v0
  rw [concatenate_pair_apply, dif_neg (by show ¬ D.val < 1024; omega)]
  refine congrArg b (funext fun k => Fin.ext ?_)
  fin_cases k
  · rfl
  · show D.val - 1024 = d.val
    omega

/-- The reference's one product, over the joined rows. -/
theorem ref_joined (a b : FVec Ideal S8192x1024 .bf16) (w : FVec Ideal S1x2048x2048 .f32) (x : FVec Ideal S8192x2048 .f32) (R : Fin 8192) (E : Fin 2048) :
    val_main_v4 (F := Ideal) a b w x (ix2 R E) = x (ix2 R E) + ∑ D : Fin 2048, val_main_v0 (F := Ideal) a b (ix2 R D) * w (ix3 0 D E) := by
  pointwise [val_main_v4, val_main_v3, val_main_v2, val_main_v1]

/-- The reference's new residual stream. -/
theorem ref_res (a b : FVec Ideal S8192x1024 .bf16) (w : FVec Ideal S1x2048x2048 .f32) (x : FVec Ideal S8192x2048 .f32) (R : Fin 8192) (E : Fin 2048) :
    val_main_v4 (F := Ideal) a b w x (ix2 R E) = res a b w x R E := by
  rw [ref_joined]
  unfold res
  rw [add_assoc]
  refine congrArg (x (ix2 R E) + ·) ?_
  refine (Fin.sum_univ_add (a := 1024) (b := 1024) fun D : Fin 2048 => val_main_v0 (F := Ideal) a b (ix2 R D) * w (ix3 0 D E)).trans ?_
  refine congrArg₂ (· + ·) (Finset.sum_congr rfl fun d _ => ?_) (Finset.sum_congr rfl fun d _ => ?_)
  · exact congrArg (· * _) (join_left a b R d _ rfl)
  · exact congrArg (· * _) (join_right a b R d _ rfl)

/-- The reference's normalised rows. -/
theorem ref_nrm (a b : FVec Ideal S8192x1024 .bf16) (w : FVec Ideal S1x2048x2048 .f32) (x : FVec Ideal S8192x2048 .f32) (g : FVec Ideal S2x2048 .f32) (R : Fin 8192) (E : Fin 2048) :
    val_main_v20 (F := Ideal) a b w x g (ix2 R E) = nrm a b w x g R E := by
  unfold nrm normed
  pointwise [val_main_v20, val_main_v19, val_main_v18, val_main_v17, val_main_v16, val_main_v15, val_main_v14, val_main_v13, val_main_v12, val_main_v11, val_main_v10, val_main_v9, val_main_v8, val_main_v7, val_main_v6, val_main_v5, val_main_cst, val_main_cst_0, val_main_cst_1, ref_res]

end Cert.CdOut

end
-- ==== Proof.CdOut.Claim.lean ====
/-
  The second layer's output projection and its reference leave the same two results over the extended reals.
-/
module

public import proofs.«01_k».proof.Proof.CdOut.Ref
public import proofs.«01_k».proof.Proof.Gen.Reference5Ideal.Run
public import proofs.«01_k».proof.Defs
public import Idealize.ShloMosaic.Lib.Claim

@[expose] public section

set_option maxRecDepth 16384

noncomputable section

namespace Cert.CdOut

open Idealize.ShloMosaic Idealize.ShloMosaic.TcCoe Idealize.SL.Sem

/-- From the same arguments the kernel's two result arrays equal the reference's. -/
theorem algebraic : Cert.algebraic_Kernel5Ideal_Reference5Ideal := by
  pair_intro
  · run_from (Cert.Kernel5Ideal.Value.run_blocks m g)
  · run_from (Cert.Reference5Ideal.Value.run m' g')
    · refine (Cert.Reference5Ideal.Read.val_main_v4_eq (F := Ideal) _ _ _ _).trans ?_
      funext i
      obtain ⟨R, E, rfl⟩ : ∃ (R : Fin 8192) (E : Fin 2048), i = ix2 R E := ⟨i 0, i 1, eq_ix2 i⟩
      exact (ref_res _ _ _ _ R E).trans (result_sum m c R E).symm
    · refine (Cert.Reference5Ideal.Read.val_main_v20_eq (F := Ideal) _ _ _ _ _).trans ?_
      funext i
      obtain ⟨R, E, rfl⟩ : ∃ (R : Fin 8192) (E : Fin 2048), i = ix2 R E := ⟨i 0, i 1, eq_ix2 i⟩
      exact (ref_nrm _ _ _ _ _ R E).trans (result_norm m c R E).symm

end Cert.CdOut

end
-- ==== Proof.CdIn.Ideal.Runs.lean ====
/-
  The set-up of the second layer's input projection (Kernel6Ideal): what the host operations leave before the grid is entered, the windows'
  blocks, and the branch conditions of the kernel's body in closed form.
-/
module

public import proofs.«01_k».proof.Proof.Gen.Kernel6Ideal.Skeleton
public import proofs.«01_k».proof.Proof.Gen.Kernel6Ideal.Launch
public import proofs.«01_k».proof.Proof.Gen.Kernel6Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Proof.CdIn.Ideal

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host operations run to where the grid is entered. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, for any proof data that leave it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, for any proof data that leave it in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, for any proof data that leave it in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run to the library's frame post, read at the argument arrays: they end as they were launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's branch conditions -/

/-- The grid is 80 points: eight row blocks, ten column blocks each. -/
theorem val_lt (t : Fin cfg0.N) : t.val < 80 := Nat.lt_of_lt_of_eq t.isLt N_0

/-- The condition of the body's first branch, from the grid coordinates. -/
abbrev cond1 (i : grid0.Coords) : Prop := (Scalar.cmpi .ne (Scalar.extui (Scalar.cmpi .eq (BitVec.ofNat 32 (i 1).val) 0#32)) 0#32) = 1#1

/-- The grid's second coordinate at a point. -/
theorem coord_one (t : Fin cfg0.N) : (grid0.coords t 1).val = t.val / 1 % 10 := Pipeline.Grid.coords_val t 1 (by decide) rfl

/-- The first branch is taken at the first column block of every row block. -/
theorem cond1_iff (t : Fin cfg0.N) : cond1 (grid0.coords t) ↔ t.val % 10 = 0 := by
  have ht := val_lt t
  have e1 := coord_one t
  simp only [cond1, e1]
  word_cmp

/-- The branch that stores the cache output 1 is taken at the column block 4 of every row block. -/
theorem cond2_iff (t : Fin cfg0.N) : k0_cond2 (grid0.coords t) = 1#1 ↔ t.val % 10 = 4 := by
  have ht := val_lt t
  have e1 := coord_one t
  simp only [k0_cond2, e1]
  word_cmp

/-- The branch that stores the cache output 2 is taken at the column block 5 of every row block. -/
theorem cond3_iff (t : Fin cfg0.N) : k0_cond3 (grid0.coords t) = 1#1 ↔ t.val % 10 = 5 := by
  have ht := val_lt t
  have e1 := coord_one t
  simp only [k0_cond3, e1]
  word_cmp

/-- The branch that stores the cache output 3 is taken at the column block 6 of every row block. -/
theorem cond4_iff (t : Fin cfg0.N) : k0_cond4 (grid0.coords t) = 1#1 ↔ t.val % 10 = 6 := by
  have ht := val_lt t
  have e1 := coord_one t
  simp only [k0_cond4, e1]
  word_cmp

/-- The branch that stores the cache output 4 is taken at the column block 7 of every row block. -/
theorem cond5_iff (t : Fin cfg0.N) : k0_cond5 (grid0.coords t) = 1#1 ↔ t.val % 10 = 7 := by
  have ht := val_lt t
  have e1 := coord_one t
  simp only [k0_cond5, e1]
  word_cmp

/-! ## The staging memrefs and the scratch -/

/-- Each window's current staging memref at a point, and that it is a whole buffer. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x128 .f32 := win0_7.stage (cfg0.slots t 7)
abbrev hs0_7 (t : Fin cfg0.N) : (ms0_7 t).IsWhole := hstage0_7 ((cfg0.slots t 7).cast nbuf0_7)
/-- The scratch that holds the normalised rows. -/
abbrev scM0_0 : Memref sig .tc .vmem S1024x2048 .bf16 := Memref.whole cc0_scratch0

/-- The launch's invariant, with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Proof.CdIn.Ideal

end
-- ==== Proof.CdIn.Ideal.Body.lean ====
/-
  The body of the second layer's input projection (Kernel6Ideal), run at one point on any whole staging memrefs: what it leaves in the
  projection's block, in the scratch of normalised rows and in the cache output that the point stores.
-/
module

public import proofs.«01_k».proof.Proof.CdIn.Ideal.Runs
public import Idealize.ShloMosaic.Lib.Pipeline.Value
public import Idealize.ShloMosaic.Lib.Pointwise

@[expose] public section

set_option maxRecDepth 16384

noncomputable section

namespace Proof.CdIn.Ideal

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole two-axis block are zero. -/
theorem off2 : (![0, 0] : Fin 2 → ℕ) = fun _ => 0 := by funext a; fin_cases a <;> rfl

/-- A block of 1024 rows and 512 columns laid as 4096 rows of 128: each row of the block becomes four. -/
def kvOf (o : Vec F S1024x512 .f32) : Vec F S4096x128 .f32 := fun y =>
  o (ix2 (⟨(y 0).val / 4, by have : (y 0).val < 4096 := (y 0).isLt; omega⟩ : Fin 1024)
    (⟨128 * ((y 0).val % 4) + (y 1).val, by have : (y 1).val < 128 := (y 1).isLt; omega⟩ : Fin 512))

/-- A store of every element, read back. -/
theorem read_whole {s : Shape} {sp : Space} {e : EltTy} (v : View sig .tc sp s e) (f : v.ty.Contents (Elt F)) {off : Fin s.rank → ℕ} (h : off = fun _ => 0)
    (inb : ∀ a, off a + s.size a ≤ s.size a) (w : s.Idx → Elt F e) :
    v.read (Elt F) (v.writes (Elt F) f [(⟨Rect.unit off s.size inb, w⟩ : View.Piece (Elt F) s e)]) = w := by
  rw [View.read_writes_eq_canon v f _ (fun y => ⟨_, List.mem_singleton_self _, by
    subst h; show y ∈ (Rect.whole s).set; rw [Rect.set_whole]; exact Finset.mem_univ y⟩), View.canon_unit_zero h]

/-- A load of every element of a whole memref. -/
theorem load_whole {s : Shape} {sp : Space} {e : EltTy} {v : Memref sig .tc sp s e} (hv : v.IsWhole) (x : s.Idx → Elt F e) {off : Fin s.rank → ℕ}
    (h : off = fun _ => 0) (inb : ∀ a, off a + s.size a ≤ s.size a) :
    v.view.readAt (Elt F) (Rect.unit off s.size inb).toLoadRect (hv.unread x) = x := by
  rw [View.readAt_eq_ld, hv.read_unread, View.ld_unit_zero h]

/-- A load of 128 columns of a block just stored whole. -/
theorem load_cols {sp : Space} (v : View sig .tc sp S1024x512 .f32) (o : Vec F S1024x512 .f32) (s : ℕ) (hs : 128 * s + 128 ≤ 512)
    (inb : ∀ a, (![0, 0] : Fin 2 → ℕ) a + S1024x512.size a ≤ S1024x512.size a) (inb' : ∀ a, (![0, 128 * s] : Fin 2 → ℕ) a + S1024x128.size a ≤ S1024x512.size a) :
    v.readCov [(⟨Rect.unit ![0, 0] S1024x512.size inb, o⟩ : View.Piece (Elt F) S1024x512 .f32)] (Rect.unit (s := S1024x512) ![0, 128 * s] S1024x128.size inb').toLoadRect
      = fun x : S1024x128.Idx => o (ix2 (x 0 : Fin 1024) (⟨128 * s + (x 1).val, by have : (x 1).val < 128 := (x 1).isLt; omega⟩ : Fin 512)) := by
  rw [View.readCov_eq_canon', View.canon_unit_zero off2]
  funext x
  refine congrArg o ?_
  funext a
  fin_cases a
  · exact Fin.ext (by show 0 + 1 * (x 0).val = (x 0).val; omega)
  · exact Fin.ext (by show 128 * s + 1 * (x 1).val = 128 * s + (x 1).val; omega)

/-- The columns `128 s … 128 s + 127` of a block. -/
abbrev cols (o : Vec F S1024x512 .f32) (s : ℕ) (hs : 128 * s + 128 ≤ 512) : Vec F S1024x128 .f32 :=
  fun x => o (ix2 (x 0 : Fin 1024) (⟨128 * s + (x 1).val, by have : (x 1).val < 128 := (x 1).isLt; omega⟩ : Fin 512))

/-- The rows `s, s + 4, s + 8, …` of a cache block. -/
abbrev lane (s : ℕ) (inb : ∀ a, S1024x128.size a = 0 ∨ (![s, 0] : Fin 2 → ℕ) a + (![4, 1] : Fin 2 → ℕ) a * (S1024x128.size a - 1) < S4096x128.size a)
    (pos : ∀ a, 0 < (![4, 1] : Fin 2 → ℕ) a) : Rect S4096x128 :=
  ⟨(⟨![s, 0], S1024x128.size, ![4, 1], inb⟩ : LoadRect S4096x128), pos⟩

/-- A row of a cache block lies in the lane of its remainder by four. -/
theorem mem_lane (s : ℕ) (inb) (pos) (y : S4096x128.Idx) (h : (y 0).val % 4 = s) : y ∈ (lane s inb pos).set := by
  have h0 : (y 0).val < 4096 := (y 0).isLt
  have h1 : (y 1).val < 128 := (y 1).isLt
  refine (LoadRect.mem_set _).mpr fun a => ?_
  fin_cases a
  · exact ⟨(y 0).val / 4, by show (y 0).val / 4 < 1024; omega, by show (y 0).val = s + 4 * ((y 0).val / 4); omega⟩
  · exact ⟨(y 1).val, h1, by show (y 1).val = 0 + 1 * (y 1).val; omega⟩

/-- What a lane is stored from agrees with the block laid as a cache block. -/
theorem lane_kvOf (o : Vec F S1024x512 .f32) (s : ℕ) (hs : 128 * s + 128 ≤ 512) (inb) (pos) (x : (lane s inb pos).shape.Idx) :
    cols o s hs x = kvOf o ((lane s inb pos).emb x) := by
  have h0 : (x 0).val < 1024 := (x 0).isLt
  have h1 : (x 1).val < 128 := (x 1).isLt
  refine congrArg o ?_
  funext a
  fin_cases a
  · exact Fin.ext (by show (x 0).val = (s + 4 * (x 0).val) / 4; omega)
  · exact Fin.ext (by show 128 * s + (x 1).val = 128 * ((s + 4 * (x 0).val) % 4) + (0 + 1 * (x 1).val); omega)

/-- The four lanes stored from the four column groups of a block leave the block laid as a cache block. -/
theorem read_lanes {sp : Space} (v : View sig .tc sp S4096x128 .f32) (f : v.ty.Contents (Elt F)) (o : Vec F S1024x512 .f32) (i0) (i1) (i2) (i3) (p0) (p1) (p2) (p3)
    (w0 w1 w2 w3 : Vec F S1024x128 .f32) (e0 : w0 = cols o 0 (by decide)) (e1 : w1 = cols o 1 (by decide)) (e2 : w2 = cols o 2 (by decide)) (e3 : w3 = cols o 3 (by decide)) :
    v.read (Elt F) (v.writes (Elt F) f [(⟨lane 3 i3 p3, w3⟩ : View.Piece (Elt F) S4096x128 .f32), ⟨lane 2 i2 p2, w2⟩, ⟨lane 1 i1 p1, w1⟩, ⟨lane 0 i0 p0, w0⟩]) = kvOf o := by
  subst e0 e1 e2 e3
  funext y
  refine View.read_writes_apply_of_pieces _ _ (kvOf o) _ ?_ y ?_
  · intro p hp x
    simp only [List.mem_cons, List.not_mem_nil, or_false] at hp
    rcases hp with rfl | rfl | rfl | rfl
    · exact lane_kvOf o 3 (by decide) i3 p3 x
    · exact lane_kvOf o 2 (by decide) i2 p2 x
    · exact lane_kvOf o 1 (by decide) i1 p1 x
    · exact lane_kvOf o 0 (by decide) i0 p0 x
  · have hy : (y 0).val % 4 = 3 ∨ (y 0).val % 4 = 2 ∨ (y 0).val % 4 = 1 ∨ (y 0).val % 4 = 0 := by omega
    rcases hy with h | h | h | h
    · exact ⟨_, .head _, mem_lane 3 i3 p3 y h⟩
    · exact ⟨_, .tail _ (.head _), mem_lane 2 i2 p2 y h⟩
    · exact ⟨_, .tail _ (.tail _ (.head _)), mem_lane 1 i1 p1 y h⟩
    · exact ⟨_, .tail _ (.tail _ (.tail _ (.head _))), mem_lane 0 i0 p0 y h⟩

set_option maxHeartbeats 2000000 in
/-- The body at the first column block of a row block: the rows are normalised into the scratch, the block is their product with the weights' block, and no cache output is stored. -/
theorem run_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x2048 .bf16) (harg10 : arg10.IsWhole) (h1 : cond1 i) (h2 : ¬ k0_cond2 i = 1#1) (h3 : ¬ k0_cond3 i = 1#1) (h4 : ¬ k0_cond4 i = 1#1) (h5 : ¬ k0_cond5 i = 1#1)
    (x0 : Vec F S1024x2048 .f32) (x1 : Vec F S1x2048 .f32) (x2 : Vec F S2048x512 .bf16) (y4 y5 y6 y7 : Vec F S4096x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare y4 ∗ owns (c : Thread nD τ) arg7 fullShare y5 ∗ owns (c : Thread nD τ) arg8 fullShare y6 ∗ owns (c : Thread nD τ) arg9 fullShare y7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay2 (k0_pay1 x0 x1) x2)
            ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare (k0_pay1 x0 x1)) -∗ K ⟨⟩))
      ⊢ wp frame (wpE (defs₀ (F := F)) Variants.none c none) E (cc0_norm_matmul i arg2 harg2 arg3 harg3 arg4 harg4 arg5 harg5 arg6 harg6 arg7 harg7 arg8 harg8 arg9 harg9 arg10 harg10) K := by
  simp only [cc0_norm_matmul_eq_skeleton]; unfold cc0_norm_matmul_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%ds0, %fs0, -, HS0⟩, Hk⟩
  obtain rfl := harg2.eq_unread hf0; obtain rfl := harg3.eq_unread hf1; obtain rfl := harg4.eq_unread hf2
  obtain rfl := harg6.eq_unread hf4; obtain rfl := harg7.eq_unread hf5; obtain rfl := harg8.eq_unread hf6; obtain rfl := harg9.eq_unread hf7
  sl_exec (disch := first | sl_exact h1 | sl_exact h2 | sl_exact h3 | sl_exact h4 | sl_exact h5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_whole _ _ off2, View.readCov_unit_zero (S := S1024x2048) _ off2, load_whole harg2 x0 off2, load_whole harg3 x1 off2, load_whole harg4 x2 off2]
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  iexists _; isplitr
  swap; · iexact HS0
  ipureintro
  sl_unfold_words
  rw [read_whole _ _ off2, load_whole harg2 x0 off2, load_whole harg3 x1 off2]

set_option maxHeartbeats 2000000 in
/-- The body at a column block that is neither the first nor a cache's: the block is the product of the scratch with the weights' block, and no cache output is stored. -/
theorem run_plain (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x2048 .bf16) (harg10 : arg10.IsWhole) (h1 : ¬ cond1 i) (h2 : ¬ k0_cond2 i = 1#1) (h3 : ¬ k0_cond3 i = 1#1) (h4 : ¬ k0_cond4 i = 1#1) (h5 : ¬ k0_cond5 i = 1#1)
    (x0 : Vec F S1024x2048 .f32) (x1 : Vec F S1x2048 .f32) (x2 : Vec F S2048x512 .bf16) (y4 y5 y6 y7 : Vec F S4096x128 .f32) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay2 xs x2)
            ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare xs) -∗ K ⟨⟩))
      ⊢ wp frame (wpE (defs₀ (F := F)) Variants.none c none) E (cc0_norm_matmul i arg2 harg2 arg3 harg3 arg4 harg4 arg5 harg5 arg6 harg6 arg7 harg7 arg8 harg8 arg9 harg9 arg10 harg10) K := by
  simp only [cc0_norm_matmul_eq_skeleton]; unfold cc0_norm_matmul_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%fs0, %hfs0, HS0⟩, Hk⟩
  obtain rfl := harg2.eq_unread hf0; obtain rfl := harg3.eq_unread hf1; obtain rfl := harg4.eq_unread hf2
  obtain rfl := harg6.eq_unread hf4; obtain rfl := harg7.eq_unread hf5; obtain rfl := harg8.eq_unread hf6; obtain rfl := harg9.eq_unread hf7
  obtain rfl := harg10.eq_unread hfs0
  sl_exec (disch := first | sl_exact h1 | sl_exact h2 | sl_exact h3 | sl_exact h4 | sl_exact h5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_whole _ _ off2, load_whole harg10 xs off2, load_whole harg4 x2 off2]
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  iexists _; isplitr
  swap; · iexact HS0
  ipureintro
  exact harg10.read_unread _

set_option maxHeartbeats 2000000 in
/-- The body at the column block of cache output 1: the block is the product of the scratch with the weights' block, and the output is that block laid as four times as many rows. -/
theorem run_kv4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x2048 .bf16) (harg10 : arg10.IsWhole) (h1 : ¬ cond1 i) (h2 : k0_cond2 i = 1#1) (h3 : ¬ k0_cond3 i = 1#1) (h4 : ¬ k0_cond4 i = 1#1) (h5 : ¬ k0_cond5 i = 1#1)
    (x0 : Vec F S1024x2048 .f32) (x1 : Vec F S1x2048 .f32) (x2 : Vec F S2048x512 .bf16) (y4 y5 y6 y7 : Vec F S4096x128 .f32) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay2 xs x2)
            ∗ owns (c : Thread nD τ) arg6 fullShare (kvOf (k0_pay2 xs x2)) ∗ owns (c : Thread nD τ) arg7 fullShare y5 ∗ owns (c : Thread nD τ) arg8 fullShare y6 ∗ owns (c : Thread nD τ) arg9 fullShare y7 ∗ owns (c : Thread nD τ) arg10 fullShare xs) -∗ K ⟨⟩))
      ⊢ wp frame (wpE (defs₀ (F := F)) Variants.none c none) E (cc0_norm_matmul i arg2 harg2 arg3 harg3 arg4 harg4 arg5 harg5 arg6 harg6 arg7 harg7 arg8 harg8 arg9 harg9 arg10 harg10) K := by
  simp only [cc0_norm_matmul_eq_skeleton]; unfold cc0_norm_matmul_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%fs0, %hfs0, HS0⟩, Hk⟩
  obtain rfl := harg2.eq_unread hf0; obtain rfl := harg3.eq_unread hf1; obtain rfl := harg4.eq_unread hf2
  obtain rfl := harg6.eq_unread hf4; obtain rfl := harg7.eq_unread hf5; obtain rfl := harg8.eq_unread hf6; obtain rfl := harg9.eq_unread hf7
  obtain rfl := harg10.eq_unread hfs0
  sl_exec (disch := first | sl_exact h1 | sl_exact h2 | sl_exact h3 | sl_exact h4 | sl_exact h5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_whole _ _ off2, load_whole harg10 xs off2, load_whole harg4 x2 off2]
  isplitl [H4]
  · iexists _; isplitr
    swap; · iexact H4
    ipureintro
    sl_unfold_words
    rw [load_whole harg10 xs off2, load_whole harg4 x2 off2]
    refine read_lanes _ _ _ _ _ _ _ _ _ _ _ _ _ _ _ ?_ ?_ ?_ ?_
    · unfold k0_pay3; rw [shapeCast_self]; exact load_cols _ _ 0 (by decide) _ _
    · unfold k0_pay4; rw [shapeCast_self]; exact load_cols _ _ 1 (by decide) _ _
    · unfold k0_pay5; rw [shapeCast_self]; exact load_cols _ _ 2 (by decide) _ _
    · unfold k0_pay6; rw [shapeCast_self]; exact load_cols _ _ 3 (by decide) _ _
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  iexists _; isplitr
  swap; · iexact HS0
  ipureintro
  exact harg10.read_unread _

set_option maxHeartbeats 2000000 in
/-- The body at the column block of cache output 2: the block is the product of the scratch with the weights' block, and the output is that block laid as four times as many rows. -/
theorem run_kv5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x2048 .bf16) (harg10 : arg10.IsWhole) (h1 : ¬ cond1 i) (h2 : ¬ k0_cond2 i = 1#1) (h3 : k0_cond3 i = 1#1) (h4 : ¬ k0_cond4 i = 1#1) (h5 : ¬ k0_cond5 i = 1#1)
    (x0 : Vec F S1024x2048 .f32) (x1 : Vec F S1x2048 .f32) (x2 : Vec F S2048x512 .bf16) (y4 y5 y6 y7 : Vec F S4096x128 .f32) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay2 xs x2)
            ∗ owns (c : Thread nD τ) arg6 fullShare y4 ∗ owns (c : Thread nD τ) arg7 fullShare (kvOf (k0_pay2 xs x2)) ∗ owns (c : Thread nD τ) arg8 fullShare y6 ∗ owns (c : Thread nD τ) arg9 fullShare y7 ∗ owns (c : Thread nD τ) arg10 fullShare xs) -∗ K ⟨⟩))
      ⊢ wp frame (wpE (defs₀ (F := F)) Variants.none c none) E (cc0_norm_matmul i arg2 harg2 arg3 harg3 arg4 harg4 arg5 harg5 arg6 harg6 arg7 harg7 arg8 harg8 arg9 harg9 arg10 harg10) K := by
  simp only [cc0_norm_matmul_eq_skeleton]; unfold cc0_norm_matmul_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%fs0, %hfs0, HS0⟩, Hk⟩
  obtain rfl := harg2.eq_unread hf0; obtain rfl := harg3.eq_unread hf1; obtain rfl := harg4.eq_unread hf2
  obtain rfl := harg6.eq_unread hf4; obtain rfl := harg7.eq_unread hf5; obtain rfl := harg8.eq_unread hf6; obtain rfl := harg9.eq_unread hf7
  obtain rfl := harg10.eq_unread hfs0
  sl_exec (disch := first | sl_exact h1 | sl_exact h2 | sl_exact h3 | sl_exact h4 | sl_exact h5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_whole _ _ off2, load_whole harg10 xs off2, load_whole harg4 x2 off2]
  isplitl [H4]
  · iexists _; isplitr
    · ipureintro; exact harg6.read_unread _
    iexact H4
  isplitl [H5]
  · iexists _; isplitr
    swap; · iexact H5
    ipureintro
    sl_unfold_words
    rw [load_whole harg10 xs off2, load_whole harg4 x2 off2]
    refine read_lanes _ _ _ _ _ _ _ _ _ _ _ _ _ _ _ ?_ ?_ ?_ ?_
    · unfold k0_pay7; rw [shapeCast_self]; exact load_cols _ _ 0 (by decide) _ _
    · unfold k0_pay8; rw [shapeCast_self]; exact load_cols _ _ 1 (by decide) _ _
    · unfold k0_pay9; rw [shapeCast_self]; exact load_cols _ _ 2 (by decide) _ _
    · unfold k0_pay10; rw [shapeCast_self]; exact load_cols _ _ 3 (by decide) _ _
  isplitl [H6]
  · iexists _; isplitr
    · ipureintro; exact harg8.read_unread _
    iexact H6
  isplitl [H7]
  · iexists _; isplitr
    · ipureintro; exact harg9.read_unread _
    iexact H7
  iexists _; isplitr
  swap; · iexact HS0
  ipureintro
  exact harg10.read_unread _

set_option maxHeartbeats 2000000 in
/-- The body at the column block of cache output 3: the block is the product of the scratch with the weights' block, and the output is that block laid as four times as many rows. -/
theorem run_kv6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x2048 .bf16) (harg10 : arg10.IsWhole) (h1 : ¬ cond1 i) (h2 : ¬ k0_cond2 i = 1#1) (h3 : ¬ k0_cond3 i = 1#1) (h4 : k0_cond4 i = 1#1) (h5 : ¬ k0_cond5 i = 1#1)
    (x0 : Vec F S1024x2048 .f32) (x1 : Vec F S1x2048 .f32) (x2 : Vec F S2048x512 .bf16) (y4 y5 y6 y7 : Vec F S4096x128 .f32) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay2 xs x2)
            ∗ owns (c : Thread nD τ) arg6 fullShare y4 ∗ owns (c : Thread nD τ) arg7 fullShare y5 ∗ owns (c : Thread nD τ) arg8 fullShare (kvOf (k0_pay2 xs x2)) ∗ owns (c : Thread nD τ) arg9 fullShare y7 ∗ owns (c : Thread nD τ) arg10 fullShare xs) -∗ K ⟨⟩))
      ⊢ wp frame (wpE (defs₀ (F := F)) Variants.none c none) E (cc0_norm_matmul i arg2 harg2 arg3 harg3 arg4 harg4 arg5 harg5 arg6 harg6 arg7 harg7 arg8 harg8 arg9 harg9 arg10 harg10) K := by
  simp only [cc0_norm_matmul_eq_skeleton]; unfold cc0_norm_matmul_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%fs0, %hfs0, HS0⟩, Hk⟩
  obtain rfl := harg2.eq_unread hf0; obtain rfl := harg3.eq_unread hf1; obtain rfl := harg4.eq_unread hf2
  obtain rfl := harg6.eq_unread hf4; obtain rfl := harg7.eq_unread hf5; obtain rfl := harg8.eq_unread hf6; obtain rfl := harg9.eq_unread hf7
  obtain rfl := harg10.eq_unread hfs0
  sl_exec (disch := first | sl_exact h1 | sl_exact h2 | sl_exact h3 | sl_exact h4 | sl_exact h5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_whole _ _ off2, load_whole harg10 xs off2, load_whole harg4 x2 off2]
  isplitl [H4]
  · iexists _; isplitr
    · ipureintro; exact harg6.read_unread _
    iexact H4
  isplitl [H5]
  · iexists _; isplitr
    · ipureintro; exact harg7.read_unread _
    iexact H5
  isplitl [H6]
  · iexists _; isplitr
    swap; · iexact H6
    ipureintro
    sl_unfold_words
    rw [load_whole harg10 xs off2, load_whole harg4 x2 off2]
    refine read_lanes _ _ _ _ _ _ _ _ _ _ _ _ _ _ _ ?_ ?_ ?_ ?_
    · unfold k0_pay11; rw [shapeCast_self]; exact load_cols _ _ 0 (by decide) _ _
    · unfold k0_pay12; rw [shapeCast_self]; exact load_cols _ _ 1 (by decide) _ _
    · unfold k0_pay13; rw [shapeCast_self]; exact load_cols _ _ 2 (by decide) _ _
    · unfold k0_pay14; rw [shapeCast_self]; exact load_cols _ _ 3 (by decide) _ _
  isplitl [H7]
  · iexists _; isplitr
    · ipureintro; exact harg9.read_unread _
    iexact H7
  iexists _; isplitr
  swap; · iexact HS0
  ipureintro
  exact harg10.read_unread _

set_option maxHeartbeats 2000000 in
/-- The body at the column block of cache output 4: the block is the product of the scratch with the weights' block, and the output is that block laid as four times as many rows. -/
theorem run_kv7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x2048 .bf16) (harg10 : arg10.IsWhole) (h1 : ¬ cond1 i) (h2 : ¬ k0_cond2 i = 1#1) (h3 : ¬ k0_cond3 i = 1#1) (h4 : ¬ k0_cond4 i = 1#1) (h5 : k0_cond5 i = 1#1)
    (x0 : Vec F S1024x2048 .f32) (x1 : Vec F S1x2048 .f32) (x2 : Vec F S2048x512 .bf16) (y4 y5 y6 y7 : Vec F S4096x128 .f32) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay2 xs x2)
            ∗ owns (c : Thread nD τ) arg6 fullShare y4 ∗ owns (c : Thread nD τ) arg7 fullShare y5 ∗ owns (c : Thread nD τ) arg8 fullShare y6 ∗ owns (c : Thread nD τ) arg9 fullShare (kvOf (k0_pay2 xs x2)) ∗ owns (c : Thread nD τ) arg10 fullShare xs) -∗ K ⟨⟩))
      ⊢ wp frame (wpE (defs₀ (F := F)) Variants.none c none) E (cc0_norm_matmul i arg2 harg2 arg3 harg3 arg4 harg4 arg5 harg5 arg6 harg6 arg7 harg7 arg8 harg8 arg9 harg9 arg10 harg10) K := by
  simp only [cc0_norm_matmul_eq_skeleton]; unfold cc0_norm_matmul_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%fs0, %hfs0, HS0⟩, Hk⟩
  obtain rfl := harg2.eq_unread hf0; obtain rfl := harg3.eq_unread hf1; obtain rfl := harg4.eq_unread hf2
  obtain rfl := harg6.eq_unread hf4; obtain rfl := harg7.eq_unread hf5; obtain rfl := harg8.eq_unread hf6; obtain rfl := harg9.eq_unread hf7
  obtain rfl := harg10.eq_unread hfs0
  sl_exec (disch := first | sl_exact h1 | sl_exact h2 | sl_exact h3 | sl_exact h4 | sl_exact h5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_whole _ _ off2, load_whole harg10 xs off2, load_whole harg4 x2 off2]
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    swap; · iexact H7
    ipureintro
    sl_unfold_words
    rw [load_whole harg10 xs off2, load_whole harg4 x2 off2]
    refine read_lanes _ _ _ _ _ _ _ _ _ _ _ _ _ _ _ ?_ ?_ ?_ ?_
    · unfold k0_pay15; rw [shapeCast_self]; exact load_cols _ _ 0 (by decide) _ _
    · unfold k0_pay16; rw [shapeCast_self]; exact load_cols _ _ 1 (by decide) _ _
    · unfold k0_pay17; rw [shapeCast_self]; exact load_cols _ _ 2 (by decide) _ _
    · unfold k0_pay18; rw [shapeCast_self]; exact load_cols _ _ 3 (by decide) _ _
  iexists _; isplitr
  swap; · iexact HS0
  ipureintro
  exact harg10.read_unread _

end Proof.CdIn.Ideal

end
-- ==== Proof.CdIn.Ideal.Frame.lean ====
/-
  The whole run of the second layer's input projection (Kernel6Ideal): what every staging buffer holds after each point, the body's obligation at
  a generic point, and the frame.
-/
module

public import proofs.«01_k».proof.Proof.CdIn.Ideal.Body
public import Idealize.ShloMosaic.Lib.Pipeline.Value
public import Idealize.ShloMosaic.Lib.Pointwise

@[expose] public section

set_option maxRecDepth 16384

noncomputable section

namespace Proof.CdIn.Ideal

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point of the same row block as `t` at column block `j`. -/
def at_ (t : Fin cfg0.N) (j : ℕ) (hj : j < 10) : Fin cfg0.N :=
  ⟨10 * (t.val / 10) + j, by have := val_lt t; have : cfg0.N = 80 := N_0; omega⟩

theorem at_self (t : Fin cfg0.N) (j : ℕ) (hj : j < 10) (h : t.val % 10 = j) : at_ t j hj = t :=
  Fin.ext (by show 10 * (t.val / 10) + j = t.val; omega)

theorem at_congr (t u : Fin cfg0.N) (j : ℕ) (hj : j < 10) (h : t.val / 10 = u.val / 10) : at_ t j hj = at_ u j hj :=
  Fin.ext (by show 10 * (t.val / 10) + j = 10 * (u.val / 10) + j; rw [h])

/-- The normalised rows of the row block of a point. -/
def rows (c : Dev nD) (t : Fin cfg0.N) : Vec F S1024x2048 .bf16 :=
  k0_pay1 (iblk m c 0 (at_ t 0 (by decide))) (iblk m c 1 (at_ t 0 (by decide)))

theorem rows_congr (c : Dev nD) (t u : Fin cfg0.N) (h : t.val / 10 = u.val / 10) : rows m c t = rows m c u := by
  unfold rows; rw [at_congr t u 0 _ h]

/-- The block of the projection that a point computes. -/
def outB (c : Dev nD) (t : Fin cfg0.N) : Vec F S1024x512 .f32 := k0_pay2 (rows m c t) (iblk m c 2 t)

/-- The block of a cache output: the block of the projection computed at column block `j`, laid as four times as many rows. -/
def kvB (c : Dev nD) (t : Fin cfg0.N) (j : ℕ) (hj : j < 10) : Vec F S4096x128 .f32 := kvOf (outB m c (at_ t j hj))

theorem kvB_congr (c : Dev nD) (t u : Fin cfg0.N) (j : ℕ) (hj : j < 10) (h : t.val / 10 = u.val / 10) : kvB m c t j hj = kvB m c u j hj := by
  unfold kvB; rw [at_congr t u j _ h]

/-- The region's invariant before position `n`: before the first point the scratch at anything, afterwards at the rows of the row block of
    the point before. -/
def PhiS (c : Dev nD) : (n : ℕ) → n ≤ cfg0.N → sProp 𝕄
  | 0, _ => Pipeline.ΦA spec0 c
  | n + 1, hn => iprop(iprop(owns (c : Thread nD τ) scM0_0 fullShare (rows m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (rows m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scM0_0 fullShare (rows m c ⟨n - 1, by omega⟩)) ∗ (∃ r, prngReg c r)) := by
  cases n with
  | zero => exact absurd rfl hz
  | succ n => rfl

/-! ## The pipeline's proof data -/

/-- The arrays as the region finds them; after the body at a point each input's buffer at its block, the projection's at the block
    computed, each cache output's at its block of the row block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB m c t
    | ⟨4, _⟩ => kvB m c t 4 (by decide)
    | ⟨5, _⟩ => kvB m c t 5 (by decide)
    | ⟨6, _⟩ => kvB m c t 6 (by decide)
    | ⟨7, _⟩ => kvB m c t 7 (by decide)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outB m c t := by dsimp only [dats]
theorem after0_4 (c : Dev nD) (t : Fin cfg0.N) : (dats m 0 c).after 4 t = kvB m c t 4 (by decide) := by dsimp only [dats]
theorem after0_5 (c : Dev nD) (t : Fin cfg0.N) : (dats m 0 c).after 5 t = kvB m c t 5 (by decide) := by dsimp only [dats]
theorem after0_6 (c : Dev nD) (t : Fin cfg0.N) : (dats m 0 c).after 6 t = kvB m c t 6 (by decide) := by dsimp only [dats]
theorem after0_7 (c : Dev nD) (t : Fin cfg0.N) : (dats m 0 c).after 7 t = kvB m c t 7 (by decide) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The second input is one block: the same at every point. -/
theorem iblk1_eq (c : Dev nD) (t u : Fin cfg0.N) : iblk m c 1 t = iblk m c 1 u := rfl

/-- The rows at the first column block of a row block. -/
theorem rows_first (c : Dev nD) (t : Fin cfg0.N) (h : t.val % 10 = 0) : rows m c t = k0_pay1 (iblk m c 0 t) (iblk m c 1 t) := by
  unfold rows; rw [at_self t 0 _ h]

/-! ## The cache outputs' buffers between their store and their write-back -/

/-- Cache output 1 is live at its own column block only. -/
theorem idle0_4_live (t : Fin cfg0.N) (h : t.val % 10 = 4) : cfg0.idle 4 (cfg0.grid.coords t) = false := by
  show (!(k0_cond2 (grid0.coords t) == 1#1)) = false
  rw [(cond2_iff t).mpr h]; rfl
theorem idle0_4_idle (t : Fin cfg0.N) (h : t.val % 10 ≠ 4) : cfg0.idle 4 (cfg0.grid.coords t) = true := by
  show (!(k0_cond2 (grid0.coords t) == 1#1)) = true
  have : ¬ k0_cond2 (grid0.coords t) = 1#1 := fun hc => h ((cond2_iff t).mp hc)
  simp [this]
theorem noflush0_4 (t : Fin cfg0.N) (h : t.val % 10 ≠ 9) : (cfg0.win 4).flush t = false := by
  cases hf : (cfg0.win 4).flush t
  · rfl
  · exact absurd ((flush0_4 t).mp hf) h

/-- After its store, and until it is written back, the buffer holds the row block's cache block. -/
theorem before0_4 (c : Dev nD) (d) : ∀ (n : ℕ) (t : Fin cfg0.N), t.val % 10 = n → 4 < n → (dats m 0 c).before 4 t d = kvB m c t 4 (by decide) := by
  intro n
  induction n with
  | zero => intro t _ hw; exact absurd hw (by decide)
  | succ n ih =>
    intro t ht hw
    have hN := val_lt t
    have h1 : (t.val - 1) % 10 = n := by omega
    rw [(dats m 0 c).before_of_pos 4 t (by omega) rfl d, noflush0_4 ⟨t.val - 1, _⟩ (by show (t.val - 1) % 10 ≠ 9; omega), if_neg Bool.false_ne_true]
    unfold Pipeline.Dat.left
    by_cases hn : n = 4
    · rw [idle0_4_live ⟨t.val - 1, _⟩ (by show (t.val - 1) % 10 = 4; omega)]
      show (dats m 0 c).after 4 ⟨t.val - 1, _⟩ = _
      rw [after0_4]
      exact kvB_congr m c _ _ _ _ (by show (t.val - 1) / 10 = t.val / 10; omega)
    · rw [idle0_4_idle ⟨t.val - 1, _⟩ (by show (t.val - 1) % 10 ≠ 4; omega)]
      show (dats m 0 c).before 4 ⟨t.val - 1, _⟩ d = _
      rw [ih ⟨t.val - 1, _⟩ h1 (by omega)]
      exact kvB_congr m c _ _ _ _ (by show (t.val - 1) / 10 = t.val / 10; omega)

/-- A point that does not store the cache output leaves its buffer as the data say. -/
theorem keep0_4 (c : Dev nD) (t : Fin cfg0.N) (h : t.val % 10 ≠ 4) (d) :
    (owns (c : Thread nD τ) (ms0_4 t) fullShare ((dats m 0 c).before 4 t d) : sProp 𝕄) ⊢ (dats m 0 c).leavesExact 4 t := by
  by_cases h9 : t.val % 10 = 9
  · rw [before0_4 m c d 9 t h9 (by decide)]
    unfold Pipeline.Dat.leavesExact
    rw [idle0_4_idle t h, (flush0_4 t).mpr h9]
    show _ ⊢ owns (c : Thread nD τ) (ms0_4 t) fullShare ((dats m 0 c).after 4 t)
    rw [after0_4]
  · rw [(dats m 0 c).leavesExact_idle 4 t (idle0_4_idle t h) (noflush0_4 t h9)]
    iintro H; iexists d; iexact H

/-- The point that stores the cache output leaves its buffer at the row block's cache block. -/
theorem put0_4 (c : Dev nD) (t : Fin cfg0.N) (h : t.val % 10 = 4) :
    (owns (c : Thread nD τ) (ms0_4 t) fullShare (kvOf (k0_pay2 (rows m c t) (iblk m c 2 t))) : sProp 𝕄) ⊢ (dats m 0 c).leavesExact 4 t := by
  unfold Pipeline.Dat.leavesExact
  rw [idle0_4_live t h]
  show _ ⊢ owns (c : Thread nD τ) (ms0_4 t) fullShare ((dats m 0 c).after 4 t)
  rw [after0_4]
  unfold kvB; rw [at_self t 4 _ h]
  exact .rfl

/-- Cache output 2 is live at its own column block only. -/
theorem idle0_5_live (t : Fin cfg0.N) (h : t.val % 10 = 5) : cfg0.idle 5 (cfg0.grid.coords t) = false := by
  show (!(k0_cond3 (grid0.coords t) == 1#1)) = false
  rw [(cond3_iff t).mpr h]; rfl
theorem idle0_5_idle (t : Fin cfg0.N) (h : t.val % 10 ≠ 5) : cfg0.idle 5 (cfg0.grid.coords t) = true := by
  show (!(k0_cond3 (grid0.coords t) == 1#1)) = true
  have : ¬ k0_cond3 (grid0.coords t) = 1#1 := fun hc => h ((cond3_iff t).mp hc)
  simp [this]
theorem noflush0_5 (t : Fin cfg0.N) (h : t.val % 10 ≠ 9) : (cfg0.win 5).flush t = false := by
  cases hf : (cfg0.win 5).flush t
  · rfl
  · exact absurd ((flush0_5 t).mp hf) h

/-- After its store, and until it is written back, the buffer holds the row block's cache block. -/
theorem before0_5 (c : Dev nD) (d) : ∀ (n : ℕ) (t : Fin cfg0.N), t.val % 10 = n → 5 < n → (dats m 0 c).before 5 t d = kvB m c t 5 (by decide) := by
  intro n
  induction n with
  | zero => intro t _ hw; exact absurd hw (by decide)
  | succ n ih =>
    intro t ht hw
    have hN := val_lt t
    have h1 : (t.val - 1) % 10 = n := by omega
    rw [(dats m 0 c).before_of_pos 5 t (by omega) rfl d, noflush0_5 ⟨t.val - 1, _⟩ (by show (t.val - 1) % 10 ≠ 9; omega), if_neg Bool.false_ne_true]
    unfold Pipeline.Dat.left
    by_cases hn : n = 5
    · rw [idle0_5_live ⟨t.val - 1, _⟩ (by show (t.val - 1) % 10 = 5; omega)]
      show (dats m 0 c).after 5 ⟨t.val - 1, _⟩ = _
      rw [after0_5]
      exact kvB_congr m c _ _ _ _ (by show (t.val - 1) / 10 = t.val / 10; omega)
    · rw [idle0_5_idle ⟨t.val - 1, _⟩ (by show (t.val - 1) % 10 ≠ 5; omega)]
      show (dats m 0 c).before 5 ⟨t.val - 1, _⟩ d = _
      rw [ih ⟨t.val - 1, _⟩ h1 (by omega)]
      exact kvB_congr m c _ _ _ _ (by show (t.val - 1) / 10 = t.val / 10; omega)

/-- A point that does not store the cache output leaves its buffer as the data say. -/
theorem keep0_5 (c : Dev nD) (t : Fin cfg0.N) (h : t.val % 10 ≠ 5) (d) :
    (owns (c : Thread nD τ) (ms0_5 t) fullShare ((dats m 0 c).before 5 t d) : sProp 𝕄) ⊢ (dats m 0 c).leavesExact 5 t := by
  by_cases h9 : t.val % 10 = 9
  · rw [before0_5 m c d 9 t h9 (by decide)]
    unfold Pipeline.Dat.leavesExact
    rw [idle0_5_idle t h, (flush0_5 t).mpr h9]
    show _ ⊢ owns (c : Thread nD τ) (ms0_5 t) fullShare ((dats m 0 c).after 5 t)
    rw [after0_5]
  · rw [(dats m 0 c).leavesExact_idle 5 t (idle0_5_idle t h) (noflush0_5 t h9)]
    iintro H; iexists d; iexact H

/-- The point that stores the cache output leaves its buffer at the row block's cache block. -/
theorem put0_5 (c : Dev nD) (t : Fin cfg0.N) (h : t.val % 10 = 5) :
    (owns (c : Thread nD τ) (ms0_5 t) fullShare (kvOf (k0_pay2 (rows m c t) (iblk m c 2 t))) : sProp 𝕄) ⊢ (dats m 0 c).leavesExact 5 t := by
  unfold Pipeline.Dat.leavesExact
  rw [idle0_5_live t h]
  show _ ⊢ owns (c : Thread nD τ) (ms0_5 t) fullShare ((dats m 0 c).after 5 t)
  rw [after0_5]
  unfold kvB; rw [at_self t 5 _ h]
  exact .rfl

/-- Cache output 3 is live at its own column block only. -/
theorem idle0_6_live (t : Fin cfg0.N) (h : t.val % 10 = 6) : cfg0.idle 6 (cfg0.grid.coords t) = false := by
  show (!(k0_cond4 (grid0.coords t) == 1#1)) = false
  rw [(cond4_iff t).mpr h]; rfl
theorem idle0_6_idle (t : Fin cfg0.N) (h : t.val % 10 ≠ 6) : cfg0.idle 6 (cfg0.grid.coords t) = true := by
  show (!(k0_cond4 (grid0.coords t) == 1#1)) = true
  have : ¬ k0_cond4 (grid0.coords t) = 1#1 := fun hc => h ((cond4_iff t).mp hc)
  simp [this]
theorem noflush0_6 (t : Fin cfg0.N) (h : t.val % 10 ≠ 9) : (cfg0.win 6).flush t = false := by
  cases hf : (cfg0.win 6).flush t
  · rfl
  · exact absurd ((flush0_6 t).mp hf) h

/-- After its store, and until it is written back, the buffer holds the row block's cache block. -/
theorem before0_6 (c : Dev nD) (d) : ∀ (n : ℕ) (t : Fin cfg0.N), t.val % 10 = n → 6 < n → (dats m 0 c).before 6 t d = kvB m c t 6 (by decide) := by
  intro n
  induction n with
  | zero => intro t _ hw; exact absurd hw (by decide)
  | succ n ih =>
    intro t ht hw
    have hN := val_lt t
    have h1 : (t.val - 1) % 10 = n := by omega
    rw [(dats m 0 c).before_of_pos 6 t (by omega) rfl d, noflush0_6 ⟨t.val - 1, _⟩ (by show (t.val - 1) % 10 ≠ 9; omega), if_neg Bool.false_ne_true]
    unfold Pipeline.Dat.left
    by_cases hn : n = 6
    · rw [idle0_6_live ⟨t.val - 1, _⟩ (by show (t.val - 1) % 10 = 6; omega)]
      show (dats m 0 c).after 6 ⟨t.val - 1, _⟩ = _
      rw [after0_6]
      exact kvB_congr m c _ _ _ _ (by show (t.val - 1) / 10 = t.val / 10; omega)
    · rw [idle0_6_idle ⟨t.val - 1, _⟩ (by show (t.val - 1) % 10 ≠ 6; omega)]
      show (dats m 0 c).before 6 ⟨t.val - 1, _⟩ d = _
      rw [ih ⟨t.val - 1, _⟩ h1 (by omega)]
      exact kvB_congr m c _ _ _ _ (by show (t.val - 1) / 10 = t.val / 10; omega)

/-- A point that does not store the cache output leaves its buffer as the data say. -/
theorem keep0_6 (c : Dev nD) (t : Fin cfg0.N) (h : t.val % 10 ≠ 6) (d) :
    (owns (c : Thread nD τ) (ms0_6 t) fullShare ((dats m 0 c).before 6 t d) : sProp 𝕄) ⊢ (dats m 0 c).leavesExact 6 t := by
  by_cases h9 : t.val % 10 = 9
  · rw [before0_6 m c d 9 t h9 (by decide)]
    unfold Pipeline.Dat.leavesExact
    rw [idle0_6_idle t h, (flush0_6 t).mpr h9]
    show _ ⊢ owns (c : Thread nD τ) (ms0_6 t) fullShare ((dats m 0 c).after 6 t)
    rw [after0_6]
  · rw [(dats m 0 c).leavesExact_idle 6 t (idle0_6_idle t h) (noflush0_6 t h9)]
    iintro H; iexists d; iexact H

/-- The point that stores the cache output leaves its buffer at the row block's cache block. -/
theorem put0_6 (c : Dev nD) (t : Fin cfg0.N) (h : t.val % 10 = 6) :
    (owns (c : Thread nD τ) (ms0_6 t) fullShare (kvOf (k0_pay2 (rows m c t) (iblk m c 2 t))) : sProp 𝕄) ⊢ (dats m 0 c).leavesExact 6 t := by
  unfold Pipeline.Dat.leavesExact
  rw [idle0_6_live t h]
  show _ ⊢ owns (c : Thread nD τ) (ms0_6 t) fullShare ((dats m 0 c).after 6 t)
  rw [after0_6]
  unfold kvB; rw [at_self t 6 _ h]
  exact .rfl

/-- Cache output 4 is live at its own column block only. -/
theorem idle0_7_live (t : Fin cfg0.N) (h : t.val % 10 = 7) : cfg0.idle 7 (cfg0.grid.coords t) = false := by
  show (!(k0_cond5 (grid0.coords t) == 1#1)) = false
  rw [(cond5_iff t).mpr h]; rfl
theorem idle0_7_idle (t : Fin cfg0.N) (h : t.val % 10 ≠ 7) : cfg0.idle 7 (cfg0.grid.coords t) = true := by
  show (!(k0_cond5 (grid0.coords t) == 1#1)) = true
  have : ¬ k0_cond5 (grid0.coords t) = 1#1 := fun hc => h ((cond5_iff t).mp hc)
  simp [this]
theorem noflush0_7 (t : Fin cfg0.N) (h : t.val % 10 ≠ 9) : (cfg0.win 7).flush t = false := by
  cases hf : (cfg0.win 7).flush t
  · rfl
  · exact absurd ((flush0_7 t).mp hf) h

/-- After its store, and until it is written back, the buffer holds the row block's cache block. -/
theorem before0_7 (c : Dev nD) (d) : ∀ (n : ℕ) (t : Fin cfg0.N), t.val % 10 = n → 7 < n → (dats m 0 c).before 7 t d = kvB m c t 7 (by decide) := by
  intro n
  induction n with
  | zero => intro t _ hw; exact absurd hw (by decide)
  | succ n ih =>
    intro t ht hw
    have hN := val_lt t
    have h1 : (t.val - 1) % 10 = n := by omega
    rw [(dats m 0 c).before_of_pos 7 t (by omega) rfl d, noflush0_7 ⟨t.val - 1, _⟩ (by show (t.val - 1) % 10 ≠ 9; omega), if_neg Bool.false_ne_true]
    unfold Pipeline.Dat.left
    by_cases hn : n = 7
    · rw [idle0_7_live ⟨t.val - 1, _⟩ (by show (t.val - 1) % 10 = 7; omega)]
      show (dats m 0 c).after 7 ⟨t.val - 1, _⟩ = _
      rw [after0_7]
      exact kvB_congr m c _ _ _ _ (by show (t.val - 1) / 10 = t.val / 10; omega)
    · rw [idle0_7_idle ⟨t.val - 1, _⟩ (by show (t.val - 1) % 10 ≠ 7; omega)]
      show (dats m 0 c).before 7 ⟨t.val - 1, _⟩ d = _
      rw [ih ⟨t.val - 1, _⟩ h1 (by omega)]
      exact kvB_congr m c _ _ _ _ (by show (t.val - 1) / 10 = t.val / 10; omega)

/-- A point that does not store the cache output leaves its buffer as the data say. -/
theorem keep0_7 (c : Dev nD) (t : Fin cfg0.N) (h : t.val % 10 ≠ 7) (d) :
    (owns (c : Thread nD τ) (ms0_7 t) fullShare ((dats m 0 c).before 7 t d) : sProp 𝕄) ⊢ (dats m 0 c).leavesExact 7 t := by
  by_cases h9 : t.val % 10 = 9
  · rw [before0_7 m c d 9 t h9 (by decide)]
    unfold Pipeline.Dat.leavesExact
    rw [idle0_7_idle t h, (flush0_7 t).mpr h9]
    show _ ⊢ owns (c : Thread nD τ) (ms0_7 t) fullShare ((dats m 0 c).after 7 t)
    rw [after0_7]
  · rw [(dats m 0 c).leavesExact_idle 7 t (idle0_7_idle t h) (noflush0_7 t h9)]
    iintro H; iexists d; iexact H

/-- The point that stores the cache output leaves its buffer at the row block's cache block. -/
theorem put0_7 (c : Dev nD) (t : Fin cfg0.N) (h : t.val % 10 = 7) :
    (owns (c : Thread nD τ) (ms0_7 t) fullShare (kvOf (k0_pay2 (rows m c t) (iblk m c 2 t))) : sProp 𝕄) ⊢ (dats m 0 c).leavesExact 7 t := by
  unfold Pipeline.Dat.leavesExact
  rw [idle0_7_live t h]
  show _ ⊢ owns (c : Thread nD τ) (ms0_7 t) fullShare ((dats m 0 c).after 7 t)
  rw [after0_7]
  unfold kvB; rw [at_self t 7 _ h]
  exact .rfl

/-! ## The body obligation, at a generic point -/

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (dats m 0 c).leavesExact 4 t
    ∗ (dats m 0 c).leavesExact 5 t
    ∗ (dats m 0 c).leavesExact 6 t
    ∗ (dats m 0 c).leavesExact 7 t)

set_option maxHeartbeats 1600000 in
/-- The first column block of the first row block: the scratch is found at anything. -/
theorem sound_first_zero (c : Dev nD) (t : Fin cfg0.N) (h : t.val % 10 = 0) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2, after0_3]
  rw [show (dats m 0 c).Φ t.succ = PhiS m c (t.val + 1) t.isLt from rfl, PhiS_succ]
  have hN := val_lt t
  rw [PhiS_castSucc m c t, PhiS_zero m c _ _ hz, PhiA0_eq]
  unfold outB; rw [rows_congr m c ⟨t.val, t.isLt⟩ t rfl, rows_first m c t h]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_first c (grid0.coords t) _ _ _ _ _ _ _ _ _ _ _ _ _ _ _ _ _ _ ((cond1_iff t).mpr h) (fun hc => absurd ((cond2_iff t).mp hc) (by omega)) (fun hc => absurd ((cond3_iff t).mp hc) (by omega)) (fun hc => absurd ((cond4_iff t).mp hc) (by omega)) (fun hc => absurd ((cond5_iff t).mp hc) (by omega)) (iblk m c 0 t) (iblk m c 1 t) (iblk m c 2 t) _ _ _ _ Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iapply (keep0_4 m c t (by omega) _); iexact H4
  isplitl [H5]; · iapply (keep0_5 m c t (by omega) _); iexact H5
  isplitl [H6]; · iapply (keep0_6 m c t (by omega) _); iexact H6
  iapply (keep0_7 m c t (by omega) _); iexact H7

set_option maxHeartbeats 1600000 in
/-- The first column block of a later row block: the scratch is found at the rows of the row block before. -/
theorem sound_first_pos (c : Dev nD) (t : Fin cfg0.N) (h : t.val % 10 = 0) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2, after0_3]
  rw [show (dats m 0 c).Φ t.succ = PhiS m c (t.val + 1) t.isLt from rfl, PhiS_succ]
  have hN := val_lt t
  rw [PhiS_castSucc m c t, PhiS_pos m c _ _ hz]
  unfold outB; rw [rows_congr m c ⟨t.val, t.isLt⟩ t rfl, rows_first m c t h]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_first c (grid0.coords t) _ _ _ _ _ _ _ _ _ _ _ _ _ _ _ _ _ _ ((cond1_iff t).mpr h) (fun hc => absurd ((cond2_iff t).mp hc) (by omega)) (fun hc => absurd ((cond3_iff t).mp hc) (by omega)) (fun hc => absurd ((cond4_iff t).mp hc) (by omega)) (fun hc => absurd ((cond5_iff t).mp hc) (by omega)) (iblk m c 0 t) (iblk m c 1 t) (iblk m c 2 t) _ _ _ _ Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [HS0]; · iexists _; iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iapply (keep0_4 m c t (by omega) _); iexact H4
  isplitl [H5]; · iapply (keep0_5 m c t (by omega) _); iexact H5
  isplitl [H6]; · iapply (keep0_6 m c t (by omega) _); iexact H6
  iapply (keep0_7 m c t (by omega) _); iexact H7

set_option maxHeartbeats 1600000 in
/-- A column block that is neither the first nor a cache output's. -/
theorem sound_plain (c : Dev nD) (t : Fin cfg0.N) (h0 : t.val % 10 ≠ 0) (h4 : t.val % 10 ≠ 4) (h5 : t.val % 10 ≠ 5) (h6 : t.val % 10 ≠ 6) (h7 : t.val % 10 ≠ 7) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2, after0_3]
  rw [show (dats m 0 c).Φ t.succ = PhiS m c (t.val + 1) t.isLt from rfl, PhiS_succ]
  have hN := val_lt t
  rw [PhiS_castSucc m c t, PhiS_pos m c _ _ (by omega), rows_congr m c ⟨t.val - 1, _⟩ t (by show (t.val - 1) / 10 = t.val / 10; omega)]
  unfold outB; rw [rows_congr m c ⟨t.val, t.isLt⟩ t rfl]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_plain c (grid0.coords t) _ _ _ _ _ _ _ _ _ _ _ _ _ _ _ _ _ _ (fun hc => absurd ((cond1_iff t).mp hc) (by omega)) (fun hc => absurd ((cond2_iff t).mp hc) (by omega)) (fun hc => absurd ((cond3_iff t).mp hc) (by omega)) (fun hc => absurd ((cond4_iff t).mp hc) (by omega)) (fun hc => absurd ((cond5_iff t).mp hc) (by omega)) (iblk m c 0 t) (iblk m c 1 t) (iblk m c 2 t) _ _ _ _ (rows m c t) Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iapply (keep0_4 m c t (by omega) _); iexact H4
  isplitl [H5]; · iapply (keep0_5 m c t (by omega) _); iexact H5
  isplitl [H6]; · iapply (keep0_6 m c t (by omega) _); iexact H6
  iapply (keep0_7 m c t (by omega) _); iexact H7

set_option maxHeartbeats 1600000 in
/-- The column block of cache output 1. -/
theorem sound_kv4 (c : Dev nD) (t : Fin cfg0.N) (h : t.val % 10 = 4) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2, after0_3]
  rw [show (dats m 0 c).Φ t.succ = PhiS m c (t.val + 1) t.isLt from rfl, PhiS_succ]
  have hN := val_lt t
  rw [PhiS_castSucc m c t, PhiS_pos m c _ _ (by omega), rows_congr m c ⟨t.val - 1, _⟩ t (by show (t.val - 1) / 10 = t.val / 10; omega)]
  unfold outB; rw [rows_congr m c ⟨t.val, t.isLt⟩ t rfl]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_kv4 c (grid0.coords t) _ _ _ _ _ _ _ _ _ _ _ _ _ _ _ _ _ _ (fun hc => absurd ((cond1_iff t).mp hc) (by omega)) ((cond2_iff t).mpr h) (fun hc => absurd ((cond3_iff t).mp hc) (by omega)) (fun hc => absurd ((cond4_iff t).mp hc) (by omega)) (fun hc => absurd ((cond5_iff t).mp hc) (by omega)) (iblk m c 0 t) (iblk m c 1 t) (iblk m c 2 t) _ _ _ _ (rows m c t) Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iapply (put0_4 m c t h); iexact H4
  isplitl [H5]; · iapply (keep0_5 m c t (by omega) _); iexact H5
  isplitl [H6]; · iapply (keep0_6 m c t (by omega) _); iexact H6
  iapply (keep0_7 m c t (by omega) _); iexact H7

set_option maxHeartbeats 1600000 in
/-- The column block of cache output 2. -/
theorem sound_kv5 (c : Dev nD) (t : Fin cfg0.N) (h : t.val % 10 = 5) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2, after0_3]
  rw [show (dats m 0 c).Φ t.succ = PhiS m c (t.val + 1) t.isLt from rfl, PhiS_succ]
  have hN := val_lt t
  rw [PhiS_castSucc m c t, PhiS_pos m c _ _ (by omega), rows_congr m c ⟨t.val - 1, _⟩ t (by show (t.val - 1) / 10 = t.val / 10; omega)]
  unfold outB; rw [rows_congr m c ⟨t.val, t.isLt⟩ t rfl]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_kv5 c (grid0.coords t) _ _ _ _ _ _ _ _ _ _ _ _ _ _ _ _ _ _ (fun hc => absurd ((cond1_iff t).mp hc) (by omega)) (fun hc => absurd ((cond2_iff t).mp hc) (by omega)) ((cond3_iff t).mpr h) (fun hc => absurd ((cond4_iff t).mp hc) (by omega)) (fun hc => absurd ((cond5_iff t).mp hc) (by omega)) (iblk m c 0 t) (iblk m c 1 t) (iblk m c 2 t) _ _ _ _ (rows m c t) Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iapply (keep0_4 m c t (by omega) _); iexact H4
  isplitl [H5]; · iapply (put0_5 m c t h); iexact H5
  isplitl [H6]; · iapply (keep0_6 m c t (by omega) _); iexact H6
  iapply (keep0_7 m c t (by omega) _); iexact H7

set_option maxHeartbeats 1600000 in
/-- The column block of cache output 3. -/
theorem sound_kv6 (c : Dev nD) (t : Fin cfg0.N) (h : t.val % 10 = 6) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2, after0_3]
  rw [show (dats m 0 c).Φ t.succ = PhiS m c (t.val + 1) t.isLt from rfl, PhiS_succ]
  have hN := val_lt t
  rw [PhiS_castSucc m c t, PhiS_pos m c _ _ (by omega), rows_congr m c ⟨t.val - 1, _⟩ t (by show (t.val - 1) / 10 = t.val / 10; omega)]
  unfold outB; rw [rows_congr m c ⟨t.val, t.isLt⟩ t rfl]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_kv6 c (grid0.coords t) _ _ _ _ _ _ _ _ _ _ _ _ _ _ _ _ _ _ (fun hc => absurd ((cond1_iff t).mp hc) (by omega)) (fun hc => absurd ((cond2_iff t).mp hc) (by omega)) (fun hc => absurd ((cond3_iff t).mp hc) (by omega)) ((cond4_iff t).mpr h) (fun hc => absurd ((cond5_iff t).mp hc) (by omega)) (iblk m c 0 t) (iblk m c 1 t) (iblk m c 2 t) _ _ _ _ (rows m c t) Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iapply (keep0_4 m c t (by omega) _); iexact H4
  isplitl [H5]; · iapply (keep0_5 m c t (by omega) _); iexact H5
  isplitl [H6]; · iapply (put0_6 m c t h); iexact H6
  iapply (keep0_7 m c t (by omega) _); iexact H7

set_option maxHeartbeats 1600000 in
/-- The column block of cache output 4. -/
theorem sound_kv7 (c : Dev nD) (t : Fin cfg0.N) (h : t.val % 10 = 7) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2, after0_3]
  rw [show (dats m 0 c).Φ t.succ = PhiS m c (t.val + 1) t.isLt from rfl, PhiS_succ]
  have hN := val_lt t
  rw [PhiS_castSucc m c t, PhiS_pos m c _ _ (by omega), rows_congr m c ⟨t.val - 1, _⟩ t (by show (t.val - 1) / 10 = t.val / 10; omega)]
  unfold outB; rw [rows_congr m c ⟨t.val, t.isLt⟩ t rfl]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_kv7 c (grid0.coords t) _ _ _ _ _ _ _ _ _ _ _ _ _ _ _ _ _ _ (fun hc => absurd ((cond1_iff t).mp hc) (by omega)) (fun hc => absurd ((cond2_iff t).mp hc) (by omega)) (fun hc => absurd ((cond3_iff t).mp hc) (by omega)) (fun hc => absurd ((cond4_iff t).mp hc) (by omega)) ((cond5_iff t).mpr h) (iblk m c 0 t) (iblk m c 1 t) (iblk m c 2 t) _ _ _ _ (rows m c t) Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iapply (keep0_4 m c t (by omega) _); iexact H4
  isplitl [H5]; · iapply (keep0_5 m c t (by omega) _); iexact H5
  isplitl [H6]; · iapply (keep0_6 m c t (by omega) _); iexact H6
  iapply (put0_7 m c t h); iexact H7

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 10 = 0
  · by_cases hz : t.val = 0
    · exact sound_first_zero m c t h0 hz
    · exact sound_first_pos m c t h0 hz
  by_cases h4 : t.val % 10 = 4
  · exact sound_kv4 m c t h4
  by_cases h5 : t.val % 10 = 5
  · exact sound_kv5 m c t h5
  by_cases h6 : t.val % 10 = 6
  · exact sound_kv6 m c t h6
  by_cases h7 : t.val % 10 = 7
  · exact sound_kv7 m c t h7
  exact sound_plain m c t h0 h4 h5 h6 h7

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 80 := N_0; omega)

/-! ## The run and the frame -/

set_option backward.isDefEq.respectTransparency.types false in
/-- The launch: the frame post of the proof data, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they were launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: every run ends, with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Proof.CdIn.Ideal

end
-- ==== Proof.CdIn.Printed.lean ====
/- The printed program of the second layer's input projection at the prompt's rows: its frame. -/
module

public import proofs.«01_k».proof.Proof.CdIn.Ideal.Frame
public import proofs.«01_k».proof.Proof.Gen.Kernel6.Skeleton

@[expose] public section

namespace Proof.CdIn.Printed

open Idealize.ShloMosaic Idealize.ShloMosaic.TcCoe Idealize.SL.Sem

variable {F : FTy → Type} [FloatOps F]

/-- Before pipelining, the printed program and its idealized program have the same bodies, for the call's own body computes
    only with operations that idealizing leaves as they are. -/
theorem bodies_eq : Cert.Kernel6.defs₀ (F := F) = Cert.Kernel6Ideal.defs₀ (F := F) := by
  unfold Cert.Kernel6.defs₀ Cert.Kernel6Ideal.defs₀
  refine congrArg Defs.onTc ?_
  funext l a
  match l, a with
  | ⟨0, _⟩, (t, s) => rfl

/-- So the two programs have the same bodies with the pipelines around them, too. -/
theorem defs_eq : Cert.Kernel6.defs (F := F) = Cert.Kernel6Ideal.defs (F := F) := by
  unfold Cert.Kernel6.defs Cert.Kernel6Ideal.defs
  exact congrArg (Pipeline.defs (Cert.Kernel6Ideal.pcfgs (F := F))) bodies_eq

open Cert.Kernel6 in
/-- The printed program runs, leaving its arguments and every counter as they were: the idealized program does. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Proof.CdIn.Ideal.frame (F := F) m ρ

end Proof.CdIn.Printed

end
-- ==== Proof.CdIn.Weight.lean ====
/-
  The second layer's wide weight, column by column: the weight's columns regrouped, with zero columns between the groups.
-/
module

public import proofs.«01_k».proof.Proof.CdIn.Ideal.Frame
public import proofs.«01_k».proof.Proof.Proj.Norm
public import Idealize.ShloMosaic.Lib.Pipeline.Value
public import Idealize.ShloMosaic.Lib.StableHlo.ReadAt
public import Idealize.ShloMosaic.Lib.Pointwise

@[expose] public section

set_option maxRecDepth 16384

noncomputable section

namespace Cert.CdIn

open Cert.Kernel6Ideal Cert.Kernel6Ideal.Gen Proof.CdIn.Ideal Idealize.ShloMosaic Idealize.ShloMosaic.TcCoe Idealize.SL.Sem Cert.Proj

variable (m : (ℓ : Loc nD τ sig) → Buf (Elt Ideal) ℓ)

/-- The rows that enter the layer. -/
abbrev X (c : Dev nD) : S8192x2048.Idx → EReal := m ((c : Thread nD τ).loc main_arg0)
/-- The gains of both layers. -/
abbrev Gains (c : Dev nD) : S2x2048.Idx → EReal := m ((c : Thread nD τ).loc main_arg1)
/-- The weight. -/
abbrev Wt (c : Dev nD) : S1x2048x4704.Idx → EReal := m ((c : Thread nD τ).loc main_arg2)

/-- The gain as one row. -/
theorem V_g (c : Dev nD) (d : Fin 2048) : V m c main_v17 (ix2 0 d) = Gains m c (ix2 1 d) := by
  unfold V hostOps0
  after_reads_at
  try rfl

/-- Piece 1 of the wide weight: the weight's columns from 0 on. -/
theorem V_v1 (c : Dev nD) (d : Fin 2048) (e : Fin 1024) : (V m c main_v1 : S2048x1024.Idx → EReal) (ix2 d e) = Wt m c (ix3 0 d ⟨0 + e.val, by omega⟩) := by
  unfold V hostOps0
  after_reads_at
  try rfl
/-- Piece 4 of the wide weight: the weight's columns from 2584 on. -/
theorem V_v4 (c : Dev nD) (d : Fin 2048) (e : Fin 1024) : (V m c main_v4 : S2048x1024.Idx → EReal) (ix2 d e) = Wt m c (ix3 0 d ⟨2584 + e.val, by omega⟩) := by
  unfold V hostOps0
  after_reads_at
  try rfl
/-- Piece 2 of the wide weight: the weight's columns from 1024 on. -/
theorem V_v2 (c : Dev nD) (d : Fin 2048) (e : Fin 1536) : (V m c main_v2 : S2048x1536.Idx → EReal) (ix2 d e) = Wt m c (ix3 0 d ⟨1024 + e.val, by omega⟩) := by
  unfold V hostOps0
  after_reads_at
  try rfl
/-- Piece 5 of the wide weight: the weight's columns from 3608 on. -/
theorem V_v5 (c : Dev nD) (d : Fin 2048) (e : Fin 512) : (V m c main_v5 : S2048x512.Idx → EReal) (ix2 d e) = Wt m c (ix3 0 d ⟨3608 + e.val, by omega⟩) := by
  unfold V hostOps0
  after_reads_at
  try rfl
/-- Piece 6 of the wide weight: the weight's columns from 4120 on. -/
theorem V_v6 (c : Dev nD) (d : Fin 2048) (e : Fin 512) : (V m c main_v6 : S2048x512.Idx → EReal) (ix2 d e) = Wt m c (ix3 0 d ⟨4120 + e.val, by omega⟩) := by
  unfold V hostOps0
  after_reads_at
  try rfl
/-- Piece 7 of the wide weight: the weight's columns from 4632 on. -/
theorem V_v7 (c : Dev nD) (d : Fin 2048) (e : Fin 64) : (V m c main_v7 : S2048x64.Idx → EReal) (ix2 d e) = Wt m c (ix3 0 d ⟨4632 + e.val, by omega⟩) := by
  unfold V hostOps0
  after_reads_at
  try rfl
/-- Piece 9 of the wide weight: zero. -/
theorem V_v9 (c : Dev nD) (d : Fin 2048) (e : Fin 64) : (V m c main_v9 : S2048x64.Idx → EReal) (ix2 d e) = (0 : EReal) := by
  unfold V hostOps0
  after_reads_at
  try rfl
/-- Piece 3 of the wide weight: the weight's columns from 2560 on. -/
theorem V_v3 (c : Dev nD) (d : Fin 2048) (e : Fin 24) : (V m c main_v3 : S2048x24.Idx → EReal) (ix2 d e) = Wt m c (ix3 0 d ⟨2560 + e.val, by omega⟩) := by
  unfold V hostOps0
  after_reads_at
  try rfl
/-- Piece 10 of the wide weight: zero. -/
theorem V_v10 (c : Dev nD) (d : Fin 2048) (e : Fin 104) : (V m c main_v10 : S2048x104.Idx → EReal) (ix2 d e) = (0 : EReal) := by
  unfold V hostOps0
  after_reads_at
  try rfl
/-- Piece 8 of the wide weight: the weight's columns from 4696 on. -/
theorem V_v8 (c : Dev nD) (d : Fin 2048) (e : Fin 8) : (V m c main_v8 : S2048x8.Idx → EReal) (ix2 d e) = Wt m c (ix3 0 d ⟨4696 + e.val, by omega⟩) := by
  unfold V hostOps0
  after_reads_at
  try rfl
/-- Piece 11 of the wide weight: zero. -/
theorem V_v11 (c : Dev nD) (d : Fin 2048) (e : Fin 120) : (V m c main_v11 : S2048x120.Idx → EReal) (ix2 d e) = (0 : EReal) := by
  unfold V hostOps0
  after_reads_at
  try rfl
/-- Piece 12 of the wide weight: zero. -/
theorem V_v12 (c : Dev nD) (d : Fin 2048) (e : Fin 128) : (V m c main_v12 : S2048x128.Idx → EReal) (ix2 d e) = (0 : EReal) := by
  unfold V hostOps0
  after_reads_at
  try rfl

/-- What the host operations before the concatenation leave. -/
abbrev U (c : Dev nD) (r : Ref sig .tc) := StableHlo.upto (hostOps0 (F := Ideal)) (fun b => m (c, b)) 17 (Proc.tc.devRef r)

/-- Piece 1 isn't written again. -/
theorem U_v1 (c : Dev nD) : (U m c main_v1 : S2048x1024.Idx → EReal) = V m c main_v1 := by
  unfold V
  after_reads_simp

/-- Piece 4 isn't written again. -/
theorem U_v4 (c : Dev nD) : (U m c main_v4 : S2048x1024.Idx → EReal) = V m c main_v4 := by
  unfold V
  after_reads_simp

/-- Piece 2 isn't written again. -/
theorem U_v2 (c : Dev nD) : (U m c main_v2 : S2048x1536.Idx → EReal) = V m c main_v2 := by
  unfold V
  after_reads_simp

/-- Piece 5 isn't written again. -/
theorem U_v5 (c : Dev nD) : (U m c main_v5 : S2048x512.Idx → EReal) = V m c main_v5 := by
  unfold V
  after_reads_simp

/-- Piece 6 isn't written again. -/
theorem U_v6 (c : Dev nD) : (U m c main_v6 : S2048x512.Idx → EReal) = V m c main_v6 := by
  unfold V
  after_reads_simp

/-- Piece 7 isn't written again. -/
theorem U_v7 (c : Dev nD) : (U m c main_v7 : S2048x64.Idx → EReal) = V m c main_v7 := by
  unfold V
  after_reads_simp

/-- Piece 9 isn't written again. -/
theorem U_v9 (c : Dev nD) : (U m c main_v9 : S2048x64.Idx → EReal) = V m c main_v9 := by
  unfold V
  after_reads_simp

/-- Piece 3 isn't written again. -/
theorem U_v3 (c : Dev nD) : (U m c main_v3 : S2048x24.Idx → EReal) = V m c main_v3 := by
  unfold V
  after_reads_simp

/-- Piece 10 isn't written again. -/
theorem U_v10 (c : Dev nD) : (U m c main_v10 : S2048x104.Idx → EReal) = V m c main_v10 := by
  unfold V
  after_reads_simp

/-- Piece 8 isn't written again. -/
theorem U_v8 (c : Dev nD) : (U m c main_v8 : S2048x8.Idx → EReal) = V m c main_v8 := by
  unfold V
  after_reads_simp

/-- Piece 11 isn't written again. -/
theorem U_v11 (c : Dev nD) : (U m c main_v11 : S2048x120.Idx → EReal) = V m c main_v11 := by
  unfold V
  after_reads_simp

/-- Piece 12 isn't written again. -/
theorem U_v12 (c : Dev nD) : (U m c main_v12 : S2048x128.Idx → EReal) = V m c main_v12 := by
  unfold V
  after_reads_simp

/-- The twelve pieces. -/
abbrev pieces (c : Dev nD) : List ((s : Shape) × (s.Idx → EReal)) :=
  [⟨S2048x1024, (U m c main_v1 : S2048x1024.Idx → EReal)⟩, ⟨S2048x1024, (U m c main_v4 : S2048x1024.Idx → EReal)⟩, ⟨S2048x1536, (U m c main_v2 : S2048x1536.Idx → EReal)⟩, ⟨S2048x512, (U m c main_v5 : S2048x512.Idx → EReal)⟩, ⟨S2048x512, (U m c main_v6 : S2048x512.Idx → EReal)⟩, ⟨S2048x64, (U m c main_v7 : S2048x64.Idx → EReal)⟩, ⟨S2048x64, (U m c main_v9 : S2048x64.Idx → EReal)⟩, ⟨S2048x24, (U m c main_v3 : S2048x24.Idx → EReal)⟩, ⟨S2048x104, (U m c main_v10 : S2048x104.Idx → EReal)⟩, ⟨S2048x8, (U m c main_v8 : S2048x8.Idx → EReal)⟩, ⟨S2048x120, (U m c main_v11 : S2048x120.Idx → EReal)⟩, ⟨S2048x128, (U m c main_v12 : S2048x128.Idx → EReal)⟩]

/-- The wide weight is its twelve pieces side by side. -/
theorem V_v13 (c : Dev nD) : (V m c main_v13 : S2048x5120.Idx → EReal) = concatenate S2048x5120 1 (pieces m c) concatenates_S2048x1024_S2048x1024_S2048x1536_S2048x512_S2048x512_S2048x64_S2048x64_S2048x24_S2048x104_S2048x8_S2048x120_S2048x128_S2048x5120_d1 := by
  unfold V
  after_reads_simp
  rfl

/-- Rounding changes nothing. -/
theorem round_apply (x : FVec Ideal S2048x5120 .f32) (i : S2048x5120.Idx) : (truncf (F := Ideal) .bf16 x bitsLt_bf16_f32 : S2048x5120.Idx → EReal) i = x i := by
  obtain ⟨d, E, rfl⟩ : ∃ (d : Fin 2048) (E : Fin 5120), i = ix2 d E := ⟨i 0, i 1, eq_ix2 i⟩
  pointwise

/-- The weight that the launch reads is the wide weight, rounded. -/
theorem V_v14 (c : Dev nD) : (V m c main_v14 : FVec Ideal S2048x5120 .bf16) = truncf (F := Ideal) .bf16 (V m c main_v13 : FVec Ideal S2048x5120 .f32) bitsLt_bf16_f32 := by
  unfold V
  after_reads_simp

/-- Columns 0 to 1023 of the wide weight: the weight's columns from 0 on. -/
theorem wide_0 (c : Dev nD) (d : Fin 2048) (e : Fin 1024) (E : Fin 5120) (h : E.val = 0 + e.val) :
    (V m c main_v14 : S2048x5120.Idx → EReal) (ix2 d E) = Wt m c (ix3 0 d ⟨0 + e.val, by omega⟩) := by
  refine (congrFun (V_v14 m c) _).trans ((round_apply _ _).trans ?_)
  rw [V_v13]
  refine (concatenate_apply_piece (1 : Fin 2) (pieces m c) _ (ix2 d E) 0 (by decide : 0 < 12) S2048x1024 (U m c main_v1 : S2048x1024.Idx → EReal) rfl rfl 0 rfl (ix2 d e) ?_ ?_).trans ?_
  · intro b hb
    match b with
    | ⟨0, _⟩ => rfl
    | ⟨1, _⟩ => exact absurd rfl hb
  · exact h.symm
  · rw [U_v1, V_v1]

/-- Columns 1024 to 2047 of the wide weight: the weight's columns from 2584 on. -/
theorem wide_1024 (c : Dev nD) (d : Fin 2048) (e : Fin 1024) (E : Fin 5120) (h : E.val = 1024 + e.val) :
    (V m c main_v14 : S2048x5120.Idx → EReal) (ix2 d E) = Wt m c (ix3 0 d ⟨2584 + e.val, by omega⟩) := by
  refine (congrFun (V_v14 m c) _).trans ((round_apply _ _).trans ?_)
  rw [V_v13]
  refine (concatenate_apply_piece (1 : Fin 2) (pieces m c) _ (ix2 d E) 1 (by decide : 1 < 12) S2048x1024 (U m c main_v4 : S2048x1024.Idx → EReal) rfl rfl 1024 rfl (ix2 d e) ?_ ?_).trans ?_
  · intro b hb
    match b with
    | ⟨0, _⟩ => rfl
    | ⟨1, _⟩ => exact absurd rfl hb
  · exact h.symm
  · rw [U_v4, V_v4]

/-- Columns 2048 to 3583 of the wide weight: the weight's columns from 1024 on. -/
theorem wide_2048 (c : Dev nD) (d : Fin 2048) (e : Fin 1536) (E : Fin 5120) (h : E.val = 2048 + e.val) :
    (V m c main_v14 : S2048x5120.Idx → EReal) (ix2 d E) = Wt m c (ix3 0 d ⟨1024 + e.val, by omega⟩) := by
  refine (congrFun (V_v14 m c) _).trans ((round_apply _ _).trans ?_)
  rw [V_v13]
  refine (concatenate_apply_piece (1 : Fin 2) (pieces m c) _ (ix2 d E) 2 (by decide : 2 < 12) S2048x1536 (U m c main_v2 : S2048x1536.Idx → EReal) rfl rfl 2048 rfl (ix2 d e) ?_ ?_).trans ?_
  · intro b hb
    match b with
    | ⟨0, _⟩ => rfl
    | ⟨1, _⟩ => exact absurd rfl hb
  · exact h.symm
  · rw [U_v2, V_v2]

/-- Columns 3584 to 4095 of the wide weight: the weight's columns from 3608 on. -/
theorem wide_3584 (c : Dev nD) (d : Fin 2048) (e : Fin 512) (E : Fin 5120) (h : E.val = 3584 + e.val) :
    (V m c main_v14 : S2048x5120.Idx → EReal) (ix2 d E) = Wt m c (ix3 0 d ⟨3608 + e.val, by omega⟩) := by
  refine (congrFun (V_v14 m c) _).trans ((round_apply _ _).trans ?_)
  rw [V_v13]
  refine (concatenate_apply_piece (1 : Fin 2) (pieces m c) _ (ix2 d E) 3 (by decide : 3 < 12) S2048x512 (U m c main_v5 : S2048x512.Idx → EReal) rfl rfl 3584 rfl (ix2 d e) ?_ ?_).trans ?_
  · intro b hb
    match b with
    | ⟨0, _⟩ => rfl
    | ⟨1, _⟩ => exact absurd rfl hb
  · exact h.symm
  · rw [U_v5, V_v5]

/-- Columns 4096 to 4607 of the wide weight: the weight's columns from 4120 on. -/
theorem wide_4096 (c : Dev nD) (d : Fin 2048) (e : Fin 512) (E : Fin 5120) (h : E.val = 4096 + e.val) :
    (V m c main_v14 : S2048x5120.Idx → EReal) (ix2 d E) = Wt m c (ix3 0 d ⟨4120 + e.val, by omega⟩) := by
  refine (congrFun (V_v14 m c) _).trans ((round_apply _ _).trans ?_)
  rw [V_v13]
  refine (concatenate_apply_piece (1 : Fin 2) (pieces m c) _ (ix2 d E) 4 (by decide : 4 < 12) S2048x512 (U m c main_v6 : S2048x512.Idx → EReal) rfl rfl 4096 rfl (ix2 d e) ?_ ?_).trans ?_
  · intro b hb
    match b with
    | ⟨0, _⟩ => rfl
    | ⟨1, _⟩ => exact absurd rfl hb
  · exact h.symm
  · rw [U_v6, V_v6]

/-- Columns 4608 to 4671 of the wide weight: the weight's columns from 4632 on. -/
theorem wide_4608 (c : Dev nD) (d : Fin 2048) (e : Fin 64) (E : Fin 5120) (h : E.val = 4608 + e.val) :
    (V m c main_v14 : S2048x5120.Idx → EReal) (ix2 d E) = Wt m c (ix3 0 d ⟨4632 + e.val, by omega⟩) := by
  refine (congrFun (V_v14 m c) _).trans ((round_apply _ _).trans ?_)
  rw [V_v13]
  refine (concatenate_apply_piece (1 : Fin 2) (pieces m c) _ (ix2 d E) 5 (by decide : 5 < 12) S2048x64 (U m c main_v7 : S2048x64.Idx → EReal) rfl rfl 4608 rfl (ix2 d e) ?_ ?_).trans ?_
  · intro b hb
    match b with
    | ⟨0, _⟩ => rfl
    | ⟨1, _⟩ => exact absurd rfl hb
  · exact h.symm
  · rw [U_v7, V_v7]

/-- Columns 4672 to 4735 of the wide weight: zero. -/
theorem wide_4672 (c : Dev nD) (d : Fin 2048) (e : Fin 64) (E : Fin 5120) (h : E.val = 4672 + e.val) :
    (V m c main_v14 : S2048x5120.Idx → EReal) (ix2 d E) = (0 : EReal) := by
  refine (congrFun (V_v14 m c) _).trans ((round_apply _ _).trans ?_)
  rw [V_v13]
  refine (concatenate_apply_piece (1 : Fin 2) (pieces m c) _ (ix2 d E) 6 (by decide : 6 < 12) S2048x64 (U m c main_v9 : S2048x64.Idx → EReal) rfl rfl 4672 rfl (ix2 d e) ?_ ?_).trans ?_
  · intro b hb
    match b with
    | ⟨0, _⟩ => rfl
    | ⟨1, _⟩ => exact absurd rfl hb
  · exact h.symm
  · rw [U_v9, V_v9]

/-- Columns 4736 to 4759 of the wide weight: the weight's columns from 2560 on. -/
theorem wide_4736 (c : Dev nD) (d : Fin 2048) (e : Fin 24) (E : Fin 5120) (h : E.val = 4736 + e.val) :
    (V m c main_v14 : S2048x5120.Idx → EReal) (ix2 d E) = Wt m c (ix3 0 d ⟨2560 + e.val, by omega⟩) := by
  refine (congrFun (V_v14 m c) _).trans ((round_apply _ _).trans ?_)
  rw [V_v13]
  refine (concatenate_apply_piece (1 : Fin 2) (pieces m c) _ (ix2 d E) 7 (by decide : 7 < 12) S2048x24 (U m c main_v3 : S2048x24.Idx → EReal) rfl rfl 4736 rfl (ix2 d e) ?_ ?_).trans ?_
  · intro b hb
    match b with
    | ⟨0, _⟩ => rfl
    | ⟨1, _⟩ => exact absurd rfl hb
  · exact h.symm
  · rw [U_v3, V_v3]

/-- Columns 4760 to 4863 of the wide weight: zero. -/
theorem wide_4760 (c : Dev nD) (d : Fin 2048) (e : Fin 104) (E : Fin 5120) (h : E.val = 4760 + e.val) :
    (V m c main_v14 : S2048x5120.Idx → EReal) (ix2 d E) = (0 : EReal) := by
  refine (congrFun (V_v14 m c) _).trans ((round_apply _ _).trans ?_)
  rw [V_v13]
  refine (concatenate_apply_piece (1 : Fin 2) (pieces m c) _ (ix2 d E) 8 (by decide : 8 < 12) S2048x104 (U m c main_v10 : S2048x104.Idx → EReal) rfl rfl 4760 rfl (ix2 d e) ?_ ?_).trans ?_
  · intro b hb
    match b with
    | ⟨0, _⟩ => rfl
    | ⟨1, _⟩ => exact absurd rfl hb
  · exact h.symm
  · rw [U_v10, V_v10]

/-- Columns 4864 to 4871 of the wide weight: the weight's columns from 4696 on. -/
theorem wide_4864 (c : Dev nD) (d : Fin 2048) (e : Fin 8) (E : Fin 5120) (h : E.val = 4864 + e.val) :
    (V m c main_v14 : S2048x5120.Idx → EReal) (ix2 d E) = Wt m c (ix3 0 d ⟨4696 + e.val, by omega⟩) := by
  refine (congrFun (V_v14 m c) _).trans ((round_apply _ _).trans ?_)
  rw [V_v13]
  refine (concatenate_apply_piece (1 : Fin 2) (pieces m c) _ (ix2 d E) 9 (by decide : 9 < 12) S2048x8 (U m c main_v8 : S2048x8.Idx → EReal) rfl rfl 4864 rfl (ix2 d e) ?_ ?_).trans ?_
  · intro b hb
    match b with
    | ⟨0, _⟩ => rfl
    | ⟨1, _⟩ => exact absurd rfl hb
  · exact h.symm
  · rw [U_v8, V_v8]

/-- Columns 4872 to 4991 of the wide weight: zero. -/
theorem wide_4872 (c : Dev nD) (d : Fin 2048) (e : Fin 120) (E : Fin 5120) (h : E.val = 4872 + e.val) :
    (V m c main_v14 : S2048x5120.Idx → EReal) (ix2 d E) = (0 : EReal) := by
  refine (congrFun (V_v14 m c) _).trans ((round_apply _ _).trans ?_)
  rw [V_v13]
  refine (concatenate_apply_piece (1 : Fin 2) (pieces m c) _ (ix2 d E) 10 (by decide : 10 < 12) S2048x120 (U m c main_v11 : S2048x120.Idx → EReal) rfl rfl 4872 rfl (ix2 d e) ?_ ?_).trans ?_
  · intro b hb
    match b with
    | ⟨0, _⟩ => rfl
    | ⟨1, _⟩ => exact absurd rfl hb
  · exact h.symm
  · rw [U_v11, V_v11]

/-- Columns 4992 to 5119 of the wide weight: zero. -/
theorem wide_4992 (c : Dev nD) (d : Fin 2048) (e : Fin 128) (E : Fin 5120) (h : E.val = 4992 + e.val) :
    (V m c main_v14 : S2048x5120.Idx → EReal) (ix2 d E) = (0 : EReal) := by
  refine (congrFun (V_v14 m c) _).trans ((round_apply _ _).trans ?_)
  rw [V_v13]
  refine (concatenate_apply_piece (1 : Fin 2) (pieces m c) _ (ix2 d E) 11 (by decide : 11 < 12) S2048x128 (U m c main_v12 : S2048x128.Idx → EReal) rfl rfl 4992 rfl (ix2 d e) ?_ ?_).trans ?_
  · intro b hb
    match b with
    | ⟨0, _⟩ => rfl
    | ⟨1, _⟩ => exact absurd rfl hb
  · exact h.symm
  · rw [U_v12, V_v12]

/-- The weight's column under a column of the wide weight; 4704 where there is none. -/
def src (E : ℕ) : ℕ :=
  if E < 1024 then E else if E < 2048 then E + 1560 else if E < 3584 then E - 1024 else if E < 4672 then E + 24
  else if E < 4736 then 4704 else if E < 4760 then E - 2176 else if E < 4864 then 4704 else if E < 4872 then E - 168 else 4704

/-- The wide weight as a function of the weight: a column of the weight, or zero. -/
def wide (w : S1x2048x4704.Idx → EReal) (d : Fin 2048) (E : Fin 5120) : EReal :=
  if h : src E.val < 4704 then w (ix3 0 d ⟨src E.val, h⟩) else 0

theorem wide_some (w : S1x2048x4704.Idx → EReal) (d : Fin 2048) (E : Fin 5120) (j : Fin 4704) (h : src E.val = j.val) :
    wide w d E = w (ix3 0 d j) := by
  have hj := j.isLt
  unfold wide
  rw [dif_pos (by omega)]
  exact congrArg w (congrArg (ix3 0 d) (Fin.ext h))

theorem wide_none (w : S1x2048x4704.Idx → EReal) (d : Fin 2048) (E : Fin 5120) (h : src E.val = 4704) : wide w d E = 0 := by
  unfold wide
  rw [dif_neg (by omega)]

/-- The launch's weight is the wide weight. -/
theorem V_w (c : Dev nD) (d : Fin 2048) (E : Fin 5120) : (V m c main_v14 : S2048x5120.Idx → EReal) (ix2 d E) = wide (Wt m c) d E := by
  have hE := E.isLt
  by_cases h0 : E.val < 1024
  · exact (wide_0 m c d ⟨E.val - 0, by omega⟩ E (by show E.val = 0 + (E.val - 0); omega)).trans (wide_some _ d E _ (by show src E.val = 0 + (E.val - 0); unfold src; split_ifs <;> omega)).symm
  by_cases h1 : E.val < 2048
  · exact (wide_1024 m c d ⟨E.val - 1024, by omega⟩ E (by show E.val = 1024 + (E.val - 1024); omega)).trans (wide_some _ d E _ (by show src E.val = 2584 + (E.val - 1024); unfold src; split_ifs <;> omega)).symm
  by_cases h2 : E.val < 3584
  · exact (wide_2048 m c d ⟨E.val - 2048, by omega⟩ E (by show E.val = 2048 + (E.val - 2048); omega)).trans (wide_some _ d E _ (by show src E.val = 1024 + (E.val - 2048); unfold src; split_ifs <;> omega)).symm
  by_cases h3 : E.val < 4096
  · exact (wide_3584 m c d ⟨E.val - 3584, by omega⟩ E (by show E.val = 3584 + (E.val - 3584); omega)).trans (wide_some _ d E _ (by show src E.val = 3608 + (E.val - 3584); unfold src; split_ifs <;> omega)).symm
  by_cases h4 : E.val < 4608
  · exact (wide_4096 m c d ⟨E.val - 4096, by omega⟩ E (by show E.val = 4096 + (E.val - 4096); omega)).trans (wide_some _ d E _ (by show src E.val = 4120 + (E.val - 4096); unfold src; split_ifs <;> omega)).symm
  by_cases h5 : E.val < 4672
  · exact (wide_4608 m c d ⟨E.val - 4608, by omega⟩ E (by show E.val = 4608 + (E.val - 4608); omega)).trans (wide_some _ d E _ (by show src E.val = 4632 + (E.val - 4608); unfold src; split_ifs <;> omega)).symm
  by_cases h6 : E.val < 4736
  · exact (wide_4672 m c d ⟨E.val - 4672, by omega⟩ E (by show E.val = 4672 + (E.val - 4672); omega)).trans (wide_none _ d E (by unfold src; split_ifs <;> omega)).symm
  by_cases h7 : E.val < 4760
  · exact (wide_4736 m c d ⟨E.val - 4736, by omega⟩ E (by show E.val = 4736 + (E.val - 4736); omega)).trans (wide_some _ d E _ (by show src E.val = 2560 + (E.val - 4736); unfold src; split_ifs <;> omega)).symm
  by_cases h8 : E.val < 4864
  · exact (wide_4760 m c d ⟨E.val - 4760, by omega⟩ E (by show E.val = 4760 + (E.val - 4760); omega)).trans (wide_none _ d E (by unfold src; split_ifs <;> omega)).symm
  by_cases h9 : E.val < 4872
  · exact (wide_4864 m c d ⟨E.val - 4864, by omega⟩ E (by show E.val = 4864 + (E.val - 4864); omega)).trans (wide_some _ d E _ (by show src E.val = 4696 + (E.val - 4864); unfold src; split_ifs <;> omega)).symm
  by_cases h10 : E.val < 4992
  · exact (wide_4872 m c d ⟨E.val - 4872, by omega⟩ E (by show E.val = 4872 + (E.val - 4872); omega)).trans (wide_none _ d E (by unfold src; split_ifs <;> omega)).symm
  · exact (wide_4992 m c d ⟨E.val - 4992, by omega⟩ E (by show E.val = 4992 + (E.val - 4992); omega)).trans (wide_none _ d E (by unfold src; split_ifs <;> omega)).symm

end Cert.CdIn

end
-- ==== Proof.CdIn.Value.lean ====
/-
  What the second layer's input projection leaves in its five result arrays, element by element, over the extended reals.
-/
module

public import proofs.«01_k».proof.Proof.CdIn.Weight

@[expose] public section

set_option maxRecDepth 16384

noncomputable section

namespace Cert.CdIn

open Cert.Kernel6Ideal Cert.Kernel6Ideal.Gen Proof.CdIn.Ideal Idealize.ShloMosaic Idealize.ShloMosaic.TcCoe Idealize.SL.Sem Cert.Proj

variable (m : (ℓ : Loc nD τ sig) → Buf (Elt Ideal) ℓ)

theorem index0 : ∀ t : Fin cfg0.N, win0_0.index t = ![t.val / 10, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, t.val % 10] := (by decide +kernel : ∀ t : Fin grid0.N, _)
theorem index3 : ∀ t : Fin cfg0.N, win0_3.index t = ![t.val / 10, t.val % 10] := (by decide +kernel : ∀ t : Fin grid0.N, _)
theorem index4 : ∀ t : Fin cfg0.N, win0_4.index t = ![t.val / 10, 0] := (by decide +kernel : ∀ t : Fin grid0.N, _)
theorem index5 : ∀ t : Fin cfg0.N, win0_5.index t = ![t.val / 10, 0] := (by decide +kernel : ∀ t : Fin grid0.N, _)
theorem index6 : ∀ t : Fin cfg0.N, win0_6.index t = ![t.val / 10, 0] := (by decide +kernel : ∀ t : Fin grid0.N, _)
theorem index7 : ∀ t : Fin cfg0.N, win0_7.index t = ![t.val / 10, 0] := (by decide +kernel : ∀ t : Fin grid0.N, _)

/-- Point `t`'s rows. -/
theorem blk_x (c : Dev nD) (t : Fin cfg0.N) (r : Fin 1024) (d : Fin 2048) (R : Fin 8192) (hR : R.val = 1024 * (t.val / 10) + r.val) :
    (iblk m c 0 t : Vec Ideal S1024x2048 .f32) (ix2 r d) = X m c (ix2 R d) := by
  unfold iblk
  rw [View.read_apply]
  show V m c main_arg0 _ = _
  rw [V_main_arg0]
  congr 1
  funext a
  apply Fin.ext
  match a with
  | ⟨0, _⟩ => show win0_0.index t 0 * 1024 + 1 * r.val = R.val; rw [index0]; simp only [Matrix.cons_val_zero]; omega
  | ⟨1, _⟩ => show win0_0.index t 1 * 2048 + 1 * d.val = d.val; rw [index0]; simp only [Matrix.cons_val_one, Matrix.cons_val_zero]; omega

/-- The gain's block is the whole row. -/
theorem blk_g (c : Dev nD) (t : Fin cfg0.N) (d : Fin 2048) : (iblk m c 1 t : Vec Ideal S1x2048 .f32) (ix2 0 d) = Gains m c (ix2 1 d) := by
  unfold iblk
  rw [View.read_apply]
  show V m c main_v17 _ = _
  rw [← V_g]
  congr 1
  funext a
  apply Fin.ext
  match a with
  | ⟨0, _⟩ => show win0_1.index t 0 * 1 + 1 * 0 = 0; rw [index1]; rfl
  | ⟨1, _⟩ => show win0_1.index t 1 * 2048 + 1 * d.val = d.val; rw [index1]; show 0 * 2048 + 1 * d.val = d.val; omega

/-- Point `t`'s columns of the wide weight. -/
theorem blk_w (c : Dev nD) (t : Fin cfg0.N) (d : Fin 2048) (e : Fin 512) (E : Fin 5120) (hE : E.val = 512 * (t.val % 10) + e.val) :
    (iblk m c 2 t : Vec Ideal S2048x512 .bf16) (ix2 d e) = wide (Wt m c) d E := by
  unfold iblk
  rw [View.read_apply]
  show V m c main_v14 _ = _
  rw [← V_w]
  congr 1
  funext a
  apply Fin.ext
  match a with
  | ⟨0, _⟩ => show win0_2.index t 0 * 2048 + 1 * d.val = d.val; rw [index2]; show 0 * 2048 + 1 * d.val = d.val; omega
  | ⟨1, _⟩ => show win0_2.index t 1 * 512 + 1 * e.val = E.val; rw [index2]; show t.val % 10 * 512 + 1 * e.val = E.val; omega

/-- The normalised row `R` at `d`, with the second layer's gain. -/
def hrow (x : S8192x2048.Idx → EReal) (g : S2x2048.Idx → EReal) (R : Fin 8192) (d : Fin 2048) : EReal :=
  normed (fun j => x (ix2 R j)) (fun j => g (ix2 1 j)) d

/-- The projection of row `R` at column `E` of the wide weight. -/
def out (x : S8192x2048.Idx → EReal) (g : S2x2048.Idx → EReal) (w : S1x2048x4704.Idx → EReal) (R : Fin 8192) (E : Fin 5120) : EReal :=
  ∑ d : Fin 2048, hrow x g R d * wide w d E

/-- What goes into the scratch: the normalised rows. -/
theorem norm_apply (x : Vec Ideal S1024x2048 .f32) (g : Vec Ideal S1x2048 .f32) (r : Fin 1024) (d : Fin 2048) :
    k0_pay1 x g (ix2 r d) = normed (fun j => x (ix2 r j)) (fun j => g (ix2 0 j)) d := by
  unfold normed
  pointwise [k0_pay1]

/-- What is written: the product with the weight's columns. -/
theorem prod_apply (h : Vec Ideal S1024x2048 .bf16) (w : Vec Ideal S2048x512 .bf16) (r : Fin 1024) (e : Fin 512) :
    k0_pay2 h w (ix2 r e) = ∑ d : Fin 2048, h (ix2 r d) * w (ix2 d e) := by
  pointwise [k0_pay2]

/-- The rows of a point, normalised. -/
theorem rows_apply (c : Dev nD) (t : Fin cfg0.N) (r : Fin 1024) (R : Fin 8192) (hR : R.val = 1024 * (t.val / 10) + r.val) (d : Fin 2048) :
    rows m c t (ix2 r d) = hrow (X m c) (Gains m c) R d := by
  unfold rows
  refine (norm_apply _ _ r d).trans ?_
  unfold hrow
  rw [funext fun d => blk_x m c (at_ t 0 (by decide)) r d R (by show R.val = 1024 * ((10 * (t.val / 10) + 0) / 10) + r.val; omega),
    funext (blk_g m c (at_ t 0 (by decide)))]

/-- The block that a point computes, element by element. -/
theorem outB_apply (c : Dev nD) (t : Fin cfg0.N) (r : Fin 1024) (e : Fin 512) (R : Fin 8192) (hR : R.val = 1024 * (t.val / 10) + r.val)
    (E : Fin 5120) (hE : E.val = 512 * (t.val % 10) + e.val) : outB m c t (ix2 r e) = out (X m c) (Gains m c) (Wt m c) R E := by
  unfold outB out
  refine (prod_apply _ _ r e).trans (Finset.sum_congr rfl fun d _ => ?_)
  rw [rows_apply m c t r R hR d, blk_w m c t d e E hE]

/-- Two points have different blocks of the first result. -/
theorem apart3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (Fin.ext (by
    have h' : win0_3.index t = win0_3.index t' := h
    rw [index3, index3] at h'
    have h0 : t.val / 10 = t'.val / 10 := congrFun h' 0
    have h1 : t.val % 10 = t'.val % 10 := congrFun h' 1
    omega))

/-- Every point writes its block of the first result back. -/
theorem flush3 : ∀ t : Fin cfg0.N, (cfg0.win 3).flush t = true := (by decide +kernel : ∀ t : Fin grid0.N, win0_3.flush t = true)

/-- The projected rows, element by element. -/
theorem result_out (c : Dev nD) (R : Fin 8192) (E : Fin 5120) :
    ((dats m 0 c).arrAt 3 cfg0.N : S8192x5120.Idx → EReal) (ix2 R E) = out (X m c) (Gains m c) (Wt m c) R E := by
  have hRl := R.isLt
  have hEl := E.isLt
  have hN : cfg0.N = 80 := N_0
  obtain ⟨t, r, e, hR, hE⟩ : ∃ (t : Fin cfg0.N) (r : Fin 1024) (e : Fin 512), R.val = 1024 * (t.val / 10) + r.val ∧ E.val = 512 * (t.val % 10) + e.val :=
    ⟨⟨10 * (R.val / 1024) + E.val / 512, by omega⟩, ⟨R.val % 1024, by omega⟩, ⟨E.val % 512, by omega⟩,
      by show R.val = 1024 * ((10 * (R.val / 1024) + E.val / 512) / 10) + R.val % 1024; omega,
      by show E.val = 512 * ((10 * (R.val / 1024) + E.val / 512) % 10) + E.val % 512; omega⟩
  have hb := congrFun ((dats m 0 c).read_blk_arrAt_eq_flushed 3 apart3 cfg0.N t t.isLt (flush3 t)) (ix2 r e)
  rw [View.read_apply] at hb
  have he : ((cfg0.win 3).blk t).view.emb (ix2 r e) = ix2 R E := by
    funext a
    apply Fin.ext
    match a with
    | ⟨0, _⟩ => show win0_3.index t 0 * 1024 + 1 * r.val = R.val; rw [index3]; simp only [Matrix.cons_val_zero]; omega
    | ⟨1, _⟩ => show win0_3.index t 1 * 512 + 1 * e.val = E.val; rw [index3]; simp only [Matrix.cons_val_one, Matrix.cons_val_zero]; omega
  rw [he] at hb
  refine hb.trans ?_
  show (dats m 0 c).after 3 t (ix2 r e) = _
  rw [after0_3]
  exact outB_apply m c t r e R hR E hE

/-- A cache block, element by element. -/
theorem kvB_apply (c : Dev nD) (t : Fin cfg0.N) (j : ℕ) (hj : j < 10) (y : Fin 4096) (e : Fin 128) (Y : Fin 32768) (hY : Y.val = 4096 * (t.val / 10) + y.val)
    (R : Fin 8192) (hR : R.val = Y.val / 4) (E : Fin 5120) (hE : E.val = 512 * j + 128 * (Y.val % 4) + e.val) :
    kvB m c t j hj (ix2 y e) = out (X m c) (Gains m c) (Wt m c) R E := by
  have hy := y.isLt
  have hel := e.isLt
  unfold kvB kvOf
  refine outB_apply m c (at_ t j hj) _ _ R ?_ E ?_
  · show R.val = 1024 * ((10 * (t.val / 10) + j) / 10) + y.val / 4
    omega
  · show E.val = 512 * ((10 * (t.val / 10) + j) % 10) + (128 * (y.val % 4) + e.val)
    omega

/-- Two row blocks have different blocks of this cache result. -/
theorem apart4 : ∀ t t' : Fin cfg0.N, (cfg0.win 4).flush t = true → (cfg0.win 4).flush t' = true → t ≠ t' →
    Disjoint ((cfg0.win 4).blk t).view.set ((cfg0.win 4).blk t').view.set :=
  fun t t' hf hf' hne => (cfg0.win 4).disjoint_blk fun h => hne (Fin.ext (by
    have h' : win0_4.index t = win0_4.index t' := h
    rw [index4, index4] at h'
    have h0 : t.val / 10 = t'.val / 10 := congrFun h' 0
    have h1 : t.val % 10 = 9 := (flush0_4 t).mp hf
    have h2 : t'.val % 10 = 9 := (flush0_4 t').mp hf'
    omega))

/-- The cache result of column block 4, element by element. -/
theorem result_kv4 (c : Dev nD) (Y : Fin 32768) (e : Fin 128) (R : Fin 8192) (hR : R.val = Y.val / 4) (E : Fin 5120) (hE : E.val = 512 * 4 + 128 * (Y.val % 4) + e.val) :
    ((dats m 0 c).arrAt 4 cfg0.N : S32768x128.Idx → EReal) (ix2 Y e) = out (X m c) (Gains m c) (Wt m c) R E := by
  have hYl := Y.isLt
  have hN : cfg0.N = 80 := N_0
  obtain ⟨t, y, h9, hY⟩ : ∃ (t : Fin cfg0.N) (y : Fin 4096), t.val % 10 = 9 ∧ Y.val = 4096 * (t.val / 10) + y.val :=
    ⟨⟨10 * (Y.val / 4096) + 9, by omega⟩, ⟨Y.val % 4096, by omega⟩, by show (10 * (Y.val / 4096) + 9) % 10 = 9; omega,
      by show Y.val = 4096 * ((10 * (Y.val / 4096) + 9) / 10) + Y.val % 4096; omega⟩
  have hb := congrFun ((dats m 0 c).read_blk_arrAt_eq_flushed 4 apart4 cfg0.N t t.isLt ((flush0_4 t).mpr h9)) (ix2 y e)
  rw [View.read_apply] at hb
  have he : ((cfg0.win 4).blk t).view.emb (ix2 y e) = ix2 Y e := by
    funext a
    apply Fin.ext
    match a with
    | ⟨0, _⟩ => show win0_4.index t 0 * 4096 + 1 * y.val = Y.val; rw [index4]; simp only [Matrix.cons_val_zero]; omega
    | ⟨1, _⟩ => show win0_4.index t 1 * 128 + 1 * e.val = e.val; rw [index4]; simp only [Matrix.cons_val_one, Matrix.cons_val_zero]; omega
  rw [he] at hb
  refine hb.trans ?_
  show (dats m 0 c).after 4 t (ix2 y e) = _
  rw [after0_4]
  exact kvB_apply m c t 4 (by decide) y e Y hY R hR E hE

/-- Two row blocks have different blocks of this cache result. -/
theorem apart5 : ∀ t t' : Fin cfg0.N, (cfg0.win 5).flush t = true → (cfg0.win 5).flush t' = true → t ≠ t' →
    Disjoint ((cfg0.win 5).blk t).view.set ((cfg0.win 5).blk t').view.set :=
  fun t t' hf hf' hne => (cfg0.win 5).disjoint_blk fun h => hne (Fin.ext (by
    have h' : win0_5.index t = win0_5.index t' := h
    rw [index5, index5] at h'
    have h0 : t.val / 10 = t'.val / 10 := congrFun h' 0
    have h1 : t.val % 10 = 9 := (flush0_5 t).mp hf
    have h2 : t'.val % 10 = 9 := (flush0_5 t').mp hf'
    omega))

/-- The cache result of column block 5, element by element. -/
theorem result_kv5 (c : Dev nD) (Y : Fin 32768) (e : Fin 128) (R : Fin 8192) (hR : R.val = Y.val / 4) (E : Fin 5120) (hE : E.val = 512 * 5 + 128 * (Y.val % 4) + e.val) :
    ((dats m 0 c).arrAt 5 cfg0.N : S32768x128.Idx → EReal) (ix2 Y e) = out (X m c) (Gains m c) (Wt m c) R E := by
  have hYl := Y.isLt
  have hN : cfg0.N = 80 := N_0
  obtain ⟨t, y, h9, hY⟩ : ∃ (t : Fin cfg0.N) (y : Fin 4096), t.val % 10 = 9 ∧ Y.val = 4096 * (t.val / 10) + y.val :=
    ⟨⟨10 * (Y.val / 4096) + 9, by omega⟩, ⟨Y.val % 4096, by omega⟩, by show (10 * (Y.val / 4096) + 9) % 10 = 9; omega,
      by show Y.val = 4096 * ((10 * (Y.val / 4096) + 9) / 10) + Y.val % 4096; omega⟩
  have hb := congrFun ((dats m 0 c).read_blk_arrAt_eq_flushed 5 apart5 cfg0.N t t.isLt ((flush0_5 t).mpr h9)) (ix2 y e)
  rw [View.read_apply] at hb
  have he : ((cfg0.win 5).blk t).view.emb (ix2 y e) = ix2 Y e := by
    funext a
    apply Fin.ext
    match a with
    | ⟨0, _⟩ => show win0_5.index t 0 * 4096 + 1 * y.val = Y.val; rw [index5]; simp only [Matrix.cons_val_zero]; omega
    | ⟨1, _⟩ => show win0_5.index t 1 * 128 + 1 * e.val = e.val; rw [index5]; simp only [Matrix.cons_val_one, Matrix.cons_val_zero]; omega
  rw [he] at hb
  refine hb.trans ?_
  show (dats m 0 c).after 5 t (ix2 y e) = _
  rw [after0_5]
  exact kvB_apply m c t 5 (by decide) y e Y hY R hR E hE

/-- Two row blocks have different blocks of this cache result. -/
theorem apart6 : ∀ t t' : Fin cfg0.N, (cfg0.win 6).flush t = true → (cfg0.win 6).flush t' = true → t ≠ t' →
    Disjoint ((cfg0.win 6).blk t).view.set ((cfg0.win 6).blk t').view.set :=
  fun t t' hf hf' hne => (cfg0.win 6).disjoint_blk fun h => hne (Fin.ext (by
    have h' : win0_6.index t = win0_6.index t' := h
    rw [index6, index6] at h'
    have h0 : t.val / 10 = t'.val / 10 := congrFun h' 0
    have h1 : t.val % 10 = 9 := (flush0_6 t).mp hf
    have h2 : t'.val % 10 = 9 := (flush0_6 t').mp hf'
    omega))

/-- The cache result of column block 6, element by element. -/
theorem result_kv6 (c : Dev nD) (Y : Fin 32768) (e : Fin 128) (R : Fin 8192) (hR : R.val = Y.val / 4) (E : Fin 5120) (hE : E.val = 512 * 6 + 128 * (Y.val % 4) + e.val) :
    ((dats m 0 c).arrAt 6 cfg0.N : S32768x128.Idx → EReal) (ix2 Y e) = out (X m c) (Gains m c) (Wt m c) R E := by
  have hYl := Y.isLt
  have hN : cfg0.N = 80 := N_0
  obtain ⟨t, y, h9, hY⟩ : ∃ (t : Fin cfg0.N) (y : Fin 4096), t.val % 10 = 9 ∧ Y.val = 4096 * (t.val / 10) + y.val :=
    ⟨⟨10 * (Y.val / 4096) + 9, by omega⟩, ⟨Y.val % 4096, by omega⟩, by show (10 * (Y.val / 4096) + 9) % 10 = 9; omega,
      by show Y.val = 4096 * ((10 * (Y.val / 4096) + 9) / 10) + Y.val % 4096; omega⟩
  have hb := congrFun ((dats m 0 c).read_blk_arrAt_eq_flushed 6 apart6 cfg0.N t t.isLt ((flush0_6 t).mpr h9)) (ix2 y e)
  rw [View.read_apply] at hb
  have he : ((cfg0.win 6).blk t).view.emb (ix2 y e) = ix2 Y e := by
    funext a
    apply Fin.ext
    match a with
    | ⟨0, _⟩ => show win0_6.index t 0 * 4096 + 1 * y.val = Y.val; rw [index6]; simp only [Matrix.cons_val_zero]; omega
    | ⟨1, _⟩ => show win0_6.index t 1 * 128 + 1 * e.val = e.val; rw [index6]; simp only [Matrix.cons_val_one, Matrix.cons_val_zero]; omega
  rw [he] at hb
  refine hb.trans ?_
  show (dats m 0 c).after 6 t (ix2 y e) = _
  rw [after0_6]
  exact kvB_apply m c t 6 (by decide) y e Y hY R hR E hE

/-- Two row blocks have different blocks of this cache result. -/
theorem apart7 : ∀ t t' : Fin cfg0.N, (cfg0.win 7).flush t = true → (cfg0.win 7).flush t' = true → t ≠ t' →
    Disjoint ((cfg0.win 7).blk t).view.set ((cfg0.win 7).blk t').view.set :=
  fun t t' hf hf' hne => (cfg0.win 7).disjoint_blk fun h => hne (Fin.ext (by
    have h' : win0_7.index t = win0_7.index t' := h
    rw [index7, index7] at h'
    have h0 : t.val / 10 = t'.val / 10 := congrFun h' 0
    have h1 : t.val % 10 = 9 := (flush0_7 t).mp hf
    have h2 : t'.val % 10 = 9 := (flush0_7 t').mp hf'
    omega))

/-- The cache result of column block 7, element by element. -/
theorem result_kv7 (c : Dev nD) (Y : Fin 32768) (e : Fin 128) (R : Fin 8192) (hR : R.val = Y.val / 4) (E : Fin 5120) (hE : E.val = 512 * 7 + 128 * (Y.val % 4) + e.val) :
    ((dats m 0 c).arrAt 7 cfg0.N : S32768x128.Idx → EReal) (ix2 Y e) = out (X m c) (Gains m c) (Wt m c) R E := by
  have hYl := Y.isLt
  have hN : cfg0.N = 80 := N_0
  obtain ⟨t, y, h9, hY⟩ : ∃ (t : Fin cfg0.N) (y : Fin 4096), t.val % 10 = 9 ∧ Y.val = 4096 * (t.val / 10) + y.val :=
    ⟨⟨10 * (Y.val / 4096) + 9, by omega⟩, ⟨Y.val % 4096, by omega⟩, by show (10 * (Y.val / 4096) + 9) % 10 = 9; omega,
      by show Y.val = 4096 * ((10 * (Y.val / 4096) + 9) / 10) + Y.val % 4096; omega⟩
  have hb := congrFun ((dats m 0 c).read_blk_arrAt_eq_flushed 7 apart7 cfg0.N t t.isLt ((flush0_7 t).mpr h9)) (ix2 y e)
  rw [View.read_apply] at hb
  have he : ((cfg0.win 7).blk t).view.emb (ix2 y e) = ix2 Y e := by
    funext a
    apply Fin.ext
    match a with
    | ⟨0, _⟩ => show win0_7.index t 0 * 4096 + 1 * y.val = Y.val; rw [index7]; simp only [Matrix.cons_val_zero]; omega
    | ⟨1, _⟩ => show win0_7.index t 1 * 128 + 1 * e.val = e.val; rw [index7]; simp only [Matrix.cons_val_one, Matrix.cons_val_zero]; omega
  rw [he] at hb
  refine hb.trans ?_
  show (dats m 0 c).after 7 t (ix2 y e) = _
  rw [after0_7]
  exact kvB_apply m c t 7 (by decide) y e Y hY R hR E hE

/-- What a run leaves: the five result arrays, and the arguments as they were. -/
theorem run_results (ρ : Dev nD → PrngReg) : θ_run defs (onTc (τ := τ) (main (F := Ideal))) ⟨m, fun _ => 0, ρ⟩ fun r => ∀ c : Dev nD,
      r.2.mem ((c : Thread nD τ).loc main_v18_0) = (dats m 0 c).arrAt 3 cfg0.N
      ∧ r.2.mem ((c : Thread nD τ).loc main_v18_1) = (dats m 0 c).arrAt 4 cfg0.N
      ∧ r.2.mem ((c : Thread nD τ).loc main_v18_2) = (dats m 0 c).arrAt 5 cfg0.N
      ∧ r.2.mem ((c : Thread nD τ).loc main_v18_3) = (dats m 0 c).arrAt 6 cfg0.N
      ∧ r.2.mem ((c : Thread nD τ).loc main_v18_4) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3, (h.1 c).1 4, (h.1 c).1 5, (h.1 c).1 6, (h.1 c).1 7, h.2 c⟩)
    (θ_run_and (run_main m ρ) (unchanged m ρ))

end Cert.CdIn

end
-- ==== Proof.CdIn.Ref.lean ====
/-
  The second layer's input projection: the reference read at an index, result by result.
-/
module

public import proofs.«01_k».proof.Proof.CdIn.Value
public import proofs.«01_k».proof.Proof.Gen.Reference6Ideal.Read

@[expose] public section

set_option maxRecDepth 16384

noncomputable section

namespace Cert.CdIn

open Cert.Reference6Ideal Cert.Reference6Ideal.Gen Cert.Reference6Ideal.Read Idealize.ShloMosaic Cert.Proj

variable (x : FVec Ideal S8192x2048 .f32) (g : FVec Ideal S2x2048 .f32) (w : FVec Ideal S1x2048x4704 .f32)

/-- The reference's normalised row. -/
theorem ref_row (R : Fin 8192) (d : Fin 2048) : val_main_v14 (F := Ideal) x g (ix2 R d) = hrow x g R d := by
  unfold hrow normed
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The projection by the weight's own columns. -/
def proj (x : S8192x2048.Idx → EReal) (g : S2x2048.Idx → EReal) (w : S1x2048x4704.Idx → EReal) (R : Fin 8192) (j : Fin 4704) : EReal :=
  ∑ d : Fin 2048, hrow x g R d * w (ix3 0 d j)

/-- The reference's product. -/
theorem ref_dot (R : Fin 8192) (j : Fin 4704) : val_main_v16 (F := Ideal) x g w (ix2 R j) = proj x g w R j := by
  unfold proj
  pointwise [val_main_v16, val_main_v15, ref_row]

/-- A column of the wide weight that is a column of the weight. -/
theorem out_some (R : Fin 8192) (E : Fin 5120) (j : Fin 4704) (h : src E.val = j.val) : out x g w R E = proj x g w R j := by
  unfold out proj
  exact Finset.sum_congr rfl fun d _ => by rw [wide_some w d E j h]

/-- A column of the wide weight that is zero. -/
theorem out_none (R : Fin 8192) (E : Fin 5120) (h : src E.val = 4704) : out x g w R E = 0 := by
  unfold out
  exact Finset.sum_eq_zero fun d _ => by rw [wide_none w d E h, mul_zero]

/-- Columns 0 to 1023 of the product. -/
theorem ref_v17 (R : Fin 8192) (e : Fin 1024) : val_main_v17 (F := Ideal) x g w (ix2 R e) = proj x g w R ⟨0 + e.val, by omega⟩ := by
  refine Eq.trans ?_ (ref_dot x g w R ⟨0 + e.val, by omega⟩)
  pointwise [val_main_v17]

/-- Columns 2584 to 3607 of the product. -/
theorem ref_v22 (R : Fin 8192) (e : Fin 1024) : val_main_v22 (F := Ideal) x g w (ix2 R e) = proj x g w R ⟨2584 + e.val, by omega⟩ := by
  refine Eq.trans ?_ (ref_dot x g w R ⟨2584 + e.val, by omega⟩)
  pointwise [val_main_v22]

/-- Columns 1024 to 1535 of the product. -/
theorem ref_v18 (R : Fin 8192) (e : Fin 512) : val_main_v18 (F := Ideal) x g w (ix2 R e) = proj x g w R ⟨1024 + e.val, by omega⟩ := by
  refine Eq.trans ?_ (ref_dot x g w R ⟨1024 + e.val, by omega⟩)
  pointwise [val_main_v18]

/-- Columns 1536 to 2047 of the product. -/
theorem ref_v19 (R : Fin 8192) (e : Fin 512) : val_main_v19 (F := Ideal) x g w (ix2 R e) = proj x g w R ⟨1536 + e.val, by omega⟩ := by
  refine Eq.trans ?_ (ref_dot x g w R ⟨1536 + e.val, by omega⟩)
  pointwise [val_main_v19]

/-- Columns 2048 to 2559 of the product. -/
theorem ref_v20 (R : Fin 8192) (e : Fin 512) : val_main_v20 (F := Ideal) x g w (ix2 R e) = proj x g w R ⟨2048 + e.val, by omega⟩ := by
  refine Eq.trans ?_ (ref_dot x g w R ⟨2048 + e.val, by omega⟩)
  pointwise [val_main_v20]

/-- Columns 3608 to 4119 of the product. -/
theorem ref_v23 (R : Fin 8192) (e : Fin 512) : val_main_v23 (F := Ideal) x g w (ix2 R e) = proj x g w R ⟨3608 + e.val, by omega⟩ := by
  refine Eq.trans ?_ (ref_dot x g w R ⟨3608 + e.val, by omega⟩)
  pointwise [val_main_v23]

/-- Columns 4120 to 4631 of the product. -/
theorem ref_v24 (R : Fin 8192) (e : Fin 512) : val_main_v24 (F := Ideal) x g w (ix2 R e) = proj x g w R ⟨4120 + e.val, by omega⟩ := by
  refine Eq.trans ?_ (ref_dot x g w R ⟨4120 + e.val, by omega⟩)
  pointwise [val_main_v24]

/-- Columns 4632 to 4695 of the product. -/
theorem ref_v25 (R : Fin 8192) (e : Fin 64) : val_main_v25 (F := Ideal) x g w (ix2 R e) = proj x g w R ⟨4632 + e.val, by omega⟩ := by
  refine Eq.trans ?_ (ref_dot x g w R ⟨4632 + e.val, by omega⟩)
  pointwise [val_main_v25]

/-- Zero columns. -/
theorem ref_v27 (R : Fin 8192) (e : Fin 64) : (val_main_v27 (F := Ideal) : S8192x64.Idx → EReal) (ix2 R e) = (0 : EReal) := by
  pointwise [val_main_v27, val_main_cst_2]

/-- Columns 2560 to 2583 of the product. -/
theorem ref_v21 (R : Fin 8192) (e : Fin 24) : val_main_v21 (F := Ideal) x g w (ix2 R e) = proj x g w R ⟨2560 + e.val, by omega⟩ := by
  refine Eq.trans ?_ (ref_dot x g w R ⟨2560 + e.val, by omega⟩)
  pointwise [val_main_v21]

/-- Zero columns. -/
theorem ref_v28 (R : Fin 8192) (e : Fin 104) : (val_main_v28 (F := Ideal) : S8192x104.Idx → EReal) (ix2 R e) = (0 : EReal) := by
  pointwise [val_main_v28, val_main_cst_3]

/-- Columns 4696 to 4703 of the product. -/
theorem ref_v26 (R : Fin 8192) (e : Fin 8) : val_main_v26 (F := Ideal) x g w (ix2 R e) = proj x g w R ⟨4696 + e.val, by omega⟩ := by
  refine Eq.trans ?_ (ref_dot x g w R ⟨4696 + e.val, by omega⟩)
  pointwise [val_main_v26]

/-- Zero columns. -/
theorem ref_v29 (R : Fin 8192) (e : Fin 248) : (val_main_v29 (F := Ideal) : S8192x248.Idx → EReal) (ix2 R e) = (0 : EReal) := by
  pointwise [val_main_v29, val_main_cst_4]

/-- The pieces of the reference's first result. -/
abbrev parts : List ((s : Shape) × (s.Idx → EReal)) :=
  [⟨S8192x1024, (val_main_v17 (F := Ideal) x g w : S8192x1024.Idx → EReal)⟩, ⟨S8192x1024, (val_main_v22 (F := Ideal) x g w : S8192x1024.Idx → EReal)⟩, ⟨S8192x512, (val_main_v18 (F := Ideal) x g w : S8192x512.Idx → EReal)⟩, ⟨S8192x512, (val_main_v19 (F := Ideal) x g w : S8192x512.Idx → EReal)⟩, ⟨S8192x512, (val_main_v20 (F := Ideal) x g w : S8192x512.Idx → EReal)⟩, ⟨S8192x512, (val_main_v23 (F := Ideal) x g w : S8192x512.Idx → EReal)⟩, ⟨S8192x512, (val_main_v24 (F := Ideal) x g w : S8192x512.Idx → EReal)⟩, ⟨S8192x64, (val_main_v25 (F := Ideal) x g w : S8192x64.Idx → EReal)⟩, ⟨S8192x64, (val_main_v27 (F := Ideal) : S8192x64.Idx → EReal)⟩, ⟨S8192x24, (val_main_v21 (F := Ideal) x g w : S8192x24.Idx → EReal)⟩, ⟨S8192x104, (val_main_v28 (F := Ideal) : S8192x104.Idx → EReal)⟩, ⟨S8192x8, (val_main_v26 (F := Ideal) x g w : S8192x8.Idx → EReal)⟩, ⟨S8192x248, (val_main_v29 (F := Ideal) : S8192x248.Idx → EReal)⟩]

/-- The first result is the pieces side by side. -/
theorem ref_parts : (val_main_v30 (F := Ideal) x g w : S8192x5120.Idx → EReal) = concatenate S8192x5120 1 (parts x g w) concatenates_S8192x1024_S8192x1024_S8192x512_S8192x512_S8192x512_S8192x512_S8192x512_S8192x64_S8192x64_S8192x24_S8192x104_S8192x8_S8192x248_S8192x5120_d1 := rfl

theorem part_0 (R : Fin 8192) (e : Fin 1024) (E : Fin 5120) (h : E.val = 0 + e.val) :
    (val_main_v30 (F := Ideal) x g w : S8192x5120.Idx → EReal) (ix2 R E) = proj x g w R ⟨0 + e.val, by omega⟩ := by
  rw [ref_parts]
  refine (concatenate_apply_piece (1 : Fin 2) (parts x g w) _ (ix2 R E) 0 (by decide : 0 < 13) S8192x1024 (val_main_v17 (F := Ideal) x g w : S8192x1024.Idx → EReal) rfl rfl 0 rfl (ix2 R e) ?_ ?_).trans ?_
  · intro b hb
    match b with
    | ⟨0, _⟩ => rfl
    | ⟨1, _⟩ => exact absurd rfl hb
  · exact h.symm
  · exact ref_v17 x g w R e

theorem part_1024 (R : Fin 8192) (e : Fin 1024) (E : Fin 5120) (h : E.val = 1024 + e.val) :
    (val_main_v30 (F := Ideal) x g w : S8192x5120.Idx → EReal) (ix2 R E) = proj x g w R ⟨2584 + e.val, by omega⟩ := by
  rw [ref_parts]
  refine (concatenate_apply_piece (1 : Fin 2) (parts x g w) _ (ix2 R E) 1 (by decide : 1 < 13) S8192x1024 (val_main_v22 (F := Ideal) x g w : S8192x1024.Idx → EReal) rfl rfl 1024 rfl (ix2 R e) ?_ ?_).trans ?_
  · intro b hb
    match b with
    | ⟨0, _⟩ => rfl
    | ⟨1, _⟩ => exact absurd rfl hb
  · exact h.symm
  · exact ref_v22 x g w R e

theorem part_2048 (R : Fin 8192) (e : Fin 512) (E : Fin 5120) (h : E.val = 2048 + e.val) :
    (val_main_v30 (F := Ideal) x g w : S8192x5120.Idx → EReal) (ix2 R E) = proj x g w R ⟨1024 + e.val, by omega⟩ := by
  rw [ref_parts]
  refine (concatenate_apply_piece (1 : Fin 2) (parts x g w) _ (ix2 R E) 2 (by decide : 2 < 13) S8192x512 (val_main_v18 (F := Ideal) x g w : S8192x512.Idx → EReal) rfl rfl 2048 rfl (ix2 R e) ?_ ?_).trans ?_
  · intro b hb
    match b with
    | ⟨0, _⟩ => rfl
    | ⟨1, _⟩ => exact absurd rfl hb
  · exact h.symm
  · exact ref_v18 x g w R e

theorem part_2560 (R : Fin 8192) (e : Fin 512) (E : Fin 5120) (h : E.val = 2560 + e.val) :
    (val_main_v30 (F := Ideal) x g w : S8192x5120.Idx → EReal) (ix2 R E) = proj x g w R ⟨1536 + e.val, by omega⟩ := by
  rw [ref_parts]
  refine (concatenate_apply_piece (1 : Fin 2) (parts x g w) _ (ix2 R E) 3 (by decide : 3 < 13) S8192x512 (val_main_v19 (F := Ideal) x g w : S8192x512.Idx → EReal) rfl rfl 2560 rfl (ix2 R e) ?_ ?_).trans ?_
  · intro b hb
    match b with
    | ⟨0, _⟩ => rfl
    | ⟨1, _⟩ => exact absurd rfl hb
  · exact h.symm
  · exact ref_v19 x g w R e

theorem part_3072 (R : Fin 8192) (e : Fin 512) (E : Fin 5120) (h : E.val = 3072 + e.val) :
    (val_main_v30 (F := Ideal) x g w : S8192x5120.Idx → EReal) (ix2 R E) = proj x g w R ⟨2048 + e.val, by omega⟩ := by
  rw [ref_parts]
  refine (concatenate_apply_piece (1 : Fin 2) (parts x g w) _ (ix2 R E) 4 (by decide : 4 < 13) S8192x512 (val_main_v20 (F := Ideal) x g w : S8192x512.Idx → EReal) rfl rfl 3072 rfl (ix2 R e) ?_ ?_).trans ?_
  · intro b hb
    match b with
    | ⟨0, _⟩ => rfl
    | ⟨1, _⟩ => exact absurd rfl hb
  · exact h.symm
  · exact ref_v20 x g w R e

theorem part_3584 (R : Fin 8192) (e : Fin 512) (E : Fin 5120) (h : E.val = 3584 + e.val) :
    (val_main_v30 (F := Ideal) x g w : S8192x5120.Idx → EReal) (ix2 R E) = proj x g w R ⟨3608 + e.val, by omega⟩ := by
  rw [ref_parts]
  refine (concatenate_apply_piece (1 : Fin 2) (parts x g w) _ (ix2 R E) 5 (by decide : 5 < 13) S8192x512 (val_main_v23 (F := Ideal) x g w : S8192x512.Idx → EReal) rfl rfl 3584 rfl (ix2 R e) ?_ ?_).trans ?_
  · intro b hb
    match b with
    | ⟨0, _⟩ => rfl
    | ⟨1, _⟩ => exact absurd rfl hb
  · exact h.symm
  · exact ref_v23 x g w R e

theorem part_4096 (R : Fin 8192) (e : Fin 512) (E : Fin 5120) (h : E.val = 4096 + e.val) :
    (val_main_v30 (F := Ideal) x g w : S8192x5120.Idx → EReal) (ix2 R E) = proj x g w R ⟨4120 + e.val, by omega⟩ := by
  rw [ref_parts]
  refine (concatenate_apply_piece (1 : Fin 2) (parts x g w) _ (ix2 R E) 6 (by decide : 6 < 13) S8192x512 (val_main_v24 (F := Ideal) x g w : S8192x512.Idx → EReal) rfl rfl 4096 rfl (ix2 R e) ?_ ?_).trans ?_
  · intro b hb
    match b with
    | ⟨0, _⟩ => rfl
    | ⟨1, _⟩ => exact absurd rfl hb
  · exact h.symm
  · exact ref_v24 x g w R e

theorem part_4608 (R : Fin 8192) (e : Fin 64) (E : Fin 5120) (h : E.val = 4608 + e.val) :
    (val_main_v30 (F := Ideal) x g w : S8192x5120.Idx → EReal) (ix2 R E) = proj x g w R ⟨4632 + e.val, by omega⟩ := by
  rw [ref_parts]
  refine (concatenate_apply_piece (1 : Fin 2) (parts x g w) _ (ix2 R E) 7 (by decide : 7 < 13) S8192x64 (val_main_v25 (F := Ideal) x g w : S8192x64.Idx → EReal) rfl rfl 4608 rfl (ix2 R e) ?_ ?_).trans ?_
  · intro b hb
    match b with
    | ⟨0, _⟩ => rfl
    | ⟨1, _⟩ => exact absurd rfl hb
  · exact h.symm
  · exact ref_v25 x g w R e

theorem part_4672 (R : Fin 8192) (e : Fin 64) (E : Fin 5120) (h : E.val = 4672 + e.val) :
    (val_main_v30 (F := Ideal) x g w : S8192x5120.Idx → EReal) (ix2 R E) = (0 : EReal) := by
  rw [ref_parts]
  refine (concatenate_apply_piece (1 : Fin 2) (parts x g w) _ (ix2 R E) 8 (by decide : 8 < 13) S8192x64 (val_main_v27 (F := Ideal) : S8192x64.Idx → EReal) rfl rfl 4672 rfl (ix2 R e) ?_ ?_).trans ?_
  · intro b hb
    match b with
    | ⟨0, _⟩ => rfl
    | ⟨1, _⟩ => exact absurd rfl hb
  · exact h.symm
  · exact ref_v27 R e

theorem part_4736 (R : Fin 8192) (e : Fin 24) (E : Fin 5120) (h : E.val = 4736 + e.val) :
    (val_main_v30 (F := Ideal) x g w : S8192x5120.Idx → EReal) (ix2 R E) = proj x g w R ⟨2560 + e.val, by omega⟩ := by
  rw [ref_parts]
  refine (concatenate_apply_piece (1 : Fin 2) (parts x g w) _ (ix2 R E) 9 (by decide : 9 < 13) S8192x24 (val_main_v21 (F := Ideal) x g w : S8192x24.Idx → EReal) rfl rfl 4736 rfl (ix2 R e) ?_ ?_).trans ?_
  · intro b hb
    match b with
    | ⟨0, _⟩ => rfl
    | ⟨1, _⟩ => exact absurd rfl hb
  · exact h.symm
  · exact ref_v21 x g w R e

theorem part_4760 (R : Fin 8192) (e : Fin 104) (E : Fin 5120) (h : E.val = 4760 + e.val) :
    (val_main_v30 (F := Ideal) x g w : S8192x5120.Idx → EReal) (ix2 R E) = (0 : EReal) := by
  rw [ref_parts]
  refine (concatenate_apply_piece (1 : Fin 2) (parts x g w) _ (ix2 R E) 10 (by decide : 10 < 13) S8192x104 (val_main_v28 (F := Ideal) : S8192x104.Idx → EReal) rfl rfl 4760 rfl (ix2 R e) ?_ ?_).trans ?_
  · intro b hb
    match b with
    | ⟨0, _⟩ => rfl
    | ⟨1, _⟩ => exact absurd rfl hb
  · exact h.symm
  · exact ref_v28 R e

theorem part_4864 (R : Fin 8192) (e : Fin 8) (E : Fin 5120) (h : E.val = 4864 + e.val) :
    (val_main_v30 (F := Ideal) x g w : S8192x5120.Idx → EReal) (ix2 R E) = proj x g w R ⟨4696 + e.val, by omega⟩ := by
  rw [ref_parts]
  refine (concatenate_apply_piece (1 : Fin 2) (parts x g w) _ (ix2 R E) 11 (by decide : 11 < 13) S8192x8 (val_main_v26 (F := Ideal) x g w : S8192x8.Idx → EReal) rfl rfl 4864 rfl (ix2 R e) ?_ ?_).trans ?_
  · intro b hb
    match b with
    | ⟨0, _⟩ => rfl
    | ⟨1, _⟩ => exact absurd rfl hb
  · exact h.symm
  · exact ref_v26 x g w R e

theorem part_4872 (R : Fin 8192) (e : Fin 248) (E : Fin 5120) (h : E.val = 4872 + e.val) :
    (val_main_v30 (F := Ideal) x g w : S8192x5120.Idx → EReal) (ix2 R E) = (0 : EReal) := by
  rw [ref_parts]
  refine (concatenate_apply_piece (1 : Fin 2) (parts x g w) _ (ix2 R E) 12 (by decide : 12 < 13) S8192x248 (val_main_v29 (F := Ideal) : S8192x248.Idx → EReal) rfl rfl 4872 rfl (ix2 R e) ?_ ?_).trans ?_
  · intro b hb
    match b with
    | ⟨0, _⟩ => rfl
    | ⟨1, _⟩ => exact absurd rfl hb
  · exact h.symm
  · exact ref_v29 R e

/-- The reference's first result is the projection by the wide weight. -/
theorem ref_out (R : Fin 8192) (E : Fin 5120) : (val_main_v30 (F := Ideal) x g w : S8192x5120.Idx → EReal) (ix2 R E) = out x g w R E := by
  have hE := E.isLt
  by_cases h0 : E.val < 1024
  · exact (part_0 x g w R ⟨E.val - 0, by omega⟩ E (by show E.val = 0 + (E.val - 0); omega)).trans (out_some x g w R E _ (by show src E.val = 0 + (E.val - 0); unfold src; split_ifs <;> omega)).symm
  by_cases h1 : E.val < 2048
  · exact (part_1024 x g w R ⟨E.val - 1024, by omega⟩ E (by show E.val = 1024 + (E.val - 1024); omega)).trans (out_some x g w R E _ (by show src E.val = 2584 + (E.val - 1024); unfold src; split_ifs <;> omega)).symm
  by_cases h2 : E.val < 2560
  · exact (part_2048 x g w R ⟨E.val - 2048, by omega⟩ E (by show E.val = 2048 + (E.val - 2048); omega)).trans (out_some x g w R E _ (by show src E.val = 1024 + (E.val - 2048); unfold src; split_ifs <;> omega)).symm
  by_cases h3 : E.val < 3072
  · exact (part_2560 x g w R ⟨E.val - 2560, by omega⟩ E (by show E.val = 2560 + (E.val - 2560); omega)).trans (out_some x g w R E _ (by show src E.val = 1536 + (E.val - 2560); unfold src; split_ifs <;> omega)).symm
  by_cases h4 : E.val < 3584
  · exact (part_3072 x g w R ⟨E.val - 3072, by omega⟩ E (by show E.val = 3072 + (E.val - 3072); omega)).trans (out_some x g w R E _ (by show src E.val = 2048 + (E.val - 3072); unfold src; split_ifs <;> omega)).symm
  by_cases h5 : E.val < 4096
  · exact (part_3584 x g w R ⟨E.val - 3584, by omega⟩ E (by show E.val = 3584 + (E.val - 3584); omega)).trans (out_some x g w R E _ (by show src E.val = 3608 + (E.val - 3584); unfold src; split_ifs <;> omega)).symm
  by_cases h6 : E.val < 4608
  · exact (part_4096 x g w R ⟨E.val - 4096, by omega⟩ E (by show E.val = 4096 + (E.val - 4096); omega)).trans (out_some x g w R E _ (by show src E.val = 4120 + (E.val - 4096); unfold src; split_ifs <;> omega)).symm
  by_cases h7 : E.val < 4672
  · exact (part_4608 x g w R ⟨E.val - 4608, by omega⟩ E (by show E.val = 4608 + (E.val - 4608); omega)).trans (out_some x g w R E _ (by show src E.val = 4632 + (E.val - 4608); unfold src; split_ifs <;> omega)).symm
  by_cases h8 : E.val < 4736
  · exact (part_4672 x g w R ⟨E.val - 4672, by omega⟩ E (by show E.val = 4672 + (E.val - 4672); omega)).trans (out_none x g w R E (by unfold src; split_ifs <;> omega)).symm
  by_cases h9 : E.val < 4760
  · exact (part_4736 x g w R ⟨E.val - 4736, by omega⟩ E (by show E.val = 4736 + (E.val - 4736); omega)).trans (out_some x g w R E _ (by show src E.val = 2560 + (E.val - 4736); unfold src; split_ifs <;> omega)).symm
  by_cases h10 : E.val < 4864
  · exact (part_4760 x g w R ⟨E.val - 4760, by omega⟩ E (by show E.val = 4760 + (E.val - 4760); omega)).trans (out_none x g w R E (by unfold src; split_ifs <;> omega)).symm
  by_cases h11 : E.val < 4872
  · exact (part_4864 x g w R ⟨E.val - 4864, by omega⟩ E (by show E.val = 4864 + (E.val - 4864); omega)).trans (out_some x g w R E _ (by show src E.val = 4696 + (E.val - 4864); unfold src; split_ifs <;> omega)).symm
  · exact (part_4872 x g w R ⟨E.val - 4872, by omega⟩ E (by show E.val = 4872 + (E.val - 4872); omega)).trans (out_none x g w R E (by unfold src; split_ifs <;> omega)).symm

/-- A row of 512 read as four rows of 128. -/
theorem quarter (a : S8192x512.Idx → EReal) (Y : Fin 32768) (e : Fin 128) (R : Fin 8192) (hR : R.val = Y.val / 4) (E : Fin 512) (hE : E.val = 128 * (Y.val % 4) + e.val) :
    (shapeCast S32768x128 a shapeCasts_S8192x512_S32768x128 : S32768x128.Idx → EReal) (ix2 Y e) = a (ix2 R E) := by
  have h0 : R = ⟨Y.val / 4, by have := Y.isLt; omega⟩ := Fin.ext hR
  have h1 : E = ⟨Y.val % 4 * 128 + e.val, by have := e.isLt; omega⟩ := Fin.ext (by show E.val = Y.val % 4 * 128 + e.val; omega)
  rw [h0, h1]
  pointwise

/-- A cache result: the columns from 1024 on, each row cut in four. -/
theorem ref_v31 (Y : Fin 32768) (e : Fin 128) (R : Fin 8192) (hR : R.val = Y.val / 4) (E : Fin 5120) (hE : E.val = 512 * 4 + 128 * (Y.val % 4) + e.val) :
    (val_main_v31 (F := Ideal) x g w : S32768x128.Idx → EReal) (ix2 Y e) = out x g w R E := by
  have hel := e.isLt
  rw [out_some x g w R E ⟨1024 + (128 * (Y.val % 4) + e.val), by omega⟩ (by show src E.val = 1024 + (128 * (Y.val % 4) + e.val); unfold src; split_ifs <;> omega)]
  refine Eq.trans ?_ (ref_v18 x g w R ⟨128 * (Y.val % 4) + e.val, by omega⟩)
  exact quarter (val_main_v18 (F := Ideal) x g w) Y e R hR _ rfl

/-- A cache result: the columns from 1536 on, each row cut in four. -/
theorem ref_v32 (Y : Fin 32768) (e : Fin 128) (R : Fin 8192) (hR : R.val = Y.val / 4) (E : Fin 5120) (hE : E.val = 512 * 5 + 128 * (Y.val % 4) + e.val) :
    (val_main_v32 (F := Ideal) x g w : S32768x128.Idx → EReal) (ix2 Y e) = out x g w R E := by
  have hel := e.isLt
  rw [out_some x g w R E ⟨1536 + (128 * (Y.val % 4) + e.val), by omega⟩ (by show src E.val = 1536 + (128 * (Y.val % 4) + e.val); unfold src; split_ifs <;> omega)]
  refine Eq.trans ?_ (ref_v19 x g w R ⟨128 * (Y.val % 4) + e.val, by omega⟩)
  exact quarter (val_main_v19 (F := Ideal) x g w) Y e R hR _ rfl

/-- A cache result: the columns from 2048 on, each row cut in four. -/
theorem ref_v33 (Y : Fin 32768) (e : Fin 128) (R : Fin 8192) (hR : R.val = Y.val / 4) (E : Fin 5120) (hE : E.val = 512 * 6 + 128 * (Y.val % 4) + e.val) :
    (val_main_v33 (F := Ideal) x g w : S32768x128.Idx → EReal) (ix2 Y e) = out x g w R E := by
  have hel := e.isLt
  rw [out_some x g w R E ⟨2048 + (128 * (Y.val % 4) + e.val), by omega⟩ (by show src E.val = 2048 + (128 * (Y.val % 4) + e.val); unfold src; split_ifs <;> omega)]
  refine Eq.trans ?_ (ref_v20 x g w R ⟨128 * (Y.val % 4) + e.val, by omega⟩)
  exact quarter (val_main_v20 (F := Ideal) x g w) Y e R hR _ rfl

/-- A cache result: the columns from 3608 on, each row cut in four. -/
theorem ref_v34 (Y : Fin 32768) (e : Fin 128) (R : Fin 8192) (hR : R.val = Y.val / 4) (E : Fin 5120) (hE : E.val = 512 * 7 + 128 * (Y.val % 4) + e.val) :
    (val_main_v34 (F := Ideal) x g w : S32768x128.Idx → EReal) (ix2 Y e) = out x g w R E := by
  have hel := e.isLt
  rw [out_some x g w R E ⟨3608 + (128 * (Y.val % 4) + e.val), by omega⟩ (by show src E.val = 3608 + (128 * (Y.val % 4) + e.val); unfold src; split_ifs <;> omega)]
  refine Eq.trans ?_ (ref_v23 x g w R ⟨128 * (Y.val % 4) + e.val, by omega⟩)
  exact quarter (val_main_v23 (F := Ideal) x g w) Y e R hR _ rfl

end Cert.CdIn

end
-- ==== Proof.CdIn.Claim.lean ====
/-
  The second layer's input projection and its reference leave the same five results over the extended reals.
-/
module

public import proofs.«01_k».proof.Proof.CdIn.Ref
public import proofs.«01_k».proof.Proof.Gen.Reference6Ideal.Run
public import proofs.«01_k».proof.Defs
public import Idealize.ShloMosaic.Lib.Claim

@[expose] public section

set_option maxRecDepth 16384

noncomputable section

namespace Cert.CdIn

open Idealize.ShloMosaic Idealize.ShloMosaic.TcCoe Idealize.SL.Sem

/-- The reference's first result depends on its three arguments only. -/
theorem same_args (x x' : FVec Ideal Cert.Reference6Ideal.S8192x2048 .f32) (g g' : FVec Ideal Cert.Reference6Ideal.S2x2048 .f32)
    (w w' : FVec Ideal Cert.Reference6Ideal.S1x2048x4704 .f32) (hx : x = x') (hg : g = g') (hw : w = w') :
    Cert.Reference6Ideal.Read.val_main_v30 (F := Ideal) x g w = Cert.Reference6Ideal.Read.val_main_v30 (F := Ideal) x' g' w' := by
  subst hx hg hw; rfl

/-- From the same arguments the kernel's five result arrays equal the reference's. -/
theorem algebraic : Cert.algebraic_Kernel6Ideal_Reference6Ideal := by
  pair_intro
  · run_from (run_results m g)
  · run_from (Cert.Reference6Ideal.Value.run m' g')
    · refine (Cert.Reference6Ideal.Read.val_main_v30_eq (F := Ideal) m' c).trans ?_
      refine (same_args _ _ _ _ _ _ (hagree c).1 (hagree c).2.1 (hagree c).2.2).trans ?_
      funext i
      obtain ⟨R, E, rfl⟩ : ∃ (R : Fin 8192) (E : Fin 5120), i = ix2 R E := ⟨i 0, i 1, eq_ix2 i⟩
      exact (ref_out _ _ _ R E).trans (result_out m c R E).symm
    · refine (Cert.Reference6Ideal.Read.val_main_v31_eq (F := Ideal) _ _ _).trans ?_
      funext i
      obtain ⟨Y, e, rfl⟩ : ∃ (Y : Fin 32768) (e : Fin 128), i = ix2 Y e := ⟨i 0, i 1, eq_ix2 i⟩
      exact (ref_v31 _ _ _ Y e ⟨Y.val / 4, by omega⟩ rfl ⟨512 * 4 + 128 * (Y.val % 4) + e.val, by omega⟩ rfl).trans
        (result_kv4 m c Y e ⟨Y.val / 4, by omega⟩ rfl ⟨512 * 4 + 128 * (Y.val % 4) + e.val, by omega⟩ rfl).symm
    · refine (Cert.Reference6Ideal.Read.val_main_v32_eq (F := Ideal) _ _ _).trans ?_
      funext i
      obtain ⟨Y, e, rfl⟩ : ∃ (Y : Fin 32768) (e : Fin 128), i = ix2 Y e := ⟨i 0, i 1, eq_ix2 i⟩
      exact (ref_v32 _ _ _ Y e ⟨Y.val / 4, by omega⟩ rfl ⟨512 * 5 + 128 * (Y.val % 4) + e.val, by omega⟩ rfl).trans
        (result_kv5 m c Y e ⟨Y.val / 4, by omega⟩ rfl ⟨512 * 5 + 128 * (Y.val % 4) + e.val, by omega⟩ rfl).symm
    · refine (Cert.Reference6Ideal.Read.val_main_v33_eq (F := Ideal) _ _ _).trans ?_
      funext i
      obtain ⟨Y, e, rfl⟩ : ∃ (Y : Fin 32768) (e : Fin 128), i = ix2 Y e := ⟨i 0, i 1, eq_ix2 i⟩
      exact (ref_v33 _ _ _ Y e ⟨Y.val / 4, by omega⟩ rfl ⟨512 * 6 + 128 * (Y.val % 4) + e.val, by omega⟩ rfl).trans
        (result_kv6 m c Y e ⟨Y.val / 4, by omega⟩ rfl ⟨512 * 6 + 128 * (Y.val % 4) + e.val, by omega⟩ rfl).symm
    · refine (Cert.Reference6Ideal.Read.val_main_v34_eq (F := Ideal) _ _ _).trans ?_
      funext i
      obtain ⟨Y, e, rfl⟩ : ∃ (Y : Fin 32768) (e : Fin 128), i = ix2 Y e := ⟨i 0, i 1, eq_ix2 i⟩
      exact (ref_v34 _ _ _ Y e ⟨Y.val / 4, by omega⟩ rfl ⟨512 * 7 + 128 * (Y.val % 4) + e.val, by omega⟩ rfl).trans
        (result_kv7 m c Y e ⟨Y.val / 4, by omega⟩ rfl ⟨512 * 7 + 128 * (Y.val % 4) + e.val, by omega⟩ rfl).symm

end Cert.CdIn

end
-- ==== Proof.FfnFirst.Cases.lean ====
/-
  What one point of the first layer's feed-forward grid computes, read off the stores its body was found to make.
  The scratch holds the row block's second product, summed tile by tile over the hidden axis; the last tile's point adds
  the residual.
-/
module

public import proofs.«01_k».proof.Proof.Gen.Kernel10Ideal.Value
public import Idealize.ShloMosaic.Lib.Pipeline.Value
public import Idealize.ShloMosaic.Lib.Tactic

@[expose] public section

set_option maxRecDepth 16384

noncomputable section

namespace Cert.FfnFirst

open Cert.Kernel10Ideal Cert.Kernel10Ideal.Gen Idealize.ShloMosaic Idealize.ShloMosaic.TcCoe Idealize.SL.Sem

variable {F : FTy → Type} [FloatOps F]

/-- The zero offsets of a matrix. -/
theorem z2 : (![0, 0] : Fin 2 → Nat) = fun _ => 0 := funext fun a => by fin_cases a <;> rfl
/-- The zero offsets of a rank-three array. -/
theorem z3 : (![0, 0, 0] : Fin 3 → Nat) = fun _ => 0 := funext fun a => by fin_cases a <;> rfl

/-- The first tile of a row block starts the sum from zero. -/
theorem first_tile (c : Dev nD) (i : grid0.Coords) (arg2 : Memref sig .tc .vmem S512x2048 .f32) (h2 : arg2.IsWhole) (arg3 : Memref sig .tc .vmem S512x2048 .bf16) (h3 : arg3.IsWhole) (arg4 : Memref sig .tc .vmem S1x2048x1024 .bf16) (h4 : arg4.IsWhole) (arg5 : Memref sig .tc .vmem S1x1024x2048 .bf16) (h5 : arg5.IsWhole) (arg6 : Memref sig .tc .vmem S1x2048 .f32) (h6 : arg6.IsWhole) (arg7 : Memref sig .tc .vmem S512x2048 .f32) (h7 : arg7.IsWhole) (arg8 : Memref sig .tc .vmem S512x2048 .f32) (h8 : arg8.IsWhole) (c0 : cond0_0 i) (c1 : ¬cond0_1 i)
    (x0 : Vec F S512x2048 .f32) (x1 : Vec F S512x2048 .bf16) (x2 : Vec F S1x2048x1024 .bf16) (x3 : Vec F S1x1024x2048 .bf16) (x4 : Vec F S1x2048 .f32) :
    sout0_A_0 c i arg2 h2 arg3 h3 arg4 h4 arg5 h5 arg6 h6 arg7 h7 arg8 h8 c0 c1 x0 x1 x2 x3 x4 = k0_pay2 x1 x2 k0_pay1 x3 := by
  unfold sout0_A_0
  rw [View.read_writes_eq_canon _ _ _ (scover0_A_0 c i arg2 h2 arg3 h3 arg4 h4 arg5 h5 arg6 h6 arg7 h7 arg8 h8 c0 c1 x0 x1 x2 x3 x4)]
  unfold kernelRun0_A
  dsimp only
  sl_unfold_words
  rw [View.canon_cons_unit_zero (S := S512x2048) z2, View.readCov_unit_zero (S := S512x2048) _ z2]
  simp only [View.readAt_eq_ld, h2.read_unread, h3.read_unread, h4.read_unread, h5.read_unread, h6.read_unread, h8.read_unread, View.ld_unit_zero (S := S512x2048) z2, View.ld_unit_zero (S := S1x2048) z2, View.ld_unit_zero (S := S1x2048x1024) z3, View.ld_unit_zero (S := S1x1024x2048) z3]

/-- A later tile adds its product to the sum. -/
theorem middle_tile (c : Dev nD) (i : grid0.Coords) (arg2 : Memref sig .tc .vmem S512x2048 .f32) (h2 : arg2.IsWhole) (arg3 : Memref sig .tc .vmem S512x2048 .bf16) (h3 : arg3.IsWhole) (arg4 : Memref sig .tc .vmem S1x2048x1024 .bf16) (h4 : arg4.IsWhole) (arg5 : Memref sig .tc .vmem S1x1024x2048 .bf16) (h5 : arg5.IsWhole) (arg6 : Memref sig .tc .vmem S1x2048 .f32) (h6 : arg6.IsWhole) (arg7 : Memref sig .tc .vmem S512x2048 .f32) (h7 : arg7.IsWhole) (arg8 : Memref sig .tc .vmem S512x2048 .f32) (h8 : arg8.IsWhole) (c0 : ¬cond0_0 i) (c1 : ¬cond0_1 i)
    (x0 : Vec F S512x2048 .f32) (x1 : Vec F S512x2048 .bf16) (x2 : Vec F S1x2048x1024 .bf16) (x3 : Vec F S1x1024x2048 .bf16) (x4 : Vec F S1x2048 .f32) (acc : Vec F S512x2048 .f32) :
    sout0_B_0 c i arg2 h2 arg3 h3 arg4 h4 arg5 h5 arg6 h6 arg7 h7 arg8 h8 c0 c1 x0 x1 x2 x3 x4 acc = k0_pay2 x1 x2 acc x3 := by
  unfold sout0_B_0
  rw [View.read_writes_eq_canon _ _ _ (scover0_B_0 c i arg2 h2 arg3 h3 arg4 h4 arg5 h5 arg6 h6 arg7 h7 arg8 h8 c0 c1 x0 x1 x2 x3 x4 acc)]
  unfold kernelRun0_B
  dsimp only
  sl_unfold_words
  rw [View.canon_unit_zero z2]
  simp only [View.readAt_eq_ld, h2.read_unread, h3.read_unread, h4.read_unread, h5.read_unread, h6.read_unread, h8.read_unread, View.ld_unit_zero (S := S512x2048) z2, View.ld_unit_zero (S := S1x2048) z2, View.ld_unit_zero (S := S1x2048x1024) z3, View.ld_unit_zero (S := S1x1024x2048) z3]

/-- The last tile adds its product to the sum. -/
theorem last_tile_sum (c : Dev nD) (i : grid0.Coords) (arg2 : Memref sig .tc .vmem S512x2048 .f32) (h2 : arg2.IsWhole) (arg3 : Memref sig .tc .vmem S512x2048 .bf16) (h3 : arg3.IsWhole) (arg4 : Memref sig .tc .vmem S1x2048x1024 .bf16) (h4 : arg4.IsWhole) (arg5 : Memref sig .tc .vmem S1x1024x2048 .bf16) (h5 : arg5.IsWhole) (arg6 : Memref sig .tc .vmem S1x2048 .f32) (h6 : arg6.IsWhole) (arg7 : Memref sig .tc .vmem S512x2048 .f32) (h7 : arg7.IsWhole) (arg8 : Memref sig .tc .vmem S512x2048 .f32) (h8 : arg8.IsWhole) (c0 : ¬cond0_0 i) (c1 : cond0_1 i)
    (x0 : Vec F S512x2048 .f32) (x1 : Vec F S512x2048 .bf16) (x2 : Vec F S1x2048x1024 .bf16) (x3 : Vec F S1x1024x2048 .bf16) (x4 : Vec F S1x2048 .f32) (acc : Vec F S512x2048 .f32) :
    sout0_C_0 c i arg2 h2 arg3 h3 arg4 h4 arg5 h5 arg6 h6 arg7 h7 arg8 h8 c0 c1 x0 x1 x2 x3 x4 acc = k0_pay2 x1 x2 acc x3 := by
  unfold sout0_C_0
  rw [View.read_writes_eq_canon _ _ _ (scover0_C_0 c i arg2 h2 arg3 h3 arg4 h4 arg5 h5 arg6 h6 arg7 h7 arg8 h8 c0 c1 x0 x1 x2 x3 x4 acc)]
  unfold kernelRun0_C
  dsimp only
  sl_unfold_words
  rw [View.canon_unit_zero z2]
  simp only [View.readAt_eq_ld, h2.read_unread, h3.read_unread, h4.read_unread, h5.read_unread, h6.read_unread, h8.read_unread, View.ld_unit_zero (S := S512x2048) z2, View.ld_unit_zero (S := S1x2048) z2, View.ld_unit_zero (S := S1x2048x1024) z3, View.ld_unit_zero (S := S1x1024x2048) z3]

/-- The last tile writes the sum of the residual and the finished product. -/
theorem last_tile_out (c : Dev nD) (i : grid0.Coords) (arg2 : Memref sig .tc .vmem S512x2048 .f32) (h2 : arg2.IsWhole) (arg3 : Memref sig .tc .vmem S512x2048 .bf16) (h3 : arg3.IsWhole) (arg4 : Memref sig .tc .vmem S1x2048x1024 .bf16) (h4 : arg4.IsWhole) (arg5 : Memref sig .tc .vmem S1x1024x2048 .bf16) (h5 : arg5.IsWhole) (arg6 : Memref sig .tc .vmem S1x2048 .f32) (h6 : arg6.IsWhole) (arg7 : Memref sig .tc .vmem S512x2048 .f32) (h7 : arg7.IsWhole) (arg8 : Memref sig .tc .vmem S512x2048 .f32) (h8 : arg8.IsWhole) (c0 : ¬cond0_0 i) (c1 : cond0_1 i)
    (x0 : Vec F S512x2048 .f32) (x1 : Vec F S512x2048 .bf16) (x2 : Vec F S1x2048x1024 .bf16) (x3 : Vec F S1x1024x2048 .bf16) (x4 : Vec F S1x2048 .f32) (acc : Vec F S512x2048 .f32) :
    out0_C_5 c i arg2 h2 arg3 h3 arg4 h4 arg5 h5 arg6 h6 arg7 h7 arg8 h8 c0 c1 x0 x1 x2 x3 x4 acc = k0_pay3 x0 (k0_pay2 x1 x2 acc x3) := by
  unfold out0_C_5
  rw [View.read_writes_eq_canon _ _ _ (cover0_C_5 c i arg2 h2 arg3 h3 arg4 h4 arg5 h5 arg6 h6 arg7 h7 arg8 h8 c0 c1 x0 x1 x2 x3 x4 acc)]
  unfold kernelRun0_C
  dsimp only
  sl_unfold_words
  rw [View.canon_unit_zero z2, View.readCov_unit_zero (S := S512x2048) _ z2]
  simp only [View.readAt_eq_ld, h2.read_unread, h3.read_unread, h4.read_unread, h5.read_unread, h6.read_unread, h8.read_unread, View.ld_unit_zero (S := S512x2048) z2, View.ld_unit_zero (S := S1x2048) z2, View.ld_unit_zero (S := S1x2048x1024) z3, View.ld_unit_zero (S := S1x1024x2048) z3]

end Cert.FfnFirst

end
-- ==== Proof.FfnFirst.Pays.lean ====
/-
  The first layer's feed-forward kernel, its two computations read at an index: a tile's contribution to the second product,
  and the row that is written out.
-/
module

public import proofs.«01_k».proof.Proof.Gen.Kernel10Ideal.Value
public import Idealize.ShloMosaic.Lib.Pointwise

@[expose] public section

set_option maxRecDepth 16384

noncomputable section

namespace Cert.FfnFirst

open Cert.Kernel10Ideal Cert.Kernel10Ideal.Gen Idealize.ShloMosaic

/-- The reset value is zero. -/
theorem reset_apply (i : S512x2048.Idx) : (k0_pay1 (F := Ideal)) i = 0 := by
  pointwise [k0_pay1]

/-- A tile adds the product of its squared hidden units with its rows of the second weight. -/
theorem tile_apply (h : Vec Ideal S512x2048 .bf16) (w1 : Vec Ideal S1x2048x1024 .bf16) (acc : Vec Ideal S512x2048 .f32) (w2 : Vec Ideal S1x1024x2048 .bf16) (r : Fin 512) (e : Fin 2048) :
    k0_pay2 h w1 acc w2 (ix2 r e) = acc (ix2 r e) + ∑ k : Fin 1024,
      (max (∑ d : Fin 2048, h (ix2 r d) * w1 (ix3 0 d k)) 0 * max (∑ d : Fin 2048, h (ix2 r d) * w1 (ix3 0 d k)) 0) * w2 (ix3 0 k e) := by
  pointwise [k0_pay2]

/-- What is written: the residual plus the finished product. -/
theorem sum_apply (x y : Vec Ideal S512x2048 .f32) (i : S512x2048.Idx) : k0_pay3 x y i = x i + y i := by
  pointwise [k0_pay3]

end Cert.FfnFirst

end
-- ==== Proof.FfnFirst.Value.lean ====
/-
  What the result array of the first layer's feed-forward kernel holds, element by element, over the extended reals.
-/
module

public import proofs.«01_k».proof.Proof.FfnFirst.Cases
public import proofs.«01_k».proof.Proof.FfnFirst.Pays
public import proofs.«01_k».proof.Proof.Ffn.Sums
public import Idealize.ShloMosaic.Lib.StableHlo.ReadAt

@[expose] public section

set_option maxRecDepth 16384

noncomputable section

namespace Cert.FfnFirst

open Cert.Kernel10Ideal Cert.Kernel10Ideal.Gen Idealize.ShloMosaic Idealize.ShloMosaic.TcCoe Idealize.SL.Sem

variable (m : (ℓ : Loc nD τ sig) → Buf (Elt Ideal) ℓ)

/-! ## The argument arrays and the blocks -/

/-- The residual stream. -/
abbrev X (c : Dev nD) : S8192x2048.Idx → EReal := m ((c : Thread nD τ).loc main_arg0)
/-- The normalised rows. -/
abbrev H (c : Dev nD) : S8192x2048.Idx → EReal := m ((c : Thread nD τ).loc main_arg1)
/-- The first weight of both layers. -/
abbrev W1 (c : Dev nD) : S2x2048x8192.Idx → EReal := m ((c : Thread nD τ).loc main_arg2)
/-- The second weight of both layers. -/
abbrev W2 (c : Dev nD) : S2x8192x2048.Idx → EReal := m ((c : Thread nD τ).loc main_arg3)
theorem index0 : ∀ t : Fin cfg0.N, win0_0.index t = ![t.val / 8, 0] := (by decide +kernel : ∀ t : Fin grid0.N, _)
theorem index1 : ∀ t : Fin cfg0.N, win0_1.index t = ![t.val / 8, 0] := (by decide +kernel : ∀ t : Fin grid0.N, _)
theorem index2 : ∀ t : Fin cfg0.N, win0_2.index t = ![0, 0, t.val % 8] := (by decide +kernel : ∀ t : Fin grid0.N, _)
theorem index3 : ∀ t : Fin cfg0.N, win0_3.index t = ![0, t.val % 8, 0] := (by decide +kernel : ∀ t : Fin grid0.N, _)
/-- The rounded first weight holds the first weight. -/
theorem V_w1 (c : Dev nD) (j : S2x2048x8192.Idx) : V m c main_v0 j = W1 m c j := by
  unfold V hostOps0
  after_reads_at
  try rfl
/-- The rounded second weight holds the second weight. -/
theorem V_w2 (c : Dev nD) (j : S2x8192x2048.Idx) : V m c main_v1 j = W2 m c j := by
  unfold V hostOps0
  after_reads_at
  try rfl
/-- Point `t`'s rows of the residual. -/
theorem blk_x (c : Dev nD) (t : Fin cfg0.N) (r : Fin 512) (e : Fin 2048) (R : Fin 8192) (hR : R.val = 512 * (t.val / 8) + r.val) :
    (iblk m c 0 t : Vec Ideal S512x2048 .f32) (ix2 r e) = X m c (ix2 R e) := by
  unfold iblk
  rw [View.read_apply]
  show V m c main_arg0 _ = _
  rw [V_main_arg0]
  congr 1
  funext a
  apply Fin.ext
  match a with
  | ⟨0, _⟩ => show win0_0.index t 0 * 512 + 1 * r.val = R.val; rw [index0]; simp only [Matrix.cons_val_zero]; omega
  | ⟨1, _⟩ => show win0_0.index t 1 * 2048 + 1 * e.val = e.val; rw [index0]; simp only [Matrix.cons_val_one, Matrix.cons_val_zero]; omega

/-- Point `t`'s rows of the normalised stream. -/
theorem blk_h (c : Dev nD) (t : Fin cfg0.N) (r : Fin 512) (e : Fin 2048) (R : Fin 8192) (hR : R.val = 512 * (t.val / 8) + r.val) :
    (iblk m c 1 t : Vec Ideal S512x2048 .bf16) (ix2 r e) = H m c (ix2 R e) := by
  unfold iblk
  rw [View.read_apply]
  show V m c main_arg1 _ = _
  rw [V_main_arg1]
  congr 1
  funext a
  apply Fin.ext
  match a with
  | ⟨0, _⟩ => show win0_1.index t 0 * 512 + 1 * r.val = R.val; rw [index1]; simp only [Matrix.cons_val_zero]; omega
  | ⟨1, _⟩ => show win0_1.index t 1 * 2048 + 1 * e.val = e.val; rw [index1]; simp only [Matrix.cons_val_one, Matrix.cons_val_zero]; omega

/-- Point `t`'s columns of the first weight. -/
theorem blk_w1 (c : Dev nD) (t : Fin cfg0.N) (d : Fin 2048) (k : Fin 1024) (K : Fin 8192) (hK : K.val = 1024 * (t.val % 8) + k.val) :
    (iblk m c 2 t : Vec Ideal S1x2048x1024 .bf16) (ix3 0 d k) = W1 m c (ix3 0 d K) := by
  unfold iblk
  rw [View.read_apply]
  show V m c main_v0 _ = _
  rw [V_w1]
  congr 1
  funext a
  apply Fin.ext
  match a with
  | ⟨0, _⟩ => show win0_2.index t 0 * 1 + 1 * 0 = 0; rw [index2]; rfl
  | ⟨1, _⟩ => show win0_2.index t 1 * 2048 + 1 * d.val = d.val; rw [index2]; show 0 * 2048 + 1 * d.val = d.val; omega
  | ⟨2, _⟩ => show win0_2.index t 2 * 1024 + 1 * k.val = K.val; rw [index2]; show t.val % 8 * 1024 + 1 * k.val = K.val; omega

/-- Point `t`'s rows of the second weight. -/
theorem blk_w2 (c : Dev nD) (t : Fin cfg0.N) (k : Fin 1024) (e : Fin 2048) (K : Fin 8192) (hK : K.val = 1024 * (t.val % 8) + k.val) :
    (iblk m c 3 t : Vec Ideal S1x1024x2048 .bf16) (ix3 0 k e) = W2 m c (ix3 0 K e) := by
  unfold iblk
  rw [View.read_apply]
  show V m c main_v1 _ = _
  rw [V_w2]
  congr 1
  funext a
  apply Fin.ext
  match a with
  | ⟨0, _⟩ => show win0_3.index t 0 * 1 + 1 * 0 = 0; rw [index3]; rfl
  | ⟨1, _⟩ => show win0_3.index t 1 * 1024 + 1 * k.val = K.val; rw [index3]; show t.val % 8 * 1024 + 1 * k.val = K.val; omega
  | ⟨2, _⟩ => show win0_3.index t 2 * 2048 + 1 * e.val = e.val; rw [index3]; show 0 * 2048 + 1 * e.val = e.val; omega

/-! ## The sum over the hidden axis -/

/-- Hidden unit `K` of row `R`: the first product's positive part. -/
def hid (h : S8192x2048.Idx → EReal) (w1 : S2x2048x8192.Idx → EReal) (R K : Fin 8192) : EReal :=
  max (∑ d : Fin 2048, h (ix2 R d) * w1 (ix3 0 d K)) 0

/-- Hidden unit `K`'s part of the second product at column `e` (nothing past the axis). -/
def part (h : S8192x2048.Idx → EReal) (w1 : S2x2048x8192.Idx → EReal) (w2 : S2x8192x2048.Idx → EReal) (R : Fin 8192) (e : Fin 2048) (K : ℕ) : EReal :=
  if hK : K < 8192 then hid h w1 R ⟨K, hK⟩ * hid h w1 R ⟨K, hK⟩ * w2 (ix3 0 ⟨K, hK⟩ e) else 0

/-- What point `n` adds to the scratch at `i`. -/
def add (c : Dev nD) (n : ℕ) (i : S512x2048.Idx) : EReal :=
  ∑ k : Fin 1024, part (H m c) (W1 m c) (W2 m c) ⟨(512 * (n / 8) + (i 0).val) % 8192, Nat.mod_lt _ (by decide)⟩ (i 1) (1024 * (n % 8) + k.val)

/-- One tile, its blocks known to be row `R` and the hidden units `1024 * f …`. -/
theorem tile_eq (X H : S8192x2048.Idx → EReal) (W1 : S2x2048x8192.Idx → EReal) (W2 : S2x8192x2048.Idx → EReal)
    (h : Vec Ideal S512x2048 .bf16) (w1 : Vec Ideal S1x2048x1024 .bf16) (acc : Vec Ideal S512x2048 .f32) (w2 : Vec Ideal S1x1024x2048 .bf16)
    (r : Fin 512) (e : Fin 2048) (R : Fin 8192) (f : ℕ) (hf : f < 8) (hh : ∀ d : Fin 2048, h (ix2 r d) = H (ix2 R d))
    (h1 : ∀ (d : Fin 2048) (k : Fin 1024) (K : Fin 8192), K.val = 1024 * f + k.val → w1 (ix3 0 d k) = W1 (ix3 0 d K))
    (h2 : ∀ (k : Fin 1024) (K : Fin 8192), K.val = 1024 * f + k.val → w2 (ix3 0 k e) = W2 (ix3 0 K e)) :
    k0_pay2 h w1 acc w2 (ix2 r e) = acc (ix2 r e) + ∑ k : Fin 1024, part H W1 W2 R e (1024 * f + k.val) := by
  refine (tile_apply _ _ _ _ r e).trans ?_
  refine congrArg (acc (ix2 r e) + ·) (Finset.sum_congr rfl fun k _ => ?_)
  have hk := k.isLt
  have hK : 1024 * f + k.val < 8192 := by omega
  unfold part
  rw [dif_pos hK, h2 k ⟨_, hK⟩ rfl]
  unfold hid
  rw [Finset.sum_congr rfl fun d _ => show h (ix2 r d) * w1 (ix3 0 d k) = H (ix2 R d) * W1 (ix3 0 d ⟨_, hK⟩) by rw [hh, h1 d k ⟨_, hK⟩ rfl]]

/-- One tile on any scratch contents. -/
theorem tile_add (c : Dev nD) (t : Fin cfg0.N) (acc : Vec Ideal S512x2048 .f32) (i : S512x2048.Idx) :
    k0_pay2 (iblk m c 1 t) (iblk m c 2 t) acc (iblk m c 3 t) i = acc i + add m c t.val i := by
  have hN : t.val < 128 := lt_of_lt_of_eq t.isLt N_0
  obtain ⟨r, e, rfl⟩ : ∃ (r : Fin 512) (e : Fin 2048), i = ix2 r e := ⟨i 0, i 1, eq_ix2 i⟩
  have hr := r.isLt
  have hR : (512 * (t.val / 8) + r.val) % 8192 = 512 * (t.val / 8) + r.val := Nat.mod_eq_of_lt (by omega)
  exact tile_eq (X m c) (H m c) (W1 m c) (W2 m c) _ _ acc _ r e ⟨(512 * (t.val / 8) + r.val) % 8192, Nat.mod_lt _ (by decide)⟩ (t.val % 8) (by omega)
    (fun d => blk_h m c t r d _ hR) (fun d k K hK => blk_w1 m c t d k K hK) (fun k K hK => blk_w2 m c t k e K hK)

/-- The scratch after the `j`-th tile of row block `q`. -/
theorem scratch_apply (c : Dev nD) (q j : ℕ) (hj : j ≤ 7) (h : 8 * q + j < cfg0.N) (i : S512x2048.Idx) :
    (outsAt0 m c (8 * q + j) h).2 i = ∑ s ∈ Finset.range (j + 1), add m c (8 * q + s) i := by
  have hN : 8 * q + j < 128 := lt_of_lt_of_eq h N_0
  have e := Cert.Kernel10Ideal.Value.soutsAt0_0_eq m c ⟨8 * q + j, h⟩
  have e' : (outsAt0 m c (8 * q + j) h).2 = Pipeline.accAt (fun n h => Cert.Kernel10Ideal.Value.scAt0_0 m c n h (VS0_0.read (Elt Ideal) VS0_0.junk)) (Cert.Kernel10Ideal.Value.scAt0_0 m c) (8 * q) j h := by
    refine e.trans ?_
    have e1 : (8 * q + j) / 8 = q := by omega
    have e2 : (8 * q + j) % 8 = j := by omega
    simp only [e1, e2]
  rw [e', Pipeline.accAt_add_apply _ _ (fun _ => (0 : EReal)) (fun n i => add m c n i) (8 * q) 7 ?_ ?_ j hj h i, zero_add]
  · intro h i
    unfold Cert.Kernel10Ideal.Value.scAt0_0
    rw [dif_pos (by omega), dif_neg (by omega), first_tile]
    refine (tile_add m c ⟨8 * q, h⟩ _ i).trans ?_
    rw [reset_apply]
  · intro n h acc i h1 h2
    unfold Cert.Kernel10Ideal.Value.scAt0_0
    rw [dif_neg (by omega)]
    by_cases h7 : n % 8 = 7
    · rw [dif_pos h7, last_tile_sum]
      exact tile_add m c ⟨n, h⟩ acc i
    · rw [dif_neg h7, middle_tile]
      exact tile_add m c ⟨n, h⟩ acc i

/-! ## The result -/

/-- The feed-forward part of the first layer: the residual plus the whole second product. -/
def res (x h : S8192x2048.Idx → EReal) (w1 : S2x2048x8192.Idx → EReal) (w2 : S2x8192x2048.Idx → EReal) (R : Fin 8192) (e : Fin 2048) : EReal :=
  x (ix2 R e) + ∑ K : Fin 8192, hid h w1 R K * hid h w1 R K * w2 (ix3 0 K e)

/-- The finished scratch of a row block holds the second product. -/
theorem sum_parts (c : Dev nD) (q : ℕ) (hq : q < 16) (r : Fin 512) (e : Fin 2048) (R : Fin 8192) (hR : R.val = 512 * q + r.val) :
    ∑ s ∈ Finset.range 8, add m c (8 * q + s) (ix2 r e) = ∑ K : Fin 8192, hid (H m c) (W1 m c) R K * hid (H m c) (W1 m c) R K * W2 m c (ix3 0 K e) := by
  have e1 : ∀ s ∈ Finset.range 8, add m c (8 * q + s) (ix2 r e) = ∑ k : Fin 1024, part (H m c) (W1 m c) (W2 m c) R e (1024 * s + k.val) := by
    intro s hs
    have hs := Finset.mem_range.1 hs
    have hr := r.isLt
    unfold add
    have eR : (⟨(512 * ((8 * q + s) / 8) + ((ix2 r e : S512x2048.Idx) 0).val) % 8192, Nat.mod_lt _ (by decide)⟩ : Fin 8192) = R := by
      apply Fin.ext
      show (512 * ((8 * q + s) / 8) + r.val) % 8192 = R.val
      omega
    have e8 : (8 * q + s) % 8 = s := by omega
    rw [eR, e8]
    rfl
  rw [Finset.sum_congr rfl e1, Cert.Ffn.sum_tiles 8 1024]
  refine Finset.sum_congr rfl fun K _ => ?_
  unfold part
  rw [dif_pos K.isLt]

/-- The result array, element by element. -/
theorem result_apply (c : Dev nD) (R : Fin 8192) (e : Fin 2048) :
    Cert.Kernel10Ideal.Value.G5 m c (ix2 R e) = res (X m c) (H m c) (W1 m c) (W2 m c) R e := by
  have hR := R.isLt
  have he := e.isLt
  obtain ⟨q, r, hq, hr⟩ : ∃ (q : ℕ) (r : Fin 512), q < 16 ∧ R.val = 512 * q + r.val :=
    ⟨R.val / 512, ⟨R.val % 512, by omega⟩, by omega, by show R.val = 512 * (R.val / 512) + R.val % 512; omega⟩
  have hrl := r.isLt
  have hN : cfg0.N = 128 := N_0
  have hpt : Cert.Kernel10Ideal.Value.pt5Of (ix2 R e) = 8 * q + 7 := by
    show 8 * (1 * (R.val / 512 - 0) + 1 * (e.val / 2048 - 0)) + 7 = _
    omega
  have hloc : Cert.Kernel10Ideal.Value.loc5Of (ix2 R e) = ix2 r e := by
    funext a
    apply Fin.ext
    match a with
    | ⟨0, _⟩ => show R.val % 512 = r.val; omega
    | ⟨1, _⟩ => show e.val % 2048 = e.val; omega
  have hlt : 8 * q + 7 < cfg0.N := by omega
  have hlt' : Cert.Kernel10Ideal.Value.pt5Of (ix2 R e) < cfg0.N := by rw [hpt]; exact hlt
  unfold Cert.Kernel10Ideal.Value.G5
  rw [dif_pos hlt', hloc]
  rw [← Cert.Kernel10Ideal.Value.outsAt0_sweep m c _ hlt']
  have e0 : (outsAt0 m c (Cert.Kernel10Ideal.Value.pt5Of (ix2 R e)) hlt').1 = (outsAt0 m c (8 * q + 7) hlt).1 := by
    congr 2
  rw [e0, outsAt0_C m c ⟨8 * q + 7, hlt⟩ (by show ¬(8 * q + 7) % 8 = 0; omega) (by show (8 * q + 7) % 8 = 7; omega)]
  dsimp only
  rw [last_tile_out]
  refine (sum_apply _ _ _).trans ?_
  unfold res
  rw [blk_x m c _ r e R (by show R.val = 512 * ((8 * q + 7) / 8) + r.val; omega)]
  refine congrArg (X m c (ix2 R e) + ·) ?_
  rw [tile_add]
  have e6 : (outsAt0 m c (8 * q + 7 - 1) (Nat.lt_of_le_of_lt (Nat.sub_le _ _) hlt)).2 (ix2 r e) = ∑ s ∈ Finset.range 7, add m c (8 * q + s) (ix2 r e) :=
    scratch_apply m c q 6 (by omega) (by omega) (ix2 r e)
  rw [← sum_parts m c q hq r e R hr, Finset.sum_range_succ _ 7]
  exact congrArg (· + add m c (8 * q + 7) (ix2 r e)) e6

end Cert.FfnFirst

end
-- ==== Proof.FfnFirst.Ref.lean ====
/-
  The first layer's feed-forward reference read at an index: it is the closed form the kernel's result was brought to.
-/
module

public import proofs.«01_k».proof.Proof.FfnFirst.Value
public import proofs.«01_k».proof.Proof.Gen.Reference10Ideal.Read

@[expose] public section

set_option maxRecDepth 16384

noncomputable section

namespace Cert.FfnFirst

open Cert.Reference10Ideal Cert.Reference10Ideal.Gen Cert.Reference10Ideal.Read Idealize.ShloMosaic

/-- The reference's hidden unit before squaring. -/
theorem ref_hid (h : FVec Ideal S8192x2048 .bf16) (w1 : FVec Ideal S2x2048x8192 .f32) (R K : Fin 8192) :
    val_main_v4 (F := Ideal) h w1 (ix2 R K) = hid h w1 R K := by
  unfold hid
  pointwise [val_main_v4, val_main_v3, val_main_v2, val_main_v1, val_main_v0, val_main_call0_v0, val_main_call0_cst]

/-- The reference's result. -/
theorem ref_res (x : FVec Ideal S8192x2048 .f32) (h : FVec Ideal S8192x2048 .bf16) (w1 : FVec Ideal S2x2048x8192 .f32) (w2 : FVec Ideal S2x8192x2048 .f32) (R : Fin 8192) (e : Fin 2048) :
    val_main_v9 (F := Ideal) x h w1 w2 (ix2 R e) = res x h w1 w2 R e := by
  unfold res
  pointwise [val_main_v9, val_main_v8, val_main_v7, val_main_v6, val_main_v5, ref_hid]

end Cert.FfnFirst

end
-- ==== Proof.FfnFirst.Claim.lean ====
/-
  The first layer's feed-forward kernel and its reference leave the same result over the extended reals.
-/
module

public import proofs.«01_k».proof.Proof.FfnFirst.Ref
public import proofs.«01_k».proof.Proof.Gen.Reference10Ideal.Run
public import proofs.«01_k».proof.Defs
public import Idealize.ShloMosaic.Lib.Claim

@[expose] public section

set_option maxRecDepth 16384

noncomputable section

namespace Cert.FfnFirst

open Idealize.ShloMosaic Idealize.ShloMosaic.TcCoe Idealize.SL.Sem

/-- From the same arguments the kernel's result array equals the reference's. -/
theorem algebraic : Cert.algebraic_Kernel10Ideal_Reference10Ideal := by
  pair_intro
  · run_from (Cert.Kernel10Ideal.Value.run m g)
  · run_from (Cert.Reference10Ideal.Value.run m' g')
    refine (Cert.Reference10Ideal.Read.val_main_v9_eq _ _ _ _).trans ?_
    funext i
    obtain ⟨R, e, rfl⟩ : ∃ (R : Fin 8192) (e : Fin 2048), i = ix2 R e := ⟨i 0, i 1, eq_ix2 i⟩
    exact (ref_res _ _ _ _ R e).trans (result_apply m c R e).symm

end Cert.FfnFirst

end
-- ==== Proof.Sample.Ffn.Cases.lean ====
/-
  What one point of the feed-forward kernel's (at the sample's rows) grid computes, read off the stores its body was found to make.
  The scratch holds the row block's second product, summed tile by tile over the hidden axis; the last tile's point adds
  the residual, normalises each row and scales it by the gain.
-/
module

public import proofs.«01_k».proof.Proof.Gen.Kernel7Ideal.Value
public import Idealize.ShloMosaic.Lib.Pipeline.Value
public import Idealize.ShloMosaic.Lib.Tactic

@[expose] public section

set_option maxRecDepth 16384

noncomputable section

namespace Cert.SampleFfn

open Cert.Kernel7Ideal Cert.Kernel7Ideal.Gen Idealize.ShloMosaic Idealize.ShloMosaic.TcCoe Idealize.SL.Sem

variable {F : FTy → Type} [FloatOps F]

/-- The zero offsets of a matrix. -/
theorem z2 : (![0, 0] : Fin 2 → Nat) = fun _ => 0 := funext fun a => by fin_cases a <;> rfl
/-- The zero offsets of a rank-three array. -/
theorem z3 : (![0, 0, 0] : Fin 3 → Nat) = fun _ => 0 := funext fun a => by fin_cases a <;> rfl

/-- The first tile of a row block starts the sum from zero. -/
theorem first_tile (c : Dev nD) (i : grid0.Coords) (arg2 : Memref sig .tc .vmem S512x2048 .f32) (h2 : arg2.IsWhole) (arg3 : Memref sig .tc .vmem S512x2048 .bf16) (h3 : arg3.IsWhole) (arg4 : Memref sig .tc .vmem S1x2048x1024 .bf16) (h4 : arg4.IsWhole) (arg5 : Memref sig .tc .vmem S1x1024x2048 .bf16) (h5 : arg5.IsWhole) (arg6 : Memref sig .tc .vmem S1x2048 .f32) (h6 : arg6.IsWhole) (arg7 : Memref sig .tc .vmem S512x2048 .f32) (h7 : arg7.IsWhole) (arg8 : Memref sig .tc .vmem S512x2048 .f32) (h8 : arg8.IsWhole) (c0 : cond0_0 i) (c1 : ¬cond0_1 i)
    (x0 : Vec F S512x2048 .f32) (x1 : Vec F S512x2048 .bf16) (x2 : Vec F S1x2048x1024 .bf16) (x3 : Vec F S1x1024x2048 .bf16) (x4 : Vec F S1x2048 .f32) :
    sout0_A_0 c i arg2 h2 arg3 h3 arg4 h4 arg5 h5 arg6 h6 arg7 h7 arg8 h8 c0 c1 x0 x1 x2 x3 x4 = k0_pay2 x1 x2 k0_pay1 x3 := by
  unfold sout0_A_0
  rw [View.read_writes_eq_canon _ _ _ (scover0_A_0 c i arg2 h2 arg3 h3 arg4 h4 arg5 h5 arg6 h6 arg7 h7 arg8 h8 c0 c1 x0 x1 x2 x3 x4)]
  unfold kernelRun0_A
  dsimp only
  sl_unfold_words
  rw [View.canon_cons_unit_zero (S := S512x2048) z2, View.readCov_unit_zero (S := S512x2048) _ z2]
  simp only [View.readAt_eq_ld, h2.read_unread, h3.read_unread, h4.read_unread, h5.read_unread, h6.read_unread, h8.read_unread, View.ld_unit_zero (S := S512x2048) z2, View.ld_unit_zero (S := S1x2048) z2, View.ld_unit_zero (S := S1x2048x1024) z3, View.ld_unit_zero (S := S1x1024x2048) z3]

/-- A later tile adds its product to the sum. -/
theorem middle_tile (c : Dev nD) (i : grid0.Coords) (arg2 : Memref sig .tc .vmem S512x2048 .f32) (h2 : arg2.IsWhole) (arg3 : Memref sig .tc .vmem S512x2048 .bf16) (h3 : arg3.IsWhole) (arg4 : Memref sig .tc .vmem S1x2048x1024 .bf16) (h4 : arg4.IsWhole) (arg5 : Memref sig .tc .vmem S1x1024x2048 .bf16) (h5 : arg5.IsWhole) (arg6 : Memref sig .tc .vmem S1x2048 .f32) (h6 : arg6.IsWhole) (arg7 : Memref sig .tc .vmem S512x2048 .f32) (h7 : arg7.IsWhole) (arg8 : Memref sig .tc .vmem S512x2048 .f32) (h8 : arg8.IsWhole) (c0 : ¬cond0_0 i) (c1 : ¬cond0_1 i)
    (x0 : Vec F S512x2048 .f32) (x1 : Vec F S512x2048 .bf16) (x2 : Vec F S1x2048x1024 .bf16) (x3 : Vec F S1x1024x2048 .bf16) (x4 : Vec F S1x2048 .f32) (acc : Vec F S512x2048 .f32) :
    sout0_B_0 c i arg2 h2 arg3 h3 arg4 h4 arg5 h5 arg6 h6 arg7 h7 arg8 h8 c0 c1 x0 x1 x2 x3 x4 acc = k0_pay2 x1 x2 acc x3 := by
  unfold sout0_B_0
  rw [View.read_writes_eq_canon _ _ _ (scover0_B_0 c i arg2 h2 arg3 h3 arg4 h4 arg5 h5 arg6 h6 arg7 h7 arg8 h8 c0 c1 x0 x1 x2 x3 x4 acc)]
  unfold kernelRun0_B
  dsimp only
  sl_unfold_words
  rw [View.canon_unit_zero z2]
  simp only [View.readAt_eq_ld, h2.read_unread, h3.read_unread, h4.read_unread, h5.read_unread, h6.read_unread, h8.read_unread, View.ld_unit_zero (S := S512x2048) z2, View.ld_unit_zero (S := S1x2048) z2, View.ld_unit_zero (S := S1x2048x1024) z3, View.ld_unit_zero (S := S1x1024x2048) z3]

/-- The last tile adds its product to the sum. -/
theorem last_tile_sum (c : Dev nD) (i : grid0.Coords) (arg2 : Memref sig .tc .vmem S512x2048 .f32) (h2 : arg2.IsWhole) (arg3 : Memref sig .tc .vmem S512x2048 .bf16) (h3 : arg3.IsWhole) (arg4 : Memref sig .tc .vmem S1x2048x1024 .bf16) (h4 : arg4.IsWhole) (arg5 : Memref sig .tc .vmem S1x1024x2048 .bf16) (h5 : arg5.IsWhole) (arg6 : Memref sig .tc .vmem S1x2048 .f32) (h6 : arg6.IsWhole) (arg7 : Memref sig .tc .vmem S512x2048 .f32) (h7 : arg7.IsWhole) (arg8 : Memref sig .tc .vmem S512x2048 .f32) (h8 : arg8.IsWhole) (c0 : ¬cond0_0 i) (c1 : cond0_1 i)
    (x0 : Vec F S512x2048 .f32) (x1 : Vec F S512x2048 .bf16) (x2 : Vec F S1x2048x1024 .bf16) (x3 : Vec F S1x1024x2048 .bf16) (x4 : Vec F S1x2048 .f32) (acc : Vec F S512x2048 .f32) :
    sout0_C_0 c i arg2 h2 arg3 h3 arg4 h4 arg5 h5 arg6 h6 arg7 h7 arg8 h8 c0 c1 x0 x1 x2 x3 x4 acc = k0_pay2 x1 x2 acc x3 := by
  unfold sout0_C_0
  rw [View.read_writes_eq_canon _ _ _ (scover0_C_0 c i arg2 h2 arg3 h3 arg4 h4 arg5 h5 arg6 h6 arg7 h7 arg8 h8 c0 c1 x0 x1 x2 x3 x4 acc)]
  unfold kernelRun0_C
  dsimp only
  sl_unfold_words
  rw [View.canon_unit_zero z2]
  simp only [View.readAt_eq_ld, h2.read_unread, h3.read_unread, h4.read_unread, h5.read_unread, h6.read_unread, h8.read_unread, View.ld_unit_zero (S := S512x2048) z2, View.ld_unit_zero (S := S1x2048) z2, View.ld_unit_zero (S := S1x2048x1024) z3, View.ld_unit_zero (S := S1x1024x2048) z3]

/-- The last tile writes the normalised sum of the residual and the finished product. -/
theorem last_tile_out (c : Dev nD) (i : grid0.Coords) (arg2 : Memref sig .tc .vmem S512x2048 .f32) (h2 : arg2.IsWhole) (arg3 : Memref sig .tc .vmem S512x2048 .bf16) (h3 : arg3.IsWhole) (arg4 : Memref sig .tc .vmem S1x2048x1024 .bf16) (h4 : arg4.IsWhole) (arg5 : Memref sig .tc .vmem S1x1024x2048 .bf16) (h5 : arg5.IsWhole) (arg6 : Memref sig .tc .vmem S1x2048 .f32) (h6 : arg6.IsWhole) (arg7 : Memref sig .tc .vmem S512x2048 .f32) (h7 : arg7.IsWhole) (arg8 : Memref sig .tc .vmem S512x2048 .f32) (h8 : arg8.IsWhole) (c0 : ¬cond0_0 i) (c1 : cond0_1 i)
    (x0 : Vec F S512x2048 .f32) (x1 : Vec F S512x2048 .bf16) (x2 : Vec F S1x2048x1024 .bf16) (x3 : Vec F S1x1024x2048 .bf16) (x4 : Vec F S1x2048 .f32) (acc : Vec F S512x2048 .f32) :
    out0_C_5 c i arg2 h2 arg3 h3 arg4 h4 arg5 h5 arg6 h6 arg7 h7 arg8 h8 c0 c1 x0 x1 x2 x3 x4 acc = k0_pay3 x0 (k0_pay2 x1 x2 acc x3) x4 := by
  unfold out0_C_5
  rw [View.read_writes_eq_canon _ _ _ (cover0_C_5 c i arg2 h2 arg3 h3 arg4 h4 arg5 h5 arg6 h6 arg7 h7 arg8 h8 c0 c1 x0 x1 x2 x3 x4 acc)]
  unfold kernelRun0_C
  dsimp only
  sl_unfold_words
  rw [View.canon_unit_zero z2, View.readCov_unit_zero (S := S512x2048) _ z2]
  simp only [View.readAt_eq_ld, h2.read_unread, h3.read_unread, h4.read_unread, h5.read_unread, h6.read_unread, h8.read_unread, View.ld_unit_zero (S := S512x2048) z2, View.ld_unit_zero (S := S1x2048) z2, View.ld_unit_zero (S := S1x2048x1024) z3, View.ld_unit_zero (S := S1x1024x2048) z3]

end Cert.SampleFfn

end
-- ==== Proof.Sample.Ffn.Pays.lean ====
/-
  The feed-forward kernel's two computations at the sample's rows, read at an index: a tile's contribution to the second product,
  and the normalised row that is written out.
-/
module

public import proofs.«01_k».proof.Proof.Gen.Kernel7Ideal.Value
public import Idealize.ShloMosaic.Lib.Pointwise

@[expose] public section

set_option maxRecDepth 16384

noncomputable section

namespace Cert.SampleFfn

open Cert.Kernel7Ideal Cert.Kernel7Ideal.Gen Idealize.ShloMosaic

/-- The reset value is zero. -/
theorem reset_apply (i : S512x2048.Idx) : (k0_pay1 (F := Ideal)) i = 0 := by
  pointwise [k0_pay1]

/-- A tile adds the product of its squared hidden units with its rows of the second weight. -/
theorem tile_apply (h : Vec Ideal S512x2048 .bf16) (w1 : Vec Ideal S1x2048x1024 .bf16) (acc : Vec Ideal S512x2048 .f32) (w2 : Vec Ideal S1x1024x2048 .bf16) (r : Fin 512) (e : Fin 2048) :
    k0_pay2 h w1 acc w2 (ix2 r e) = acc (ix2 r e) + ∑ k : Fin 1024,
      (max (∑ d : Fin 2048, h (ix2 r d) * w1 (ix3 0 d k)) 0 * max (∑ d : Fin 2048, h (ix2 r d) * w1 (ix3 0 d k)) 0) * w2 (ix3 0 k e) := by
  pointwise [k0_pay2]

/-- What is written: the row's sum over its root mean square, times the gain. -/
theorem norm_apply (x y : Vec Ideal S512x2048 .f32) (g : Vec Ideal S1x2048 .f32) (r : Fin 512) (e : Fin 2048) :
    k0_pay3 x y g (ix2 r e) = (x (ix2 r e) + y (ix2 r e))
      * Ideal.rsqrt (Ideal.div (∑ d : Fin 2048, (x (ix2 r d) + y (ix2 r d)) * (x (ix2 r d) + y (ix2 r d))) (Ideal.ofBits .f32 0x45000000#32) + Ideal.ofBits .f32 0x358637BD#32)
      * g (ix2 0 e) := by
  pointwise [k0_pay3]

end Cert.SampleFfn

end
-- ==== Proof.Sample.Ffn.Value.lean ====
/-
  What the feed-forward kernel's result array holds at the sample's rows, element by element, over the extended reals.
-/
module

public import proofs.«01_k».proof.Proof.Sample.Ffn.Cases
public import proofs.«01_k».proof.Proof.Sample.Ffn.Pays
public import proofs.«01_k».proof.Proof.Ffn.Sums
public import Idealize.ShloMosaic.Lib.StableHlo.ReadAt

@[expose] public section

set_option maxRecDepth 16384

noncomputable section

namespace Cert.SampleFfn

open Cert.Kernel7Ideal Cert.Kernel7Ideal.Gen Idealize.ShloMosaic Idealize.ShloMosaic.TcCoe Idealize.SL.Sem

variable (m : (ℓ : Loc nD τ sig) → Buf (Elt Ideal) ℓ)

/-! ## The argument arrays and the blocks -/

/-- The residual stream. -/
abbrev X (c : Dev nD) : S1024x2048.Idx → EReal := m ((c : Thread nD τ).loc main_arg0)
/-- The normalised rows. -/
abbrev H (c : Dev nD) : S1024x2048.Idx → EReal := m ((c : Thread nD τ).loc main_arg1)
/-- The first weight of both layers. -/
abbrev W1 (c : Dev nD) : S2x2048x8192.Idx → EReal := m ((c : Thread nD τ).loc main_arg2)
/-- The second weight of both layers. -/
abbrev W2 (c : Dev nD) : S2x8192x2048.Idx → EReal := m ((c : Thread nD τ).loc main_arg3)
/-- The final gain. -/
abbrev Gain (c : Dev nD) : S2048.Idx → EReal := m ((c : Thread nD τ).loc main_arg4)

theorem index0 : ∀ t : Fin cfg0.N, win0_0.index t = ![t.val / 8, 0] := (by decide +kernel : ∀ t : Fin grid0.N, _)
theorem index1 : ∀ t : Fin cfg0.N, win0_1.index t = ![t.val / 8, 0] := (by decide +kernel : ∀ t : Fin grid0.N, _)
theorem index2 : ∀ t : Fin cfg0.N, win0_2.index t = ![1, 0, t.val % 8] := (by decide +kernel : ∀ t : Fin grid0.N, _)
theorem index3 : ∀ t : Fin cfg0.N, win0_3.index t = ![1, t.val % 8, 0] := (by decide +kernel : ∀ t : Fin grid0.N, _)
theorem index4 : ∀ t : Fin cfg0.N, win0_4.index t = ![0, 0] := (by decide +kernel : ∀ t : Fin grid0.N, _)

/-- The rounded first weight holds the first weight. -/
theorem V_w1 (c : Dev nD) (j : S2x2048x8192.Idx) : V m c main_v0 j = W1 m c j := by
  unfold V hostOps0
  after_reads_at
  try rfl
/-- The rounded second weight holds the second weight. -/
theorem V_w2 (c : Dev nD) (j : S2x8192x2048.Idx) : V m c main_v1 j = W2 m c j := by
  unfold V hostOps0
  after_reads_at
  try rfl
/-- The gain as one row. -/
theorem V_g (c : Dev nD) (e : Fin 2048) : V m c main_v2 (ix2 0 e) = Gain m c (ix1 e) := by
  unfold V hostOps0
  after_reads_at
  try rfl

/-- Point `t`'s rows of the residual. -/
theorem blk_x (c : Dev nD) (t : Fin cfg0.N) (r : Fin 512) (e : Fin 2048) (R : Fin 1024) (hR : R.val = 512 * (t.val / 8) + r.val) :
    (iblk m c 0 t : Vec Ideal S512x2048 .f32) (ix2 r e) = X m c (ix2 R e) := by
  unfold iblk
  rw [View.read_apply]
  show V m c main_arg0 _ = _
  rw [V_main_arg0]
  congr 1
  funext a
  apply Fin.ext
  match a with
  | ⟨0, _⟩ => show win0_0.index t 0 * 512 + 1 * r.val = R.val; rw [index0]; simp only [Matrix.cons_val_zero]; omega
  | ⟨1, _⟩ => show win0_0.index t 1 * 2048 + 1 * e.val = e.val; rw [index0]; simp only [Matrix.cons_val_one, Matrix.cons_val_zero]; omega

/-- Point `t`'s rows of the normalised stream. -/
theorem blk_h (c : Dev nD) (t : Fin cfg0.N) (r : Fin 512) (e : Fin 2048) (R : Fin 1024) (hR : R.val = 512 * (t.val / 8) + r.val) :
    (iblk m c 1 t : Vec Ideal S512x2048 .bf16) (ix2 r e) = H m c (ix2 R e) := by
  unfold iblk
  rw [View.read_apply]
  show V m c main_arg1 _ = _
  rw [V_main_arg1]
  congr 1
  funext a
  apply Fin.ext
  match a with
  | ⟨0, _⟩ => show win0_1.index t 0 * 512 + 1 * r.val = R.val; rw [index1]; simp only [Matrix.cons_val_zero]; omega
  | ⟨1, _⟩ => show win0_1.index t 1 * 2048 + 1 * e.val = e.val; rw [index1]; simp only [Matrix.cons_val_one, Matrix.cons_val_zero]; omega

/-- Point `t`'s columns of the first weight. -/
theorem blk_w1 (c : Dev nD) (t : Fin cfg0.N) (d : Fin 2048) (k : Fin 1024) (K : Fin 8192) (hK : K.val = 1024 * (t.val % 8) + k.val) :
    (iblk m c 2 t : Vec Ideal S1x2048x1024 .bf16) (ix3 0 d k) = W1 m c (ix3 1 d K) := by
  unfold iblk
  rw [View.read_apply]
  show V m c main_v0 _ = _
  rw [V_w1]
  congr 1
  funext a
  apply Fin.ext
  match a with
  | ⟨0, _⟩ => show win0_2.index t 0 * 1 + 1 * 0 = 1; rw [index2]; rfl
  | ⟨1, _⟩ => show win0_2.index t 1 * 2048 + 1 * d.val = d.val; rw [index2]; show 0 * 2048 + 1 * d.val = d.val; omega
  | ⟨2, _⟩ => show win0_2.index t 2 * 1024 + 1 * k.val = K.val; rw [index2]; show t.val % 8 * 1024 + 1 * k.val = K.val; omega

/-- Point `t`'s rows of the second weight. -/
theorem blk_w2 (c : Dev nD) (t : Fin cfg0.N) (k : Fin 1024) (e : Fin 2048) (K : Fin 8192) (hK : K.val = 1024 * (t.val % 8) + k.val) :
    (iblk m c 3 t : Vec Ideal S1x1024x2048 .bf16) (ix3 0 k e) = W2 m c (ix3 1 K e) := by
  unfold iblk
  rw [View.read_apply]
  show V m c main_v1 _ = _
  rw [V_w2]
  congr 1
  funext a
  apply Fin.ext
  match a with
  | ⟨0, _⟩ => show win0_3.index t 0 * 1 + 1 * 0 = 1; rw [index3]; rfl
  | ⟨1, _⟩ => show win0_3.index t 1 * 1024 + 1 * k.val = K.val; rw [index3]; show t.val % 8 * 1024 + 1 * k.val = K.val; omega
  | ⟨2, _⟩ => show win0_3.index t 2 * 2048 + 1 * e.val = e.val; rw [index3]; show 0 * 2048 + 1 * e.val = e.val; omega

/-- The gain's block is the whole row. -/
theorem blk_g (c : Dev nD) (t : Fin cfg0.N) (e : Fin 2048) :
    (iblk m c 4 t : Vec Ideal S1x2048 .f32) (ix2 0 e) = Gain m c (ix1 e) := by
  unfold iblk
  rw [View.read_apply]
  show V m c main_v2 _ = _
  rw [← V_g]
  congr 1
  funext a
  apply Fin.ext
  match a with
  | ⟨0, _⟩ => show win0_4.index t 0 * 1 + 1 * 0 = 0; rw [index4]; rfl
  | ⟨1, _⟩ => show win0_4.index t 1 * 2048 + 1 * e.val = e.val; rw [index4]; show 0 * 2048 + 1 * e.val = e.val; omega

/-! ## The sum over the hidden axis -/

/-- Hidden unit `K` of row `R`: the first product's positive part. -/
def hid (h : S1024x2048.Idx → EReal) (w1 : S2x2048x8192.Idx → EReal) (R : Fin 1024) (K : Fin 8192) : EReal :=
  max (∑ d : Fin 2048, h (ix2 R d) * w1 (ix3 1 d K)) 0

/-- Hidden unit `K`'s part of the second product at column `e` (nothing past the axis). -/
def part (h : S1024x2048.Idx → EReal) (w1 : S2x2048x8192.Idx → EReal) (w2 : S2x8192x2048.Idx → EReal) (R : Fin 1024) (e : Fin 2048) (K : ℕ) : EReal :=
  if hK : K < 8192 then hid h w1 R ⟨K, hK⟩ * hid h w1 R ⟨K, hK⟩ * w2 (ix3 1 ⟨K, hK⟩ e) else 0

/-- What point `n` adds to the scratch at `i`. -/
def add (c : Dev nD) (n : ℕ) (i : S512x2048.Idx) : EReal :=
  ∑ k : Fin 1024, part (H m c) (W1 m c) (W2 m c) ⟨(512 * (n / 8) + (i 0).val) % 1024, Nat.mod_lt _ (by decide)⟩ (i 1) (1024 * (n % 8) + k.val)

/-- One tile, its blocks known to be row `R` and the hidden units `1024 * f …`. -/
theorem tile_eq (X H : S1024x2048.Idx → EReal) (W1 : S2x2048x8192.Idx → EReal) (W2 : S2x8192x2048.Idx → EReal)
    (h : Vec Ideal S512x2048 .bf16) (w1 : Vec Ideal S1x2048x1024 .bf16) (acc : Vec Ideal S512x2048 .f32) (w2 : Vec Ideal S1x1024x2048 .bf16)
    (r : Fin 512) (e : Fin 2048) (R : Fin 1024) (f : ℕ) (hf : f < 8) (hh : ∀ d : Fin 2048, h (ix2 r d) = H (ix2 R d))
    (h1 : ∀ (d : Fin 2048) (k : Fin 1024) (K : Fin 8192), K.val = 1024 * f + k.val → w1 (ix3 0 d k) = W1 (ix3 1 d K))
    (h2 : ∀ (k : Fin 1024) (K : Fin 8192), K.val = 1024 * f + k.val → w2 (ix3 0 k e) = W2 (ix3 1 K e)) :
    k0_pay2 h w1 acc w2 (ix2 r e) = acc (ix2 r e) + ∑ k : Fin 1024, part H W1 W2 R e (1024 * f + k.val) := by
  refine (tile_apply _ _ _ _ r e).trans ?_
  refine congrArg (acc (ix2 r e) + ·) (Finset.sum_congr rfl fun k _ => ?_)
  have hk := k.isLt
  have hK : 1024 * f + k.val < 8192 := by omega
  unfold part
  rw [dif_pos hK, h2 k ⟨_, hK⟩ rfl]
  unfold hid
  rw [Finset.sum_congr rfl fun d _ => show h (ix2 r d) * w1 (ix3 0 d k) = H (ix2 R d) * W1 (ix3 1 d ⟨_, hK⟩) by rw [hh, h1 d k ⟨_, hK⟩ rfl]]

/-- One tile on any scratch contents. -/
theorem tile_add (c : Dev nD) (t : Fin cfg0.N) (acc : Vec Ideal S512x2048 .f32) (i : S512x2048.Idx) :
    k0_pay2 (iblk m c 1 t) (iblk m c 2 t) acc (iblk m c 3 t) i = acc i + add m c t.val i := by
  have hN : t.val < 16 := lt_of_lt_of_eq t.isLt N_0
  obtain ⟨r, e, rfl⟩ : ∃ (r : Fin 512) (e : Fin 2048), i = ix2 r e := ⟨i 0, i 1, eq_ix2 i⟩
  have hr := r.isLt
  have hR : (512 * (t.val / 8) + r.val) % 1024 = 512 * (t.val / 8) + r.val := Nat.mod_eq_of_lt (by omega)
  exact tile_eq (X m c) (H m c) (W1 m c) (W2 m c) _ _ acc _ r e ⟨(512 * (t.val / 8) + r.val) % 1024, Nat.mod_lt _ (by decide)⟩ (t.val % 8) (by omega)
    (fun d => blk_h m c t r d _ hR) (fun d k K hK => blk_w1 m c t d k K hK) (fun k K hK => blk_w2 m c t k e K hK)

/-- The scratch after the `j`-th tile of row block `q`. -/
theorem scratch_apply (c : Dev nD) (q j : ℕ) (hj : j ≤ 7) (h : 8 * q + j < cfg0.N) (i : S512x2048.Idx) :
    (outsAt0 m c (8 * q + j) h).2 i = ∑ s ∈ Finset.range (j + 1), add m c (8 * q + s) i := by
  have hN : 8 * q + j < 16 := lt_of_lt_of_eq h N_0
  have e := Cert.Kernel7Ideal.Value.soutsAt0_0_eq m c ⟨8 * q + j, h⟩
  have e' : (outsAt0 m c (8 * q + j) h).2 = Pipeline.accAt (fun n h => Cert.Kernel7Ideal.Value.scAt0_0 m c n h (VS0_0.read (Elt Ideal) VS0_0.junk)) (Cert.Kernel7Ideal.Value.scAt0_0 m c) (8 * q) j h := by
    refine e.trans ?_
    have e1 : (8 * q + j) / 8 = q := by omega
    have e2 : (8 * q + j) % 8 = j := by omega
    simp only [e1, e2]
  rw [e', Pipeline.accAt_add_apply _ _ (fun _ => (0 : EReal)) (fun n i => add m c n i) (8 * q) 7 ?_ ?_ j hj h i, zero_add]
  · intro h i
    unfold Cert.Kernel7Ideal.Value.scAt0_0
    rw [dif_pos (by omega), dif_neg (by omega), first_tile]
    refine (tile_add m c ⟨8 * q, h⟩ _ i).trans ?_
    rw [reset_apply]
  · intro n h acc i h1 h2
    unfold Cert.Kernel7Ideal.Value.scAt0_0
    rw [dif_neg (by omega)]
    by_cases h7 : n % 8 = 7
    · rw [dif_pos h7, last_tile_sum]
      exact tile_add m c ⟨n, h⟩ acc i
    · rw [dif_neg h7, middle_tile]
      exact tile_add m c ⟨n, h⟩ acc i

/-! ## The result -/

/-- The residual plus the whole second product. -/
def res (x h : S1024x2048.Idx → EReal) (w1 : S2x2048x8192.Idx → EReal) (w2 : S2x8192x2048.Idx → EReal) (R : Fin 1024) (e : Fin 2048) : EReal :=
  x (ix2 R e) + ∑ K : Fin 8192, hid h w1 R K * hid h w1 R K * w2 (ix3 1 K e)

/-- The feed-forward part of the sample of the second layer with the final norm. -/
def out (x h : S1024x2048.Idx → EReal) (w1 : S2x2048x8192.Idx → EReal) (w2 : S2x8192x2048.Idx → EReal) (g : S2048.Idx → EReal) (R : Fin 1024) (e : Fin 2048) : EReal :=
  res x h w1 w2 R e
    * Ideal.rsqrt (Ideal.div (∑ d : Fin 2048, res x h w1 w2 R d * res x h w1 w2 R d) (Ideal.ofBits .f32 0x45000000#32) + Ideal.ofBits .f32 0x358637BD#32)
    * g (ix1 e)

/-- The written row, its blocks known. -/
theorem norm_eq (X H : S1024x2048.Idx → EReal) (W1 : S2x2048x8192.Idx → EReal) (W2 : S2x8192x2048.Idx → EReal) (G : S2048.Idx → EReal)
    (x y : Vec Ideal S512x2048 .f32) (g : Vec Ideal S1x2048 .f32) (r : Fin 512) (e : Fin 2048) (R : Fin 1024)
    (hx : ∀ d : Fin 2048, x (ix2 r d) = X (ix2 R d))
    (hy : ∀ d : Fin 2048, y (ix2 r d) = ∑ K : Fin 8192, hid H W1 R K * hid H W1 R K * W2 (ix3 1 K d))
    (hg : g (ix2 0 e) = G (ix1 e)) :
    k0_pay3 x y g (ix2 r e) = out X H W1 W2 G R e := by
  refine (norm_apply _ _ _ r e).trans ?_
  have ey : ∀ d : Fin 2048, x (ix2 r d) + y (ix2 r d) = res X H W1 W2 R d := fun d => by unfold res; rw [hx, hy]
  unfold out
  simp only [ey, hg]

/-- The finished scratch of a row block holds the second product. -/
theorem sum_parts (c : Dev nD) (q : ℕ) (hq : q < 2) (r : Fin 512) (e : Fin 2048) (R : Fin 1024) (hR : R.val = 512 * q + r.val) :
    ∑ s ∈ Finset.range 8, add m c (8 * q + s) (ix2 r e) = ∑ K : Fin 8192, hid (H m c) (W1 m c) R K * hid (H m c) (W1 m c) R K * W2 m c (ix3 1 K e) := by
  have e1 : ∀ s ∈ Finset.range 8, add m c (8 * q + s) (ix2 r e) = ∑ k : Fin 1024, part (H m c) (W1 m c) (W2 m c) R e (1024 * s + k.val) := by
    intro s hs
    have hs := Finset.mem_range.1 hs
    have hr := r.isLt
    unfold add
    have eR : (⟨(512 * ((8 * q + s) / 8) + ((ix2 r e : S512x2048.Idx) 0).val) % 1024, Nat.mod_lt _ (by decide)⟩ : Fin 1024) = R := by
      apply Fin.ext
      show (512 * ((8 * q + s) / 8) + r.val) % 1024 = R.val
      omega
    have e8 : (8 * q + s) % 8 = s := by omega
    rw [eR, e8]
    rfl
  rw [Finset.sum_congr rfl e1, Cert.Ffn.sum_tiles 8 1024]
  refine Finset.sum_congr rfl fun K _ => ?_
  unfold part
  rw [dif_pos K.isLt]

/-- The result array, element by element. -/
theorem result_apply (c : Dev nD) (R : Fin 1024) (e : Fin 2048) :
    Cert.Kernel7Ideal.Value.G5 m c (ix2 R e) = out (X m c) (H m c) (W1 m c) (W2 m c) (Gain m c) R e := by
  have hR := R.isLt
  have he := e.isLt
  obtain ⟨q, r, hq, hr⟩ : ∃ (q : ℕ) (r : Fin 512), q < 2 ∧ R.val = 512 * q + r.val :=
    ⟨R.val / 512, ⟨R.val % 512, by omega⟩, by omega, by show R.val = 512 * (R.val / 512) + R.val % 512; omega⟩
  have hrl := r.isLt
  have hN : cfg0.N = 16 := N_0
  have hpt : Cert.Kernel7Ideal.Value.pt5Of (ix2 R e) = 8 * q + 7 := by
    show 8 * (1 * (R.val / 512 - 0) + 1 * (e.val / 2048 - 0)) + 7 = _
    omega
  have hloc : Cert.Kernel7Ideal.Value.loc5Of (ix2 R e) = ix2 r e := by
    funext a
    apply Fin.ext
    match a with
    | ⟨0, _⟩ => show R.val % 512 = r.val; omega
    | ⟨1, _⟩ => show e.val % 2048 = e.val; omega
  have hlt : 8 * q + 7 < cfg0.N := by omega
  have hlt' : Cert.Kernel7Ideal.Value.pt5Of (ix2 R e) < cfg0.N := by rw [hpt]; exact hlt
  unfold Cert.Kernel7Ideal.Value.G5
  rw [dif_pos hlt', hloc]
  rw [← Cert.Kernel7Ideal.Value.outsAt0_sweep m c _ hlt']
  have e0 : (outsAt0 m c (Cert.Kernel7Ideal.Value.pt5Of (ix2 R e)) hlt').1 = (outsAt0 m c (8 * q + 7) hlt).1 := by
    congr 2
  rw [e0, outsAt0_C m c ⟨8 * q + 7, hlt⟩ (by show ¬(8 * q + 7) % 8 = 0; omega) (by show (8 * q + 7) % 8 = 7; omega)]
  dsimp only
  rw [last_tile_out]
  refine norm_eq (X m c) (H m c) (W1 m c) (W2 m c) (Gain m c) _ _ _ r e R
    (fun d => blk_x m c _ r d R (by show R.val = 512 * ((8 * q + 7) / 8) + r.val; omega)) (fun d => ?_) (blk_g m c _ e)
  rw [tile_add]
  have e6 : (outsAt0 m c (8 * q + 7 - 1) (Nat.lt_of_le_of_lt (Nat.sub_le _ _) hlt)).2 (ix2 r d) = ∑ s ∈ Finset.range 7, add m c (8 * q + s) (ix2 r d) :=
    scratch_apply m c q 6 (by omega) (by omega) (ix2 r d)
  rw [← sum_parts m c q hq r d R hr, Finset.sum_range_succ _ 7]
  exact congrArg (· + add m c (8 * q + 7) (ix2 r d)) e6

end Cert.SampleFfn

end
-- ==== Proof.Sample.Ffn.Ref.lean ====
/-
  The feed-forward reference of the sample read at an index: it is the closed form the kernel's result was brought to.
-/
module

public import proofs.«01_k».proof.Proof.Sample.Ffn.Value
public import proofs.«01_k».proof.Proof.Gen.Reference7Ideal.Read

@[expose] public section

set_option maxRecDepth 16384

noncomputable section

namespace Cert.SampleFfn

open Cert.Reference7Ideal Cert.Reference7Ideal.Gen Cert.Reference7Ideal.Read Idealize.ShloMosaic

/-- The reference's hidden unit before squaring. -/
theorem ref_hid (h : FVec Ideal S1024x2048 .bf16) (w1 : FVec Ideal S2x2048x8192 .f32) (R : Fin 1024) (K : Fin 8192) :
    val_main_v4 (F := Ideal) h w1 (ix2 R K) = hid h w1 R K := by
  unfold hid
  pointwise [val_main_v4, val_main_v3, val_main_v2, val_main_v1, val_main_v0, val_main_call0_v0, val_main_call0_cst]

/-- The reference's residual sum. -/
theorem ref_res (x : FVec Ideal S1024x2048 .f32) (h : FVec Ideal S1024x2048 .bf16) (w1 : FVec Ideal S2x2048x8192 .f32) (w2 : FVec Ideal S2x8192x2048 .f32) (R : Fin 1024) (e : Fin 2048) :
    val_main_v9 (F := Ideal) x h w1 w2 (ix2 R e) = res x h w1 w2 R e := by
  unfold res
  pointwise [val_main_v9, val_main_v8, val_main_v7, val_main_v6, val_main_v5, ref_hid]

/-- The reference's result. -/
theorem ref_out (x : FVec Ideal S1024x2048 .f32) (h : FVec Ideal S1024x2048 .bf16) (w1 : FVec Ideal S2x2048x8192 .f32) (w2 : FVec Ideal S2x8192x2048 .f32) (g : FVec Ideal S2048 .f32) (R : Fin 1024) (e : Fin 2048) :
    val_main_v22 (F := Ideal) x h w1 w2 g (ix2 R e) = out x h w1 w2 g R e := by
  unfold out
  pointwise [val_main_v22, val_main_v21, val_main_v20, val_main_v19, val_main_v18, val_main_v17, val_main_v16, val_main_v15, val_main_v14, val_main_v13, val_main_v12, val_main_v11, val_main_v10, val_main_cst, val_main_cst_0, val_main_cst_1, ref_res]

end Cert.SampleFfn

end
-- ==== Proof.Sample.Ffn.Claim.lean ====
/-
  The feed-forward kernel of the sample and its reference leave the same result over the extended reals.
-/
module

public import proofs.«01_k».proof.Proof.Sample.Ffn.Ref
public import proofs.«01_k».proof.Proof.Gen.Reference7Ideal.Run
public import proofs.«01_k».proof.Defs
public import Idealize.ShloMosaic.Lib.Claim

@[expose] public section

set_option maxRecDepth 16384

noncomputable section

namespace Cert.SampleFfn

open Idealize.ShloMosaic Idealize.ShloMosaic.TcCoe Idealize.SL.Sem

/-- From the same arguments the kernel's result array equals the reference's. -/
theorem algebraic : Cert.algebraic_Kernel7Ideal_Reference7Ideal := by
  pair_intro
  · run_from (Cert.Kernel7Ideal.Value.run m g)
  · run_from (Cert.Reference7Ideal.Value.run m' g')
    refine (Cert.Reference7Ideal.Read.val_main_v22_eq _ _ _ _ _).trans ?_
    funext i
    obtain ⟨R, e, rfl⟩ : ∃ (R : Fin 1024) (e : Fin 2048), i = ix2 R e := ⟨i 0, i 1, eq_ix2 i⟩
    exact (ref_out _ _ _ _ _ R e).trans (result_apply m c R e).symm

end Cert.SampleFfn

end
-- ==== Proof.Sample.CdOut.Value.lean ====
/-
  What the second layer's output projection of the sample leaves in its two result arrays, element by element, over the extended reals:
  the new residual stream and its normalised rows.
-/
module

public import proofs.«01_k».proof.Proof.Gen.Kernel8Ideal.Value
public import proofs.«01_k».proof.Proof.Proj.Norm
public import Idealize.ShloMosaic.Lib.Pipeline.Value
public import Idealize.ShloMosaic.Lib.StableHlo.ReadAt

@[expose] public section

set_option maxRecDepth 16384

noncomputable section

namespace Cert.SampleCdOut

open Cert.Kernel8Ideal Cert.Kernel8Ideal.Gen Idealize.ShloMosaic Idealize.ShloMosaic.TcCoe Idealize.SL.Sem Cert.Proj

variable (m : (ℓ : Loc nD τ sig) → Buf (Elt Ideal) ℓ)

/-- The mixer's rows, the first half. -/
abbrev A (c : Dev nD) : S1024x1024.Idx → EReal := m ((c : Thread nD τ).loc main_arg0)
/-- The mixer's rows, the second half. -/
abbrev B (c : Dev nD) : S1024x1024.Idx → EReal := m ((c : Thread nD τ).loc main_arg1)
/-- The weight. -/
abbrev Wt (c : Dev nD) : S1x2048x2048.Idx → EReal := m ((c : Thread nD τ).loc main_arg2)
/-- The residual stream. -/
abbrev X (c : Dev nD) : S1024x2048.Idx → EReal := m ((c : Thread nD τ).loc main_arg3)
/-- The gains of both layers. -/
abbrev Gains (c : Dev nD) : S2x2048.Idx → EReal := m ((c : Thread nD τ).loc main_arg4)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

/-- The first half of the rounded weight holds that half of the weight. -/
theorem V_w0 (c : Dev nD) (d : Fin 1024) (e : Fin 2048) : V m c main_v2 (ix2 d e) = Wt m c (ix3 0 ⟨d.val, by omega⟩ e) := by
  unfold V hostOps0
  after_reads_at
  try rfl
/-- The second half of the rounded weight holds that half of the weight. -/
theorem V_w1 (c : Dev nD) (d : Fin 1024) (e : Fin 2048) : V m c main_v3 (ix2 d e) = Wt m c (ix3 0 ⟨1024 + d.val, by omega⟩ e) := by
  unfold V hostOps0
  after_reads_at
  try rfl
/-- The gain as one row. -/
theorem V_g (c : Dev nD) (e : Fin 2048) : V m c main_v6 (ix2 0 e) = Gains m c (ix2 1 e) := by
  unfold V hostOps0
  after_reads_at
  try rfl

/-- Point `t`'s rows of the mixer's output. -/
theorem blk_a0 (c : Dev nD) (t : Fin cfg0.N) (r : Fin 512) (d : Fin 1024) (R : Fin 1024) (hR : R.val = 512 * t.val + r.val) :
    (iblk m c 0 t : Vec Ideal S512x1024 .bf16) (ix2 r d) = A m c (ix2 R d) := by
  unfold iblk
  rw [View.read_apply]
  show V m c main_arg0 _ = _
  rw [V_main_arg0]
  congr 1
  funext a
  apply Fin.ext
  match a with
  | ⟨0, _⟩ => show win0_0.index t 0 * 512 + 1 * r.val = R.val; rw [index0]; simp only [Matrix.cons_val_zero]; omega
  | ⟨1, _⟩ => show win0_0.index t 1 * 1024 + 1 * d.val = d.val; rw [index0]; simp only [Matrix.cons_val_one, Matrix.cons_val_zero]; omega

/-- Point `t`'s rows of the mixer's output. -/
theorem blk_a1 (c : Dev nD) (t : Fin cfg0.N) (r : Fin 512) (d : Fin 1024) (R : Fin 1024) (hR : R.val = 512 * t.val + r.val) :
    (iblk m c 1 t : Vec Ideal S512x1024 .bf16) (ix2 r d) = B m c (ix2 R d) := by
  unfold iblk
  rw [View.read_apply]
  show V m c main_arg1 _ = _
  rw [V_main_arg1]
  congr 1
  funext a
  apply Fin.ext
  match a with
  | ⟨0, _⟩ => show win0_1.index t 0 * 512 + 1 * r.val = R.val; rw [index1]; simp only [Matrix.cons_val_zero]; omega
  | ⟨1, _⟩ => show win0_1.index t 1 * 1024 + 1 * d.val = d.val; rw [index1]; simp only [Matrix.cons_val_one, Matrix.cons_val_zero]; omega

/-- The weight's block is the whole of it. -/
theorem blk_w0 (c : Dev nD) (t : Fin cfg0.N) (d : Fin 1024) (e : Fin 2048) :
    (iblk m c 2 t : Vec Ideal S1024x2048 .bf16) (ix2 d e) = Wt m c (ix3 0 ⟨d.val, by omega⟩ e) := by
  unfold iblk
  rw [View.read_apply]
  show V m c main_v2 _ = _
  rw [← V_w0]
  congr 1
  funext a
  apply Fin.ext
  match a with
  | ⟨0, _⟩ => show win0_2.index t 0 * 1024 + 1 * d.val = d.val; rw [index2]; simp only [Matrix.cons_val_zero]; omega
  | ⟨1, _⟩ => show win0_2.index t 1 * 2048 + 1 * e.val = e.val; rw [index2]; simp only [Matrix.cons_val_one, Matrix.cons_val_zero]; omega

/-- The weight's block is the whole of it. -/
theorem blk_w1 (c : Dev nD) (t : Fin cfg0.N) (d : Fin 1024) (e : Fin 2048) :
    (iblk m c 3 t : Vec Ideal S1024x2048 .bf16) (ix2 d e) = Wt m c (ix3 0 ⟨1024 + d.val, by omega⟩ e) := by
  unfold iblk
  rw [View.read_apply]
  show V m c main_v3 _ = _
  rw [← V_w1]
  congr 1
  funext a
  apply Fin.ext
  match a with
  | ⟨0, _⟩ => show win0_3.index t 0 * 1024 + 1 * d.val = d.val; rw [index3]; simp only [Matrix.cons_val_zero]; omega
  | ⟨1, _⟩ => show win0_3.index t 1 * 2048 + 1 * e.val = e.val; rw [index3]; simp only [Matrix.cons_val_one, Matrix.cons_val_zero]; omega

/-- Point `t`'s rows of the residual. -/
theorem blk_x (c : Dev nD) (t : Fin cfg0.N) (r : Fin 512) (e : Fin 2048) (R : Fin 1024) (hR : R.val = 512 * t.val + r.val) :
    (iblk m c 4 t : Vec Ideal S512x2048 .f32) (ix2 r e) = X m c (ix2 R e) := by
  unfold iblk
  rw [View.read_apply]
  show V m c main_arg3 _ = _
  rw [V_main_arg3]
  congr 1
  funext a
  apply Fin.ext
  match a with
  | ⟨0, _⟩ => show win0_4.index t 0 * 512 + 1 * r.val = R.val; rw [index4]; simp only [Matrix.cons_val_zero]; omega
  | ⟨1, _⟩ => show win0_4.index t 1 * 2048 + 1 * e.val = e.val; rw [index4]; simp only [Matrix.cons_val_one, Matrix.cons_val_zero]; omega

/-- The gain's block is the whole row. -/
theorem blk_g (c : Dev nD) (t : Fin cfg0.N) (e : Fin 2048) :
    (iblk m c 5 t : Vec Ideal S1x2048 .f32) (ix2 0 e) = Gains m c (ix2 1 e) := by
  unfold iblk
  rw [View.read_apply]
  show V m c main_v6 _ = _
  rw [← V_g]
  congr 1
  funext a
  apply Fin.ext
  match a with
  | ⟨0, _⟩ => show win0_5.index t 0 * 1 + 1 * 0 = 0; rw [index5]; rfl
  | ⟨1, _⟩ => show win0_5.index t 1 * 2048 + 1 * e.val = e.val; rw [index5]; simp only [Matrix.cons_val_one, Matrix.cons_val_zero]; omega

/-- The new residual stream: the old one plus the mixer's rows times the weight. -/
def res (a : S1024x1024.Idx → EReal) (b : S1024x1024.Idx → EReal) (w : S1x2048x2048.Idx → EReal) (x : S1024x2048.Idx → EReal) (R : Fin 1024) (e : Fin 2048) : EReal :=
  x (ix2 R e) + ∑ d : Fin 1024, a (ix2 R d) * w (ix3 0 ⟨d.val, by omega⟩ e) + ∑ d : Fin 1024, b (ix2 R d) * w (ix3 0 ⟨1024 + d.val, by omega⟩ e)

/-- Its normalised rows. -/
def nrm (a : S1024x1024.Idx → EReal) (b : S1024x1024.Idx → EReal) (w : S1x2048x2048.Idx → EReal) (x : S1024x2048.Idx → EReal) (g : S2x2048.Idx → EReal) (R : Fin 1024) (e : Fin 2048) : EReal :=
  normed (fun j => res a b w x R j) (fun j => g (ix2 1 j)) e

/-- A block's sum. -/
theorem sum_apply (x : Vec Ideal S512x2048 .f32) (a : Vec Ideal S512x1024 .bf16) (w0 : Vec Ideal S1024x2048 .bf16) (b : Vec Ideal S512x1024 .bf16) (w1 : Vec Ideal S1024x2048 .bf16) (r : Fin 512) (e : Fin 2048) :
    k0_pay1 x a w0 b w1 (ix2 r e) = x (ix2 r e) + ∑ d : Fin 1024, a (ix2 r d) * w0 (ix2 d e) + ∑ d : Fin 1024, b (ix2 r d) * w1 (ix2 d e) := by
  pointwise [k0_pay1]

/-- A block's normalised sum. -/
theorem norm_apply (x : Vec Ideal S512x2048 .f32) (a : Vec Ideal S512x1024 .bf16) (w0 : Vec Ideal S1024x2048 .bf16) (b : Vec Ideal S512x1024 .bf16) (w1 : Vec Ideal S1024x2048 .bf16) (g : Vec Ideal S1x2048 .f32) (r : Fin 512) (e : Fin 2048) :
    k0_pay2 x a w0 b w1 g (ix2 r e) = normed (fun j => k0_pay1 x a w0 b w1 (ix2 r j)) (fun j => g (ix2 0 j)) e := by
  unfold normed
  pointwise [k0_pay2]

/-- A block's sum, its inputs known. -/
theorem sum_eq (A B : S1024x1024.Idx → EReal) (W : S1x2048x2048.Idx → EReal) (X : S1024x2048.Idx → EReal) (x : Vec Ideal S512x2048 .f32) (a : Vec Ideal S512x1024 .bf16) (w0 : Vec Ideal S1024x2048 .bf16) (b : Vec Ideal S512x1024 .bf16) (w1 : Vec Ideal S1024x2048 .bf16) (r : Fin 512) (R : Fin 1024)
    (hx : ∀ e : Fin 2048, x (ix2 r e) = X (ix2 R e)) (ha : ∀ d : Fin 1024, a (ix2 r d) = A (ix2 R d)) (hb : ∀ d : Fin 1024, b (ix2 r d) = B (ix2 R d))
    (h0 : ∀ (d : Fin 1024) (e : Fin 2048), w0 (ix2 d e) = W (ix3 0 ⟨d.val, by omega⟩ e)) (h1 : ∀ (d : Fin 1024) (e : Fin 2048), w1 (ix2 d e) = W (ix3 0 ⟨1024 + d.val, by omega⟩ e)) (e : Fin 2048) :
    k0_pay1 x a w0 b w1 (ix2 r e) = res A B W X R e := by
  refine (sum_apply x a w0 b w1 r e).trans ?_
  unfold res
  simp only [hx, ha, hb, h0, h1]

/-- A block's normalised sum, its inputs known. -/
theorem norm_eq (A B : S1024x1024.Idx → EReal) (W : S1x2048x2048.Idx → EReal) (X : S1024x2048.Idx → EReal) (G : S2x2048.Idx → EReal) (x : Vec Ideal S512x2048 .f32) (a : Vec Ideal S512x1024 .bf16) (w0 : Vec Ideal S1024x2048 .bf16) (b : Vec Ideal S512x1024 .bf16) (w1 : Vec Ideal S1024x2048 .bf16) (g : Vec Ideal S1x2048 .f32) (r : Fin 512) (R : Fin 1024)
    (hx : ∀ e : Fin 2048, x (ix2 r e) = X (ix2 R e)) (ha : ∀ d : Fin 1024, a (ix2 r d) = A (ix2 R d)) (hb : ∀ d : Fin 1024, b (ix2 r d) = B (ix2 R d))
    (h0 : ∀ (d : Fin 1024) (e : Fin 2048), w0 (ix2 d e) = W (ix3 0 ⟨d.val, by omega⟩ e)) (h1 : ∀ (d : Fin 1024) (e : Fin 2048), w1 (ix2 d e) = W (ix3 0 ⟨1024 + d.val, by omega⟩ e)) (hg : ∀ e : Fin 2048, g (ix2 0 e) = G (ix2 1 e)) (e : Fin 2048) :
    k0_pay2 x a w0 b w1 g (ix2 r e) = nrm A B W X G R e := by
  refine (norm_apply x a w0 b w1 g r e).trans ?_
  unfold nrm
  rw [funext (sum_eq A B W X x a w0 b w1 r R hx ha hb h0 h1), funext hg]

/-- What a point leaves in the first output. -/
theorem out_sum (x0 x1 : Vec Ideal S512x1024 .bf16) (x2 x3 : Vec Ideal S1024x2048 .bf16) (x4 : Vec Ideal S512x2048 .f32) (x5 : Vec Ideal S1x2048 .f32) : out0_6 x0 x1 x2 x3 x4 x5 = k0_pay1 x4 x0 x2 x1 x3 := by
  unfold out0_6 r0_0 r0_1 r0_2
  rw [View.canon_unit_zero off2]
  simp only [View.ld_unit_zero (S := S512x2048) off2, View.ld_unit_zero (S := S512x1024) off2, View.ld_unit_zero (S := S1024x2048) off2]

/-- What a point leaves in the second output. -/
theorem out_norm (x0 x1 : Vec Ideal S512x1024 .bf16) (x2 x3 : Vec Ideal S1024x2048 .bf16) (x4 : Vec Ideal S512x2048 .f32) (x5 : Vec Ideal S1x2048 .f32) : out0_7 x0 x1 x2 x3 x4 x5 = k0_pay2 x4 x0 x2 x1 x3 x5 := by
  unfold out0_7 r0_0 r0_1 r0_2 r0_3
  rw [View.canon_unit_zero off2]
  simp only [View.ld_unit_zero (S := S512x2048) off2, View.ld_unit_zero (S := S1x2048) off2, View.ld_unit_zero (S := S512x1024) off2, View.ld_unit_zero (S := S1024x2048) off2]

/-- The point that holds a row writes it back. -/
theorem flush6 : ∀ t : Fin cfg0.N, (cfg0.win 6).flush t = true := (by decide +kernel : ∀ t : Fin grid0.N, win0_6.flush t = true)

/-- The new residual stream, element by element. -/
theorem result_sum (c : Dev nD) (R : Fin 1024) (e : Fin 2048) :
    ((dats m 0 c).arrAt 6 cfg0.N : S1024x2048.Idx → EReal) (ix2 R e) = res (A m c) (B m c) (Wt m c) (X m c) R e := by
  have hRl := R.isLt
  have hN : cfg0.N = 2 := N_0
  obtain ⟨t, r, hR⟩ : ∃ (t : Fin cfg0.N) (r : Fin 512), R.val = 512 * t.val + r.val :=
    ⟨⟨R.val / 512, by omega⟩, ⟨R.val % 512, by omega⟩, by show R.val = 512 * (R.val / 512) + R.val % 512; omega⟩
  have hb := congrFun (Cert.Kernel8Ideal.Value.blocks6 m c t (flush6 t)) (ix2 r e)
  rw [View.read_apply] at hb
  have he : ((cfg0.win 6).blk t).view.emb (ix2 r e) = ix2 R e := by
    funext a
    apply Fin.ext
    match a with
    | ⟨0, _⟩ => show win0_6.index t 0 * 512 + 1 * r.val = R.val; rw [index6]; simp only [Matrix.cons_val_zero]; omega
    | ⟨1, _⟩ => show win0_6.index t 1 * 2048 + 1 * e.val = e.val; rw [index6]; simp only [Matrix.cons_val_one, Matrix.cons_val_zero]; omega
  rw [he] at hb
  refine hb.trans ?_
  rw [Cert.Kernel8Ideal.Value.flushed6 m c t, out_sum]
  exact sum_eq (A m c) (B m c) (Wt m c) (X m c) _ _ _ _ _ r R (fun e => blk_x m c t r e R hR) (fun d => blk_a0 m c t r d R hR) (fun d => blk_a1 m c t r d R hR) (fun d e => blk_w0 m c t d e) (fun d e => blk_w1 m c t d e) e

/-- The point that holds a row writes it back. -/
theorem flush7 : ∀ t : Fin cfg0.N, (cfg0.win 7).flush t = true := (by decide +kernel : ∀ t : Fin grid0.N, win0_7.flush t = true)

/-- The normalised rows, element by element. -/
theorem result_norm (c : Dev nD) (R : Fin 1024) (e : Fin 2048) :
    ((dats m 0 c).arrAt 7 cfg0.N : S1024x2048.Idx → EReal) (ix2 R e) = nrm (A m c) (B m c) (Wt m c) (X m c) (Gains m c) R e := by
  have hRl := R.isLt
  have hN : cfg0.N = 2 := N_0
  obtain ⟨t, r, hR⟩ : ∃ (t : Fin cfg0.N) (r : Fin 512), R.val = 512 * t.val + r.val :=
    ⟨⟨R.val / 512, by omega⟩, ⟨R.val % 512, by omega⟩, by show R.val = 512 * (R.val / 512) + R.val % 512; omega⟩
  have hb := congrFun (Cert.Kernel8Ideal.Value.blocks7 m c t (flush7 t)) (ix2 r e)
  rw [View.read_apply] at hb
  have he : ((cfg0.win 7).blk t).view.emb (ix2 r e) = ix2 R e := by
    funext a
    apply Fin.ext
    match a with
    | ⟨0, _⟩ => show win0_7.index t 0 * 512 + 1 * r.val = R.val; rw [index7]; simp only [Matrix.cons_val_zero]; omega
    | ⟨1, _⟩ => show win0_7.index t 1 * 2048 + 1 * e.val = e.val; rw [index7]; simp only [Matrix.cons_val_one, Matrix.cons_val_zero]; omega
  rw [he] at hb
  refine hb.trans ?_
  rw [Cert.Kernel8Ideal.Value.flushed7 m c t, out_norm]
  exact norm_eq (A m c) (B m c) (Wt m c) (X m c) (Gains m c) _ _ _ _ _ _ r R (fun e => blk_x m c t r e R hR) (fun d => blk_a0 m c t r d R hR) (fun d => blk_a1 m c t r d R hR) (fun d e => blk_w0 m c t d e) (fun d e => blk_w1 m c t d e) (fun e => blk_g m c t e) e

end Cert.SampleCdOut

end
-- ==== Proof.Sample.CdOut.Ref.lean ====
/-
  The second layer's output projection of the sample: its reference read at an index, for both results. The reference joins the two
  attentions' rows and multiplies once; the sum over the joined axis splits into the kernel's two sums.
-/
module

public import proofs.«01_k».proof.Proof.Sample.CdOut.Value
public import proofs.«01_k».proof.Proof.Gen.Reference8Ideal.Read

@[expose] public section

set_option maxRecDepth 16384

noncomputable section

namespace Cert.SampleCdOut

open Cert.Reference8Ideal Cert.Reference8Ideal.Gen Cert.Reference8Ideal.Read Idealize.ShloMosaic Cert.Proj

/-- The joined rows' first half is the first attention's. -/
theorem join_left (a b : FVec Ideal S1024x1024 .bf16) (R : Fin 1024) (d : Fin 1024) (D : Fin 2048) (hD : D.val = d.val) :
    val_main_v0 (F := Ideal) a b (ix2 R D) = a (ix2 R d) := by
  have hlt := d.isLt
  unfold val_main_v0
  rw [concatenate_pair_apply, dif_pos (by show D.val < 1024; omega)]
  refine congrArg a (funext fun k => Fin.ext ?_)
  fin_cases k
  · rfl
  · exact hD

/-- The joined rows' second half is the second attention's. -/
theorem join_right (a b : FVec Ideal S1024x1024 .bf16) (R : Fin 1024) (d : Fin 1024) (D : Fin 2048) (hD : D.val = 1024 + d.val) :
    val_main_v0 (F := Ideal) a b (ix2 R D) = b (ix2 R d) := by
  unfold val_main_v0
  rw [concatenate_pair_apply, dif_neg (by show ¬ D.val < 1024; omega)]
  refine congrArg b (funext fun k => Fin.ext ?_)
  fin_cases k
  · rfl
  · show D.val - 1024 = d.val
    omega

/-- The reference's one product, over the joined rows. -/
theorem ref_joined (a b : FVec Ideal S1024x1024 .bf16) (w : FVec Ideal S1x2048x2048 .f32) (x : FVec Ideal S1024x2048 .f32) (R : Fin 1024) (E : Fin 2048) :
    val_main_v4 (F := Ideal) a b w x (ix2 R E) = x (ix2 R E) + ∑ D : Fin 2048, val_main_v0 (F := Ideal) a b (ix2 R D) * w (ix3 0 D E) := by
  pointwise [val_main_v4, val_main_v3, val_main_v2, val_main_v1]

/-- The reference's new residual stream. -/
theorem ref_res (a b : FVec Ideal S1024x1024 .bf16) (w : FVec Ideal S1x2048x2048 .f32) (x : FVec Ideal S1024x2048 .f32) (R : Fin 1024) (E : Fin 2048) :
    val_main_v4 (F := Ideal) a b w x (ix2 R E) = res a b w x R E := by
  rw [ref_joined]
  unfold res
  rw [add_assoc]
  refine congrArg (x (ix2 R E) + ·) ?_
  refine (Fin.sum_univ_add (a := 1024) (b := 1024) fun D : Fin 2048 => val_main_v0 (F := Ideal) a b (ix2 R D) * w (ix3 0 D E)).trans ?_
  refine congrArg₂ (· + ·) (Finset.sum_congr rfl fun d _ => ?_) (Finset.sum_congr rfl fun d _ => ?_)
  · exact congrArg (· * _) (join_left a b R d _ rfl)
  · exact congrArg (· * _) (join_right a b R d _ rfl)

/-- The reference's normalised rows. -/
theorem ref_nrm (a b : FVec Ideal S1024x1024 .bf16) (w : FVec Ideal S1x2048x2048 .f32) (x : FVec Ideal S1024x2048 .f32) (g : FVec Ideal S2x2048 .f32) (R : Fin 1024) (E : Fin 2048) :
    val_main_v20 (F := Ideal) a b w x g (ix2 R E) = nrm a b w x g R E := by
  unfold nrm normed
  pointwise [val_main_v20, val_main_v19, val_main_v18, val_main_v17, val_main_v16, val_main_v15, val_main_v14, val_main_v13, val_main_v12, val_main_v11, val_main_v10, val_main_v9, val_main_v8, val_main_v7, val_main_v6, val_main_v5, val_main_cst, val_main_cst_0, val_main_cst_1, ref_res]

end Cert.SampleCdOut

end
-- ==== Proof.Sample.CdOut.Claim.lean ====
/-
  The second layer's output projection of the sample and its reference leave the same two results over the extended reals.
-/
module

public import proofs.«01_k».proof.Proof.Sample.CdOut.Ref
public import proofs.«01_k».proof.Proof.Gen.Reference8Ideal.Run
public import proofs.«01_k».proof.Defs
public import Idealize.ShloMosaic.Lib.Claim

@[expose] public section

set_option maxRecDepth 16384

noncomputable section

namespace Cert.SampleCdOut

open Idealize.ShloMosaic Idealize.ShloMosaic.TcCoe Idealize.SL.Sem

/-- From the same arguments the kernel's two result arrays equal the reference's. -/
theorem algebraic : Cert.algebraic_Kernel8Ideal_Reference8Ideal := by
  pair_intro
  · run_from (Cert.Kernel8Ideal.Value.run_blocks m g)
  · run_from (Cert.Reference8Ideal.Value.run m' g')
    · refine (Cert.Reference8Ideal.Read.val_main_v4_eq (F := Ideal) _ _ _ _).trans ?_
      funext i
      obtain ⟨R, E, rfl⟩ : ∃ (R : Fin 1024) (E : Fin 2048), i = ix2 R E := ⟨i 0, i 1, eq_ix2 i⟩
      exact (ref_res _ _ _ _ R E).trans (result_sum m c R E).symm
    · refine (Cert.Reference8Ideal.Read.val_main_v20_eq (F := Ideal) _ _ _ _ _).trans ?_
      funext i
      obtain ⟨R, E, rfl⟩ : ∃ (R : Fin 1024) (E : Fin 2048), i = ix2 R E := ⟨i 0, i 1, eq_ix2 i⟩
      exact (ref_nrm _ _ _ _ _ R E).trans (result_norm m c R E).symm

end Cert.SampleCdOut

end
-- ==== Proof.Sample.CdIn.Ideal.Runs.lean ====
/-
  The set-up of the second layer's input projection of the sample (Kernel9Ideal): what the host operations leave before the grid is entered, the windows'
  blocks, and the branch conditions of the kernel's body in closed form.
-/
module

public import proofs.«01_k».proof.Proof.Gen.Kernel9Ideal.Skeleton
public import proofs.«01_k».proof.Proof.Gen.Kernel9Ideal.Launch
public import proofs.«01_k».proof.Proof.Gen.Kernel9Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Proof.SampleCdIn.Ideal

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host operations run to where the grid is entered. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, for any proof data that leave it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, for any proof data that leave it in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, for any proof data that leave it in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run to the library's frame post, read at the argument arrays: they end as they were launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's branch conditions -/

/-- The grid is ten points: one row block, ten column blocks. -/
theorem val_lt (t : Fin cfg0.N) : t.val < 10 := Nat.lt_of_lt_of_eq t.isLt N_0

/-- The condition of the body's first branch, from the grid coordinates. -/
abbrev cond1 (i : grid0.Coords) : Prop := (Scalar.cmpi .ne (Scalar.extui (Scalar.cmpi .eq (BitVec.ofNat 32 (i 1).val) 0#32)) 0#32) = 1#1

/-- The grid's second coordinate at a point. -/
theorem coord_one (t : Fin cfg0.N) : (grid0.coords t 1).val = t.val / 1 % 10 := Pipeline.Grid.coords_val t 1 (by decide) rfl

/-- The first branch is taken at the first column block of every row block. -/
theorem cond1_iff (t : Fin cfg0.N) : cond1 (grid0.coords t) ↔ t.val % 10 = 0 := by
  have ht := val_lt t
  have e1 := coord_one t
  simp only [cond1, e1]
  word_cmp

/-- The branch that stores the cache output 1 is taken at the column block 4 of every row block. -/
theorem cond2_iff (t : Fin cfg0.N) : k0_cond2 (grid0.coords t) = 1#1 ↔ t.val % 10 = 4 := by
  have ht := val_lt t
  have e1 := coord_one t
  simp only [k0_cond2, e1]
  word_cmp

/-- The branch that stores the cache output 2 is taken at the column block 5 of every row block. -/
theorem cond3_iff (t : Fin cfg0.N) : k0_cond3 (grid0.coords t) = 1#1 ↔ t.val % 10 = 5 := by
  have ht := val_lt t
  have e1 := coord_one t
  simp only [k0_cond3, e1]
  word_cmp

/-- The branch that stores the cache output 3 is taken at the column block 6 of every row block. -/
theorem cond4_iff (t : Fin cfg0.N) : k0_cond4 (grid0.coords t) = 1#1 ↔ t.val % 10 = 6 := by
  have ht := val_lt t
  have e1 := coord_one t
  simp only [k0_cond4, e1]
  word_cmp

/-- The branch that stores the cache output 4 is taken at the column block 7 of every row block. -/
theorem cond5_iff (t : Fin cfg0.N) : k0_cond5 (grid0.coords t) = 1#1 ↔ t.val % 10 = 7 := by
  have ht := val_lt t
  have e1 := coord_one t
  simp only [k0_cond5, e1]
  word_cmp

/-! ## The staging memrefs and the scratch -/

/-- Each window's current staging memref at a point, and that it is a whole buffer. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x128 .f32 := win0_7.stage (cfg0.slots t 7)
abbrev hs0_7 (t : Fin cfg0.N) : (ms0_7 t).IsWhole := hstage0_7 ((cfg0.slots t 7).cast nbuf0_7)
/-- The scratch that holds the normalised rows. -/
abbrev scM0_0 : Memref sig .tc .vmem S1024x2048 .bf16 := Memref.whole cc0_scratch0

/-- The launch's invariant, with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Proof.SampleCdIn.Ideal

end
-- ==== Proof.Sample.CdIn.Ideal.Body.lean ====
/-
  The body of the second layer's input projection of the sample (Kernel9Ideal), run at one point on any whole staging memrefs: what it leaves in the
  projection's block, in the scratch of normalised rows and in the cache output that the point stores.
-/
module

public import proofs.«01_k».proof.Proof.Sample.CdIn.Ideal.Runs
public import Idealize.ShloMosaic.Lib.Pipeline.Value
public import Idealize.ShloMosaic.Lib.Pointwise

@[expose] public section

set_option maxRecDepth 16384

noncomputable section

namespace Proof.SampleCdIn.Ideal

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole two-axis block are zero. -/
theorem off2 : (![0, 0] : Fin 2 → ℕ) = fun _ => 0 := by funext a; fin_cases a <;> rfl

/-- A block of 1024 rows and 512 columns laid as 4096 rows of 128: each row of the block becomes four. -/
def kvOf (o : Vec F S1024x512 .f32) : Vec F S4096x128 .f32 := fun y =>
  o (ix2 (⟨(y 0).val / 4, by have : (y 0).val < 4096 := (y 0).isLt; omega⟩ : Fin 1024)
    (⟨128 * ((y 0).val % 4) + (y 1).val, by have : (y 1).val < 128 := (y 1).isLt; omega⟩ : Fin 512))

/-- A store of every element, read back. -/
theorem read_whole {s : Shape} {sp : Space} {e : EltTy} (v : View sig .tc sp s e) (f : v.ty.Contents (Elt F)) {off : Fin s.rank → ℕ} (h : off = fun _ => 0)
    (inb : ∀ a, off a + s.size a ≤ s.size a) (w : s.Idx → Elt F e) :
    v.read (Elt F) (v.writes (Elt F) f [(⟨Rect.unit off s.size inb, w⟩ : View.Piece (Elt F) s e)]) = w := by
  rw [View.read_writes_eq_canon v f _ (fun y => ⟨_, List.mem_singleton_self _, by
    subst h; show y ∈ (Rect.whole s).set; rw [Rect.set_whole]; exact Finset.mem_univ y⟩), View.canon_unit_zero h]

/-- A load of every element of a whole memref. -/
theorem load_whole {s : Shape} {sp : Space} {e : EltTy} {v : Memref sig .tc sp s e} (hv : v.IsWhole) (x : s.Idx → Elt F e) {off : Fin s.rank → ℕ}
    (h : off = fun _ => 0) (inb : ∀ a, off a + s.size a ≤ s.size a) :
    v.view.readAt (Elt F) (Rect.unit off s.size inb).toLoadRect (hv.unread x) = x := by
  rw [View.readAt_eq_ld, hv.read_unread, View.ld_unit_zero h]

/-- A load of 128 columns of a block just stored whole. -/
theorem load_cols {sp : Space} (v : View sig .tc sp S1024x512 .f32) (o : Vec F S1024x512 .f32) (s : ℕ) (hs : 128 * s + 128 ≤ 512)
    (inb : ∀ a, (![0, 0] : Fin 2 → ℕ) a + S1024x512.size a ≤ S1024x512.size a) (inb' : ∀ a, (![0, 128 * s] : Fin 2 → ℕ) a + S1024x128.size a ≤ S1024x512.size a) :
    v.readCov [(⟨Rect.unit ![0, 0] S1024x512.size inb, o⟩ : View.Piece (Elt F) S1024x512 .f32)] (Rect.unit (s := S1024x512) ![0, 128 * s] S1024x128.size inb').toLoadRect
      = fun x : S1024x128.Idx => o (ix2 (x 0 : Fin 1024) (⟨128 * s + (x 1).val, by have : (x 1).val < 128 := (x 1).isLt; omega⟩ : Fin 512)) := by
  rw [View.readCov_eq_canon', View.canon_unit_zero off2]
  funext x
  refine congrArg o ?_
  funext a
  fin_cases a
  · exact Fin.ext (by show 0 + 1 * (x 0).val = (x 0).val; omega)
  · exact Fin.ext (by show 128 * s + 1 * (x 1).val = 128 * s + (x 1).val; omega)

/-- The columns `128 s … 128 s + 127` of a block. -/
abbrev cols (o : Vec F S1024x512 .f32) (s : ℕ) (hs : 128 * s + 128 ≤ 512) : Vec F S1024x128 .f32 :=
  fun x => o (ix2 (x 0 : Fin 1024) (⟨128 * s + (x 1).val, by have : (x 1).val < 128 := (x 1).isLt; omega⟩ : Fin 512))

/-- The rows `s, s + 4, s + 8, …` of a cache block. -/
abbrev lane (s : ℕ) (inb : ∀ a, S1024x128.size a = 0 ∨ (![s, 0] : Fin 2 → ℕ) a + (![4, 1] : Fin 2 → ℕ) a * (S1024x128.size a - 1) < S4096x128.size a)
    (pos : ∀ a, 0 < (![4, 1] : Fin 2 → ℕ) a) : Rect S4096x128 :=
  ⟨(⟨![s, 0], S1024x128.size, ![4, 1], inb⟩ : LoadRect S4096x128), pos⟩

/-- A row of a cache block lies in the lane of its remainder by four. -/
theorem mem_lane (s : ℕ) (inb) (pos) (y : S4096x128.Idx) (h : (y 0).val % 4 = s) : y ∈ (lane s inb pos).set := by
  have h0 : (y 0).val < 4096 := (y 0).isLt
  have h1 : (y 1).val < 128 := (y 1).isLt
  refine (LoadRect.mem_set _).mpr fun a => ?_
  fin_cases a
  · exact ⟨(y 0).val / 4, by show (y 0).val / 4 < 1024; omega, by show (y 0).val = s + 4 * ((y 0).val / 4); omega⟩
  · exact ⟨(y 1).val, h1, by show (y 1).val = 0 + 1 * (y 1).val; omega⟩

/-- What a lane is stored from agrees with the block laid as a cache block. -/
theorem lane_kvOf (o : Vec F S1024x512 .f32) (s : ℕ) (hs : 128 * s + 128 ≤ 512) (inb) (pos) (x : (lane s inb pos).shape.Idx) :
    cols o s hs x = kvOf o ((lane s inb pos).emb x) := by
  have h0 : (x 0).val < 1024 := (x 0).isLt
  have h1 : (x 1).val < 128 := (x 1).isLt
  refine congrArg o ?_
  funext a
  fin_cases a
  · exact Fin.ext (by show (x 0).val = (s + 4 * (x 0).val) / 4; omega)
  · exact Fin.ext (by show 128 * s + (x 1).val = 128 * ((s + 4 * (x 0).val) % 4) + (0 + 1 * (x 1).val); omega)

/-- The four lanes stored from the four column groups of a block leave the block laid as a cache block. -/
theorem read_lanes {sp : Space} (v : View sig .tc sp S4096x128 .f32) (f : v.ty.Contents (Elt F)) (o : Vec F S1024x512 .f32) (i0) (i1) (i2) (i3) (p0) (p1) (p2) (p3)
    (w0 w1 w2 w3 : Vec F S1024x128 .f32) (e0 : w0 = cols o 0 (by decide)) (e1 : w1 = cols o 1 (by decide)) (e2 : w2 = cols o 2 (by decide)) (e3 : w3 = cols o 3 (by decide)) :
    v.read (Elt F) (v.writes (Elt F) f [(⟨lane 3 i3 p3, w3⟩ : View.Piece (Elt F) S4096x128 .f32), ⟨lane 2 i2 p2, w2⟩, ⟨lane 1 i1 p1, w1⟩, ⟨lane 0 i0 p0, w0⟩]) = kvOf o := by
  subst e0 e1 e2 e3
  funext y
  refine View.read_writes_apply_of_pieces _ _ (kvOf o) _ ?_ y ?_
  · intro p hp x
    simp only [List.mem_cons, List.not_mem_nil, or_false] at hp
    rcases hp with rfl | rfl | rfl | rfl
    · exact lane_kvOf o 3 (by decide) i3 p3 x
    · exact lane_kvOf o 2 (by decide) i2 p2 x
    · exact lane_kvOf o 1 (by decide) i1 p1 x
    · exact lane_kvOf o 0 (by decide) i0 p0 x
  · have hy : (y 0).val % 4 = 3 ∨ (y 0).val % 4 = 2 ∨ (y 0).val % 4 = 1 ∨ (y 0).val % 4 = 0 := by omega
    rcases hy with h | h | h | h
    · exact ⟨_, .head _, mem_lane 3 i3 p3 y h⟩
    · exact ⟨_, .tail _ (.head _), mem_lane 2 i2 p2 y h⟩
    · exact ⟨_, .tail _ (.tail _ (.head _)), mem_lane 1 i1 p1 y h⟩
    · exact ⟨_, .tail _ (.tail _ (.tail _ (.head _))), mem_lane 0 i0 p0 y h⟩

set_option maxHeartbeats 2000000 in
/-- The body at the first column block of a row block: the rows are normalised into the scratch, the block is their product with the weights' block, and no cache output is stored. -/
theorem run_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x2048 .bf16) (harg10 : arg10.IsWhole) (h1 : cond1 i) (h2 : ¬ k0_cond2 i = 1#1) (h3 : ¬ k0_cond3 i = 1#1) (h4 : ¬ k0_cond4 i = 1#1) (h5 : ¬ k0_cond5 i = 1#1)
    (x0 : Vec F S1024x2048 .f32) (x1 : Vec F S1x2048 .f32) (x2 : Vec F S2048x512 .bf16) (y4 y5 y6 y7 : Vec F S4096x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare y4 ∗ owns (c : Thread nD τ) arg7 fullShare y5 ∗ owns (c : Thread nD τ) arg8 fullShare y6 ∗ owns (c : Thread nD τ) arg9 fullShare y7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay2 (k0_pay1 x0 x1) x2)
            ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare (k0_pay1 x0 x1)) -∗ K ⟨⟩))
      ⊢ wp frame (wpE (defs₀ (F := F)) Variants.none c none) E (cc0_norm_matmul i arg2 harg2 arg3 harg3 arg4 harg4 arg5 harg5 arg6 harg6 arg7 harg7 arg8 harg8 arg9 harg9 arg10 harg10) K := by
  simp only [cc0_norm_matmul_eq_skeleton]; unfold cc0_norm_matmul_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%ds0, %fs0, -, HS0⟩, Hk⟩
  obtain rfl := harg2.eq_unread hf0; obtain rfl := harg3.eq_unread hf1; obtain rfl := harg4.eq_unread hf2
  obtain rfl := harg6.eq_unread hf4; obtain rfl := harg7.eq_unread hf5; obtain rfl := harg8.eq_unread hf6; obtain rfl := harg9.eq_unread hf7
  sl_exec (disch := first | sl_exact h1 | sl_exact h2 | sl_exact h3 | sl_exact h4 | sl_exact h5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_whole _ _ off2, View.readCov_unit_zero (S := S1024x2048) _ off2, load_whole harg2 x0 off2, load_whole harg3 x1 off2, load_whole harg4 x2 off2]
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  iexists _; isplitr
  swap; · iexact HS0
  ipureintro
  sl_unfold_words
  rw [read_whole _ _ off2, load_whole harg2 x0 off2, load_whole harg3 x1 off2]

set_option maxHeartbeats 2000000 in
/-- The body at a column block that is neither the first nor a cache's: the block is the product of the scratch with the weights' block, and no cache output is stored. -/
theorem run_plain (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x2048 .bf16) (harg10 : arg10.IsWhole) (h1 : ¬ cond1 i) (h2 : ¬ k0_cond2 i = 1#1) (h3 : ¬ k0_cond3 i = 1#1) (h4 : ¬ k0_cond4 i = 1#1) (h5 : ¬ k0_cond5 i = 1#1)
    (x0 : Vec F S1024x2048 .f32) (x1 : Vec F S1x2048 .f32) (x2 : Vec F S2048x512 .bf16) (y4 y5 y6 y7 : Vec F S4096x128 .f32) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay2 xs x2)
            ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare xs) -∗ K ⟨⟩))
      ⊢ wp frame (wpE (defs₀ (F := F)) Variants.none c none) E (cc0_norm_matmul i arg2 harg2 arg3 harg3 arg4 harg4 arg5 harg5 arg6 harg6 arg7 harg7 arg8 harg8 arg9 harg9 arg10 harg10) K := by
  simp only [cc0_norm_matmul_eq_skeleton]; unfold cc0_norm_matmul_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%fs0, %hfs0, HS0⟩, Hk⟩
  obtain rfl := harg2.eq_unread hf0; obtain rfl := harg3.eq_unread hf1; obtain rfl := harg4.eq_unread hf2
  obtain rfl := harg6.eq_unread hf4; obtain rfl := harg7.eq_unread hf5; obtain rfl := harg8.eq_unread hf6; obtain rfl := harg9.eq_unread hf7
  obtain rfl := harg10.eq_unread hfs0
  sl_exec (disch := first | sl_exact h1 | sl_exact h2 | sl_exact h3 | sl_exact h4 | sl_exact h5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_whole _ _ off2, load_whole harg10 xs off2, load_whole harg4 x2 off2]
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  iexists _; isplitr
  swap; · iexact HS0
  ipureintro
  exact harg10.read_unread _

set_option maxHeartbeats 2000000 in
/-- The body at the column block of cache output 1: the block is the product of the scratch with the weights' block, and the output is that block laid as four times as many rows. -/
theorem run_kv4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x2048 .bf16) (harg10 : arg10.IsWhole) (h1 : ¬ cond1 i) (h2 : k0_cond2 i = 1#1) (h3 : ¬ k0_cond3 i = 1#1) (h4 : ¬ k0_cond4 i = 1#1) (h5 : ¬ k0_cond5 i = 1#1)
    (x0 : Vec F S1024x2048 .f32) (x1 : Vec F S1x2048 .f32) (x2 : Vec F S2048x512 .bf16) (y4 y5 y6 y7 : Vec F S4096x128 .f32) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay2 xs x2)
            ∗ owns (c : Thread nD τ) arg6 fullShare (kvOf (k0_pay2 xs x2)) ∗ owns (c : Thread nD τ) arg7 fullShare y5 ∗ owns (c : Thread nD τ) arg8 fullShare y6 ∗ owns (c : Thread nD τ) arg9 fullShare y7 ∗ owns (c : Thread nD τ) arg10 fullShare xs) -∗ K ⟨⟩))
      ⊢ wp frame (wpE (defs₀ (F := F)) Variants.none c none) E (cc0_norm_matmul i arg2 harg2 arg3 harg3 arg4 harg4 arg5 harg5 arg6 harg6 arg7 harg7 arg8 harg8 arg9 harg9 arg10 harg10) K := by
  simp only [cc0_norm_matmul_eq_skeleton]; unfold cc0_norm_matmul_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%fs0, %hfs0, HS0⟩, Hk⟩
  obtain rfl := harg2.eq_unread hf0; obtain rfl := harg3.eq_unread hf1; obtain rfl := harg4.eq_unread hf2
  obtain rfl := harg6.eq_unread hf4; obtain rfl := harg7.eq_unread hf5; obtain rfl := harg8.eq_unread hf6; obtain rfl := harg9.eq_unread hf7
  obtain rfl := harg10.eq_unread hfs0
  sl_exec (disch := first | sl_exact h1 | sl_exact h2 | sl_exact h3 | sl_exact h4 | sl_exact h5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_whole _ _ off2, load_whole harg10 xs off2, load_whole harg4 x2 off2]
  isplitl [H4]
  · iexists _; isplitr
    swap; · iexact H4
    ipureintro
    sl_unfold_words
    rw [load_whole harg10 xs off2, load_whole harg4 x2 off2]
    refine read_lanes _ _ _ _ _ _ _ _ _ _ _ _ _ _ _ ?_ ?_ ?_ ?_
    · unfold k0_pay3; rw [shapeCast_self]; exact load_cols _ _ 0 (by decide) _ _
    · unfold k0_pay4; rw [shapeCast_self]; exact load_cols _ _ 1 (by decide) _ _
    · unfold k0_pay5; rw [shapeCast_self]; exact load_cols _ _ 2 (by decide) _ _
    · unfold k0_pay6; rw [shapeCast_self]; exact load_cols _ _ 3 (by decide) _ _
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  iexists _; isplitr
  swap; · iexact HS0
  ipureintro
  exact harg10.read_unread _

set_option maxHeartbeats 2000000 in
/-- The body at the column block of cache output 2: the block is the product of the scratch with the weights' block, and the output is that block laid as four times as many rows. -/
theorem run_kv5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x2048 .bf16) (harg10 : arg10.IsWhole) (h1 : ¬ cond1 i) (h2 : ¬ k0_cond2 i = 1#1) (h3 : k0_cond3 i = 1#1) (h4 : ¬ k0_cond4 i = 1#1) (h5 : ¬ k0_cond5 i = 1#1)
    (x0 : Vec F S1024x2048 .f32) (x1 : Vec F S1x2048 .f32) (x2 : Vec F S2048x512 .bf16) (y4 y5 y6 y7 : Vec F S4096x128 .f32) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay2 xs x2)
            ∗ owns (c : Thread nD τ) arg6 fullShare y4 ∗ owns (c : Thread nD τ) arg7 fullShare (kvOf (k0_pay2 xs x2)) ∗ owns (c : Thread nD τ) arg8 fullShare y6 ∗ owns (c : Thread nD τ) arg9 fullShare y7 ∗ owns (c : Thread nD τ) arg10 fullShare xs) -∗ K ⟨⟩))
      ⊢ wp frame (wpE (defs₀ (F := F)) Variants.none c none) E (cc0_norm_matmul i arg2 harg2 arg3 harg3 arg4 harg4 arg5 harg5 arg6 harg6 arg7 harg7 arg8 harg8 arg9 harg9 arg10 harg10) K := by
  simp only [cc0_norm_matmul_eq_skeleton]; unfold cc0_norm_matmul_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%fs0, %hfs0, HS0⟩, Hk⟩
  obtain rfl := harg2.eq_unread hf0; obtain rfl := harg3.eq_unread hf1; obtain rfl := harg4.eq_unread hf2
  obtain rfl := harg6.eq_unread hf4; obtain rfl := harg7.eq_unread hf5; obtain rfl := harg8.eq_unread hf6; obtain rfl := harg9.eq_unread hf7
  obtain rfl := harg10.eq_unread hfs0
  sl_exec (disch := first | sl_exact h1 | sl_exact h2 | sl_exact h3 | sl_exact h4 | sl_exact h5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_whole _ _ off2, load_whole harg10 xs off2, load_whole harg4 x2 off2]
  isplitl [H4]
  · iexists _; isplitr
    · ipureintro; exact harg6.read_unread _
    iexact H4
  isplitl [H5]
  · iexists _; isplitr
    swap; · iexact H5
    ipureintro
    sl_unfold_words
    rw [load_whole harg10 xs off2, load_whole harg4 x2 off2]
    refine read_lanes _ _ _ _ _ _ _ _ _ _ _ _ _ _ _ ?_ ?_ ?_ ?_
    · unfold k0_pay7; rw [shapeCast_self]; exact load_cols _ _ 0 (by decide) _ _
    · unfold k0_pay8; rw [shapeCast_self]; exact load_cols _ _ 1 (by decide) _ _
    · unfold k0_pay9; rw [shapeCast_self]; exact load_cols _ _ 2 (by decide) _ _
    · unfold k0_pay10; rw [shapeCast_self]; exact load_cols _ _ 3 (by decide) _ _
  isplitl [H6]
  · iexists _; isplitr
    · ipureintro; exact harg8.read_unread _
    iexact H6
  isplitl [H7]
  · iexists _; isplitr
    · ipureintro; exact harg9.read_unread _
    iexact H7
  iexists _; isplitr
  swap; · iexact HS0
  ipureintro
  exact harg10.read_unread _

set_option maxHeartbeats 2000000 in
/-- The body at the column block of cache output 3: the block is the product of the scratch with the weights' block, and the output is that block laid as four times as many rows. -/
theorem run_kv6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x2048 .bf16) (harg10 : arg10.IsWhole) (h1 : ¬ cond1 i) (h2 : ¬ k0_cond2 i = 1#1) (h3 : ¬ k0_cond3 i = 1#1) (h4 : k0_cond4 i = 1#1) (h5 : ¬ k0_cond5 i = 1#1)
    (x0 : Vec F S1024x2048 .f32) (x1 : Vec F S1x2048 .f32) (x2 : Vec F S2048x512 .bf16) (y4 y5 y6 y7 : Vec F S4096x128 .f32) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay2 xs x2)
            ∗ owns (c : Thread nD τ) arg6 fullShare y4 ∗ owns (c : Thread nD τ) arg7 fullShare y5 ∗ owns (c : Thread nD τ) arg8 fullShare (kvOf (k0_pay2 xs x2)) ∗ owns (c : Thread nD τ) arg9 fullShare y7 ∗ owns (c : Thread nD τ) arg10 fullShare xs) -∗ K ⟨⟩))
      ⊢ wp frame (wpE (defs₀ (F := F)) Variants.none c none) E (cc0_norm_matmul i arg2 harg2 arg3 harg3 arg4 harg4 arg5 harg5 arg6 harg6 arg7 harg7 arg8 harg8 arg9 harg9 arg10 harg10) K := by
  simp only [cc0_norm_matmul_eq_skeleton]; unfold cc0_norm_matmul_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%fs0, %hfs0, HS0⟩, Hk⟩
  obtain rfl := harg2.eq_unread hf0; obtain rfl := harg3.eq_unread hf1; obtain rfl := harg4.eq_unread hf2
  obtain rfl := harg6.eq_unread hf4; obtain rfl := harg7.eq_unread hf5; obtain rfl := harg8.eq_unread hf6; obtain rfl := harg9.eq_unread hf7
  obtain rfl := harg10.eq_unread hfs0
  sl_exec (disch := first | sl_exact h1 | sl_exact h2 | sl_exact h3 | sl_exact h4 | sl_exact h5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_whole _ _ off2, load_whole harg10 xs off2, load_whole harg4 x2 off2]
  isplitl [H4]
  · iexists _; isplitr
    · ipureintro; exact harg6.read_unread _
    iexact H4
  isplitl [H5]
  · iexists _; isplitr
    · ipureintro; exact harg7.read_unread _
    iexact H5
  isplitl [H6]
  · iexists _; isplitr
    swap; · iexact H6
    ipureintro
    sl_unfold_words
    rw [load_whole harg10 xs off2, load_whole harg4 x2 off2]
    refine read_lanes _ _ _ _ _ _ _ _ _ _ _ _ _ _ _ ?_ ?_ ?_ ?_
    · unfold k0_pay11; rw [shapeCast_self]; exact load_cols _ _ 0 (by decide) _ _
    · unfold k0_pay12; rw [shapeCast_self]; exact load_cols _ _ 1 (by decide) _ _
    · unfold k0_pay13; rw [shapeCast_self]; exact load_cols _ _ 2 (by decide) _ _
    · unfold k0_pay14; rw [shapeCast_self]; exact load_cols _ _ 3 (by decide) _ _
  isplitl [H7]
  · iexists _; isplitr
    · ipureintro; exact harg9.read_unread _
    iexact H7
  iexists _; isplitr
  swap; · iexact HS0
  ipureintro
  exact harg10.read_unread _

set_option maxHeartbeats 2000000 in
/-- The body at the column block of cache output 4: the block is the product of the scratch with the weights' block, and the output is that block laid as four times as many rows. -/
theorem run_kv7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x2048 .bf16) (harg10 : arg10.IsWhole) (h1 : ¬ cond1 i) (h2 : ¬ k0_cond2 i = 1#1) (h3 : ¬ k0_cond3 i = 1#1) (h4 : ¬ k0_cond4 i = 1#1) (h5 : k0_cond5 i = 1#1)
    (x0 : Vec F S1024x2048 .f32) (x1 : Vec F S1x2048 .f32) (x2 : Vec F S2048x512 .bf16) (y4 y5 y6 y7 : Vec F S4096x128 .f32) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay2 xs x2)
            ∗ owns (c : Thread nD τ) arg6 fullShare y4 ∗ owns (c : Thread nD τ) arg7 fullShare y5 ∗ owns (c : Thread nD τ) arg8 fullShare y6 ∗ owns (c : Thread nD τ) arg9 fullShare (kvOf (k0_pay2 xs x2)) ∗ owns (c : Thread nD τ) arg10 fullShare xs) -∗ K ⟨⟩))
      ⊢ wp frame (wpE (defs₀ (F := F)) Variants.none c none) E (cc0_norm_matmul i arg2 harg2 arg3 harg3 arg4 harg4 arg5 harg5 arg6 harg6 arg7 harg7 arg8 harg8 arg9 harg9 arg10 harg10) K := by
  simp only [cc0_norm_matmul_eq_skeleton]; unfold cc0_norm_matmul_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%fs0, %hfs0, HS0⟩, Hk⟩
  obtain rfl := harg2.eq_unread hf0; obtain rfl := harg3.eq_unread hf1; obtain rfl := harg4.eq_unread hf2
  obtain rfl := harg6.eq_unread hf4; obtain rfl := harg7.eq_unread hf5; obtain rfl := harg8.eq_unread hf6; obtain rfl := harg9.eq_unread hf7
  obtain rfl := harg10.eq_unread hfs0
  sl_exec (disch := first | sl_exact h1 | sl_exact h2 | sl_exact h3 | sl_exact h4 | sl_exact h5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_whole _ _ off2, load_whole harg10 xs off2, load_whole harg4 x2 off2]
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    swap; · iexact H7
    ipureintro
    sl_unfold_words
    rw [load_whole harg10 xs off2, load_whole harg4 x2 off2]
    refine read_lanes _ _ _ _ _ _ _ _ _ _ _ _ _ _ _ ?_ ?_ ?_ ?_
    · unfold k0_pay15; rw [shapeCast_self]; exact load_cols _ _ 0 (by decide) _ _
    · unfold k0_pay16; rw [shapeCast_self]; exact load_cols _ _ 1 (by decide) _ _
    · unfold k0_pay17; rw [shapeCast_self]; exact load_cols _ _ 2 (by decide) _ _
    · unfold k0_pay18; rw [shapeCast_self]; exact load_cols _ _ 3 (by decide) _ _
  iexists _; isplitr
  swap; · iexact HS0
  ipureintro
  exact harg10.read_unread _

end Proof.SampleCdIn.Ideal

end
-- ==== Proof.Sample.CdIn.Ideal.Frame.lean ====
/-
  The whole run of the second layer's input projection of the sample (Kernel9Ideal): what every staging buffer holds after each point, the body's obligation at
  a generic point, and the frame.
-/
module

public import proofs.«01_k».proof.Proof.Sample.CdIn.Ideal.Body
public import Idealize.ShloMosaic.Lib.Pipeline.Value
public import Idealize.ShloMosaic.Lib.Pointwise

@[expose] public section

set_option maxRecDepth 16384

noncomputable section

namespace Proof.SampleCdIn.Ideal

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point of the same row block as `t` at column block `j`. -/
def at_ (t : Fin cfg0.N) (j : ℕ) (hj : j < 10) : Fin cfg0.N :=
  ⟨10 * (t.val / 10) + j, by have := val_lt t; have : cfg0.N = 10 := N_0; omega⟩

theorem at_self (t : Fin cfg0.N) (j : ℕ) (hj : j < 10) (h : t.val % 10 = j) : at_ t j hj = t :=
  Fin.ext (by show 10 * (t.val / 10) + j = t.val; omega)

theorem at_congr (t u : Fin cfg0.N) (j : ℕ) (hj : j < 10) (h : t.val / 10 = u.val / 10) : at_ t j hj = at_ u j hj :=
  Fin.ext (by show 10 * (t.val / 10) + j = 10 * (u.val / 10) + j; rw [h])

/-- The normalised rows of the row block of a point. -/
def rows (c : Dev nD) (t : Fin cfg0.N) : Vec F S1024x2048 .bf16 :=
  k0_pay1 (iblk m c 0 (at_ t 0 (by decide))) (iblk m c 1 (at_ t 0 (by decide)))

theorem rows_congr (c : Dev nD) (t u : Fin cfg0.N) (h : t.val / 10 = u.val / 10) : rows m c t = rows m c u := by
  unfold rows; rw [at_congr t u 0 _ h]

/-- The block of the projection that a point computes. -/
def outB (c : Dev nD) (t : Fin cfg0.N) : Vec F S1024x512 .f32 := k0_pay2 (rows m c t) (iblk m c 2 t)

/-- The block of a cache output: the block of the projection computed at column block `j`, laid as four times as many rows. -/
def kvB (c : Dev nD) (t : Fin cfg0.N) (j : ℕ) (hj : j < 10) : Vec F S4096x128 .f32 := kvOf (outB m c (at_ t j hj))

theorem kvB_congr (c : Dev nD) (t u : Fin cfg0.N) (j : ℕ) (hj : j < 10) (h : t.val / 10 = u.val / 10) : kvB m c t j hj = kvB m c u j hj := by
  unfold kvB; rw [at_congr t u j _ h]

/-- The region's invariant before position `n`: before the first point the scratch at anything, afterwards at the rows of the row block of
    the point before. -/
def PhiS (c : Dev nD) : (n : ℕ) → n ≤ cfg0.N → sProp 𝕄
  | 0, _ => Pipeline.ΦA spec0 c
  | n + 1, hn => iprop(iprop(owns (c : Thread nD τ) scM0_0 fullShare (rows m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (rows m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scM0_0 fullShare (rows m c ⟨n - 1, by omega⟩)) ∗ (∃ r, prngReg c r)) := by
  cases n with
  | zero => exact absurd rfl hz
  | succ n => rfl

/-! ## The pipeline's proof data -/

/-- The arrays as the region finds them; after the body at a point each input's buffer at its block, the projection's at the block
    computed, each cache output's at its block of the row block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB m c t
    | ⟨4, _⟩ => kvB m c t 4 (by decide)
    | ⟨5, _⟩ => kvB m c t 5 (by decide)
    | ⟨6, _⟩ => kvB m c t 6 (by decide)
    | ⟨7, _⟩ => kvB m c t 7 (by decide)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outB m c t := by dsimp only [dats]
theorem after0_4 (c : Dev nD) (t : Fin cfg0.N) : (dats m 0 c).after 4 t = kvB m c t 4 (by decide) := by dsimp only [dats]
theorem after0_5 (c : Dev nD) (t : Fin cfg0.N) : (dats m 0 c).after 5 t = kvB m c t 5 (by decide) := by dsimp only [dats]
theorem after0_6 (c : Dev nD) (t : Fin cfg0.N) : (dats m 0 c).after 6 t = kvB m c t 6 (by decide) := by dsimp only [dats]
theorem after0_7 (c : Dev nD) (t : Fin cfg0.N) : (dats m 0 c).after 7 t = kvB m c t 7 (by decide) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The second input is one block: the same at every point. -/
theorem iblk1_eq (c : Dev nD) (t u : Fin cfg0.N) : iblk m c 1 t = iblk m c 1 u := rfl

/-- The rows at the first column block of a row block. -/
theorem rows_first (c : Dev nD) (t : Fin cfg0.N) (h : t.val % 10 = 0) : rows m c t = k0_pay1 (iblk m c 0 t) (iblk m c 1 t) := by
  unfold rows; rw [at_self t 0 _ h]

/-! ## The cache outputs' buffers between their store and their write-back -/

/-- Cache output 1 is live at its own column block only. -/
theorem idle0_4_live (t : Fin cfg0.N) (h : t.val % 10 = 4) : cfg0.idle 4 (cfg0.grid.coords t) = false := by
  show (!(k0_cond2 (grid0.coords t) == 1#1)) = false
  rw [(cond2_iff t).mpr h]; rfl
theorem idle0_4_idle (t : Fin cfg0.N) (h : t.val % 10 ≠ 4) : cfg0.idle 4 (cfg0.grid.coords t) = true := by
  show (!(k0_cond2 (grid0.coords t) == 1#1)) = true
  have : ¬ k0_cond2 (grid0.coords t) = 1#1 := fun hc => h ((cond2_iff t).mp hc)
  simp [this]
theorem noflush0_4 (t : Fin cfg0.N) (h : t.val % 10 ≠ 9) : (cfg0.win 4).flush t = false := by
  cases hf : (cfg0.win 4).flush t
  · rfl
  · exact absurd ((flush0_4 t).mp hf) h

/-- After its store, and until it is written back, the buffer holds the row block's cache block. -/
theorem before0_4 (c : Dev nD) (d) : ∀ (n : ℕ) (t : Fin cfg0.N), t.val % 10 = n → 4 < n → (dats m 0 c).before 4 t d = kvB m c t 4 (by decide) := by
  intro n
  induction n with
  | zero => intro t _ hw; exact absurd hw (by decide)
  | succ n ih =>
    intro t ht hw
    have hN := val_lt t
    have h1 : (t.val - 1) % 10 = n := by omega
    rw [(dats m 0 c).before_of_pos 4 t (by omega) rfl d, noflush0_4 ⟨t.val - 1, _⟩ (by show (t.val - 1) % 10 ≠ 9; omega), if_neg Bool.false_ne_true]
    unfold Pipeline.Dat.left
    by_cases hn : n = 4
    · rw [idle0_4_live ⟨t.val - 1, _⟩ (by show (t.val - 1) % 10 = 4; omega)]
      show (dats m 0 c).after 4 ⟨t.val - 1, _⟩ = _
      rw [after0_4]
      exact kvB_congr m c _ _ _ _ (by show (t.val - 1) / 10 = t.val / 10; omega)
    · rw [idle0_4_idle ⟨t.val - 1, _⟩ (by show (t.val - 1) % 10 ≠ 4; omega)]
      show (dats m 0 c).before 4 ⟨t.val - 1, _⟩ d = _
      rw [ih ⟨t.val - 1, _⟩ h1 (by omega)]
      exact kvB_congr m c _ _ _ _ (by show (t.val - 1) / 10 = t.val / 10; omega)

/-- A point that does not store the cache output leaves its buffer as the data say. -/
theorem keep0_4 (c : Dev nD) (t : Fin cfg0.N) (h : t.val % 10 ≠ 4) (d) :
    (owns (c : Thread nD τ) (ms0_4 t) fullShare ((dats m 0 c).before 4 t d) : sProp 𝕄) ⊢ (dats m 0 c).leavesExact 4 t := by
  by_cases h9 : t.val % 10 = 9
  · rw [before0_4 m c d 9 t h9 (by decide)]
    unfold Pipeline.Dat.leavesExact
    rw [idle0_4_idle t h, (flush0_4 t).mpr h9]
    show _ ⊢ owns (c : Thread nD τ) (ms0_4 t) fullShare ((dats m 0 c).after 4 t)
    rw [after0_4]
  · rw [(dats m 0 c).leavesExact_idle 4 t (idle0_4_idle t h) (noflush0_4 t h9)]
    iintro H; iexists d; iexact H

/-- The point that stores the cache output leaves its buffer at the row block's cache block. -/
theorem put0_4 (c : Dev nD) (t : Fin cfg0.N) (h : t.val % 10 = 4) :
    (owns (c : Thread nD τ) (ms0_4 t) fullShare (kvOf (k0_pay2 (rows m c t) (iblk m c 2 t))) : sProp 𝕄) ⊢ (dats m 0 c).leavesExact 4 t := by
  unfold Pipeline.Dat.leavesExact
  rw [idle0_4_live t h]
  show _ ⊢ owns (c : Thread nD τ) (ms0_4 t) fullShare ((dats m 0 c).after 4 t)
  rw [after0_4]
  unfold kvB; rw [at_self t 4 _ h]
  exact .rfl

/-- Cache output 2 is live at its own column block only. -/
theorem idle0_5_live (t : Fin cfg0.N) (h : t.val % 10 = 5) : cfg0.idle 5 (cfg0.grid.coords t) = false := by
  show (!(k0_cond3 (grid0.coords t) == 1#1)) = false
  rw [(cond3_iff t).mpr h]; rfl
theorem idle0_5_idle (t : Fin cfg0.N) (h : t.val % 10 ≠ 5) : cfg0.idle 5 (cfg0.grid.coords t) = true := by
  show (!(k0_cond3 (grid0.coords t) == 1#1)) = true
  have : ¬ k0_cond3 (grid0.coords t) = 1#1 := fun hc => h ((cond3_iff t).mp hc)
  simp [this]
theorem noflush0_5 (t : Fin cfg0.N) (h : t.val % 10 ≠ 9) : (cfg0.win 5).flush t = false := by
  cases hf : (cfg0.win 5).flush t
  · rfl
  · exact absurd ((flush0_5 t).mp hf) h

/-- After its store, and until it is written back, the buffer holds the row block's cache block. -/
theorem before0_5 (c : Dev nD) (d) : ∀ (n : ℕ) (t : Fin cfg0.N), t.val % 10 = n → 5 < n → (dats m 0 c).before 5 t d = kvB m c t 5 (by decide) := by
  intro n
  induction n with
  | zero => intro t _ hw; exact absurd hw (by decide)
  | succ n ih =>
    intro t ht hw
    have hN := val_lt t
    have h1 : (t.val - 1) % 10 = n := by omega
    rw [(dats m 0 c).before_of_pos 5 t (by omega) rfl d, noflush0_5 ⟨t.val - 1, _⟩ (by show (t.val - 1) % 10 ≠ 9; omega), if_neg Bool.false_ne_true]
    unfold Pipeline.Dat.left
    by_cases hn : n = 5
    · rw [idle0_5_live ⟨t.val - 1, _⟩ (by show (t.val - 1) % 10 = 5; omega)]
      show (dats m 0 c).after 5 ⟨t.val - 1, _⟩ = _
      rw [after0_5]
      exact kvB_congr m c _ _ _ _ (by show (t.val - 1) / 10 = t.val / 10; omega)
    · rw [idle0_5_idle ⟨t.val - 1, _⟩ (by show (t.val - 1) % 10 ≠ 5; omega)]
      show (dats m 0 c).before 5 ⟨t.val - 1, _⟩ d = _
      rw [ih ⟨t.val - 1, _⟩ h1 (by omega)]
      exact kvB_congr m c _ _ _ _ (by show (t.val - 1) / 10 = t.val / 10; omega)

/-- A point that does not store the cache output leaves its buffer as the data say. -/
theorem keep0_5 (c : Dev nD) (t : Fin cfg0.N) (h : t.val % 10 ≠ 5) (d) :
    (owns (c : Thread nD τ) (ms0_5 t) fullShare ((dats m 0 c).before 5 t d) : sProp 𝕄) ⊢ (dats m 0 c).leavesExact 5 t := by
  by_cases h9 : t.val % 10 = 9
  · rw [before0_5 m c d 9 t h9 (by decide)]
    unfold Pipeline.Dat.leavesExact
    rw [idle0_5_idle t h, (flush0_5 t).mpr h9]
    show _ ⊢ owns (c : Thread nD τ) (ms0_5 t) fullShare ((dats m 0 c).after 5 t)
    rw [after0_5]
  · rw [(dats m 0 c).leavesExact_idle 5 t (idle0_5_idle t h) (noflush0_5 t h9)]
    iintro H; iexists d; iexact H

/-- The point that stores the cache output leaves its buffer at the row block's cache block. -/
theorem put0_5 (c : Dev nD) (t : Fin cfg0.N) (h : t.val % 10 = 5) :
    (owns (c : Thread nD τ) (ms0_5 t) fullShare (kvOf (k0_pay2 (rows m c t) (iblk m c 2 t))) : sProp 𝕄) ⊢ (dats m 0 c).leavesExact 5 t := by
  unfold Pipeline.Dat.leavesExact
  rw [idle0_5_live t h]
  show _ ⊢ owns (c : Thread nD τ) (ms0_5 t) fullShare ((dats m 0 c).after 5 t)
  rw [after0_5]
  unfold kvB; rw [at_self t 5 _ h]
  exact .rfl

/-- Cache output 3 is live at its own column block only. -/
theorem idle0_6_live (t : Fin cfg0.N) (h : t.val % 10 = 6) : cfg0.idle 6 (cfg0.grid.coords t) = false := by
  show (!(k0_cond4 (grid0.coords t) == 1#1)) = false
  rw [(cond4_iff t).mpr h]; rfl
theorem idle0_6_idle (t : Fin cfg0.N) (h : t.val % 10 ≠ 6) : cfg0.idle 6 (cfg0.grid.coords t) = true := by
  show (!(k0_cond4 (grid0.coords t) == 1#1)) = true
  have : ¬ k0_cond4 (grid0.coords t) = 1#1 := fun hc => h ((cond4_iff t).mp hc)
  simp [this]
theorem noflush0_6 (t : Fin cfg0.N) (h : t.val % 10 ≠ 9) : (cfg0.win 6).flush t = false := by
  cases hf : (cfg0.win 6).flush t
  · rfl
  · exact absurd ((flush0_6 t).mp hf) h

/-- After its store, and until it is written back, the buffer holds the row block's cache block. -/
theorem before0_6 (c : Dev nD) (d) : ∀ (n : ℕ) (t : Fin cfg0.N), t.val % 10 = n → 6 < n → (dats m 0 c).before 6 t d = kvB m c t 6 (by decide) := by
  intro n
  induction n with
  | zero => intro t _ hw; exact absurd hw (by decide)
  | succ n ih =>
    intro t ht hw
    have hN := val_lt t
    have h1 : (t.val - 1) % 10 = n := by omega
    rw [(dats m 0 c).before_of_pos 6 t (by omega) rfl d, noflush0_6 ⟨t.val - 1, _⟩ (by show (t.val - 1) % 10 ≠ 9; omega), if_neg Bool.false_ne_true]
    unfold Pipeline.Dat.left
    by_cases hn : n = 6
    · rw [idle0_6_live ⟨t.val - 1, _⟩ (by show (t.val - 1) % 10 = 6; omega)]
      show (dats m 0 c).after 6 ⟨t.val - 1, _⟩ = _
      rw [after0_6]
      exact kvB_congr m c _ _ _ _ (by show (t.val - 1) / 10 = t.val / 10; omega)
    · rw [idle0_6_idle ⟨t.val - 1, _⟩ (by show (t.val - 1) % 10 ≠ 6; omega)]
      show (dats m 0 c).before 6 ⟨t.val - 1, _⟩ d = _
      rw [ih ⟨t.val - 1, _⟩ h1 (by omega)]
      exact kvB_congr m c _ _ _ _ (by show (t.val - 1) / 10 = t.val / 10; omega)

/-- A point that does not store the cache output leaves its buffer as the data say. -/
theorem keep0_6 (c : Dev nD) (t : Fin cfg0.N) (h : t.val % 10 ≠ 6) (d) :
    (owns (c : Thread nD τ) (ms0_6 t) fullShare ((dats m 0 c).before 6 t d) : sProp 𝕄) ⊢ (dats m 0 c).leavesExact 6 t := by
  by_cases h9 : t.val % 10 = 9
  · rw [before0_6 m c d 9 t h9 (by decide)]
    unfold Pipeline.Dat.leavesExact
    rw [idle0_6_idle t h, (flush0_6 t).mpr h9]
    show _ ⊢ owns (c : Thread nD τ) (ms0_6 t) fullShare ((dats m 0 c).after 6 t)
    rw [after0_6]
  · rw [(dats m 0 c).leavesExact_idle 6 t (idle0_6_idle t h) (noflush0_6 t h9)]
    iintro H; iexists d; iexact H

/-- The point that stores the cache output leaves its buffer at the row block's cache block. -/
theorem put0_6 (c : Dev nD) (t : Fin cfg0.N) (h : t.val % 10 = 6) :
    (owns (c : Thread nD τ) (ms0_6 t) fullShare (kvOf (k0_pay2 (rows m c t) (iblk m c 2 t))) : sProp 𝕄) ⊢ (dats m 0 c).leavesExact 6 t := by
  unfold Pipeline.Dat.leavesExact
  rw [idle0_6_live t h]
  show _ ⊢ owns (c : Thread nD τ) (ms0_6 t) fullShare ((dats m 0 c).after 6 t)
  rw [after0_6]
  unfold kvB; rw [at_self t 6 _ h]
  exact .rfl

/-- Cache output 4 is live at its own column block only. -/
theorem idle0_7_live (t : Fin cfg0.N) (h : t.val % 10 = 7) : cfg0.idle 7 (cfg0.grid.coords t) = false := by
  show (!(k0_cond5 (grid0.coords t) == 1#1)) = false
  rw [(cond5_iff t).mpr h]; rfl
theorem idle0_7_idle (t : Fin cfg0.N) (h : t.val % 10 ≠ 7) : cfg0.idle 7 (cfg0.grid.coords t) = true := by
  show (!(k0_cond5 (grid0.coords t) == 1#1)) = true
  have : ¬ k0_cond5 (grid0.coords t) = 1#1 := fun hc => h ((cond5_iff t).mp hc)
  simp [this]
theorem noflush0_7 (t : Fin cfg0.N) (h : t.val % 10 ≠ 9) : (cfg0.win 7).flush t = false := by
  cases hf : (cfg0.win 7).flush t
  · rfl
  · exact absurd ((flush0_7 t).mp hf) h

/-- After its store, and until it is written back, the buffer holds the row block's cache block. -/
theorem before0_7 (c : Dev nD) (d) : ∀ (n : ℕ) (t : Fin cfg0.N), t.val % 10 = n → 7 < n → (dats m 0 c).before 7 t d = kvB m c t 7 (by decide) := by
  intro n
  induction n with
  | zero => intro t _ hw; exact absurd hw (by decide)
  | succ n ih =>
    intro t ht hw
    have hN := val_lt t
    have h1 : (t.val - 1) % 10 = n := by omega
    rw [(dats m 0 c).before_of_pos 7 t (by omega) rfl d, noflush0_7 ⟨t.val - 1, _⟩ (by show (t.val - 1) % 10 ≠ 9; omega), if_neg Bool.false_ne_true]
    unfold Pipeline.Dat.left
    by_cases hn : n = 7
    · rw [idle0_7_live ⟨t.val - 1, _⟩ (by show (t.val - 1) % 10 = 7; omega)]
      show (dats m 0 c).after 7 ⟨t.val - 1, _⟩ = _
      rw [after0_7]
      exact kvB_congr m c _ _ _ _ (by show (t.val - 1) / 10 = t.val / 10; omega)
    · rw [idle0_7_idle ⟨t.val - 1, _⟩ (by show (t.val - 1) % 10 ≠ 7; omega)]
      show (dats m 0 c).before 7 ⟨t.val - 1, _⟩ d = _
      rw [ih ⟨t.val - 1, _⟩ h1 (by omega)]
      exact kvB_congr m c _ _ _ _ (by show (t.val - 1) / 10 = t.val / 10; omega)

/-- A point that does not store the cache output leaves its buffer as the data say. -/
theorem keep0_7 (c : Dev nD) (t : Fin cfg0.N) (h : t.val % 10 ≠ 7) (d) :
    (owns (c : Thread nD τ) (ms0_7 t) fullShare ((dats m 0 c).before 7 t d) : sProp 𝕄) ⊢ (dats m 0 c).leavesExact 7 t := by
  by_cases h9 : t.val % 10 = 9
  · rw [before0_7 m c d 9 t h9 (by decide)]
    unfold Pipeline.Dat.leavesExact
    rw [idle0_7_idle t h, (flush0_7 t).mpr h9]
    show _ ⊢ owns (c : Thread nD τ) (ms0_7 t) fullShare ((dats m 0 c).after 7 t)
    rw [after0_7]
  · rw [(dats m 0 c).leavesExact_idle 7 t (idle0_7_idle t h) (noflush0_7 t h9)]
    iintro H; iexists d; iexact H

/-- The point that stores the cache output leaves its buffer at the row block's cache block. -/
theorem put0_7 (c : Dev nD) (t : Fin cfg0.N) (h : t.val % 10 = 7) :
    (owns (c : Thread nD τ) (ms0_7 t) fullShare (kvOf (k0_pay2 (rows m c t) (iblk m c 2 t))) : sProp 𝕄) ⊢ (dats m 0 c).leavesExact 7 t := by
  unfold Pipeline.Dat.leavesExact
  rw [idle0_7_live t h]
  show _ ⊢ owns (c : Thread nD τ) (ms0_7 t) fullShare ((dats m 0 c).after 7 t)
  rw [after0_7]
  unfold kvB; rw [at_self t 7 _ h]
  exact .rfl

/-! ## The body obligation, at a generic point -/

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (dats m 0 c).leavesExact 4 t
    ∗ (dats m 0 c).leavesExact 5 t
    ∗ (dats m 0 c).leavesExact 6 t
    ∗ (dats m 0 c).leavesExact 7 t)

set_option maxHeartbeats 1600000 in
/-- The first column block of the first row block: the scratch is found at anything. -/
theorem sound_first_zero (c : Dev nD) (t : Fin cfg0.N) (h : t.val % 10 = 0) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2, after0_3]
  rw [show (dats m 0 c).Φ t.succ = PhiS m c (t.val + 1) t.isLt from rfl, PhiS_succ]
  have hN := val_lt t
  rw [PhiS_castSucc m c t, PhiS_zero m c _ _ hz, PhiA0_eq]
  unfold outB; rw [rows_congr m c ⟨t.val, t.isLt⟩ t rfl, rows_first m c t h]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_first c (grid0.coords t) _ _ _ _ _ _ _ _ _ _ _ _ _ _ _ _ _ _ ((cond1_iff t).mpr h) (fun hc => absurd ((cond2_iff t).mp hc) (by omega)) (fun hc => absurd ((cond3_iff t).mp hc) (by omega)) (fun hc => absurd ((cond4_iff t).mp hc) (by omega)) (fun hc => absurd ((cond5_iff t).mp hc) (by omega)) (iblk m c 0 t) (iblk m c 1 t) (iblk m c 2 t) _ _ _ _ Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iapply (keep0_4 m c t (by omega) _); iexact H4
  isplitl [H5]; · iapply (keep0_5 m c t (by omega) _); iexact H5
  isplitl [H6]; · iapply (keep0_6 m c t (by omega) _); iexact H6
  iapply (keep0_7 m c t (by omega) _); iexact H7

set_option maxHeartbeats 1600000 in
/-- The first column block of a later row block: the scratch is found at the rows of the row block before. -/
theorem sound_first_pos (c : Dev nD) (t : Fin cfg0.N) (h : t.val % 10 = 0) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2, after0_3]
  rw [show (dats m 0 c).Φ t.succ = PhiS m c (t.val + 1) t.isLt from rfl, PhiS_succ]
  have hN := val_lt t
  rw [PhiS_castSucc m c t, PhiS_pos m c _ _ hz]
  unfold outB; rw [rows_congr m c ⟨t.val, t.isLt⟩ t rfl, rows_first m c t h]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_first c (grid0.coords t) _ _ _ _ _ _ _ _ _ _ _ _ _ _ _ _ _ _ ((cond1_iff t).mpr h) (fun hc => absurd ((cond2_iff t).mp hc) (by omega)) (fun hc => absurd ((cond3_iff t).mp hc) (by omega)) (fun hc => absurd ((cond4_iff t).mp hc) (by omega)) (fun hc => absurd ((cond5_iff t).mp hc) (by omega)) (iblk m c 0 t) (iblk m c 1 t) (iblk m c 2 t) _ _ _ _ Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [HS0]; · iexists _; iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iapply (keep0_4 m c t (by omega) _); iexact H4
  isplitl [H5]; · iapply (keep0_5 m c t (by omega) _); iexact H5
  isplitl [H6]; · iapply (keep0_6 m c t (by omega) _); iexact H6
  iapply (keep0_7 m c t (by omega) _); iexact H7

set_option maxHeartbeats 1600000 in
/-- A column block that is neither the first nor a cache output's. -/
theorem sound_plain (c : Dev nD) (t : Fin cfg0.N) (h0 : t.val % 10 ≠ 0) (h4 : t.val % 10 ≠ 4) (h5 : t.val % 10 ≠ 5) (h6 : t.val % 10 ≠ 6) (h7 : t.val % 10 ≠ 7) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2, after0_3]
  rw [show (dats m 0 c).Φ t.succ = PhiS m c (t.val + 1) t.isLt from rfl, PhiS_succ]
  have hN := val_lt t
  rw [PhiS_castSucc m c t, PhiS_pos m c _ _ (by omega), rows_congr m c ⟨t.val - 1, _⟩ t (by show (t.val - 1) / 10 = t.val / 10; omega)]
  unfold outB; rw [rows_congr m c ⟨t.val, t.isLt⟩ t rfl]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_plain c (grid0.coords t) _ _ _ _ _ _ _ _ _ _ _ _ _ _ _ _ _ _ (fun hc => absurd ((cond1_iff t).mp hc) (by omega)) (fun hc => absurd ((cond2_iff t).mp hc) (by omega)) (fun hc => absurd ((cond3_iff t).mp hc) (by omega)) (fun hc => absurd ((cond4_iff t).mp hc) (by omega)) (fun hc => absurd ((cond5_iff t).mp hc) (by omega)) (iblk m c 0 t) (iblk m c 1 t) (iblk m c 2 t) _ _ _ _ (rows m c t) Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iapply (keep0_4 m c t (by omega) _); iexact H4
  isplitl [H5]; · iapply (keep0_5 m c t (by omega) _); iexact H5
  isplitl [H6]; · iapply (keep0_6 m c t (by omega) _); iexact H6
  iapply (keep0_7 m c t (by omega) _); iexact H7

set_option maxHeartbeats 1600000 in
/-- The column block of cache output 1. -/
theorem sound_kv4 (c : Dev nD) (t : Fin cfg0.N) (h : t.val % 10 = 4) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2, after0_3]
  rw [show (dats m 0 c).Φ t.succ = PhiS m c (t.val + 1) t.isLt from rfl, PhiS_succ]
  have hN := val_lt t
  rw [PhiS_castSucc m c t, PhiS_pos m c _ _ (by omega), rows_congr m c ⟨t.val - 1, _⟩ t (by show (t.val - 1) / 10 = t.val / 10; omega)]
  unfold outB; rw [rows_congr m c ⟨t.val, t.isLt⟩ t rfl]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_kv4 c (grid0.coords t) _ _ _ _ _ _ _ _ _ _ _ _ _ _ _ _ _ _ (fun hc => absurd ((cond1_iff t).mp hc) (by omega)) ((cond2_iff t).mpr h) (fun hc => absurd ((cond3_iff t).mp hc) (by omega)) (fun hc => absurd ((cond4_iff t).mp hc) (by omega)) (fun hc => absurd ((cond5_iff t).mp hc) (by omega)) (iblk m c 0 t) (iblk m c 1 t) (iblk m c 2 t) _ _ _ _ (rows m c t) Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iapply (put0_4 m c t h); iexact H4
  isplitl [H5]; · iapply (keep0_5 m c t (by omega) _); iexact H5
  isplitl [H6]; · iapply (keep0_6 m c t (by omega) _); iexact H6
  iapply (keep0_7 m c t (by omega) _); iexact H7

set_option maxHeartbeats 1600000 in
/-- The column block of cache output 2. -/
theorem sound_kv5 (c : Dev nD) (t : Fin cfg0.N) (h : t.val % 10 = 5) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2, after0_3]
  rw [show (dats m 0 c).Φ t.succ = PhiS m c (t.val + 1) t.isLt from rfl, PhiS_succ]
  have hN := val_lt t
  rw [PhiS_castSucc m c t, PhiS_pos m c _ _ (by omega), rows_congr m c ⟨t.val - 1, _⟩ t (by show (t.val - 1) / 10 = t.val / 10; omega)]
  unfold outB; rw [rows_congr m c ⟨t.val, t.isLt⟩ t rfl]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_kv5 c (grid0.coords t) _ _ _ _ _ _ _ _ _ _ _ _ _ _ _ _ _ _ (fun hc => absurd ((cond1_iff t).mp hc) (by omega)) (fun hc => absurd ((cond2_iff t).mp hc) (by omega)) ((cond3_iff t).mpr h) (fun hc => absurd ((cond4_iff t).mp hc) (by omega)) (fun hc => absurd ((cond5_iff t).mp hc) (by omega)) (iblk m c 0 t) (iblk m c 1 t) (iblk m c 2 t) _ _ _ _ (rows m c t) Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iapply (keep0_4 m c t (by omega) _); iexact H4
  isplitl [H5]; · iapply (put0_5 m c t h); iexact H5
  isplitl [H6]; · iapply (keep0_6 m c t (by omega) _); iexact H6
  iapply (keep0_7 m c t (by omega) _); iexact H7

set_option maxHeartbeats 1600000 in
/-- The column block of cache output 3. -/
theorem sound_kv6 (c : Dev nD) (t : Fin cfg0.N) (h : t.val % 10 = 6) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2, after0_3]
  rw [show (dats m 0 c).Φ t.succ = PhiS m c (t.val + 1) t.isLt from rfl, PhiS_succ]
  have hN := val_lt t
  rw [PhiS_castSucc m c t, PhiS_pos m c _ _ (by omega), rows_congr m c ⟨t.val - 1, _⟩ t (by show (t.val - 1) / 10 = t.val / 10; omega)]
  unfold outB; rw [rows_congr m c ⟨t.val, t.isLt⟩ t rfl]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_kv6 c (grid0.coords t) _ _ _ _ _ _ _ _ _ _ _ _ _ _ _ _ _ _ (fun hc => absurd ((cond1_iff t).mp hc) (by omega)) (fun hc => absurd ((cond2_iff t).mp hc) (by omega)) (fun hc => absurd ((cond3_iff t).mp hc) (by omega)) ((cond4_iff t).mpr h) (fun hc => absurd ((cond5_iff t).mp hc) (by omega)) (iblk m c 0 t) (iblk m c 1 t) (iblk m c 2 t) _ _ _ _ (rows m c t) Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iapply (keep0_4 m c t (by omega) _); iexact H4
  isplitl [H5]; · iapply (keep0_5 m c t (by omega) _); iexact H5
  isplitl [H6]; · iapply (put0_6 m c t h); iexact H6
  iapply (keep0_7 m c t (by omega) _); iexact H7

set_option maxHeartbeats 1600000 in
/-- The column block of cache output 4. -/
theorem sound_kv7 (c : Dev nD) (t : Fin cfg0.N) (h : t.val % 10 = 7) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2, after0_3]
  rw [show (dats m 0 c).Φ t.succ = PhiS m c (t.val + 1) t.isLt from rfl, PhiS_succ]
  have hN := val_lt t
  rw [PhiS_castSucc m c t, PhiS_pos m c _ _ (by omega), rows_congr m c ⟨t.val - 1, _⟩ t (by show (t.val - 1) / 10 = t.val / 10; omega)]
  unfold outB; rw [rows_congr m c ⟨t.val, t.isLt⟩ t rfl]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_kv7 c (grid0.coords t) _ _ _ _ _ _ _ _ _ _ _ _ _ _ _ _ _ _ (fun hc => absurd ((cond1_iff t).mp hc) (by omega)) (fun hc => absurd ((cond2_iff t).mp hc) (by omega)) (fun hc => absurd ((cond3_iff t).mp hc) (by omega)) (fun hc => absurd ((cond4_iff t).mp hc) (by omega)) ((cond5_iff t).mpr h) (iblk m c 0 t) (iblk m c 1 t) (iblk m c 2 t) _ _ _ _ (rows m c t) Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iapply (keep0_4 m c t (by omega) _); iexact H4
  isplitl [H5]; · iapply (keep0_5 m c t (by omega) _); iexact H5
  isplitl [H6]; · iapply (keep0_6 m c t (by omega) _); iexact H6
  iapply (put0_7 m c t h); iexact H7

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 10 = 0
  · by_cases hz : t.val = 0
    · exact sound_first_zero m c t h0 hz
    · exact sound_first_pos m c t h0 hz
  by_cases h4 : t.val % 10 = 4
  · exact sound_kv4 m c t h4
  by_cases h5 : t.val % 10 = 5
  · exact sound_kv5 m c t h5
  by_cases h6 : t.val % 10 = 6
  · exact sound_kv6 m c t h6
  by_cases h7 : t.val % 10 = 7
  · exact sound_kv7 m c t h7
  exact sound_plain m c t h0 h4 h5 h6 h7

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 10 := N_0; omega)

/-! ## The run and the frame -/

set_option backward.isDefEq.respectTransparency.types false in
/-- The launch: the frame post of the proof data, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they were launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: every run ends, with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Proof.SampleCdIn.Ideal

end
-- ==== Proof.Sample.CdIn.Printed.lean ====
/- The printed program of the second layer's input projection at the sample's rows: its frame. -/
module

public import proofs.«01_k».proof.Proof.Sample.CdIn.Ideal.Frame
public import proofs.«01_k».proof.Proof.Gen.Kernel9.Skeleton

@[expose] public section

namespace Proof.SampleCdIn.Printed

open Idealize.ShloMosaic Idealize.ShloMosaic.TcCoe Idealize.SL.Sem

variable {F : FTy → Type} [FloatOps F]

/-- Before pipelining, the printed program and its idealized program have the same bodies, for the call's own body computes
    only with operations that idealizing leaves as they are. -/
theorem bodies_eq : Cert.Kernel9.defs₀ (F := F) = Cert.Kernel9Ideal.defs₀ (F := F) := by
  unfold Cert.Kernel9.defs₀ Cert.Kernel9Ideal.defs₀
  refine congrArg Defs.onTc ?_
  funext l a
  match l, a with
  | ⟨0, _⟩, (t, s) => rfl

/-- So the two programs have the same bodies with the pipelines around them, too. -/
theorem defs_eq : Cert.Kernel9.defs (F := F) = Cert.Kernel9Ideal.defs (F := F) := by
  unfold Cert.Kernel9.defs Cert.Kernel9Ideal.defs
  exact congrArg (Pipeline.defs (Cert.Kernel9Ideal.pcfgs (F := F))) bodies_eq

open Cert.Kernel9 in
/-- The printed program runs, leaving its arguments and every counter as they were: the idealized program does. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Proof.SampleCdIn.Ideal.frame (F := F) m ρ

end Proof.SampleCdIn.Printed

end
-- ==== Proof.Sample.CdIn.Weight.lean ====
/-
  The second layer's wide weight, column by column: the weight's columns regrouped, with zero columns between the groups.
-/
module

public import proofs.«01_k».proof.Proof.Sample.CdIn.Ideal.Frame
public import proofs.«01_k».proof.Proof.Proj.Norm
public import Idealize.ShloMosaic.Lib.Pipeline.Value
public import Idealize.ShloMosaic.Lib.StableHlo.ReadAt
public import Idealize.ShloMosaic.Lib.Pointwise

@[expose] public section

set_option maxRecDepth 16384

noncomputable section

namespace Cert.SampleCdIn

open Cert.Kernel9Ideal Cert.Kernel9Ideal.Gen Proof.SampleCdIn.Ideal Idealize.ShloMosaic Idealize.ShloMosaic.TcCoe Idealize.SL.Sem Cert.Proj

variable (m : (ℓ : Loc nD τ sig) → Buf (Elt Ideal) ℓ)

/-- The rows that enter the layer. -/
abbrev X (c : Dev nD) : S1024x2048.Idx → EReal := m ((c : Thread nD τ).loc main_arg0)
/-- The gains of both layers. -/
abbrev Gains (c : Dev nD) : S2x2048.Idx → EReal := m ((c : Thread nD τ).loc main_arg1)
/-- The weight. -/
abbrev Wt (c : Dev nD) : S1x2048x4704.Idx → EReal := m ((c : Thread nD τ).loc main_arg2)

/-- The gain as one row. -/
theorem V_g (c : Dev nD) (d : Fin 2048) : V m c main_v17 (ix2 0 d) = Gains m c (ix2 1 d) := by
  unfold V hostOps0
  after_reads_at
  try rfl

/-- Piece 1 of the wide weight: the weight's columns from 0 on. -/
theorem V_v1 (c : Dev nD) (d : Fin 2048) (e : Fin 1024) : (V m c main_v1 : S2048x1024.Idx → EReal) (ix2 d e) = Wt m c (ix3 0 d ⟨0 + e.val, by omega⟩) := by
  unfold V hostOps0
  after_reads_at
  try rfl
/-- Piece 4 of the wide weight: the weight's columns from 2584 on. -/
theorem V_v4 (c : Dev nD) (d : Fin 2048) (e : Fin 1024) : (V m c main_v4 : S2048x1024.Idx → EReal) (ix2 d e) = Wt m c (ix3 0 d ⟨2584 + e.val, by omega⟩) := by
  unfold V hostOps0
  after_reads_at
  try rfl
/-- Piece 2 of the wide weight: the weight's columns from 1024 on. -/
theorem V_v2 (c : Dev nD) (d : Fin 2048) (e : Fin 1536) : (V m c main_v2 : S2048x1536.Idx → EReal) (ix2 d e) = Wt m c (ix3 0 d ⟨1024 + e.val, by omega⟩) := by
  unfold V hostOps0
  after_reads_at
  try rfl
/-- Piece 5 of the wide weight: the weight's columns from 3608 on. -/
theorem V_v5 (c : Dev nD) (d : Fin 2048) (e : Fin 512) : (V m c main_v5 : S2048x512.Idx → EReal) (ix2 d e) = Wt m c (ix3 0 d ⟨3608 + e.val, by omega⟩) := by
  unfold V hostOps0
  after_reads_at
  try rfl
/-- Piece 6 of the wide weight: the weight's columns from 4120 on. -/
theorem V_v6 (c : Dev nD) (d : Fin 2048) (e : Fin 512) : (V m c main_v6 : S2048x512.Idx → EReal) (ix2 d e) = Wt m c (ix3 0 d ⟨4120 + e.val, by omega⟩) := by
  unfold V hostOps0
  after_reads_at
  try rfl
/-- Piece 7 of the wide weight: the weight's columns from 4632 on. -/
theorem V_v7 (c : Dev nD) (d : Fin 2048) (e : Fin 64) : (V m c main_v7 : S2048x64.Idx → EReal) (ix2 d e) = Wt m c (ix3 0 d ⟨4632 + e.val, by omega⟩) := by
  unfold V hostOps0
  after_reads_at
  try rfl
/-- Piece 9 of the wide weight: zero. -/
theorem V_v9 (c : Dev nD) (d : Fin 2048) (e : Fin 64) : (V m c main_v9 : S2048x64.Idx → EReal) (ix2 d e) = (0 : EReal) := by
  unfold V hostOps0
  after_reads_at
  try rfl
/-- Piece 3 of the wide weight: the weight's columns from 2560 on. -/
theorem V_v3 (c : Dev nD) (d : Fin 2048) (e : Fin 24) : (V m c main_v3 : S2048x24.Idx → EReal) (ix2 d e) = Wt m c (ix3 0 d ⟨2560 + e.val, by omega⟩) := by
  unfold V hostOps0
  after_reads_at
  try rfl
/-- Piece 10 of the wide weight: zero. -/
theorem V_v10 (c : Dev nD) (d : Fin 2048) (e : Fin 104) : (V m c main_v10 : S2048x104.Idx → EReal) (ix2 d e) = (0 : EReal) := by
  unfold V hostOps0
  after_reads_at
  try rfl
/-- Piece 8 of the wide weight: the weight's columns from 4696 on. -/
theorem V_v8 (c : Dev nD) (d : Fin 2048) (e : Fin 8) : (V m c main_v8 : S2048x8.Idx → EReal) (ix2 d e) = Wt m c (ix3 0 d ⟨4696 + e.val, by omega⟩) := by
  unfold V hostOps0
  after_reads_at
  try rfl
/-- Piece 11 of the wide weight: zero. -/
theorem V_v11 (c : Dev nD) (d : Fin 2048) (e : Fin 120) : (V m c main_v11 : S2048x120.Idx → EReal) (ix2 d e) = (0 : EReal) := by
  unfold V hostOps0
  after_reads_at
  try rfl
/-- Piece 12 of the wide weight: zero. -/
theorem V_v12 (c : Dev nD) (d : Fin 2048) (e : Fin 128) : (V m c main_v12 : S2048x128.Idx → EReal) (ix2 d e) = (0 : EReal) := by
  unfold V hostOps0
  after_reads_at
  try rfl

/-- What the host operations before the concatenation leave. -/
abbrev U (c : Dev nD) (r : Ref sig .tc) := StableHlo.upto (hostOps0 (F := Ideal)) (fun b => m (c, b)) 17 (Proc.tc.devRef r)

/-- Piece 1 isn't written again. -/
theorem U_v1 (c : Dev nD) : (U m c main_v1 : S2048x1024.Idx → EReal) = V m c main_v1 := by
  unfold V
  after_reads_simp

/-- Piece 4 isn't written again. -/
theorem U_v4 (c : Dev nD) : (U m c main_v4 : S2048x1024.Idx → EReal) = V m c main_v4 := by
  unfold V
  after_reads_simp

/-- Piece 2 isn't written again. -/
theorem U_v2 (c : Dev nD) : (U m c main_v2 : S2048x1536.Idx → EReal) = V m c main_v2 := by
  unfold V
  after_reads_simp

/-- Piece 5 isn't written again. -/
theorem U_v5 (c : Dev nD) : (U m c main_v5 : S2048x512.Idx → EReal) = V m c main_v5 := by
  unfold V
  after_reads_simp

/-- Piece 6 isn't written again. -/
theorem U_v6 (c : Dev nD) : (U m c main_v6 : S2048x512.Idx → EReal) = V m c main_v6 := by
  unfold V
  after_reads_simp

/-- Piece 7 isn't written again. -/
theorem U_v7 (c : Dev nD) : (U m c main_v7 : S2048x64.Idx → EReal) = V m c main_v7 := by
  unfold V
  after_reads_simp

/-- Piece 9 isn't written again. -/
theorem U_v9 (c : Dev nD) : (U m c main_v9 : S2048x64.Idx → EReal) = V m c main_v9 := by
  unfold V
  after_reads_simp

/-- Piece 3 isn't written again. -/
theorem U_v3 (c : Dev nD) : (U m c main_v3 : S2048x24.Idx → EReal) = V m c main_v3 := by
  unfold V
  after_reads_simp

/-- Piece 10 isn't written again. -/
theorem U_v10 (c : Dev nD) : (U m c main_v10 : S2048x104.Idx → EReal) = V m c main_v10 := by
  unfold V
  after_reads_simp

/-- Piece 8 isn't written again. -/
theorem U_v8 (c : Dev nD) : (U m c main_v8 : S2048x8.Idx → EReal) = V m c main_v8 := by
  unfold V
  after_reads_simp

/-- Piece 11 isn't written again. -/
theorem U_v11 (c : Dev nD) : (U m c main_v11 : S2048x120.Idx → EReal) = V m c main_v11 := by
  unfold V
  after_reads_simp

/-- Piece 12 isn't written again. -/
theorem U_v12 (c : Dev nD) : (U m c main_v12 : S2048x128.Idx → EReal) = V m c main_v12 := by
  unfold V
  after_reads_simp

/-- The twelve pieces. -/
abbrev pieces (c : Dev nD) : List ((s : Shape) × (s.Idx → EReal)) :=
  [⟨S2048x1024, (U m c main_v1 : S2048x1024.Idx → EReal)⟩, ⟨S2048x1024, (U m c main_v4 : S2048x1024.Idx → EReal)⟩, ⟨S2048x1536, (U m c main_v2 : S2048x1536.Idx → EReal)⟩, ⟨S2048x512, (U m c main_v5 : S2048x512.Idx → EReal)⟩, ⟨S2048x512, (U m c main_v6 : S2048x512.Idx → EReal)⟩, ⟨S2048x64, (U m c main_v7 : S2048x64.Idx → EReal)⟩, ⟨S2048x64, (U m c main_v9 : S2048x64.Idx → EReal)⟩, ⟨S2048x24, (U m c main_v3 : S2048x24.Idx → EReal)⟩, ⟨S2048x104, (U m c main_v10 : S2048x104.Idx → EReal)⟩, ⟨S2048x8, (U m c main_v8 : S2048x8.Idx → EReal)⟩, ⟨S2048x120, (U m c main_v11 : S2048x120.Idx → EReal)⟩, ⟨S2048x128, (U m c main_v12 : S2048x128.Idx → EReal)⟩]

/-- The wide weight is its twelve pieces side by side. -/
theorem V_v13 (c : Dev nD) : (V m c main_v13 : S2048x5120.Idx → EReal) = concatenate S2048x5120 1 (pieces m c) concatenates_S2048x1024_S2048x1024_S2048x1536_S2048x512_S2048x512_S2048x64_S2048x64_S2048x24_S2048x104_S2048x8_S2048x120_S2048x128_S2048x5120_d1 := by
  unfold V
  after_reads_simp
  rfl

/-- Rounding changes nothing. -/
theorem round_apply (x : FVec Ideal S2048x5120 .f32) (i : S2048x5120.Idx) : (truncf (F := Ideal) .bf16 x bitsLt_bf16_f32 : S2048x5120.Idx → EReal) i = x i := by
  obtain ⟨d, E, rfl⟩ : ∃ (d : Fin 2048) (E : Fin 5120), i = ix2 d E := ⟨i 0, i 1, eq_ix2 i⟩
  pointwise

/-- The weight that the launch reads is the wide weight, rounded. -/
theorem V_v14 (c : Dev nD) : (V m c main_v14 : FVec Ideal S2048x5120 .bf16) = truncf (F := Ideal) .bf16 (V m c main_v13 : FVec Ideal S2048x5120 .f32) bitsLt_bf16_f32 := by
  unfold V
  after_reads_simp

/-- Columns 0 to 1023 of the wide weight: the weight's columns from 0 on. -/
theorem wide_0 (c : Dev nD) (d : Fin 2048) (e : Fin 1024) (E : Fin 5120) (h : E.val = 0 + e.val) :
    (V m c main_v14 : S2048x5120.Idx → EReal) (ix2 d E) = Wt m c (ix3 0 d ⟨0 + e.val, by omega⟩) := by
  refine (congrFun (V_v14 m c) _).trans ((round_apply _ _).trans ?_)
  rw [V_v13]
  refine (concatenate_apply_piece (1 : Fin 2) (pieces m c) _ (ix2 d E) 0 (by decide : 0 < 12) S2048x1024 (U m c main_v1 : S2048x1024.Idx → EReal) rfl rfl 0 rfl (ix2 d e) ?_ ?_).trans ?_
  · intro b hb
    match b with
    | ⟨0, _⟩ => rfl
    | ⟨1, _⟩ => exact absurd rfl hb
  · exact h.symm
  · rw [U_v1, V_v1]

/-- Columns 1024 to 2047 of the wide weight: the weight's columns from 2584 on. -/
theorem wide_1024 (c : Dev nD) (d : Fin 2048) (e : Fin 1024) (E : Fin 5120) (h : E.val = 1024 + e.val) :
    (V m c main_v14 : S2048x5120.Idx → EReal) (ix2 d E) = Wt m c (ix3 0 d ⟨2584 + e.val, by omega⟩) := by
  refine (congrFun (V_v14 m c) _).trans ((round_apply _ _).trans ?_)
  rw [V_v13]
  refine (concatenate_apply_piece (1 : Fin 2) (pieces m c) _ (ix2 d E) 1 (by decide : 1 < 12) S2048x1024 (U m c main_v4 : S2048x1024.Idx → EReal) rfl rfl 1024 rfl (ix2 d e) ?_ ?_).trans ?_
  · intro b hb
    match b with
    | ⟨0, _⟩ => rfl
    | ⟨1, _⟩ => exact absurd rfl hb
  · exact h.symm
  · rw [U_v4, V_v4]

/-- Columns 2048 to 3583 of the wide weight: the weight's columns from 1024 on. -/
theorem wide_2048 (c : Dev nD) (d : Fin 2048) (e : Fin 1536) (E : Fin 5120) (h : E.val = 2048 + e.val) :
    (V m c main_v14 : S2048x5120.Idx → EReal) (ix2 d E) = Wt m c (ix3 0 d ⟨1024 + e.val, by omega⟩) := by
  refine (congrFun (V_v14 m c) _).trans ((round_apply _ _).trans ?_)
  rw [V_v13]
  refine (concatenate_apply_piece (1 : Fin 2) (pieces m c) _ (ix2 d E) 2 (by decide : 2 < 12) S2048x1536 (U m c main_v2 : S2048x1536.Idx → EReal) rfl rfl 2048 rfl (ix2 d e) ?_ ?_).trans ?_
  · intro b hb
    match b with
    | ⟨0, _⟩ => rfl
    | ⟨1, _⟩ => exact absurd rfl hb
  · exact h.symm
  · rw [U_v2, V_v2]

/-- Columns 3584 to 4095 of the wide weight: the weight's columns from 3608 on. -/
theorem wide_3584 (c : Dev nD) (d : Fin 2048) (e : Fin 512) (E : Fin 5120) (h : E.val = 3584 + e.val) :
    (V m c main_v14 : S2048x5120.Idx → EReal) (ix2 d E) = Wt m c (ix3 0 d ⟨3608 + e.val, by omega⟩) := by
  refine (congrFun (V_v14 m c) _).trans ((round_apply _ _).trans ?_)
  rw [V_v13]
  refine (concatenate_apply_piece (1 : Fin 2) (pieces m c) _ (ix2 d E) 3 (by decide : 3 < 12) S2048x512 (U m c main_v5 : S2048x512.Idx → EReal) rfl rfl 3584 rfl (ix2 d e) ?_ ?_).trans ?_
  · intro b hb
    match b with
    | ⟨0, _⟩ => rfl
    | ⟨1, _⟩ => exact absurd rfl hb
  · exact h.symm
  · rw [U_v5, V_v5]

/-- Columns 4096 to 4607 of the wide weight: the weight's columns from 4120 on. -/
theorem wide_4096 (c : Dev nD) (d : Fin 2048) (e : Fin 512) (E : Fin 5120) (h : E.val = 4096 + e.val) :
    (V m c main_v14 : S2048x5120.Idx → EReal) (ix2 d E) = Wt m c (ix3 0 d ⟨4120 + e.val, by omega⟩) := by
  refine (congrFun (V_v14 m c) _).trans ((round_apply _ _).trans ?_)
  rw [V_v13]
  refine (concatenate_apply_piece (1 : Fin 2) (pieces m c) _ (ix2 d E) 4 (by decide : 4 < 12) S2048x512 (U m c main_v6 : S2048x512.Idx → EReal) rfl rfl 4096 rfl (ix2 d e) ?_ ?_).trans ?_
  · intro b hb
    match b with
    | ⟨0, _⟩ => rfl
    | ⟨1, _⟩ => exact absurd rfl hb
  · exact h.symm
  · rw [U_v6, V_v6]

/-- Columns 4608 to 4671 of the wide weight: the weight's columns from 4632 on. -/
theorem wide_4608 (c : Dev nD) (d : Fin 2048) (e : Fin 64) (E : Fin 5120) (h : E.val = 4608 + e.val) :
    (V m c main_v14 : S2048x5120.Idx → EReal) (ix2 d E) = Wt m c (ix3 0 d ⟨4632 + e.val, by omega⟩) := by
  refine (congrFun (V_v14 m c) _).trans ((round_apply _ _).trans ?_)
  rw [V_v13]
  refine (concatenate_apply_piece (1 : Fin 2) (pieces m c) _ (ix2 d E) 5 (by decide : 5 < 12) S2048x64 (U m c main_v7 : S2048x64.Idx → EReal) rfl rfl 4608 rfl (ix2 d e) ?_ ?_).trans ?_
  · intro b hb
    match b with
    | ⟨0, _⟩ => rfl
    | ⟨1, _⟩ => exact absurd rfl hb
  · exact h.symm
  · rw [U_v7, V_v7]

/-- Columns 4672 to 4735 of the wide weight: zero. -/
theorem wide_4672 (c : Dev nD) (d : Fin 2048) (e : Fin 64) (E : Fin 5120) (h : E.val = 4672 + e.val) :
    (V m c main_v14 : S2048x5120.Idx → EReal) (ix2 d E) = (0 : EReal) := by
  refine (congrFun (V_v14 m c) _).trans ((round_apply _ _).trans ?_)
  rw [V_v13]
  refine (concatenate_apply_piece (1 : Fin 2) (pieces m c) _ (ix2 d E) 6 (by decide : 6 < 12) S2048x64 (U m c main_v9 : S2048x64.Idx → EReal) rfl rfl 4672 rfl (ix2 d e) ?_ ?_).trans ?_
  · intro b hb
    match b with
    | ⟨0, _⟩ => rfl
    | ⟨1, _⟩ => exact absurd rfl hb
  · exact h.symm
  · rw [U_v9, V_v9]

/-- Columns 4736 to 4759 of the wide weight: the weight's columns from 2560 on. -/
theorem wide_4736 (c : Dev nD) (d : Fin 2048) (e : Fin 24) (E : Fin 5120) (h : E.val = 4736 + e.val) :
    (V m c main_v14 : S2048x5120.Idx → EReal) (ix2 d E) = Wt m c (ix3 0 d ⟨2560 + e.val, by omega⟩) := by
  refine (congrFun (V_v14 m c) _).trans ((round_apply _ _).trans ?_)
  rw [V_v13]
  refine (concatenate_apply_piece (1 : Fin 2) (pieces m c) _ (ix2 d E) 7 (by decide : 7 < 12) S2048x24 (U m c main_v3 : S2048x24.Idx → EReal) rfl rfl 4736 rfl (ix2 d e) ?_ ?_).trans ?_
  · intro b hb
    match b with
    | ⟨0, _⟩ => rfl
    | ⟨1, _⟩ => exact absurd rfl hb
  · exact h.symm
  · rw [U_v3, V_v3]

/-- Columns 4760 to 4863 of the wide weight: zero. -/
theorem wide_4760 (c : Dev nD) (d : Fin 2048) (e : Fin 104) (E : Fin 5120) (h : E.val = 4760 + e.val) :
    (V m c main_v14 : S2048x5120.Idx → EReal) (ix2 d E) = (0 : EReal) := by
  refine (congrFun (V_v14 m c) _).trans ((round_apply _ _).trans ?_)
  rw [V_v13]
  refine (concatenate_apply_piece (1 : Fin 2) (pieces m c) _ (ix2 d E) 8 (by decide : 8 < 12) S2048x104 (U m c main_v10 : S2048x104.Idx → EReal) rfl rfl 4760 rfl (ix2 d e) ?_ ?_).trans ?_
  · intro b hb
    match b with
    | ⟨0, _⟩ => rfl
    | ⟨1, _⟩ => exact absurd rfl hb
  · exact h.symm
  · rw [U_v10, V_v10]

/-- Columns 4864 to 4871 of the wide weight: the weight's columns from 4696 on. -/
theorem wide_4864 (c : Dev nD) (d : Fin 2048) (e : Fin 8) (E : Fin 5120) (h : E.val = 4864 + e.val) :
    (V m c main_v14 : S2048x5120.Idx → EReal) (ix2 d E) = Wt m c (ix3 0 d ⟨4696 + e.val, by omega⟩) := by
  refine (congrFun (V_v14 m c) _).trans ((round_apply _ _).trans ?_)
  rw [V_v13]
  refine (concatenate_apply_piece (1 : Fin 2) (pieces m c) _ (ix2 d E) 9 (by decide : 9 < 12) S2048x8 (U m c main_v8 : S2048x8.Idx → EReal) rfl rfl 4864 rfl (ix2 d e) ?_ ?_).trans ?_
  · intro b hb
    match b with
    | ⟨0, _⟩ => rfl
    | ⟨1, _⟩ => exact absurd rfl hb
  · exact h.symm
  · rw [U_v8, V_v8]

/-- Columns 4872 to 4991 of the wide weight: zero. -/
theorem wide_4872 (c : Dev nD) (d : Fin 2048) (e : Fin 120) (E : Fin 5120) (h : E.val = 4872 + e.val) :
    (V m c main_v14 : S2048x5120.Idx → EReal) (ix2 d E) = (0 : EReal) := by
  refine (congrFun (V_v14 m c) _).trans ((round_apply _ _).trans ?_)
  rw [V_v13]
  refine (concatenate_apply_piece (1 : Fin 2) (pieces m c) _ (ix2 d E) 10 (by decide : 10 < 12) S2048x120 (U m c main_v11 : S2048x120.Idx → EReal) rfl rfl 4872 rfl (ix2 d e) ?_ ?_).trans ?_
  · intro b hb
    match b with
    | ⟨0, _⟩ => rfl
    | ⟨1, _⟩ => exact absurd rfl hb
  · exact h.symm
  · rw [U_v11, V_v11]

/-- Columns 4992 to 5119 of the wide weight: zero. -/
theorem wide_4992 (c : Dev nD) (d : Fin 2048) (e : Fin 128) (E : Fin 5120) (h : E.val = 4992 + e.val) :
    (V m c main_v14 : S2048x5120.Idx → EReal) (ix2 d E) = (0 : EReal) := by
  refine (congrFun (V_v14 m c) _).trans ((round_apply _ _).trans ?_)
  rw [V_v13]
  refine (concatenate_apply_piece (1 : Fin 2) (pieces m c) _ (ix2 d E) 11 (by decide : 11 < 12) S2048x128 (U m c main_v12 : S2048x128.Idx → EReal) rfl rfl 4992 rfl (ix2 d e) ?_ ?_).trans ?_
  · intro b hb
    match b with
    | ⟨0, _⟩ => rfl
    | ⟨1, _⟩ => exact absurd rfl hb
  · exact h.symm
  · rw [U_v12, V_v12]

/-- The weight's column under a column of the wide weight; 4704 where there is none. -/
def src (E : ℕ) : ℕ :=
  if E < 1024 then E else if E < 2048 then E + 1560 else if E < 3584 then E - 1024 else if E < 4672 then E + 24
  else if E < 4736 then 4704 else if E < 4760 then E - 2176 else if E < 4864 then 4704 else if E < 4872 then E - 168 else 4704

/-- The wide weight as a function of the weight: a column of the weight, or zero. -/
def wide (w : S1x2048x4704.Idx → EReal) (d : Fin 2048) (E : Fin 5120) : EReal :=
  if h : src E.val < 4704 then w (ix3 0 d ⟨src E.val, h⟩) else 0

theorem wide_some (w : S1x2048x4704.Idx → EReal) (d : Fin 2048) (E : Fin 5120) (j : Fin 4704) (h : src E.val = j.val) :
    wide w d E = w (ix3 0 d j) := by
  have hj := j.isLt
  unfold wide
  rw [dif_pos (by omega)]
  exact congrArg w (congrArg (ix3 0 d) (Fin.ext h))

theorem wide_none (w : S1x2048x4704.Idx → EReal) (d : Fin 2048) (E : Fin 5120) (h : src E.val = 4704) : wide w d E = 0 := by
  unfold wide
  rw [dif_neg (by omega)]

/-- The launch's weight is the wide weight. -/
theorem V_w (c : Dev nD) (d : Fin 2048) (E : Fin 5120) : (V m c main_v14 : S2048x5120.Idx → EReal) (ix2 d E) = wide (Wt m c) d E := by
  have hE := E.isLt
  by_cases h0 : E.val < 1024
  · exact (wide_0 m c d ⟨E.val - 0, by omega⟩ E (by show E.val = 0 + (E.val - 0); omega)).trans (wide_some _ d E _ (by show src E.val = 0 + (E.val - 0); unfold src; split_ifs <;> omega)).symm
  by_cases h1 : E.val < 2048
  · exact (wide_1024 m c d ⟨E.val - 1024, by omega⟩ E (by show E.val = 1024 + (E.val - 1024); omega)).trans (wide_some _ d E _ (by show src E.val = 2584 + (E.val - 1024); unfold src; split_ifs <;> omega)).symm
  by_cases h2 : E.val < 3584
  · exact (wide_2048 m c d ⟨E.val - 2048, by omega⟩ E (by show E.val = 2048 + (E.val - 2048); omega)).trans (wide_some _ d E _ (by show src E.val = 1024 + (E.val - 2048); unfold src; split_ifs <;> omega)).symm
  by_cases h3 : E.val < 4096
  · exact (wide_3584 m c d ⟨E.val - 3584, by omega⟩ E (by show E.val = 3584 + (E.val - 3584); omega)).trans (wide_some _ d E _ (by show src E.val = 3608 + (E.val - 3584); unfold src; split_ifs <;> omega)).symm
  by_cases h4 : E.val < 4608
  · exact (wide_4096 m c d ⟨E.val - 4096, by omega⟩ E (by show E.val = 4096 + (E.val - 4096); omega)).trans (wide_some _ d E _ (by show src E.val = 4120 + (E.val - 4096); unfold src; split_ifs <;> omega)).symm
  by_cases h5 : E.val < 4672
  · exact (wide_4608 m c d ⟨E.val - 4608, by omega⟩ E (by show E.val = 4608 + (E.val - 4608); omega)).trans (wide_some _ d E _ (by show src E.val = 4632 + (E.val - 4608); unfold src; split_ifs <;> omega)).symm
  by_cases h6 : E.val < 4736
  · exact (wide_4672 m c d ⟨E.val - 4672, by omega⟩ E (by show E.val = 4672 + (E.val - 4672); omega)).trans (wide_none _ d E (by unfold src; split_ifs <;> omega)).symm
  by_cases h7 : E.val < 4760
  · exact (wide_4736 m c d ⟨E.val - 4736, by omega⟩ E (by show E.val = 4736 + (E.val - 4736); omega)).trans (wide_some _ d E _ (by show src E.val = 2560 + (E.val - 4736); unfold src; split_ifs <;> omega)).symm
  by_cases h8 : E.val < 4864
  · exact (wide_4760 m c d ⟨E.val - 4760, by omega⟩ E (by show E.val = 4760 + (E.val - 4760); omega)).trans (wide_none _ d E (by unfold src; split_ifs <;> omega)).symm
  by_cases h9 : E.val < 4872
  · exact (wide_4864 m c d ⟨E.val - 4864, by omega⟩ E (by show E.val = 4864 + (E.val - 4864); omega)).trans (wide_some _ d E _ (by show src E.val = 4696 + (E.val - 4864); unfold src; split_ifs <;> omega)).symm
  by_cases h10 : E.val < 4992
  · exact (wide_4872 m c d ⟨E.val - 4872, by omega⟩ E (by show E.val = 4872 + (E.val - 4872); omega)).trans (wide_none _ d E (by unfold src; split_ifs <;> omega)).symm
  · exact (wide_4992 m c d ⟨E.val - 4992, by omega⟩ E (by show E.val = 4992 + (E.val - 4992); omega)).trans (wide_none _ d E (by unfold src; split_ifs <;> omega)).symm

end Cert.SampleCdIn

end
-- ==== Proof.Sample.CdIn.Value.lean ====
/-
  What the second layer's input projection of the sample leaves in its five result arrays, element by element, over the extended reals.
-/
module

public import proofs.«01_k».proof.Proof.Sample.CdIn.Weight

@[expose] public section

set_option maxRecDepth 16384

noncomputable section

namespace Cert.SampleCdIn

open Cert.Kernel9Ideal Cert.Kernel9Ideal.Gen Proof.SampleCdIn.Ideal Idealize.ShloMosaic Idealize.ShloMosaic.TcCoe Idealize.SL.Sem Cert.Proj

variable (m : (ℓ : Loc nD τ sig) → Buf (Elt Ideal) ℓ)

theorem index0 : ∀ t : Fin cfg0.N, win0_0.index t = ![t.val / 10, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, t.val % 10] := (by decide +kernel : ∀ t : Fin grid0.N, _)
theorem index3 : ∀ t : Fin cfg0.N, win0_3.index t = ![t.val / 10, t.val % 10] := (by decide +kernel : ∀ t : Fin grid0.N, _)
theorem index4 : ∀ t : Fin cfg0.N, win0_4.index t = ![t.val / 10, 0] := (by decide +kernel : ∀ t : Fin grid0.N, _)
theorem index5 : ∀ t : Fin cfg0.N, win0_5.index t = ![t.val / 10, 0] := (by decide +kernel : ∀ t : Fin grid0.N, _)
theorem index6 : ∀ t : Fin cfg0.N, win0_6.index t = ![t.val / 10, 0] := (by decide +kernel : ∀ t : Fin grid0.N, _)
theorem index7 : ∀ t : Fin cfg0.N, win0_7.index t = ![t.val / 10, 0] := (by decide +kernel : ∀ t : Fin grid0.N, _)

/-- Point `t`'s rows. -/
theorem blk_x (c : Dev nD) (t : Fin cfg0.N) (r : Fin 1024) (d : Fin 2048) (R : Fin 1024) (hR : R.val = 1024 * (t.val / 10) + r.val) :
    (iblk m c 0 t : Vec Ideal S1024x2048 .f32) (ix2 r d) = X m c (ix2 R d) := by
  unfold iblk
  rw [View.read_apply]
  show V m c main_arg0 _ = _
  rw [V_main_arg0]
  congr 1
  funext a
  apply Fin.ext
  match a with
  | ⟨0, _⟩ => show win0_0.index t 0 * 1024 + 1 * r.val = R.val; rw [index0]; simp only [Matrix.cons_val_zero]; omega
  | ⟨1, _⟩ => show win0_0.index t 1 * 2048 + 1 * d.val = d.val; rw [index0]; simp only [Matrix.cons_val_one, Matrix.cons_val_zero]; omega

/-- The gain's block is the whole row. -/
theorem blk_g (c : Dev nD) (t : Fin cfg0.N) (d : Fin 2048) : (iblk m c 1 t : Vec Ideal S1x2048 .f32) (ix2 0 d) = Gains m c (ix2 1 d) := by
  unfold iblk
  rw [View.read_apply]
  show V m c main_v17 _ = _
  rw [← V_g]
  congr 1
  funext a
  apply Fin.ext
  match a with
  | ⟨0, _⟩ => show win0_1.index t 0 * 1 + 1 * 0 = 0; rw [index1]; rfl
  | ⟨1, _⟩ => show win0_1.index t 1 * 2048 + 1 * d.val = d.val; rw [index1]; show 0 * 2048 + 1 * d.val = d.val; omega

/-- Point `t`'s columns of the wide weight. -/
theorem blk_w (c : Dev nD) (t : Fin cfg0.N) (d : Fin 2048) (e : Fin 512) (E : Fin 5120) (hE : E.val = 512 * (t.val % 10) + e.val) :
    (iblk m c 2 t : Vec Ideal S2048x512 .bf16) (ix2 d e) = wide (Wt m c) d E := by
  unfold iblk
  rw [View.read_apply]
  show V m c main_v14 _ = _
  rw [← V_w]
  congr 1
  funext a
  apply Fin.ext
  match a with
  | ⟨0, _⟩ => show win0_2.index t 0 * 2048 + 1 * d.val = d.val; rw [index2]; show 0 * 2048 + 1 * d.val = d.val; omega
  | ⟨1, _⟩ => show win0_2.index t 1 * 512 + 1 * e.val = E.val; rw [index2]; show t.val % 10 * 512 + 1 * e.val = E.val; omega

/-- The normalised row `R` at `d`, with the second layer's gain. -/
def hrow (x : S1024x2048.Idx → EReal) (g : S2x2048.Idx → EReal) (R : Fin 1024) (d : Fin 2048) : EReal :=
  normed (fun j => x (ix2 R j)) (fun j => g (ix2 1 j)) d

/-- The projection of row `R` at column `E` of the wide weight. -/
def out (x : S1024x2048.Idx → EReal) (g : S2x2048.Idx → EReal) (w : S1x2048x4704.Idx → EReal) (R : Fin 1024) (E : Fin 5120) : EReal :=
  ∑ d : Fin 2048, hrow x g R d * wide w d E

/-- What goes into the scratch: the normalised rows. -/
theorem norm_apply (x : Vec Ideal S1024x2048 .f32) (g : Vec Ideal S1x2048 .f32) (r : Fin 1024) (d : Fin 2048) :
    k0_pay1 x g (ix2 r d) = normed (fun j => x (ix2 r j)) (fun j => g (ix2 0 j)) d := by
  unfold normed
  pointwise [k0_pay1]

/-- What is written: the product with the weight's columns. -/
theorem prod_apply (h : Vec Ideal S1024x2048 .bf16) (w : Vec Ideal S2048x512 .bf16) (r : Fin 1024) (e : Fin 512) :
    k0_pay2 h w (ix2 r e) = ∑ d : Fin 2048, h (ix2 r d) * w (ix2 d e) := by
  pointwise [k0_pay2]

/-- The rows of a point, normalised. -/
theorem rows_apply (c : Dev nD) (t : Fin cfg0.N) (r : Fin 1024) (R : Fin 1024) (hR : R.val = 1024 * (t.val / 10) + r.val) (d : Fin 2048) :
    rows m c t (ix2 r d) = hrow (X m c) (Gains m c) R d := by
  unfold rows
  refine (norm_apply _ _ r d).trans ?_
  unfold hrow
  rw [funext fun d => blk_x m c (at_ t 0 (by decide)) r d R (by show R.val = 1024 * ((10 * (t.val / 10) + 0) / 10) + r.val; omega),
    funext (blk_g m c (at_ t 0 (by decide)))]

/-- The block that a point computes, element by element. -/
theorem outB_apply (c : Dev nD) (t : Fin cfg0.N) (r : Fin 1024) (e : Fin 512) (R : Fin 1024) (hR : R.val = 1024 * (t.val / 10) + r.val)
    (E : Fin 5120) (hE : E.val = 512 * (t.val % 10) + e.val) : outB m c t (ix2 r e) = out (X m c) (Gains m c) (Wt m c) R E := by
  unfold outB out
  refine (prod_apply _ _ r e).trans (Finset.sum_congr rfl fun d _ => ?_)
  rw [rows_apply m c t r R hR d, blk_w m c t d e E hE]

/-- Two points have different blocks of the first result. -/
theorem apart3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (Fin.ext (by
    have h' : win0_3.index t = win0_3.index t' := h
    rw [index3, index3] at h'
    have h0 : t.val / 10 = t'.val / 10 := congrFun h' 0
    have h1 : t.val % 10 = t'.val % 10 := congrFun h' 1
    omega))

/-- Every point writes its block of the first result back. -/
theorem flush3 : ∀ t : Fin cfg0.N, (cfg0.win 3).flush t = true := (by decide +kernel : ∀ t : Fin grid0.N, win0_3.flush t = true)

/-- The projected rows, element by element. -/
theorem result_out (c : Dev nD) (R : Fin 1024) (E : Fin 5120) :
    ((dats m 0 c).arrAt 3 cfg0.N : S1024x5120.Idx → EReal) (ix2 R E) = out (X m c) (Gains m c) (Wt m c) R E := by
  have hRl := R.isLt
  have hEl := E.isLt
  have hN : cfg0.N = 10 := N_0
  obtain ⟨t, r, e, hR, hE⟩ : ∃ (t : Fin cfg0.N) (r : Fin 1024) (e : Fin 512), R.val = 1024 * (t.val / 10) + r.val ∧ E.val = 512 * (t.val % 10) + e.val :=
    ⟨⟨10 * (R.val / 1024) + E.val / 512, by omega⟩, ⟨R.val % 1024, by omega⟩, ⟨E.val % 512, by omega⟩,
      by show R.val = 1024 * ((10 * (R.val / 1024) + E.val / 512) / 10) + R.val % 1024; omega,
      by show E.val = 512 * ((10 * (R.val / 1024) + E.val / 512) % 10) + E.val % 512; omega⟩
  have hb := congrFun ((dats m 0 c).read_blk_arrAt_eq_flushed 3 apart3 cfg0.N t t.isLt (flush3 t)) (ix2 r e)
  rw [View.read_apply] at hb
  have he : ((cfg0.win 3).blk t).view.emb (ix2 r e) = ix2 R E := by
    funext a
    apply Fin.ext
    match a with
    | ⟨0, _⟩ => show win0_3.index t 0 * 1024 + 1 * r.val = R.val; rw [index3]; simp only [Matrix.cons_val_zero]; omega
    | ⟨1, _⟩ => show win0_3.index t 1 * 512 + 1 * e.val = E.val; rw [index3]; simp only [Matrix.cons_val_one, Matrix.cons_val_zero]; omega
  rw [he] at hb
  refine hb.trans ?_
  show (dats m 0 c).after 3 t (ix2 r e) = _
  rw [after0_3]
  exact outB_apply m c t r e R hR E hE

/-- A cache block, element by element. -/
theorem kvB_apply (c : Dev nD) (t : Fin cfg0.N) (j : ℕ) (hj : j < 10) (y : Fin 4096) (e : Fin 128) (Y : Fin 4096) (hY : Y.val = 4096 * (t.val / 10) + y.val)
    (R : Fin 1024) (hR : R.val = Y.val / 4) (E : Fin 5120) (hE : E.val = 512 * j + 128 * (Y.val % 4) + e.val) :
    kvB m c t j hj (ix2 y e) = out (X m c) (Gains m c) (Wt m c) R E := by
  have hy := y.isLt
  have hel := e.isLt
  unfold kvB kvOf
  refine outB_apply m c (at_ t j hj) _ _ R ?_ E ?_
  · show R.val = 1024 * ((10 * (t.val / 10) + j) / 10) + y.val / 4
    omega
  · show E.val = 512 * ((10 * (t.val / 10) + j) % 10) + (128 * (y.val % 4) + e.val)
    omega

/-- Two row blocks have different blocks of this cache result. -/
theorem apart4 : ∀ t t' : Fin cfg0.N, (cfg0.win 4).flush t = true → (cfg0.win 4).flush t' = true → t ≠ t' →
    Disjoint ((cfg0.win 4).blk t).view.set ((cfg0.win 4).blk t').view.set :=
  fun t t' hf hf' hne => (cfg0.win 4).disjoint_blk fun h => hne (Fin.ext (by
    have h' : win0_4.index t = win0_4.index t' := h
    rw [index4, index4] at h'
    have h0 : t.val / 10 = t'.val / 10 := congrFun h' 0
    have h1 : t.val % 10 = 9 := (flush0_4 t).mp hf
    have h2 : t'.val % 10 = 9 := (flush0_4 t').mp hf'
    omega))

/-- The cache result of column block 4, element by element. -/
theorem result_kv4 (c : Dev nD) (Y : Fin 4096) (e : Fin 128) (R : Fin 1024) (hR : R.val = Y.val / 4) (E : Fin 5120) (hE : E.val = 512 * 4 + 128 * (Y.val % 4) + e.val) :
    ((dats m 0 c).arrAt 4 cfg0.N : S4096x128.Idx → EReal) (ix2 Y e) = out (X m c) (Gains m c) (Wt m c) R E := by
  have hYl := Y.isLt
  have hN : cfg0.N = 10 := N_0
  obtain ⟨t, y, h9, hY⟩ : ∃ (t : Fin cfg0.N) (y : Fin 4096), t.val % 10 = 9 ∧ Y.val = 4096 * (t.val / 10) + y.val :=
    ⟨⟨10 * (Y.val / 4096) + 9, by omega⟩, ⟨Y.val % 4096, by omega⟩, by show (10 * (Y.val / 4096) + 9) % 10 = 9; omega,
      by show Y.val = 4096 * ((10 * (Y.val / 4096) + 9) / 10) + Y.val % 4096; omega⟩
  have hb := congrFun ((dats m 0 c).read_blk_arrAt_eq_flushed 4 apart4 cfg0.N t t.isLt ((flush0_4 t).mpr h9)) (ix2 y e)
  rw [View.read_apply] at hb
  have he : ((cfg0.win 4).blk t).view.emb (ix2 y e) = ix2 Y e := by
    funext a
    apply Fin.ext
    match a with
    | ⟨0, _⟩ => show win0_4.index t 0 * 4096 + 1 * y.val = Y.val; rw [index4]; simp only [Matrix.cons_val_zero]; omega
    | ⟨1, _⟩ => show win0_4.index t 1 * 128 + 1 * e.val = e.val; rw [index4]; simp only [Matrix.cons_val_one, Matrix.cons_val_zero]; omega
  rw [he] at hb
  refine hb.trans ?_
  show (dats m 0 c).after 4 t (ix2 y e) = _
  rw [after0_4]
  exact kvB_apply m c t 4 (by decide) y e Y hY R hR E hE

/-- Two row blocks have different blocks of this cache result. -/
theorem apart5 : ∀ t t' : Fin cfg0.N, (cfg0.win 5).flush t = true → (cfg0.win 5).flush t' = true → t ≠ t' →
    Disjoint ((cfg0.win 5).blk t).view.set ((cfg0.win 5).blk t').view.set :=
  fun t t' hf hf' hne => (cfg0.win 5).disjoint_blk fun h => hne (Fin.ext (by
    have h' : win0_5.index t = win0_5.index t' := h
    rw [index5, index5] at h'
    have h0 : t.val / 10 = t'.val / 10 := congrFun h' 0
    have h1 : t.val % 10 = 9 := (flush0_5 t).mp hf
    have h2 : t'.val % 10 = 9 := (flush0_5 t').mp hf'
    omega))

/-- The cache result of column block 5, element by element. -/
theorem result_kv5 (c : Dev nD) (Y : Fin 4096) (e : Fin 128) (R : Fin 1024) (hR : R.val = Y.val / 4) (E : Fin 5120) (hE : E.val = 512 * 5 + 128 * (Y.val % 4) + e.val) :
    ((dats m 0 c).arrAt 5 cfg0.N : S4096x128.Idx → EReal) (ix2 Y e) = out (X m c) (Gains m c) (Wt m c) R E := by
  have hYl := Y.isLt
  have hN : cfg0.N = 10 := N_0
  obtain ⟨t, y, h9, hY⟩ : ∃ (t : Fin cfg0.N) (y : Fin 4096), t.val % 10 = 9 ∧ Y.val = 4096 * (t.val / 10) + y.val :=
    ⟨⟨10 * (Y.val / 4096) + 9, by omega⟩, ⟨Y.val % 4096, by omega⟩, by show (10 * (Y.val / 4096) + 9) % 10 = 9; omega,
      by show Y.val = 4096 * ((10 * (Y.val / 4096) + 9) / 10) + Y.val % 4096; omega⟩
  have hb := congrFun ((dats m 0 c).read_blk_arrAt_eq_flushed 5 apart5 cfg0.N t t.isLt ((flush0_5 t).mpr h9)) (ix2 y e)
  rw [View.read_apply] at hb
  have he : ((cfg0.win 5).blk t).view.emb (ix2 y e) = ix2 Y e := by
    funext a
    apply Fin.ext
    match a with
    | ⟨0, _⟩ => show win0_5.index t 0 * 4096 + 1 * y.val = Y.val; rw [index5]; simp only [Matrix.cons_val_zero]; omega
    | ⟨1, _⟩ => show win0_5.index t 1 * 128 + 1 * e.val = e.val; rw [index5]; simp only [Matrix.cons_val_one, Matrix.cons_val_zero]; omega
  rw [he] at hb
  refine hb.trans ?_
  show (dats m 0 c).after 5 t (ix2 y e) = _
  rw [after0_5]
  exact kvB_apply m c t 5 (by decide) y e Y hY R hR E hE

/-- Two row blocks have different blocks of this cache result. -/
theorem apart6 : ∀ t t' : Fin cfg0.N, (cfg0.win 6).flush t = true → (cfg0.win 6).flush t' = true → t ≠ t' →
    Disjoint ((cfg0.win 6).blk t).view.set ((cfg0.win 6).blk t').view.set :=
  fun t t' hf hf' hne => (cfg0.win 6).disjoint_blk fun h => hne (Fin.ext (by
    have h' : win0_6.index t = win0_6.index t' := h
    rw [index6, index6] at h'
    have h0 : t.val / 10 = t'.val / 10 := congrFun h' 0
    have h1 : t.val % 10 = 9 := (flush0_6 t).mp hf
    have h2 : t'.val % 10 = 9 := (flush0_6 t').mp hf'
    omega))

/-- The cache result of column block 6, element by element. -/
theorem result_kv6 (c : Dev nD) (Y : Fin 4096) (e : Fin 128) (R : Fin 1024) (hR : R.val = Y.val / 4) (E : Fin 5120) (hE : E.val = 512 * 6 + 128 * (Y.val % 4) + e.val) :
    ((dats m 0 c).arrAt 6 cfg0.N : S4096x128.Idx → EReal) (ix2 Y e) = out (X m c) (Gains m c) (Wt m c) R E := by
  have hYl := Y.isLt
  have hN : cfg0.N = 10 := N_0
  obtain ⟨t, y, h9, hY⟩ : ∃ (t : Fin cfg0.N) (y : Fin 4096), t.val % 10 = 9 ∧ Y.val = 4096 * (t.val / 10) + y.val :=
    ⟨⟨10 * (Y.val / 4096) + 9, by omega⟩, ⟨Y.val % 4096, by omega⟩, by show (10 * (Y.val / 4096) + 9) % 10 = 9; omega,
      by show Y.val = 4096 * ((10 * (Y.val / 4096) + 9) / 10) + Y.val % 4096; omega⟩
  have hb := congrFun ((dats m 0 c).read_blk_arrAt_eq_flushed 6 apart6 cfg0.N t t.isLt ((flush0_6 t).mpr h9)) (ix2 y e)
  rw [View.read_apply] at hb
  have he : ((cfg0.win 6).blk t).view.emb (ix2 y e) = ix2 Y e := by
    funext a
    apply Fin.ext
    match a with
    | ⟨0, _⟩ => show win0_6.index t 0 * 4096 + 1 * y.val = Y.val; rw [index6]; simp only [Matrix.cons_val_zero]; omega
    | ⟨1, _⟩ => show win0_6.index t 1 * 128 + 1 * e.val = e.val; rw [index6]; simp only [Matrix.cons_val_one, Matrix.cons_val_zero]; omega
  rw [he] at hb
  refine hb.trans ?_
  show (dats m 0 c).after 6 t (ix2 y e) = _
  rw [after0_6]
  exact kvB_apply m c t 6 (by decide) y e Y hY R hR E hE

/-- Two row blocks have different blocks of this cache result. -/
theorem apart7 : ∀ t t' : Fin cfg0.N, (cfg0.win 7).flush t = true → (cfg0.win 7).flush t' = true → t ≠ t' →
    Disjoint ((cfg0.win 7).blk t).view.set ((cfg0.win 7).blk t').view.set :=
  fun t t' hf hf' hne => (cfg0.win 7).disjoint_blk fun h => hne (Fin.ext (by
    have h' : win0_7.index t = win0_7.index t' := h
    rw [index7, index7] at h'
    have h0 : t.val / 10 = t'.val / 10 := congrFun h' 0
    have h1 : t.val % 10 = 9 := (flush0_7 t).mp hf
    have h2 : t'.val % 10 = 9 := (flush0_7 t').mp hf'
    omega))

/-- The cache result of column block 7, element by element. -/
theorem result_kv7 (c : Dev nD) (Y : Fin 4096) (e : Fin 128) (R : Fin 1024) (hR : R.val = Y.val / 4) (E : Fin 5120) (hE : E.val = 512 * 7 + 128 * (Y.val % 4) + e.val) :
    ((dats m 0 c).arrAt 7 cfg0.N : S4096x128.Idx → EReal) (ix2 Y e) = out (X m c) (Gains m c) (Wt m c) R E := by
  have hYl := Y.isLt
  have hN : cfg0.N = 10 := N_0
  obtain ⟨t, y, h9, hY⟩ : ∃ (t : Fin cfg0.N) (y : Fin 4096), t.val % 10 = 9 ∧ Y.val = 4096 * (t.val / 10) + y.val :=
    ⟨⟨10 * (Y.val / 4096) + 9, by omega⟩, ⟨Y.val % 4096, by omega⟩, by show (10 * (Y.val / 4096) + 9) % 10 = 9; omega,
      by show Y.val = 4096 * ((10 * (Y.val / 4096) + 9) / 10) + Y.val % 4096; omega⟩
  have hb := congrFun ((dats m 0 c).read_blk_arrAt_eq_flushed 7 apart7 cfg0.N t t.isLt ((flush0_7 t).mpr h9)) (ix2 y e)
  rw [View.read_apply] at hb
  have he : ((cfg0.win 7).blk t).view.emb (ix2 y e) = ix2 Y e := by
    funext a
    apply Fin.ext
    match a with
    | ⟨0, _⟩ => show win0_7.index t 0 * 4096 + 1 * y.val = Y.val; rw [index7]; simp only [Matrix.cons_val_zero]; omega
    | ⟨1, _⟩ => show win0_7.index t 1 * 128 + 1 * e.val = e.val; rw [index7]; simp only [Matrix.cons_val_one, Matrix.cons_val_zero]; omega
  rw [he] at hb
  refine hb.trans ?_
  show (dats m 0 c).after 7 t (ix2 y e) = _
  rw [after0_7]
  exact kvB_apply m c t 7 (by decide) y e Y hY R hR E hE

/-- What a run leaves: the five result arrays, and the arguments as they were. -/
theorem run_results (ρ : Dev nD → PrngReg) : θ_run defs (onTc (τ := τ) (main (F := Ideal))) ⟨m, fun _ => 0, ρ⟩ fun r => ∀ c : Dev nD,
      r.2.mem ((c : Thread nD τ).loc main_v18_0) = (dats m 0 c).arrAt 3 cfg0.N
      ∧ r.2.mem ((c : Thread nD τ).loc main_v18_1) = (dats m 0 c).arrAt 4 cfg0.N
      ∧ r.2.mem ((c : Thread nD τ).loc main_v18_2) = (dats m 0 c).arrAt 5 cfg0.N
      ∧ r.2.mem ((c : Thread nD τ).loc main_v18_3) = (dats m 0 c).arrAt 6 cfg0.N
      ∧ r.2.mem ((c : Thread nD τ).loc main_v18_4) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3, (h.1 c).1 4, (h.1 c).1 5, (h.1 c).1 6, (h.1 c).1 7, h.2 c⟩)
    (θ_run_and (run_main m ρ) (unchanged m ρ))

end Cert.SampleCdIn

end
-- ==== Proof.Sample.CdIn.Ref.lean ====
/-
  The second layer's input projection of the sample: the reference read at an index, result by result.
-/
module

public import proofs.«01_k».proof.Proof.Sample.CdIn.Value
public import proofs.«01_k».proof.Proof.Gen.Reference9Ideal.Read

@[expose] public section

set_option maxRecDepth 16384

noncomputable section

namespace Cert.SampleCdIn

open Cert.Reference9Ideal Cert.Reference9Ideal.Gen Cert.Reference9Ideal.Read Idealize.ShloMosaic Cert.Proj

variable (x : FVec Ideal S1024x2048 .f32) (g : FVec Ideal S2x2048 .f32) (w : FVec Ideal S1x2048x4704 .f32)

/-- The reference's normalised row. -/
theorem ref_row (R : Fin 1024) (d : Fin 2048) : val_main_v14 (F := Ideal) x g (ix2 R d) = hrow x g R d := by
  unfold hrow normed
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The projection by the weight's own columns. -/
def proj (x : S1024x2048.Idx → EReal) (g : S2x2048.Idx → EReal) (w : S1x2048x4704.Idx → EReal) (R : Fin 1024) (j : Fin 4704) : EReal :=
  ∑ d : Fin 2048, hrow x g R d * w (ix3 0 d j)

/-- The reference's product. -/
theorem ref_dot (R : Fin 1024) (j : Fin 4704) : val_main_v16 (F := Ideal) x g w (ix2 R j) = proj x g w R j := by
  unfold proj
  pointwise [val_main_v16, val_main_v15, ref_row]

/-- A column of the wide weight that is a column of the weight. -/
theorem out_some (R : Fin 1024) (E : Fin 5120) (j : Fin 4704) (h : src E.val = j.val) : out x g w R E = proj x g w R j := by
  unfold out proj
  exact Finset.sum_congr rfl fun d _ => by rw [wide_some w d E j h]

/-- A column of the wide weight that is zero. -/
theorem out_none (R : Fin 1024) (E : Fin 5120) (h : src E.val = 4704) : out x g w R E = 0 := by
  unfold out
  exact Finset.sum_eq_zero fun d _ => by rw [wide_none w d E h, mul_zero]

/-- Columns 0 to 1023 of the product. -/
theorem ref_v17 (R : Fin 1024) (e : Fin 1024) : val_main_v17 (F := Ideal) x g w (ix2 R e) = proj x g w R ⟨0 + e.val, by omega⟩ := by
  refine Eq.trans ?_ (ref_dot x g w R ⟨0 + e.val, by omega⟩)
  pointwise [val_main_v17]

/-- Columns 2584 to 3607 of the product. -/
theorem ref_v22 (R : Fin 1024) (e : Fin 1024) : val_main_v22 (F := Ideal) x g w (ix2 R e) = proj x g w R ⟨2584 + e.val, by omega⟩ := by
  refine Eq.trans ?_ (ref_dot x g w R ⟨2584 + e.val, by omega⟩)
  pointwise [val_main_v22]

/-- Columns 1024 to 1535 of the product. -/
theorem ref_v18 (R : Fin 1024) (e : Fin 512) : val_main_v18 (F := Ideal) x g w (ix2 R e) = proj x g w R ⟨1024 + e.val, by omega⟩ := by
  refine Eq.trans ?_ (ref_dot x g w R ⟨1024 + e.val, by omega⟩)
  pointwise [val_main_v18]

/-- Columns 1536 to 2047 of the product. -/
theorem ref_v19 (R : Fin 1024) (e : Fin 512) : val_main_v19 (F := Ideal) x g w (ix2 R e) = proj x g w R ⟨1536 + e.val, by omega⟩ := by
  refine Eq.trans ?_ (ref_dot x g w R ⟨1536 + e.val, by omega⟩)
  pointwise [val_main_v19]

/-- Columns 2048 to 2559 of the product. -/
theorem ref_v20 (R : Fin 1024) (e : Fin 512) : val_main_v20 (F := Ideal) x g w (ix2 R e) = proj x g w R ⟨2048 + e.val, by omega⟩ := by
  refine Eq.trans ?_ (ref_dot x g w R ⟨2048 + e.val, by omega⟩)
  pointwise [val_main_v20]

/-- Columns 3608 to 4119 of the product. -/
theorem ref_v23 (R : Fin 1024) (e : Fin 512) : val_main_v23 (F := Ideal) x g w (ix2 R e) = proj x g w R ⟨3608 + e.val, by omega⟩ := by
  refine Eq.trans ?_ (ref_dot x g w R ⟨3608 + e.val, by omega⟩)
  pointwise [val_main_v23]

/-- Columns 4120 to 4631 of the product. -/
theorem ref_v24 (R : Fin 1024) (e : Fin 512) : val_main_v24 (F := Ideal) x g w (ix2 R e) = proj x g w R ⟨4120 + e.val, by omega⟩ := by
  refine Eq.trans ?_ (ref_dot x g w R ⟨4120 + e.val, by omega⟩)
  pointwise [val_main_v24]

/-- Columns 4632 to 4695 of the product. -/
theorem ref_v25 (R : Fin 1024) (e : Fin 64) : val_main_v25 (F := Ideal) x g w (ix2 R e) = proj x g w R ⟨4632 + e.val, by omega⟩ := by
  refine Eq.trans ?_ (ref_dot x g w R ⟨4632 + e.val, by omega⟩)
  pointwise [val_main_v25]

/-- Zero columns. -/
theorem ref_v27 (R : Fin 1024) (e : Fin 64) : (val_main_v27 (F := Ideal) : S1024x64.Idx → EReal) (ix2 R e) = (0 : EReal) := by
  pointwise [val_main_v27, val_main_cst_2]

/-- Columns 2560 to 2583 of the product. -/
theorem ref_v21 (R : Fin 1024) (e : Fin 24) : val_main_v21 (F := Ideal) x g w (ix2 R e) = proj x g w R ⟨2560 + e.val, by omega⟩ := by
  refine Eq.trans ?_ (ref_dot x g w R ⟨2560 + e.val, by omega⟩)
  pointwise [val_main_v21]

/-- Zero columns. -/
theorem ref_v28 (R : Fin 1024) (e : Fin 104) : (val_main_v28 (F := Ideal) : S1024x104.Idx → EReal) (ix2 R e) = (0 : EReal) := by
  pointwise [val_main_v28, val_main_cst_3]

/-- Columns 4696 to 4703 of the product. -/
theorem ref_v26 (R : Fin 1024) (e : Fin 8) : val_main_v26 (F := Ideal) x g w (ix2 R e) = proj x g w R ⟨4696 + e.val, by omega⟩ := by
  refine Eq.trans ?_ (ref_dot x g w R ⟨4696 + e.val, by omega⟩)
  pointwise [val_main_v26]

/-- Zero columns. -/
theorem ref_v29 (R : Fin 1024) (e : Fin 248) : (val_main_v29 (F := Ideal) : S1024x248.Idx → EReal) (ix2 R e) = (0 : EReal) := by
  pointwise [val_main_v29, val_main_cst_4]

/-- The pieces of the reference's first result. -/
abbrev parts : List ((s : Shape) × (s.Idx → EReal)) :=
  [⟨S1024x1024, (val_main_v17 (F := Ideal) x g w : S1024x1024.Idx → EReal)⟩, ⟨S1024x1024, (val_main_v22 (F := Ideal) x g w : S1024x1024.Idx → EReal)⟩, ⟨S1024x512, (val_main_v18 (F := Ideal) x g w : S1024x512.Idx → EReal)⟩, ⟨S1024x512, (val_main_v19 (F := Ideal) x g w : S1024x512.Idx → EReal)⟩, ⟨S1024x512, (val_main_v20 (F := Ideal) x g w : S1024x512.Idx → EReal)⟩, ⟨S1024x512, (val_main_v23 (F := Ideal) x g w : S1024x512.Idx → EReal)⟩, ⟨S1024x512, (val_main_v24 (F := Ideal) x g w : S1024x512.Idx → EReal)⟩, ⟨S1024x64, (val_main_v25 (F := Ideal) x g w : S1024x64.Idx → EReal)⟩, ⟨S1024x64, (val_main_v27 (F := Ideal) : S1024x64.Idx → EReal)⟩, ⟨S1024x24, (val_main_v21 (F := Ideal) x g w : S1024x24.Idx → EReal)⟩, ⟨S1024x104, (val_main_v28 (F := Ideal) : S1024x104.Idx → EReal)⟩, ⟨S1024x8, (val_main_v26 (F := Ideal) x g w : S1024x8.Idx → EReal)⟩, ⟨S1024x248, (val_main_v29 (F := Ideal) : S1024x248.Idx → EReal)⟩]

/-- The first result is the pieces side by side. -/
theorem ref_parts : (val_main_v30 (F := Ideal) x g w : S1024x5120.Idx → EReal) = concatenate S1024x5120 1 (parts x g w) concatenates_S1024x1024_S1024x1024_S1024x512_S1024x512_S1024x512_S1024x512_S1024x512_S1024x64_S1024x64_S1024x24_S1024x104_S1024x8_S1024x248_S1024x5120_d1 := rfl

theorem part_0 (R : Fin 1024) (e : Fin 1024) (E : Fin 5120) (h : E.val = 0 + e.val) :
    (val_main_v30 (F := Ideal) x g w : S1024x5120.Idx → EReal) (ix2 R E) = proj x g w R ⟨0 + e.val, by omega⟩ := by
  rw [ref_parts]
  refine (concatenate_apply_piece (1 : Fin 2) (parts x g w) _ (ix2 R E) 0 (by decide : 0 < 13) S1024x1024 (val_main_v17 (F := Ideal) x g w : S1024x1024.Idx → EReal) rfl rfl 0 rfl (ix2 R e) ?_ ?_).trans ?_
  · intro b hb
    match b with
    | ⟨0, _⟩ => rfl
    | ⟨1, _⟩ => exact absurd rfl hb
  · exact h.symm
  · exact ref_v17 x g w R e

theorem part_1024 (R : Fin 1024) (e : Fin 1024) (E : Fin 5120) (h : E.val = 1024 + e.val) :
    (val_main_v30 (F := Ideal) x g w : S1024x5120.Idx → EReal) (ix2 R E) = proj x g w R ⟨2584 + e.val, by omega⟩ := by
  rw [ref_parts]
  refine (concatenate_apply_piece (1 : Fin 2) (parts x g w) _ (ix2 R E) 1 (by decide : 1 < 13) S1024x1024 (val_main_v22 (F := Ideal) x g w : S1024x1024.Idx → EReal) rfl rfl 1024 rfl (ix2 R e) ?_ ?_).trans ?_
  · intro b hb
    match b with
    | ⟨0, _⟩ => rfl
    | ⟨1, _⟩ => exact absurd rfl hb
  · exact h.symm
  · exact ref_v22 x g w R e

theorem part_2048 (R : Fin 1024) (e : Fin 512) (E : Fin 5120) (h : E.val = 2048 + e.val) :
    (val_main_v30 (F := Ideal) x g w : S1024x5120.Idx → EReal) (ix2 R E) = proj x g w R ⟨1024 + e.val, by omega⟩ := by
  rw [ref_parts]
  refine (concatenate_apply_piece (1 : Fin 2) (parts x g w) _ (ix2 R E) 2 (by decide : 2 < 13) S1024x512 (val_main_v18 (F := Ideal) x g w : S1024x512.Idx → EReal) rfl rfl 2048 rfl (ix2 R e) ?_ ?_).trans ?_
  · intro b hb
    match b with
    | ⟨0, _⟩ => rfl
    | ⟨1, _⟩ => exact absurd rfl hb
  · exact h.symm
  · exact ref_v18 x g w R e

theorem part_2560 (R : Fin 1024) (e : Fin 512) (E : Fin 5120) (h : E.val = 2560 + e.val) :
    (val_main_v30 (F := Ideal) x g w : S1024x5120.Idx → EReal) (ix2 R E) = proj x g w R ⟨1536 + e.val, by omega⟩ := by
  rw [ref_parts]
  refine (concatenate_apply_piece (1 : Fin 2) (parts x g w) _ (ix2 R E) 3 (by decide : 3 < 13) S1024x512 (val_main_v19 (F := Ideal) x g w : S1024x512.Idx → EReal) rfl rfl 2560 rfl (ix2 R e) ?_ ?_).trans ?_
  · intro b hb
    match b with
    | ⟨0, _⟩ => rfl
    | ⟨1, _⟩ => exact absurd rfl hb
  · exact h.symm
  · exact ref_v19 x g w R e

theorem part_3072 (R : Fin 1024) (e : Fin 512) (E : Fin 5120) (h : E.val = 3072 + e.val) :
    (val_main_v30 (F := Ideal) x g w : S1024x5120.Idx → EReal) (ix2 R E) = proj x g w R ⟨2048 + e.val, by omega⟩ := by
  rw [ref_parts]
  refine (concatenate_apply_piece (1 : Fin 2) (parts x g w) _ (ix2 R E) 4 (by decide : 4 < 13) S1024x512 (val_main_v20 (F := Ideal) x g w : S1024x512.Idx → EReal) rfl rfl 3072 rfl (ix2 R e) ?_ ?_).trans ?_
  · intro b hb
    match b with
    | ⟨0, _⟩ => rfl
    | ⟨1, _⟩ => exact absurd rfl hb
  · exact h.symm
  · exact ref_v20 x g w R e

theorem part_3584 (R : Fin 1024) (e : Fin 512) (E : Fin 5120) (h : E.val = 3584 + e.val) :
    (val_main_v30 (F := Ideal) x g w : S1024x5120.Idx → EReal) (ix2 R E) = proj x g w R ⟨3608 + e.val, by omega⟩ := by
  rw [ref_parts]
  refine (concatenate_apply_piece (1 : Fin 2) (parts x g w) _ (ix2 R E) 5 (by decide : 5 < 13) S1024x512 (val_main_v23 (F := Ideal) x g w : S1024x512.Idx → EReal) rfl rfl 3584 rfl (ix2 R e) ?_ ?_).trans ?_
  · intro b hb
    match b with
    | ⟨0, _⟩ => rfl
    | ⟨1, _⟩ => exact absurd rfl hb
  · exact h.symm
  · exact ref_v23 x g w R e

theorem part_4096 (R : Fin 1024) (e : Fin 512) (E : Fin 5120) (h : E.val = 4096 + e.val) :
    (val_main_v30 (F := Ideal) x g w : S1024x5120.Idx → EReal) (ix2 R E) = proj x g w R ⟨4120 + e.val, by omega⟩ := by
  rw [ref_parts]
  refine (concatenate_apply_piece (1 : Fin 2) (parts x g w) _ (ix2 R E) 6 (by decide : 6 < 13) S1024x512 (val_main_v24 (F := Ideal) x g w : S1024x512.Idx → EReal) rfl rfl 4096 rfl (ix2 R e) ?_ ?_).trans ?_
  · intro b hb
    match b with
    | ⟨0, _⟩ => rfl
    | ⟨1, _⟩ => exact absurd rfl hb
  · exact h.symm
  · exact ref_v24 x g w R e

theorem part_4608 (R : Fin 1024) (e : Fin 64) (E : Fin 5120) (h : E.val = 4608 + e.val) :
    (val_main_v30 (F := Ideal) x g w : S1024x5120.Idx → EReal) (ix2 R E) = proj x g w R ⟨4632 + e.val, by omega⟩ := by
  rw [ref_parts]
  refine (concatenate_apply_piece (1 : Fin 2) (parts x g w) _ (ix2 R E) 7 (by decide : 7 < 13) S1024x64 (val_main_v25 (F := Ideal) x g w : S1024x64.Idx → EReal) rfl rfl 4608 rfl (ix2 R e) ?_ ?_).trans ?_
  · intro b hb
    match b with
    | ⟨0, _⟩ => rfl
    | ⟨1, _⟩ => exact absurd rfl hb
  · exact h.symm
  · exact ref_v25 x g w R e

theorem part_4672 (R : Fin 1024) (e : Fin 64) (E : Fin 5120) (h : E.val = 4672 + e.val) :
    (val_main_v30 (F := Ideal) x g w : S1024x5120.Idx → EReal) (ix2 R E) = (0 : EReal) := by
  rw [ref_parts]
  refine (concatenate_apply_piece (1 : Fin 2) (parts x g w) _ (ix2 R E) 8 (by decide : 8 < 13) S1024x64 (val_main_v27 (F := Ideal) : S1024x64.Idx → EReal) rfl rfl 4672 rfl (ix2 R e) ?_ ?_).trans ?_
  · intro b hb
    match b with
    | ⟨0, _⟩ => rfl
    | ⟨1, _⟩ => exact absurd rfl hb
  · exact h.symm
  · exact ref_v27 R e

theorem part_4736 (R : Fin 1024) (e : Fin 24) (E : Fin 5120) (h : E.val = 4736 + e.val) :
    (val_main_v30 (F := Ideal) x g w : S1024x5120.Idx → EReal) (ix2 R E) = proj x g w R ⟨2560 + e.val, by omega⟩ := by
  rw [ref_parts]
  refine (concatenate_apply_piece (1 : Fin 2) (parts x g w) _ (ix2 R E) 9 (by decide : 9 < 13) S1024x24 (val_main_v21 (F := Ideal) x g w : S1024x24.Idx → EReal) rfl rfl 4736 rfl (ix2 R e) ?_ ?_).trans ?_
  · intro b hb
    match b with
    | ⟨0, _⟩ => rfl
    | ⟨1, _⟩ => exact absurd rfl hb
  · exact h.symm
  · exact ref_v21 x g w R e

theorem part_4760 (R : Fin 1024) (e : Fin 104) (E : Fin 5120) (h : E.val = 4760 + e.val) :
    (val_main_v30 (F := Ideal) x g w : S1024x5120.Idx → EReal) (ix2 R E) = (0 : EReal) := by
  rw [ref_parts]
  refine (concatenate_apply_piece (1 : Fin 2) (parts x g w) _ (ix2 R E) 10 (by decide : 10 < 13) S1024x104 (val_main_v28 (F := Ideal) : S1024x104.Idx → EReal) rfl rfl 4760 rfl (ix2 R e) ?_ ?_).trans ?_
  · intro b hb
    match b with
    | ⟨0, _⟩ => rfl
    | ⟨1, _⟩ => exact absurd rfl hb
  · exact h.symm
  · exact ref_v28 R e

theorem part_4864 (R : Fin 1024) (e : Fin 8) (E : Fin 5120) (h : E.val = 4864 + e.val) :
    (val_main_v30 (F := Ideal) x g w : S1024x5120.Idx → EReal) (ix2 R E) = proj x g w R ⟨4696 + e.val, by omega⟩ := by
  rw [ref_parts]
  refine (concatenate_apply_piece (1 : Fin 2) (parts x g w) _ (ix2 R E) 11 (by decide : 11 < 13) S1024x8 (val_main_v26 (F := Ideal) x g w : S1024x8.Idx → EReal) rfl rfl 4864 rfl (ix2 R e) ?_ ?_).trans ?_
  · intro b hb
    match b with
    | ⟨0, _⟩ => rfl
    | ⟨1, _⟩ => exact absurd rfl hb
  · exact h.symm
  · exact ref_v26 x g w R e

theorem part_4872 (R : Fin 1024) (e : Fin 248) (E : Fin 5120) (h : E.val = 4872 + e.val) :
    (val_main_v30 (F := Ideal) x g w : S1024x5120.Idx → EReal) (ix2 R E) = (0 : EReal) := by
  rw [ref_parts]
  refine (concatenate_apply_piece (1 : Fin 2) (parts x g w) _ (ix2 R E) 12 (by decide : 12 < 13) S1024x248 (val_main_v29 (F := Ideal) : S1024x248.Idx → EReal) rfl rfl 4872 rfl (ix2 R e) ?_ ?_).trans ?_
  · intro b hb
    match b with
    | ⟨0, _⟩ => rfl
    | ⟨1, _⟩ => exact absurd rfl hb
  · exact h.symm
  · exact ref_v29 R e

/-- The reference's first result is the projection by the wide weight. -/
theorem ref_out (R : Fin 1024) (E : Fin 5120) : (val_main_v30 (F := Ideal) x g w : S1024x5120.Idx → EReal) (ix2 R E) = out x g w R E := by
  have hE := E.isLt
  by_cases h0 : E.val < 1024
  · exact (part_0 x g w R ⟨E.val - 0, by omega⟩ E (by show E.val = 0 + (E.val - 0); omega)).trans (out_some x g w R E _ (by show src E.val = 0 + (E.val - 0); unfold src; split_ifs <;> omega)).symm
  by_cases h1 : E.val < 2048
  · exact (part_1024 x g w R ⟨E.val - 1024, by omega⟩ E (by show E.val = 1024 + (E.val - 1024); omega)).trans (out_some x g w R E _ (by show src E.val = 2584 + (E.val - 1024); unfold src; split_ifs <;> omega)).symm
  by_cases h2 : E.val < 2560
  · exact (part_2048 x g w R ⟨E.val - 2048, by omega⟩ E (by show E.val = 2048 + (E.val - 2048); omega)).trans (out_some x g w R E _ (by show src E.val = 1024 + (E.val - 2048); unfold src; split_ifs <;> omega)).symm
  by_cases h3 : E.val < 3072
  · exact (part_2560 x g w R ⟨E.val - 2560, by omega⟩ E (by show E.val = 2560 + (E.val - 2560); omega)).trans (out_some x g w R E _ (by show src E.val = 1536 + (E.val - 2560); unfold src; split_ifs <;> omega)).symm
  by_cases h4 : E.val < 3584
  · exact (part_3072 x g w R ⟨E.val - 3072, by omega⟩ E (by show E.val = 3072 + (E.val - 3072); omega)).trans (out_some x g w R E _ (by show src E.val = 2048 + (E.val - 3072); unfold src; split_ifs <;> omega)).symm
  by_cases h5 : E.val < 4096
  · exact (part_3584 x g w R ⟨E.val - 3584, by omega⟩ E (by show E.val = 3584 + (E.val - 3584); omega)).trans (out_some x g w R E _ (by show src E.val = 3608 + (E.val - 3584); unfold src; split_ifs <;> omega)).symm
  by_cases h6 : E.val < 4608
  · exact (part_4096 x g w R ⟨E.val - 4096, by omega⟩ E (by show E.val = 4096 + (E.val - 4096); omega)).trans (out_some x g w R E _ (by show src E.val = 4120 + (E.val - 4096); unfold src; split_ifs <;> omega)).symm
  by_cases h7 : E.val < 4672
  · exact (part_4608 x g w R ⟨E.val - 4608, by omega⟩ E (by show E.val = 4608 + (E.val - 4608); omega)).trans (out_some x g w R E _ (by show src E.val = 4632 + (E.val - 4608); unfold src; split_ifs <;> omega)).symm
  by_cases h8 : E.val < 4736
  · exact (part_4672 x g w R ⟨E.val - 4672, by omega⟩ E (by show E.val = 4672 + (E.val - 4672); omega)).trans (out_none x g w R E (by unfold src; split_ifs <;> omega)).symm
  by_cases h9 : E.val < 4760
  · exact (part_4736 x g w R ⟨E.val - 4736, by omega⟩ E (by show E.val = 4736 + (E.val - 4736); omega)).trans (out_some x g w R E _ (by show src E.val = 2560 + (E.val - 4736); unfold src; split_ifs <;> omega)).symm
  by_cases h10 : E.val < 4864
  · exact (part_4760 x g w R ⟨E.val - 4760, by omega⟩ E (by show E.val = 4760 + (E.val - 4760); omega)).trans (out_none x g w R E (by unfold src; split_ifs <;> omega)).symm
  by_cases h11 : E.val < 4872
  · exact (part_4864 x g w R ⟨E.val - 4864, by omega⟩ E (by show E.val = 4864 + (E.val - 4864); omega)).trans (out_some x g w R E _ (by show src E.val = 4696 + (E.val - 4864); unfold src; split_ifs <;> omega)).symm
  · exact (part_4872 x g w R ⟨E.val - 4872, by omega⟩ E (by show E.val = 4872 + (E.val - 4872); omega)).trans (out_none x g w R E (by unfold src; split_ifs <;> omega)).symm

/-- A row of 512 read as four rows of 128. -/
theorem quarter (a : S1024x512.Idx → EReal) (Y : Fin 4096) (e : Fin 128) (R : Fin 1024) (hR : R.val = Y.val / 4) (E : Fin 512) (hE : E.val = 128 * (Y.val % 4) + e.val) :
    (shapeCast S4096x128 a shapeCasts_S1024x512_S4096x128 : S4096x128.Idx → EReal) (ix2 Y e) = a (ix2 R E) := by
  have h0 : R = ⟨Y.val / 4, by have := Y.isLt; omega⟩ := Fin.ext hR
  have h1 : E = ⟨Y.val % 4 * 128 + e.val, by have := e.isLt; omega⟩ := Fin.ext (by show E.val = Y.val % 4 * 128 + e.val; omega)
  rw [h0, h1]
  pointwise

/-- A cache result: the columns from 1024 on, each row cut in four. -/
theorem ref_v31 (Y : Fin 4096) (e : Fin 128) (R : Fin 1024) (hR : R.val = Y.val / 4) (E : Fin 5120) (hE : E.val = 512 * 4 + 128 * (Y.val % 4) + e.val) :
    (val_main_v31 (F := Ideal) x g w : S4096x128.Idx → EReal) (ix2 Y e) = out x g w R E := by
  have hel := e.isLt
  rw [out_some x g w R E ⟨1024 + (128 * (Y.val % 4) + e.val), by omega⟩ (by show src E.val = 1024 + (128 * (Y.val % 4) + e.val); unfold src; split_ifs <;> omega)]
  refine Eq.trans ?_ (ref_v18 x g w R ⟨128 * (Y.val % 4) + e.val, by omega⟩)
  exact quarter (val_main_v18 (F := Ideal) x g w) Y e R hR _ rfl

/-- A cache result: the columns from 1536 on, each row cut in four. -/
theorem ref_v32 (Y : Fin 4096) (e : Fin 128) (R : Fin 1024) (hR : R.val = Y.val / 4) (E : Fin 5120) (hE : E.val = 512 * 5 + 128 * (Y.val % 4) + e.val) :
    (val_main_v32 (F := Ideal) x g w : S4096x128.Idx → EReal) (ix2 Y e) = out x g w R E := by
  have hel := e.isLt
  rw [out_some x g w R E ⟨1536 + (128 * (Y.val % 4) + e.val), by omega⟩ (by show src E.val = 1536 + (128 * (Y.val % 4) + e.val); unfold src; split_ifs <;> omega)]
  refine Eq.trans ?_ (ref_v19 x g w R ⟨128 * (Y.val % 4) + e.val, by omega⟩)
  exact quarter (val_main_v19 (F := Ideal) x g w) Y e R hR _ rfl

/-- A cache result: the columns from 2048 on, each row cut in four. -/
theorem ref_v33 (Y : Fin 4096) (e : Fin 128) (R : Fin 1024) (hR : R.val = Y.val / 4) (E : Fin 5120) (hE : E.val = 512 * 6 + 128 * (Y.val % 4) + e.val) :
    (val_main_v33 (F := Ideal) x g w : S4096x128.Idx → EReal) (ix2 Y e) = out x g w R E := by
  have hel := e.isLt
  rw [out_some x g w R E ⟨2048 + (128 * (Y.val % 4) + e.val), by omega⟩ (by show src E.val = 2048 + (128 * (Y.val % 4) + e.val); unfold src; split_ifs <;> omega)]
  refine Eq.trans ?_ (ref_v20 x g w R ⟨128 * (Y.val % 4) + e.val, by omega⟩)
  exact quarter (val_main_v20 (F := Ideal) x g w) Y e R hR _ rfl

/-- A cache result: the columns from 3608 on, each row cut in four. -/
theorem ref_v34 (Y : Fin 4096) (e : Fin 128) (R : Fin 1024) (hR : R.val = Y.val / 4) (E : Fin 5120) (hE : E.val = 512 * 7 + 128 * (Y.val % 4) + e.val) :
    (val_main_v34 (F := Ideal) x g w : S4096x128.Idx → EReal) (ix2 Y e) = out x g w R E := by
  have hel := e.isLt
  rw [out_some x g w R E ⟨3608 + (128 * (Y.val % 4) + e.val), by omega⟩ (by show src E.val = 3608 + (128 * (Y.val % 4) + e.val); unfold src; split_ifs <;> omega)]
  refine Eq.trans ?_ (ref_v23 x g w R ⟨128 * (Y.val % 4) + e.val, by omega⟩)
  exact quarter (val_main_v23 (F := Ideal) x g w) Y e R hR _ rfl

end Cert.SampleCdIn

end
-- ==== Proof.Sample.CdIn.Claim.lean ====
/-
  The second layer's input projection of the sample and its reference leave the same five results over the extended reals.
-/
module

public import proofs.«01_k».proof.Proof.Sample.CdIn.Ref
public import proofs.«01_k».proof.Proof.Gen.Reference9Ideal.Run
public import proofs.«01_k».proof.Defs
public import Idealize.ShloMosaic.Lib.Claim

@[expose] public section

set_option maxRecDepth 16384

noncomputable section

namespace Cert.SampleCdIn

open Idealize.ShloMosaic Idealize.ShloMosaic.TcCoe Idealize.SL.Sem

/-- The reference's first result depends on its three arguments only. -/
theorem same_args (x x' : FVec Ideal Cert.Reference9Ideal.S1024x2048 .f32) (g g' : FVec Ideal Cert.Reference9Ideal.S2x2048 .f32)
    (w w' : FVec Ideal Cert.Reference9Ideal.S1x2048x4704 .f32) (hx : x = x') (hg : g = g') (hw : w = w') :
    Cert.Reference9Ideal.Read.val_main_v30 (F := Ideal) x g w = Cert.Reference9Ideal.Read.val_main_v30 (F := Ideal) x' g' w' := by
  subst hx hg hw; rfl

/-- From the same arguments the kernel's five result arrays equal the reference's. -/
theorem algebraic : Cert.algebraic_Kernel9Ideal_Reference9Ideal := by
  pair_intro
  · run_from (run_results m g)
  · run_from (Cert.Reference9Ideal.Value.run m' g')
    · refine (Cert.Reference9Ideal.Read.val_main_v30_eq (F := Ideal) m' c).trans ?_
      refine (same_args _ _ _ _ _ _ (hagree c).1 (hagree c).2.1 (hagree c).2.2).trans ?_
      funext i
      obtain ⟨R, E, rfl⟩ : ∃ (R : Fin 1024) (E : Fin 5120), i = ix2 R E := ⟨i 0, i 1, eq_ix2 i⟩
      exact (ref_out _ _ _ R E).trans (result_out m c R E).symm
    · refine (Cert.Reference9Ideal.Read.val_main_v31_eq (F := Ideal) _ _ _).trans ?_
      funext i
      obtain ⟨Y, e, rfl⟩ : ∃ (Y : Fin 4096) (e : Fin 128), i = ix2 Y e := ⟨i 0, i 1, eq_ix2 i⟩
      exact (ref_v31 _ _ _ Y e ⟨Y.val / 4, by omega⟩ rfl ⟨512 * 4 + 128 * (Y.val % 4) + e.val, by omega⟩ rfl).trans
        (result_kv4 m c Y e ⟨Y.val / 4, by omega⟩ rfl ⟨512 * 4 + 128 * (Y.val % 4) + e.val, by omega⟩ rfl).symm
    · refine (Cert.Reference9Ideal.Read.val_main_v32_eq (F := Ideal) _ _ _).trans ?_
      funext i
      obtain ⟨Y, e, rfl⟩ : ∃ (Y : Fin 4096) (e : Fin 128), i = ix2 Y e := ⟨i 0, i 1, eq_ix2 i⟩
      exact (ref_v32 _ _ _ Y e ⟨Y.val / 4, by omega⟩ rfl ⟨512 * 5 + 128 * (Y.val % 4) + e.val, by omega⟩ rfl).trans
        (result_kv5 m c Y e ⟨Y.val / 4, by omega⟩ rfl ⟨512 * 5 + 128 * (Y.val % 4) + e.val, by omega⟩ rfl).symm
    · refine (Cert.Reference9Ideal.Read.val_main_v33_eq (F := Ideal) _ _ _).trans ?_
      funext i
      obtain ⟨Y, e, rfl⟩ : ∃ (Y : Fin 4096) (e : Fin 128), i = ix2 Y e := ⟨i 0, i 1, eq_ix2 i⟩
      exact (ref_v33 _ _ _ Y e ⟨Y.val / 4, by omega⟩ rfl ⟨512 * 6 + 128 * (Y.val % 4) + e.val, by omega⟩ rfl).trans
        (result_kv6 m c Y e ⟨Y.val / 4, by omega⟩ rfl ⟨512 * 6 + 128 * (Y.val % 4) + e.val, by omega⟩ rfl).symm
    · refine (Cert.Reference9Ideal.Read.val_main_v34_eq (F := Ideal) _ _ _).trans ?_
      funext i
      obtain ⟨Y, e, rfl⟩ : ∃ (Y : Fin 4096) (e : Fin 128), i = ix2 Y e := ⟨i 0, i 1, eq_ix2 i⟩
      exact (ref_v34 _ _ _ Y e ⟨Y.val / 4, by omega⟩ rfl ⟨512 * 7 + 128 * (Y.val % 4) + e.val, by omega⟩ rfl).trans
        (result_kv7 m c Y e ⟨Y.val / 4, by omega⟩ rfl ⟨512 * 7 + 128 * (Y.val % 4) + e.val, by omega⟩ rfl).symm

end Cert.SampleCdIn

end
-- ==== Proof.lean ====
/- The claim, assembled from the frames of the programs and the value theorems of the calls. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Ffn.Claim
public import proofs.«01_k».proof.Proof.Cmp.Claim
public import proofs.«01_k».proof.Proof.Ab.Claim
public import proofs.«01_k».proof.Proof.AbOut.Claim
public import proofs.«01_k».proof.Proof.CdOut.Claim
public import proofs.«01_k».proof.Proof.CdIn.Printed
public import proofs.«01_k».proof.Proof.CdIn.Ideal.Frame
public import proofs.«01_k».proof.Proof.CdIn.Claim
public import proofs.«01_k».proof.Proof.FfnFirst.Claim
public import proofs.«01_k».proof.Proof.Sample.Ffn.Claim
public import proofs.«01_k».proof.Proof.Sample.CdOut.Claim
public import proofs.«01_k».proof.Proof.Sample.CdIn.Printed
public import proofs.«01_k».proof.Proof.Sample.CdIn.Ideal.Frame
public import proofs.«01_k».proof.Proof.Sample.CdIn.Claim
public import Idealize.ShloMosaic.Adequacy
public import Idealize.ShloMosaic.Init

@[expose] public section

noncomputable section

namespace Cert.Proof

open Idealize.ShloMosaic Idealize.SL.Sem Cert.Kernel

/-- The compressed attention's reference runs, leaving its arguments and every counter as they were. -/
theorem frame_reference : Cert.quiescent_ReferenceIdeal := fun m g _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m g)

/-- The feed-forward reference runs, leaving its arguments and every counter as they were. -/
theorem frame_reference2 : Cert.quiescent_Reference2Ideal := fun m g _ =>
  (θ_run Cert.Reference2Ideal.defs _ _).mono
    (fun r h => ⟨fun c => (h c).2, Idealize.ShloMosaic.sem_eq_zero_of_no_sems (by decide) r.2⟩)
    (Cert.Reference2Ideal.Value.run (F := Ideal) m g)

/-- The first layer's input projection's reference runs, leaving its arguments and every counter as they were. -/
theorem frame_reference3 : Cert.quiescent_Reference3Ideal := fun m g _ =>
  (θ_run Cert.Reference3Ideal.defs _ _).mono
    (fun r h => ⟨fun c => (h c).2, Idealize.ShloMosaic.sem_eq_zero_of_no_sems (by decide) r.2⟩)
    (Cert.Reference3Ideal.Value.run (F := Ideal) m g)

/-- The first layer's output projection's reference runs, leaving its arguments and every counter as they were. -/
theorem frame_reference4 : Cert.quiescent_Reference4Ideal := fun m g _ =>
  (θ_run Cert.Reference4Ideal.defs _ _).mono
    (fun r h => ⟨fun c => (h c).2.2, Idealize.ShloMosaic.sem_eq_zero_of_no_sems (by decide) r.2⟩)
    (Cert.Reference4Ideal.Value.run (F := Ideal) m g)

/-- The second layer's output projection's reference runs, leaving its arguments and every counter as they were. -/
theorem frame_reference5 : Cert.quiescent_Reference5Ideal := fun m g _ =>
  (θ_run Cert.Reference5Ideal.defs _ _).mono
    (fun r h => ⟨fun c => (h c).2.2, Idealize.ShloMosaic.sem_eq_zero_of_no_sems (by decide) r.2⟩)
    (Cert.Reference5Ideal.Value.run (F := Ideal) m g)

/-- The second layer's input projection's reference runs, leaving its arguments and every counter as they were. -/
theorem frame_reference6 : Cert.quiescent_Reference6Ideal := fun m g _ =>
  (θ_run Cert.Reference6Ideal.defs _ _).mono
    (fun r h => ⟨fun c => (h c).2.2.2.2.2, Idealize.ShloMosaic.sem_eq_zero_of_no_sems (by decide) r.2⟩)
    (Cert.Reference6Ideal.Value.run (F := Ideal) m g)

/-- The feed-forward reference at the sample's rows runs, leaving its arguments and every counter as they were. -/
theorem frame_reference7 : Cert.quiescent_Reference7Ideal := fun m g _ =>
  (θ_run Cert.Reference7Ideal.defs _ _).mono
    (fun r h => ⟨fun c => (h c).2, Idealize.ShloMosaic.sem_eq_zero_of_no_sems (by decide) r.2⟩)
    (Cert.Reference7Ideal.Value.run (F := Ideal) m g)

/-- The second layer's output projection's reference at the sample's rows runs, leaving its arguments and every counter as they were. -/
theorem frame_reference8 : Cert.quiescent_Reference8Ideal := fun m g _ =>
  (θ_run Cert.Reference8Ideal.defs _ _).mono
    (fun r h => ⟨fun c => (h c).2.2, Idealize.ShloMosaic.sem_eq_zero_of_no_sems (by decide) r.2⟩)
    (Cert.Reference8Ideal.Value.run (F := Ideal) m g)

/-- The second layer's input projection's reference at the sample's rows runs, leaving its arguments and every counter as they were. -/
theorem frame_reference9 : Cert.quiescent_Reference9Ideal := fun m g _ =>
  (θ_run Cert.Reference9Ideal.defs _ _).mono
    (fun r h => ⟨fun c => (h c).2.2.2.2.2, Idealize.ShloMosaic.sem_eq_zero_of_no_sems (by decide) r.2⟩)
    (Cert.Reference9Ideal.Value.run (F := Ideal) m g)

/-- The first layer's feed-forward reference runs, leaving its arguments and every counter as they were. -/
theorem frame_reference10 : Cert.quiescent_Reference10Ideal := fun m g _ =>
  (θ_run Cert.Reference10Ideal.defs _ _).mono
    (fun r h => ⟨fun c => (h c).2, Idealize.ShloMosaic.sem_eq_zero_of_no_sems (by decide) r.2⟩)
    (Cert.Reference10Ideal.Value.run (F := Ideal) m g)

/-- Every claim: the frames, the preserved programs, and the equality of each kernel with its reference. -/
theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   Cert.Kernel7.Gen.facts, Cert.Kernel7Ideal.Gen.facts, Cert.Reference7Ideal.Gen.facts,
   Cert.Kernel8.Gen.facts, Cert.Kernel8Ideal.Gen.facts, Cert.Reference8Ideal.Gen.facts,
   Cert.Kernel9.Gen.facts, Cert.Kernel9Ideal.Gen.facts, Cert.Reference9Ideal.Gen.facts,
   Cert.Kernel10.Gen.facts, Cert.Kernel10Ideal.Gen.facts, Cert.Reference10Ideal.Gen.facts,
   fun m g _ => Cert.Kernel.Gen.frame m g,
   fun m g _ => Cert.KernelIdeal.Gen.frame m g,
   frame_reference,
   fun m g _ => Cert.Kernel2.Gen.frame m g,
   fun m g _ => Cert.Kernel2Ideal.Gen.frame m g,
   frame_reference2,
   fun m g _ => Cert.Kernel3.Gen.frame m g,
   fun m g _ => Cert.Kernel3Ideal.Gen.frame m g,
   frame_reference3,
   fun m g _ => Cert.Kernel4.Gen.frame m g,
   fun m g _ => Cert.Kernel4Ideal.Gen.frame m g,
   frame_reference4,
   fun m g _ => Cert.Kernel5.Gen.frame m g,
   fun m g _ => Cert.Kernel5Ideal.Gen.frame m g,
   frame_reference5,
   fun m g _ => _root_.Proof.CdIn.Printed.frame m g,
   fun m g _ => _root_.Proof.CdIn.Ideal.frame m g,
   frame_reference6,
   fun m g _ => Cert.Kernel7.Gen.frame m g,
   fun m g _ => Cert.Kernel7Ideal.Gen.frame m g,
   frame_reference7,
   fun m g _ => Cert.Kernel8.Gen.frame m g,
   fun m g _ => Cert.Kernel8Ideal.Gen.frame m g,
   frame_reference8,
   fun m g _ => _root_.Proof.SampleCdIn.Printed.frame m g,
   fun m g _ => _root_.Proof.SampleCdIn.Ideal.frame m g,
   frame_reference9,
   fun m g _ => Cert.Kernel10.Gen.frame m g,
   fun m g _ => Cert.Kernel10Ideal.Gen.frame m g,
   frame_reference10,
   trivial, Cert.Cmp.algebraic,
   trivial, Cert.Ffn.algebraic,
   trivial, Cert.Ab.algebraic,
   trivial, Cert.AbOut.algebraic,
   trivial, Cert.CdOut.algebraic,
   trivial, Cert.CdIn.algebraic,
   trivial, Cert.SampleFfn.algebraic,
   trivial, Cert.SampleCdOut.algebraic,
   trivial, Cert.SampleCdIn.algebraic,
   trivial, Cert.FfnFirst.algebraic⟩

end Cert.Proof

end
